-- ==== Defs.lean ====
def Pre_Dc (m : (ℓ : Loc Cert.Dc.nD Cert.Dc.τ Cert.Dc.sig) → Buf (Elt Bits) ℓ) : Prop :=
  True

def Pre_DcIdeal (m : (ℓ : Loc Cert.DcIdeal.nD Cert.DcIdeal.τ Cert.DcIdeal.sig) → Buf (Elt Ideal) ℓ) : Prop :=
  True

def Pre_DcIdeal_scales_in_range [hPre_scales_in_range : Cert.Pre_scales_in_range.Facts] (m : (ℓ : Loc Cert.DcIdeal.nD Cert.DcIdeal.τ Cert.DcIdeal.sig) → Buf (Elt Ideal) ℓ) : Prop :=
  ∀ c : Dev Cert.DcIdeal.nD,
    (Cert.Pre_scales_in_range.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5)) (m ((c.tc : Thread Cert.DcIdeal.nD Cert.DcIdeal.τ).loc Cert.DcIdeal.main_arg6)) (m ((c.tc : Thread Cert.DcIdeal.nD Cert.DcIdeal.τ).loc Cert.DcIdeal.main_arg7)) (m ((c.tc : Thread Cert.DcIdeal.nD Cert.DcIdeal.τ).loc Cert.DcIdeal.main_arg8)) (m ((c.tc : Thread Cert.DcIdeal.nD Cert.DcIdeal.τ).loc Cert.DcIdeal.main_arg9))) = (fun _ => 1#1)

def Pre_DcRefIdeal (m : (ℓ : Loc Cert.DcRefIdeal.nD Cert.DcRefIdeal.τ Cert.DcRefIdeal.sig) → Buf (Elt Ideal) ℓ) : Prop :=
  True

def Pre_DcRefIdeal_scales_in_range [hPre_scales_in_range : Cert.Pre_scales_in_range.Facts] (m : (ℓ : Loc Cert.DcRefIdeal.nD Cert.DcRefIdeal.τ Cert.DcRefIdeal.sig) → Buf (Elt Ideal) ℓ) : Prop :=
  ∀ c : Dev Cert.DcRefIdeal.nD,
    (Cert.Pre_scales_in_range.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5)) (m ((c.tc : Thread Cert.DcRefIdeal.nD Cert.DcRefIdeal.τ).loc Cert.DcRefIdeal.main_arg6)) (m ((c.tc : Thread Cert.DcRefIdeal.nD Cert.DcRefIdeal.τ).loc Cert.DcRefIdeal.main_arg7)) (m ((c.tc : Thread Cert.DcRefIdeal.nD Cert.DcRefIdeal.τ).loc Cert.DcRefIdeal.main_arg8)) (m ((c.tc : Thread Cert.DcRefIdeal.nD Cert.DcRefIdeal.τ).loc Cert.DcRefIdeal.main_arg9))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwIdeal_scales_finite [hPre_scales_finite : Cert.Pre_scales_finite.Facts] (m : (ℓ : Loc Cert.DwIdeal.nD Cert.DwIdeal.τ Cert.DwIdeal.sig) → Buf (Elt Ideal) ℓ) : Prop :=
  ∀ c : Dev Cert.DwIdeal.nD,
    (Cert.Pre_scales_finite.fn (F := Ideal) (m ((c.tc : Thread Cert.DwIdeal.nD Cert.DwIdeal.τ).loc Cert.DwIdeal.main_arg0)) (m ((c.tc : Thread Cert.DwIdeal.nD Cert.DwIdeal.τ).loc Cert.DwIdeal.main_arg1)) (m ((c.tc : Thread Cert.DwIdeal.nD Cert.DwIdeal.τ).loc Cert.DwIdeal.main_arg2)) (m ((c.tc : Thread Cert.DwIdeal.nD Cert.DwIdeal.τ).loc Cert.DwIdeal.main_arg3)) (m ((c.tc : Thread Cert.DwIdeal.nD Cert.DwIdeal.τ).loc Cert.DwIdeal.main_arg4))) = (fun _ => 1#1)

def Pre_DwRefIdeal (m : (ℓ : Loc Cert.DwRefIdeal.nD Cert.DwRefIdeal.τ Cert.DwRefIdeal.sig) → Buf (Elt Ideal) ℓ) : Prop :=
  True

def Pre_DwRefIdeal_scales_finite [hPre_scales_finite : Cert.Pre_scales_finite.Facts] (m : (ℓ : Loc Cert.DwRefIdeal.nD Cert.DwRefIdeal.τ Cert.DwRefIdeal.sig) → Buf (Elt Ideal) ℓ) : Prop :=
  ∀ c : Dev Cert.DwRefIdeal.nD,
    (Cert.Pre_scales_finite.fn (F := Ideal) (m ((c.tc : Thread Cert.DwRefIdeal.nD Cert.DwRefIdeal.τ).loc Cert.DwRefIdeal.main_arg0)) (m ((c.tc : Thread Cert.DwRefIdeal.nD Cert.DwRefIdeal.τ).loc Cert.DwRefIdeal.main_arg1)) (m ((c.tc : Thread Cert.DwRefIdeal.nD Cert.DwRefIdeal.τ).loc Cert.DwRefIdeal.main_arg2)) (m ((c.tc : Thread Cert.DwRefIdeal.nD Cert.DwRefIdeal.τ).loc Cert.DwRefIdeal.main_arg3)) (m ((c.tc : Thread Cert.DwRefIdeal.nD Cert.DwRefIdeal.τ).loc Cert.DwRefIdeal.main_arg4))) = (fun _ => 1#1)

def quiescent_Dc [hDc : Cert.Dc.Facts] : Prop :=
  ∀ (m : (ℓ : Loc Cert.Dc.nD Cert.Dc.τ Cert.Dc.sig) → Buf (Elt Bits) ℓ) (g : Dev Cert.Dc.nD → PrngReg), Pre_Dc m →
    θ_run (Cert.Dc.defs (F := Bits)) (onTc (τ := Cert.Dc.τ) (Cert.Dc.main (F := Bits))) ⟨m, fun _ => 0, g⟩ (fun r => (∀ c : Dev Cert.Dc.nD,
      r.2.mem ((c.tc : Thread Cert.Dc.nD Cert.Dc.τ).loc Cert.Dc.main_arg0) = m ((c.tc : Thread Cert.Dc.nD Cert.Dc.τ).loc Cert.Dc.main_arg0)
      ∧ r.2.mem ((c.tc : Thread Cert.Dc.nD Cert.Dc.τ).loc Cert.Dc.main_arg1) = m ((c.tc : Thread Cert.Dc.nD Cert.Dc.τ).loc Cert.Dc.main_arg1)
      ∧ r.2.mem ((c.tc : Thread Cert.Dc.nD Cert.Dc.τ).loc Cert.Dc.main_arg2) = m ((c.tc : Thread Cert.Dc.nD Cert.Dc.τ).loc Cert.Dc.main_arg2)
      ∧ r.2.mem ((c.tc : Thread Cert.Dc.nD Cert.Dc.τ).loc Cert.Dc.main_arg3) = m ((c.tc : Thread Cert.Dc.nD Cert.Dc.τ).loc Cert.Dc.main_arg3)
      ∧ r.2.mem ((c.tc : Thread Cert.Dc.nD Cert.Dc.τ).loc Cert.Dc.main_arg4) = m ((c.tc : Thread Cert.Dc.nD Cert.Dc.τ).loc Cert.Dc.main_arg4)
      ∧ r.2.mem ((c.tc : Thread Cert.Dc.nD Cert.Dc.τ).loc Cert.Dc.main_arg5) = m ((c.tc : Thread Cert.Dc.nD Cert.Dc.τ).loc Cert.Dc.main_arg5)
      ∧ r.2.mem ((c.tc : Thread Cert.Dc.nD Cert.Dc.τ).loc Cert.Dc.main_arg6) = m ((c.tc : Thread Cert.Dc.nD Cert.Dc.τ).loc Cert.Dc.main_arg6)
      ∧ r.2.mem ((c.tc : Thread Cert.Dc.nD Cert.Dc.τ).loc Cert.Dc.main_arg7) = m ((c.tc : Thread Cert.Dc.nD Cert.Dc.τ).loc Cert.Dc.main_arg7)
      ∧ r.2.mem ((c.tc : Thread Cert.Dc.nD Cert.Dc.τ).loc Cert.Dc.main_arg8) = m ((c.tc : Thread Cert.Dc.nD Cert.Dc.τ).loc Cert.Dc.main_arg8)
      ∧ r.2.mem ((c.tc : Thread Cert.Dc.nD Cert.Dc.τ).loc Cert.Dc.main_arg9) = m ((c.tc : Thread Cert.Dc.nD Cert.Dc.τ).loc Cert.Dc.main_arg9))
      ∧ r.2.sem = fun _ => 0)

def quiescent_DcIdeal [hDcIdeal : Cert.DcIdeal.Facts] : Prop :=
  ∀ (m : (ℓ : Loc Cert.DcIdeal.nD Cert.DcIdeal.τ Cert.DcIdeal.sig) → Buf (Elt Ideal) ℓ) (g : Dev Cert.DcIdeal.nD → PrngReg), Pre_DcIdeal m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
      ∧ r.2.mem ((c.tc : Thread Cert.DcIdeal.nD Cert.DcIdeal.τ).loc Cert.DcIdeal.main_arg5) = m ((c.tc : Thread Cert.DcIdeal.nD Cert.DcIdeal.τ).loc Cert.DcIdeal.main_arg5)
      ∧ r.2.mem ((c.tc : Thread Cert.DcIdeal.nD Cert.DcIdeal.τ).loc Cert.DcIdeal.main_arg6) = m ((c.tc : Thread Cert.DcIdeal.nD Cert.DcIdeal.τ).loc Cert.DcIdeal.main_arg6)
      ∧ r.2.mem ((c.tc : Thread Cert.DcIdeal.nD Cert.DcIdeal.τ).loc Cert.DcIdeal.main_arg7) = m ((c.tc : Thread Cert.DcIdeal.nD Cert.DcIdeal.τ).loc Cert.DcIdeal.main_arg7)
      ∧ r.2.mem ((c.tc : Thread Cert.DcIdeal.nD Cert.DcIdeal.τ).loc Cert.DcIdeal.main_arg8) = m ((c.tc : Thread Cert.DcIdeal.nD Cert.DcIdeal.τ).loc Cert.DcIdeal.main_arg8)
      ∧ r.2.mem ((c.tc : Thread Cert.DcIdeal.nD Cert.DcIdeal.τ).loc Cert.DcIdeal.main_arg9) = m ((c.tc : Thread Cert.DcIdeal.nD Cert.DcIdeal.τ).loc Cert.DcIdeal.main_arg9))
      ∧ r.2.sem = fun _ => 0)

def quiescent_DcIdeal_pre_scales_in_range [hDcIdeal : Cert.DcIdeal.Facts] [hPre_scales_in_range : Cert.Pre_scales_in_range.Facts] : Prop :=
  ∀ (m : (ℓ : Loc Cert.DcIdeal.nD Cert.DcIdeal.τ Cert.DcIdeal.sig) → Buf (Elt Ideal) ℓ) (g : Dev Cert.DcIdeal.nD → PrngReg), Pre_DcIdeal_scales_in_range m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
      ∧ r.2.mem ((c.tc : Thread Cert.DcIdeal.nD Cert.DcIdeal.τ).loc Cert.DcIdeal.main_arg5) = m ((c.tc : Thread Cert.DcIdeal.nD Cert.DcIdeal.τ).loc Cert.DcIdeal.main_arg5)
      ∧ r.2.mem ((c.tc : Thread Cert.DcIdeal.nD Cert.DcIdeal.τ).loc Cert.DcIdeal.main_arg6) = m ((c.tc : Thread Cert.DcIdeal.nD Cert.DcIdeal.τ).loc Cert.DcIdeal.main_arg6)
      ∧ r.2.mem ((c.tc : Thread Cert.DcIdeal.nD Cert.DcIdeal.τ).loc Cert.DcIdeal.main_arg7) = m ((c.tc : Thread Cert.DcIdeal.nD Cert.DcIdeal.τ).loc Cert.DcIdeal.main_arg7)
      ∧ r.2.mem ((c.tc : Thread Cert.DcIdeal.nD Cert.DcIdeal.τ).loc Cert.DcIdeal.main_arg8) = m ((c.tc : Thread Cert.DcIdeal.nD Cert.DcIdeal.τ).loc Cert.DcIdeal.main_arg8)
      ∧ r.2.mem ((c.tc : Thread Cert.DcIdeal.nD Cert.DcIdeal.τ).loc Cert.DcIdeal.main_arg9) = m ((c.tc : Thread Cert.DcIdeal.nD Cert.DcIdeal.τ).loc Cert.DcIdeal.main_arg9))
      ∧ r.2.sem = fun _ => 0)

def quiescent_DcRefIdeal [hDcRefIdeal : Cert.DcRefIdeal.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4)
      ∧ r.2.mem ((c.tc : Thread Cert.DcRefIdeal.nD Cert.DcRefIdeal.τ).loc Cert.DcRefIdeal.main_arg5) = m ((c.tc : Thread Cert.DcRefIdeal.nD Cert.DcRefIdeal.τ).loc Cert.DcRefIdeal.main_arg5)
      ∧ r.2.mem ((c.tc : Thread Cert.DcRefIdeal.nD Cert.DcRefIdeal.τ).loc Cert.DcRefIdeal.main_arg6) = m ((c.tc : Thread Cert.DcRefIdeal.nD Cert.DcRefIdeal.τ).loc Cert.DcRefIdeal.main_arg6)
      ∧ r.2.mem ((c.tc : Thread Cert.DcRefIdeal.nD Cert.DcRefIdeal.τ).loc Cert.DcRefIdeal.main_arg7) = m ((c.tc : Thread Cert.DcRefIdeal.nD Cert.DcRefIdeal.τ).loc Cert.DcRefIdeal.main_arg7)
      ∧ r.2.mem ((c.tc : Thread Cert.DcRefIdeal.nD Cert.DcRefIdeal.τ).loc Cert.DcRefIdeal.main_arg8) = m ((c.tc : Thread Cert.DcRefIdeal.nD Cert.DcRefIdeal.τ).loc Cert.DcRefIdeal.main_arg8)
      ∧ r.2.mem ((c.tc : Thread Cert.DcRefIdeal.nD Cert.DcRefIdeal.τ).loc Cert.DcRefIdeal.main_arg9) = m ((c.tc : Thread Cert.DcRefIdeal.nD Cert.DcRefIdeal.τ).loc Cert.DcRefIdeal.main_arg9))
      ∧ r.2.sem = fun _ => 0)

def quiescent_DcRefIdeal_pre_scales_in_range [hDcRefIdeal : Cert.DcRefIdeal.Facts] [hPre_scales_in_range : Cert.Pre_scales_in_range.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal_scales_in_range m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4)
      ∧ r.2.mem ((c.tc : Thread Cert.DcRefIdeal.nD Cert.DcRefIdeal.τ).loc Cert.DcRefIdeal.main_arg5) = m ((c.tc : Thread Cert.DcRefIdeal.nD Cert.DcRefIdeal.τ).loc Cert.DcRefIdeal.main_arg5)
      ∧ r.2.mem ((c.tc : Thread Cert.DcRefIdeal.nD Cert.DcRefIdeal.τ).loc Cert.DcRefIdeal.main_arg6) = m ((c.tc : Thread Cert.DcRefIdeal.nD Cert.DcRefIdeal.τ).loc Cert.DcRefIdeal.main_arg6)
      ∧ r.2.mem ((c.tc : Thread Cert.DcRefIdeal.nD Cert.DcRefIdeal.τ).loc Cert.DcRefIdeal.main_arg7) = m ((c.tc : Thread Cert.DcRefIdeal.nD Cert.DcRefIdeal.τ).loc Cert.DcRefIdeal.main_arg7)
      ∧ r.2.mem ((c.tc : Thread Cert.DcRefIdeal.nD Cert.DcRefIdeal.τ).loc Cert.DcRefIdeal.main_arg8) = m ((c.tc : Thread Cert.DcRefIdeal.nD Cert.DcRefIdeal.τ).loc Cert.DcRefIdeal.main_arg8)
      ∧ r.2.mem ((c.tc : Thread Cert.DcRefIdeal.nD Cert.DcRefIdeal.τ).loc Cert.DcRefIdeal.main_arg9) = m ((c.tc : Thread Cert.DcRefIdeal.nD Cert.DcRefIdeal.τ).loc Cert.DcRefIdeal.main_arg9))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwIdeal_pre_scales_finite [hDwIdeal : Cert.DwIdeal.Facts] [hPre_scales_finite : Cert.Pre_scales_finite.Facts] : Prop :=
  ∀ (m : (ℓ : Loc Cert.DwIdeal.nD Cert.DwIdeal.τ Cert.DwIdeal.sig) → Buf (Elt Ideal) ℓ) (g : Dev Cert.DwIdeal.nD → PrngReg), Pre_DwIdeal_scales_finite m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def quiescent_DwRefIdeal_pre_scales_finite [hDwRefIdeal : Cert.DwRefIdeal.Facts] [hPre_scales_finite : Cert.Pre_scales_finite.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal_scales_finite m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def preserves_Dc_DcIdeal : Prop :=
  True

def algebraic_DcIdeal_DcRefIdeal_pre_scales_in_range [hDcIdeal : Cert.DcIdeal.Facts] [hDcRefIdeal : Cert.DcRefIdeal.Facts] [hPre_scales_in_range : Cert.Pre_scales_in_range.Facts] : Prop :=
  ∀ (m : (ℓ : Loc Cert.DcIdeal.nD Cert.DcIdeal.τ Cert.DcIdeal.sig) → Buf (Elt Ideal) ℓ) (g : Dev Cert.DcIdeal.nD → PrngReg)
    (m' : (ℓ : Loc Cert.DcRefIdeal.nD Cert.DcRefIdeal.τ Cert.DcRefIdeal.sig) → Buf (Elt Ideal) ℓ) (g' : Dev Cert.DcRefIdeal.nD → PrngReg), Pre_DcIdeal_scales_in_range m →
    (∀ c : Dev Cert.DcIdeal.nD,
      m' ((c.tc : Thread Cert.DcRefIdeal.nD Cert.DcRefIdeal.τ).loc Cert.DcRefIdeal.main_arg0) = m ((c.tc : Thread Cert.DcIdeal.nD Cert.DcIdeal.τ).loc Cert.DcIdeal.main_arg0)
      ∧ m' ((c.tc : Thread Cert.DcRefIdeal.nD Cert.DcRefIdeal.τ).loc Cert.DcRefIdeal.main_arg1) = m ((c.tc : Thread Cert.DcIdeal.nD Cert.DcIdeal.τ).loc Cert.DcIdeal.main_arg1)
      ∧ m' ((c.tc : Thread Cert.DcRefIdeal.nD Cert.DcRefIdeal.τ).loc Cert.DcRefIdeal.main_arg2) = m ((c.tc : Thread Cert.DcIdeal.nD Cert.DcIdeal.τ).loc Cert.DcIdeal.main_arg2)
      ∧ m' ((c.tc : Thread Cert.DcRefIdeal.nD Cert.DcRefIdeal.τ).loc Cert.DcRefIdeal.main_arg3) = m ((c.tc : Thread Cert.DcIdeal.nD Cert.DcIdeal.τ).loc Cert.DcIdeal.main_arg3)
      ∧ m' ((c.tc : Thread Cert.DcRefIdeal.nD Cert.DcRefIdeal.τ).loc Cert.DcRefIdeal.main_arg4) = m ((c.tc : Thread Cert.DcIdeal.nD Cert.DcIdeal.τ).loc Cert.DcIdeal.main_arg4)
      ∧ m' ((c.tc : Thread Cert.DcRefIdeal.nD Cert.DcRefIdeal.τ).loc Cert.DcRefIdeal.main_arg5) = m ((c.tc : Thread Cert.DcIdeal.nD Cert.DcIdeal.τ).loc Cert.DcIdeal.main_arg5)
      ∧ m' ((c.tc : Thread Cert.DcRefIdeal.nD Cert.DcRefIdeal.τ).loc Cert.DcRefIdeal.main_arg6) = m ((c.tc : Thread Cert.DcIdeal.nD Cert.DcIdeal.τ).loc Cert.DcIdeal.main_arg6)
      ∧ m' ((c.tc : Thread Cert.DcRefIdeal.nD Cert.DcRefIdeal.τ).loc Cert.DcRefIdeal.main_arg7) = m ((c.tc : Thread Cert.DcIdeal.nD Cert.DcIdeal.τ).loc Cert.DcIdeal.main_arg7)
      ∧ m' ((c.tc : Thread Cert.DcRefIdeal.nD Cert.DcRefIdeal.τ).loc Cert.DcRefIdeal.main_arg8) = m ((c.tc : Thread Cert.DcIdeal.nD Cert.DcIdeal.τ).loc Cert.DcIdeal.main_arg8)
      ∧ m' ((c.tc : Thread Cert.DcRefIdeal.nD Cert.DcRefIdeal.τ).loc Cert.DcRefIdeal.main_arg9) = m ((c.tc : Thread Cert.DcIdeal.nD Cert.DcIdeal.τ).loc Cert.DcIdeal.main_arg9)) →
    ∃ (v0 : (c : Dev Cert.DcIdeal.nD) → Buf (Elt Ideal) ((c.tc : Thread Cert.DcIdeal.nD Cert.DcIdeal.τ).loc Cert.DcIdeal.main_v5_0)) (v1 : (c : Dev Cert.DcIdeal.nD) → Buf (Elt Ideal) ((c.tc : Thread Cert.DcIdeal.nD Cert.DcIdeal.τ).loc Cert.DcIdeal.main_v5_1)) (v2 : (c : Dev Cert.DcIdeal.nD) → Buf (Elt Ideal) ((c.tc : Thread Cert.DcIdeal.nD Cert.DcIdeal.τ).loc Cert.DcIdeal.main_v5_2)) (v3 : (c : Dev Cert.DcIdeal.nD) → Buf (Elt Ideal) ((c.tc : Thread Cert.DcIdeal.nD Cert.DcIdeal.τ).loc Cert.DcIdeal.main_v5_3)) (v4 : (c : Dev Cert.DcIdeal.nD) → Buf (Elt Ideal) ((c.tc : Thread Cert.DcIdeal.nD Cert.DcIdeal.τ).loc Cert.DcIdeal.main_v5_4)) (v5 : (c : Dev Cert.DcIdeal.nD) → Buf (Elt Ideal) ((c.tc : Thread Cert.DcIdeal.nD Cert.DcIdeal.τ).loc Cert.DcIdeal.main_v5_5)) (v6 : (c : Dev Cert.DcIdeal.nD) → Buf (Elt Ideal) ((c.tc : Thread Cert.DcIdeal.nD Cert.DcIdeal.τ).loc Cert.DcIdeal.main_v5_6)) (v7 : (c : Dev Cert.DcIdeal.nD) → Buf (Elt Ideal) ((c.tc : Thread Cert.DcIdeal.nD Cert.DcIdeal.τ).loc Cert.DcIdeal.main_v5_7)),
      θ_run (Cert.DcIdeal.defs (F := Ideal)) (onTc (τ := Cert.DcIdeal.τ) (Cert.DcIdeal.main (F := Ideal))) ⟨m, fun _ => 0, g⟩ (fun r => ∀ c : Dev Cert.DcIdeal.nD,
          r.2.mem ((c.tc : Thread Cert.DcIdeal.nD Cert.DcIdeal.τ).loc Cert.DcIdeal.main_v5_0) = v0 c
          ∧ r.2.mem ((c.tc : Thread Cert.DcIdeal.nD Cert.DcIdeal.τ).loc Cert.DcIdeal.main_v5_1) = v1 c
          ∧ r.2.mem ((c.tc : Thread Cert.DcIdeal.nD Cert.DcIdeal.τ).loc Cert.DcIdeal.main_v5_2) = v2 c
          ∧ r.2.mem ((c.tc : Thread Cert.DcIdeal.nD Cert.DcIdeal.τ).loc Cert.DcIdeal.main_v5_3) = v3 c
          ∧ r.2.mem ((c.tc : Thread Cert.DcIdeal.nD Cert.DcIdeal.τ).loc Cert.DcIdeal.main_v5_4) = v4 c
          ∧ r.2.mem ((c.tc : Thread Cert.DcIdeal.nD Cert.DcIdeal.τ).loc Cert.DcIdeal.main_v5_5) = v5 c
          ∧ r.2.mem ((c.tc : Thread Cert.DcIdeal.nD Cert.DcIdeal.τ).loc Cert.DcIdeal.main_v5_6) = v6 c
          ∧ r.2.mem ((c.tc : Thread Cert.DcIdeal.nD Cert.DcIdeal.τ).loc Cert.DcIdeal.main_v5_7) = v7 c
          ∧ r.2.mem ((c.tc : Thread Cert.DcIdeal.nD Cert.DcIdeal.τ).loc Cert.DcIdeal.main_arg0) = m ((c.tc : Thread Cert.DcIdeal.nD Cert.DcIdeal.τ).loc Cert.DcIdeal.main_arg0)
          ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
          ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
          ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
          ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
          ∧ r.2.mem ((c.tc : Thread Cert.DcIdeal.nD Cert.DcIdeal.τ).loc Cert.DcIdeal.main_arg5) = m ((c.tc : Thread Cert.DcIdeal.nD Cert.DcIdeal.τ).loc Cert.DcIdeal.main_arg5)
          ∧ r.2.mem ((c.tc : Thread Cert.DcIdeal.nD Cert.DcIdeal.τ).loc Cert.DcIdeal.main_arg6) = m ((c.tc : Thread Cert.DcIdeal.nD Cert.DcIdeal.τ).loc Cert.DcIdeal.main_arg6)
          ∧ r.2.mem ((c.tc : Thread Cert.DcIdeal.nD Cert.DcIdeal.τ).loc Cert.DcIdeal.main_arg7) = m ((c.tc : Thread Cert.DcIdeal.nD Cert.DcIdeal.τ).loc Cert.DcIdeal.main_arg7)
          ∧ r.2.mem ((c.tc : Thread Cert.DcIdeal.nD Cert.DcIdeal.τ).loc Cert.DcIdeal.main_arg8) = m ((c.tc : Thread Cert.DcIdeal.nD Cert.DcIdeal.τ).loc Cert.DcIdeal.main_arg8)
          ∧ r.2.mem ((c.tc : Thread Cert.DcIdeal.nD Cert.DcIdeal.τ).loc Cert.DcIdeal.main_arg9) = m ((c.tc : Thread Cert.DcIdeal.nD Cert.DcIdeal.τ).loc Cert.DcIdeal.main_arg9))
      ∧ θ_run (Cert.DcRefIdeal.defs (F := Ideal)) (onTc (τ := Cert.DcRefIdeal.τ) (Cert.DcRefIdeal.main (F := Ideal))) ⟨m', fun _ => 0, g'⟩ (fun r => ∀ c : Dev Cert.DcRefIdeal.nD,
          r.2.mem ((c.tc : Thread Cert.DcRefIdeal.nD Cert.DcRefIdeal.τ).loc Cert.DcRefIdeal.main_v62) = v0 c
          ∧ r.2.mem ((c.tc : Thread Cert.DcRefIdeal.nD Cert.DcRefIdeal.τ).loc Cert.DcRefIdeal.main_v63) = v1 c
          ∧ r.2.mem ((c.tc : Thread Cert.DcRefIdeal.nD Cert.DcRefIdeal.τ).loc Cert.DcRefIdeal.main_v64) = v2 c
          ∧ r.2.mem ((c.tc : Thread Cert.DcRefIdeal.nD Cert.DcRefIdeal.τ).loc Cert.DcRefIdeal.main_v65) = v3 c
          ∧ r.2.mem ((c.tc : Thread Cert.DcRefIdeal.nD Cert.DcRefIdeal.τ).loc Cert.DcRefIdeal.main_v66) = v4 c
          ∧ r.2.mem ((c.tc : Thread Cert.DcRefIdeal.nD Cert.DcRefIdeal.τ).loc Cert.DcRefIdeal.main_v67) = v5 c
          ∧ r.2.mem ((c.tc : Thread Cert.DcRefIdeal.nD Cert.DcRefIdeal.τ).loc Cert.DcRefIdeal.main_v73) = v6 c
          ∧ r.2.mem ((c.tc : Thread Cert.DcRefIdeal.nD Cert.DcRefIdeal.τ).loc Cert.DcRefIdeal.main_v79) = v7 c
          ∧ r.2.mem ((c.tc : Thread Cert.DcRefIdeal.nD Cert.DcRefIdeal.τ).loc Cert.DcRefIdeal.main_arg0) = m' ((c.tc : Thread Cert.DcRefIdeal.nD Cert.DcRefIdeal.τ).loc Cert.DcRefIdeal.main_arg0)
          ∧ r.2.mem ((c.tc : Thread Cert.DcRefIdeal.nD Cert.DcRefIdeal.τ).loc Cert.DcRefIdeal.main_arg1) = m' ((c.tc : Thread Cert.DcRefIdeal.nD Cert.DcRefIdeal.τ).loc Cert.DcRefIdeal.main_arg1)
          ∧ r.2.mem ((c.tc : Thread Cert.DcRefIdeal.nD Cert.DcRefIdeal.τ).loc Cert.DcRefIdeal.main_arg2) = m' ((c.tc : Thread Cert.DcRefIdeal.nD Cert.DcRefIdeal.τ).loc Cert.DcRefIdeal.main_arg2)
          ∧ r.2.mem ((c.tc : Thread Cert.DcRefIdeal.nD Cert.DcRefIdeal.τ).loc Cert.DcRefIdeal.main_arg3) = m' ((c.tc : Thread Cert.DcRefIdeal.nD Cert.DcRefIdeal.τ).loc Cert.DcRefIdeal.main_arg3)
          ∧ r.2.mem ((c.tc : Thread Cert.DcRefIdeal.nD Cert.DcRefIdeal.τ).loc Cert.DcRefIdeal.main_arg4) = m' ((c.tc : Thread Cert.DcRefIdeal.nD Cert.DcRefIdeal.τ).loc Cert.DcRefIdeal.main_arg4)
          ∧ r.2.mem ((c.tc : Thread Cert.DcRefIdeal.nD Cert.DcRefIdeal.τ).loc Cert.DcRefIdeal.main_arg5) = m' ((c.tc : Thread Cert.DcRefIdeal.nD Cert.DcRefIdeal.τ).loc Cert.DcRefIdeal.main_arg5)
          ∧ r.2.mem ((c.tc : Thread Cert.DcRefIdeal.nD Cert.DcRefIdeal.τ).loc Cert.DcRefIdeal.main_arg6) = m' ((c.tc : Thread Cert.DcRefIdeal.nD Cert.DcRefIdeal.τ).loc Cert.DcRefIdeal.main_arg6)
          ∧ r.2.mem ((c.tc : Thread Cert.DcRefIdeal.nD Cert.DcRefIdeal.τ).loc Cert.DcRefIdeal.main_arg7) = m' ((c.tc : Thread Cert.DcRefIdeal.nD Cert.DcRefIdeal.τ).loc Cert.DcRefIdeal.main_arg7)
          ∧ r.2.mem ((c.tc : Thread Cert.DcRefIdeal.nD Cert.DcRefIdeal.τ).loc Cert.DcRefIdeal.main_arg8) = m' ((c.tc : Thread Cert.DcRefIdeal.nD Cert.DcRefIdeal.τ).loc Cert.DcRefIdeal.main_arg8)
          ∧ r.2.mem ((c.tc : Thread Cert.DcRefIdeal.nD Cert.DcRefIdeal.τ).loc Cert.DcRefIdeal.main_arg9) = m' ((c.tc : Thread Cert.DcRefIdeal.nD Cert.DcRefIdeal.τ).loc Cert.DcRefIdeal.main_arg9))

def preserves_Dw_DwIdeal : Prop :=
  True

def algebraic_DwIdeal_DwRefIdeal_pre_scales_finite [hDwIdeal : Cert.DwIdeal.Facts] [hDwRefIdeal : Cert.DwRefIdeal.Facts] [hPre_scales_finite : Cert.Pre_scales_finite.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal_scales_finite m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v10) = v0 c
          ∧ r.2.mem ((c.tc : Thread Cert.DwRefIdeal.nD Cert.DwRefIdeal.τ).loc Cert.DwRefIdeal.main_v12) = v1 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def Claim : Prop :=
  ∃ (hDc : Cert.Dc.Facts) (hDcIdeal : Cert.DcIdeal.Facts) (hDcRefIdeal : Cert.DcRefIdeal.Facts) (hDw : Cert.Dw.Facts) (hDwIdeal : Cert.DwIdeal.Facts) (hDwRefIdeal : Cert.DwRefIdeal.Facts) (hPre_scales_in_range : Cert.Pre_scales_in_range.Facts) (hPre_scales_finite : Cert.Pre_scales_finite.Facts),
    quiescent_Dc (hDc := hDc)
    ∧ quiescent_DcIdeal (hDcIdeal := hDcIdeal)
    ∧ quiescent_DcIdeal_pre_scales_in_range (hDcIdeal := hDcIdeal) (hPre_scales_in_range := hPre_scales_in_range)
    ∧ quiescent_DcRefIdeal (hDcRefIdeal := hDcRefIdeal)
    ∧ quiescent_DcRefIdeal_pre_scales_in_range (hDcRefIdeal := hDcRefIdeal) (hPre_scales_in_range := hPre_scales_in_range)
    ∧ quiescent_Dw (hDw := hDw)
    ∧ quiescent_DwIdeal (hDwIdeal := hDwIdeal)
    ∧ quiescent_DwIdeal_pre_scales_finite (hDwIdeal := hDwIdeal) (hPre_scales_finite := hPre_scales_finite)
    ∧ quiescent_DwRefIdeal (hDwRefIdeal := hDwRefIdeal)
    ∧ quiescent_DwRefIdeal_pre_scales_finite (hDwRefIdeal := hDwRefIdeal) (hPre_scales_finite := hPre_scales_finite)
    ∧ preserves_Dc_DcIdeal
    ∧ algebraic_DcIdeal_DcRefIdeal_pre_scales_in_range (hDcIdeal := hDcIdeal) (hDcRefIdeal := hDcRefIdeal) (hPre_scales_in_range := hPre_scales_in_range)
    ∧ preserves_Dw_DwIdeal
    ∧ algebraic_DwIdeal_DwRefIdeal_pre_scales_finite (hDwIdeal := hDwIdeal) (hDwRefIdeal := hDwRefIdeal) (hPre_scales_finite := hPre_scales_finite)
-- ==== Pre_scales_finite.lean ====
abbrev S9x1536x6144 : Shape := ⟨3, ![9, 1536, 6144]⟩
abbrev S9x20x6144x128 : Shape := ⟨4, ![9, 20, 6144, 128]⟩
abbrev S1x1 : Shape := ⟨2, ![1, 1]⟩
abbrev S_ : Shape := ⟨0, ![]⟩

class Facts : Prop where
  shapeCasts_S1x1_S_ : S1x1.ShapeCasts S_

variable [Facts]

def fn {F : FTy → Type} [FloatOps F] (main_arg0 : FVec F S9x1536x6144 .bf16) (main_arg1 : FVec F S9x20x6144x128 .fp8e5m2) (main_arg2 : FVec F S9x20x6144x128 .fp8e5m2) (main_arg3 : FVec F S1x1 .f32) (main_arg4 : FVec F S1x1 .f32) : IVec S_ 1 :=
  let main_v0 : FVec F S_ .f32 := shapeCast S_ main_arg3 shapeCasts_S1x1_S_
  let main_v1 : FVec F S_ .f32 := shapeCast S_ main_arg4 shapeCasts_S1x1_S_
  let main_cst : FVec F S_ .f32 := constant S_ .f32 0x00000000#32
  let main_v2 : IVec S_ 1 := cmpf .oge main_v0 main_cst
  let main_cst_0 : FVec F S_ .f32 := constant S_ .f32 0x7F800000#32
  let main_v3 : IVec S_ 1 := cmpf .olt main_v0 main_cst_0
  let main_v4 : IVec S_ 1 := andi main_v2 main_v3
  let main_cst_1 : FVec F S_ .f32 := constant S_ .f32 0x00000000#32
  let main_v5 : IVec S_ 1 := cmpf .oge main_v1 main_cst_1
  let main_v6 : IVec S_ 1 := andi main_v4 main_v5
  let main_cst_2 : FVec F S_ .f32 := constant S_ .f32 0x7F800000#32
  let main_v7 : IVec S_ 1 := cmpf .olt main_v1 main_cst_2
  let main_v8 : IVec S_ 1 := andi main_v6 main_v7
  main_v8
-- ==== Pre_scales_in_range.lean ====
abbrev S9x6144x20x128 : Shape := ⟨4, ![9, 6144, 20, 128]⟩
abbrev S9x6144x1536 : Shape := ⟨3, ![9, 6144, 1536]⟩
abbrev S9x6144x12 : Shape := ⟨3, ![9, 6144, 12]⟩
abbrev S1536x20x128 : Shape := ⟨3, ![1536, 20, 128]⟩
abbrev S12x20 : Shape := ⟨2, ![12, 20]⟩
abbrev S16 : Shape := ⟨1, ![16]⟩
abbrev S_ : Shape := ⟨0, ![]⟩

class Facts : Prop where
  reducesTo_S16_S_d0 : S16.ReducesTo [0] S_
  h_S_ : 0 < S_.numel

variable [Facts]

def fn_part1 {F : FTy → Type} [FloatOps F] (main_v7 : IVec S_ 1) (main_v11 : IVec S_ 1) (main_v12 : IVec S_ 1) (main_v13 : IVec S_ 1) : IVec S_ 1 :=
  let main_v14 : IVec S_ 1 := andi main_v12 main_v13
  let main_v15 : IVec S_ 1 := ori main_v11 main_v14
  let main_v16 : IVec S_ 1 := andi main_v7 main_v15
  main_v16

def fn {F : FTy → Type} [FloatOps F] (main_arg0 : FVec F S9x6144x20x128 .bf16) (main_arg1 : FVec F S9x6144x20x128 .bf16) (main_arg2 : FVec F S9x6144x1536 .fp8e4m3) (main_arg3 : FVec F S9x6144x12 .f32) (main_arg4 : FVec F S1536x20x128 .fp8e4m3) (main_arg5 : FVec F S12x20 .f32) (main_arg6 : FVec F S1536x20x128 .fp8e4m3) (main_arg7 : FVec F S12x20 .f32) (main_arg8 : FVec F S16 .f32) (main_arg9 : FVec F S16 .f32) : IVec S_ 1 :=
  let main_cst : FVec F S_ .f32 := constant S_ .f32 0xFF800000#32
  let main_v0 : FVec F S_ .f32 := (fun x v => Host.reduce FloatOps.maximumf x v reducesTo_S16_S_d0 h_S_) main_arg8 main_cst
  let main_cst_0 : FVec F S_ .f32 := constant S_ .f32 0x37924925#32
  let main_v1 : FVec F S_ .f32 := mulf main_v0 main_cst_0
  let main_v2 : FVec F S_ .f32 := Host.absf main_v1
  let main_cst_1 : FVec F S_ .f32 := constant S_ .f32 0x00000000#32
  let main_v3 : IVec S_ 1 := cmpf .oeq main_v2 main_cst_1
  let main_cst_2 : FVec F S_ .f32 := constant S_ .f32 0x00800000#32
  let main_v4 : IVec S_ 1 := cmpf .oge main_v2 main_cst_2
  let main_cst_3 : FVec F S_ .f32 := constant S_ .f32 0x7E800000#32
  let main_v5 : IVec S_ 1 := cmpf .olt main_v2 main_cst_3
  let main_v6 : IVec S_ 1 := andi main_v4 main_v5
  let main_v7 : IVec S_ 1 := ori main_v3 main_v6
  let main_cst_4 : FVec F S_ .f32 := constant S_ .f32 0xFF800000#32
  let main_v8 : FVec F S_ .f32 := (fun x v => Host.reduce FloatOps.maximumf x v reducesTo_S16_S_d0 h_S_) main_arg9 main_cst_4
  let main_cst_5 : FVec F S_ .f32 := constant S_ .f32 0x37924925#32
  let main_v9 : FVec F S_ .f32 := mulf main_v8 main_cst_5
  let main_v10 : FVec F S_ .f32 := Host.absf main_v9
  let main_cst_6 : FVec F S_ .f32 := constant S_ .f32 0x00000000#32
  let main_v11 : IVec S_ 1 := cmpf .oeq main_v10 main_cst_6
  let main_cst_7 : FVec F S_ .f32 := constant S_ .f32 0x00800000#32
  let main_v12 : IVec S_ 1 := cmpf .oge main_v10 main_cst_7
  let main_cst_8 : FVec F S_ .f32 := constant S_ .f32 0x7E800000#32
  let main_v13 : IVec S_ 1 := cmpf .olt main_v10 main_cst_8
  fn_part1 (F := F) main_v7 main_v11 main_v12 main_v13
-- ==== Dc.lean ====
abbrev S9x6144x20x128 : Shape := ⟨4, ![9, 6144, 20, 128]⟩
abbrev S9x6144x1536 : Shape := ⟨3, ![9, 6144, 1536]⟩
abbrev S9x6144x12 : Shape := ⟨3, ![9, 6144, 12]⟩
abbrev S1536x20x128 : Shape := ⟨3, ![1536, 20, 128]⟩
abbrev S12x20 : Shape := ⟨2, ![12, 20]⟩
abbrev S16 : Shape := ⟨1, ![16]⟩
abbrev S9x20x6144x128 : Shape := ⟨4, ![9, 20, 6144, 128]⟩
abbrev S20x1536x128 : Shape := ⟨3, ![20, 1536, 128]⟩
abbrev S9x12x6144 : Shape := ⟨3, ![9, 12, 6144]⟩
abbrev S9x1536x6144 : Shape := ⟨3, ![9, 1536, 6144]⟩
abbrev S1x1 : Shape := ⟨2, ![1, 1]⟩
abbrev S1x20x512x128 : Shape := ⟨4, ![1, 20, 512, 128]⟩
abbrev S1x512x1536 : Shape := ⟨3, ![1, 512, 1536]⟩
abbrev S1x12x512 : Shape := ⟨3, ![1, 12, 512]⟩
abbrev S1x1536x512 : Shape := ⟨3, ![1, 1536, 512]⟩
abbrev S1536x5120 : Shape := ⟨2, ![1536, 5120]⟩
abbrev S512x5120 : Shape := ⟨2, ![512, 5120]⟩
abbrev S2x16x128 : Shape := ⟨3, ![2, 16, 128]⟩
abbrev S1x128x128 : Shape := ⟨3, ![1, 128, 128]⟩
abbrev S128x128 : Shape := ⟨2, ![128, 128]⟩
abbrev S1x128 : Shape := ⟨2, ![1, 128]⟩
abbrev S1 : Shape := ⟨1, ![1]⟩
abbrev S1x16x128 : Shape := ⟨3, ![1, 16, 128]⟩
abbrev S16x128 : Shape := ⟨2, ![16, 128]⟩
abbrev S1x1x512x128 : Shape := ⟨4, ![1, 1, 512, 128]⟩
abbrev S512x128 : Shape := ⟨2, ![512, 128]⟩
abbrev S32x16x128 : Shape := ⟨3, ![32, 16, 128]⟩
abbrev S1x512x128 : Shape := ⟨3, ![1, 512, 128]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512x2560 : Shape := ⟨2, ![512, 2560]⟩
abbrev S256x2560 : Shape := ⟨2, ![256, 2560]⟩
abbrev S512x256 : Shape := ⟨2, ![512, 256]⟩
abbrev S1x512x256 : Shape := ⟨3, ![1, 512, 256]⟩
abbrev S1x1x1 : Shape := ⟨3, ![1, 1, 1]⟩

abbrev nBuf : Space → Nat
  | .hbm => 23
  | .vmem => 21
  | .smem => 8
  | _ => 0

abbrev bufTy : (tb : Table) → Fin (tcTables nBuf tb) → BufTy
  | .hbm, ⟨0, _⟩ => ⟨S9x6144x20x128, .bf16⟩
  | .hbm, ⟨1, _⟩ => ⟨S9x6144x20x128, .bf16⟩
  | .hbm, ⟨2, _⟩ => ⟨S9x6144x1536, .fp8e4m3⟩
  | .hbm, ⟨3, _⟩ => ⟨S9x6144x12, .f32⟩
  | .hbm, ⟨4, _⟩ => ⟨S1536x20x128, .fp8e4m3⟩
  | .hbm, ⟨5, _⟩ => ⟨S12x20, .f32⟩
  | .hbm, ⟨6, _⟩ => ⟨S1536x20x128, .fp8e4m3⟩
  | .hbm, ⟨7, _⟩ => ⟨S12x20, .f32⟩
  | .hbm, ⟨8, _⟩ => ⟨S16, .f32⟩
  | .hbm, ⟨9, _⟩ => ⟨S16, .f32⟩
  | .hbm, ⟨10, _⟩ => ⟨S9x20x6144x128, .bf16⟩
  | .hbm, ⟨11, _⟩ => ⟨S9x20x6144x128, .bf16⟩
  | .hbm, ⟨12, _⟩ => ⟨S20x1536x128, .fp8e4m3⟩
  | .hbm, ⟨13, _⟩ => ⟨S20x1536x128, .fp8e4m3⟩
  | .hbm, ⟨14, _⟩ => ⟨S9x12x6144, .f32⟩
  | .hbm, ⟨15, _⟩ => ⟨S9x6144x1536, .bf16⟩
  | .hbm, ⟨16, _⟩ => ⟨S9x1536x6144, .bf16⟩
  | .hbm, ⟨17, _⟩ => ⟨S9x20x6144x128, .fp8e5m2⟩
  | .hbm, ⟨18, _⟩ => ⟨S9x20x6144x128, .fp8e5m2⟩
  | .hbm, ⟨19, _⟩ => ⟨S1x1, .f32⟩
  | .hbm, ⟨20, _⟩ => ⟨S1x1, .f32⟩
  | .hbm, ⟨21, _⟩ => ⟨S16, .f32⟩
  | .hbm, ⟨22, _⟩ => ⟨S16, .f32⟩
  | .local _ .vmem, ⟨0, _⟩ => ⟨S1x20x512x128, .bf16⟩
  | .local _ .vmem, ⟨1, _⟩ => ⟨S1x20x512x128, .bf16⟩
  | .local _ .vmem, ⟨2, _⟩ => ⟨S1x20x512x128, .bf16⟩
  | .local _ .vmem, ⟨3, _⟩ => ⟨S1x20x512x128, .bf16⟩
  | .local _ .vmem, ⟨4, _⟩ => ⟨S1x512x1536, .fp8e4m3⟩
  | .local _ .vmem, ⟨5, _⟩ => ⟨S1x512x1536, .fp8e4m3⟩
  | .local _ .vmem, ⟨6, _⟩ => ⟨S1x12x512, .f32⟩
  | .local _ .vmem, ⟨7, _⟩ => ⟨S1x12x512, .f32⟩
  | .local _ .vmem, ⟨8, _⟩ => ⟨S20x1536x128, .fp8e4m3⟩
  | .local _ .vmem, ⟨9, _⟩ => ⟨S20x1536x128, .fp8e4m3⟩
  | .local _ .vmem, ⟨10, _⟩ => ⟨S1x512x1536, .bf16⟩
  | .local _ .vmem, ⟨11, _⟩ => ⟨S1x512x1536, .bf16⟩
  | .local _ .vmem, ⟨12, _⟩ => ⟨S1x1536x512, .bf16⟩
  | .local _ .vmem, ⟨13, _⟩ => ⟨S1x1536x512, .bf16⟩
  | .local _ .vmem, ⟨14, _⟩ => ⟨S1x20x512x128, .fp8e5m2⟩
  | .local _ .vmem, ⟨15, _⟩ => ⟨S1x20x512x128, .fp8e5m2⟩
  | .local _ .vmem, ⟨16, _⟩ => ⟨S1x20x512x128, .fp8e5m2⟩
  | .local _ .vmem, ⟨17, _⟩ => ⟨S1x20x512x128, .fp8e5m2⟩
  | .local _ .vmem, ⟨18, _⟩ => ⟨S1536x5120, .bf16⟩
  | .local _ .vmem, ⟨19, _⟩ => ⟨S512x5120, .bf16⟩
  | .local _ .vmem, ⟨20, _⟩ => ⟨S2x16x128, .bf16⟩
  | .local _ .smem, ⟨0, _⟩ => ⟨S12x20, .f32⟩
  | .local _ .smem, ⟨1, _⟩ => ⟨S12x20, .f32⟩
  | .local _ .smem, ⟨2, _⟩ => ⟨S16, .f32⟩
  | .local _ .smem, ⟨3, _⟩ => ⟨S16, .f32⟩
  | .local _ .smem, ⟨4, _⟩ => ⟨S1x1, .f32⟩
  | .local _ .smem, ⟨5, _⟩ => ⟨S1x1, .f32⟩
  | .local _ .smem, ⟨6, _⟩ => ⟨S16, .f32⟩
  | .local _ .smem, ⟨7, _⟩ => ⟨S16, .f32⟩
  | _, _ => ⟨S9x6144x20x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_stg9_0 : Ref sig .tc := ⟨.smem, 3, rfl⟩
abbrev cc0_stg14_0 : Ref sig .tc := ⟨.smem, 4, rfl⟩
abbrev cc0_stg15_0 : Ref sig .tc := ⟨.smem, 5, rfl⟩
abbrev cc0_stg16_0 : Ref sig .tc := ⟨.smem, 6, rfl⟩
abbrev cc0_stg17_0 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨2, ![9, 12], ![false, false]⟩

def k0_cond1 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_753 : BitVec 32 := 0#32
  let c12_i32_754 : BitVec 32 := 12#32
  let v1324 : BitVec 32 := Scalar.addi c0_i32_753 c12_i32_754
  let c1_i32 : BitVec 32 := 1#32
  ⟨c0_i32_753, v1324, c1_i32⟩
def k0_mult1 (k0_t1 : Fin k0_t1_loop.trips) : BitVec 32 :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  v1332
def k0_off1 (k0_t1 : Fin k0_t1_loop.trips) : Fin 3 → Nat :=
  let c0_766 : Index := 0#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1334 : Index := Scalar.indexCast v1333
  let c0_767 : Index := 0#32
  ![0, v1334.toNat, 0]
def k0_off2 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1338 : Index := Scalar.indexCast v1331
  let c0_768 : Index := 0#32
  ![v1338.toNat, 0]
def k0_off3 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1344 : Index := Scalar.indexCast v1333
  let c0_769 : Index := 0#32
  ![v1344.toNat, 0]
def k0_off4 (k0_t1 : Fin k0_t1_loop.trips) : Fin 3 → Nat :=
  let c1_770 : Index := 1#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1348 : Index := Scalar.indexCast v1333
  let c0_771 : Index := 0#32
  ![1, v1348.toNat, 0]
def k0_off5 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1352 : Index := Scalar.indexCast v1331
  let c1_772 : Index := 1#32
  ![v1352.toNat, 1]
def k0_off6 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1358 : Index := Scalar.indexCast v1333
  let c128_773 : Index := 128#32
  ![v1358.toNat, 128]
def k0_off7 (k0_t1 : Fin k0_t1_loop.trips) : Fin 3 → Nat :=
  let c2_774 : Index := 2#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1362 : Index := Scalar.indexCast v1333
  let c0_775 : Index := 0#32
  ![2, v1362.toNat, 0]
def k0_off8 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1366 : Index := Scalar.indexCast v1331
  let c2_776 : Index := 2#32
  ![v1366.toNat, 2]
def k0_off9 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1372 : Index := Scalar.indexCast v1333
  let c256_777 : Index := 256#32
  ![v1372.toNat, 256]
def k0_off10 (k0_t1 : Fin k0_t1_loop.trips) : Fin 3 → Nat :=
  let c3_778 : Index := 3#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1376 : Index := Scalar.indexCast v1333
  let c0_779 : Index := 0#32
  ![3, v1376.toNat, 0]
def k0_off11 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1380 : Index := Scalar.indexCast v1331
  let c3_780 : Index := 3#32
  ![v1380.toNat, 3]
def k0_off12 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1386 : Index := Scalar.indexCast v1333
  let c384_781 : Index := 384#32
  ![v1386.toNat, 384]
def k0_off13 (k0_t1 : Fin k0_t1_loop.trips) : Fin 3 → Nat :=
  let c4_782 : Index := 4#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1390 : Index := Scalar.indexCast v1333
  let c0_783 : Index := 0#32
  ![4, v1390.toNat, 0]
def k0_off14 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1394 : Index := Scalar.indexCast v1331
  let c4_784 : Index := 4#32
  ![v1394.toNat, 4]
def k0_off15 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1400 : Index := Scalar.indexCast v1333
  let c512_785 : Index := 512#32
  ![v1400.toNat, 512]
def k0_off16 (k0_t1 : Fin k0_t1_loop.trips) : Fin 3 → Nat :=
  let c5_786 : Index := 5#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1404 : Index := Scalar.indexCast v1333
  let c0_787 : Index := 0#32
  ![5, v1404.toNat, 0]
def k0_off17 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1408 : Index := Scalar.indexCast v1331
  let c5_788 : Index := 5#32
  ![v1408.toNat, 5]
def k0_off18 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1414 : Index := Scalar.indexCast v1333
  let c640_789 : Index := 640#32
  ![v1414.toNat, 640]
def k0_off19 (k0_t1 : Fin k0_t1_loop.trips) : Fin 3 → Nat :=
  let c6_790 : Index := 6#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1418 : Index := Scalar.indexCast v1333
  let c0_791 : Index := 0#32
  ![6, v1418.toNat, 0]
def k0_off20 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1422 : Index := Scalar.indexCast v1331
  let c6_792 : Index := 6#32
  ![v1422.toNat, 6]
def k0_off21 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1428 : Index := Scalar.indexCast v1333
  let c768_793 : Index := 768#32
  ![v1428.toNat, 768]
def k0_off22 (k0_t1 : Fin k0_t1_loop.trips) : Fin 3 → Nat :=
  let c7_794 : Index := 7#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1432 : Index := Scalar.indexCast v1333
  let c0_795 : Index := 0#32
  ![7, v1432.toNat, 0]
def k0_off23 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1436 : Index := Scalar.indexCast v1331
  let c7_796 : Index := 7#32
  ![v1436.toNat, 7]
def k0_off24 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1442 : Index := Scalar.indexCast v1333
  let c896_797 : Index := 896#32
  ![v1442.toNat, 896]
def k0_off25 (k0_t1 : Fin k0_t1_loop.trips) : Fin 3 → Nat :=
  let c8_798 : Index := 8#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1446 : Index := Scalar.indexCast v1333
  let c0_799 : Index := 0#32
  ![8, v1446.toNat, 0]
def k0_off26 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1450 : Index := Scalar.indexCast v1331
  let c8_800 : Index := 8#32
  ![v1450.toNat, 8]
def k0_off27 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1456 : Index := Scalar.indexCast v1333
  let c1024_801 : Index := 1024#32
  ![v1456.toNat, 1024]
def k0_off28 (k0_t1 : Fin k0_t1_loop.trips) : Fin 3 → Nat :=
  let c9_802 : Index := 9#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1460 : Index := Scalar.indexCast v1333
  let c0_803 : Index := 0#32
  ![9, v1460.toNat, 0]
def k0_off29 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1464 : Index := Scalar.indexCast v1331
  let c9_804 : Index := 9#32
  ![v1464.toNat, 9]
def k0_off30 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1470 : Index := Scalar.indexCast v1333
  let c1152_805 : Index := 1152#32
  ![v1470.toNat, 1152]
def k0_off31 (k0_t1 : Fin k0_t1_loop.trips) : Fin 3 → Nat :=
  let c10_806 : Index := 10#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1474 : Index := Scalar.indexCast v1333
  let c0_807 : Index := 0#32
  ![10, v1474.toNat, 0]
def k0_off32 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1478 : Index := Scalar.indexCast v1331
  let c10_808 : Index := 10#32
  ![v1478.toNat, 10]
def k0_off33 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1484 : Index := Scalar.indexCast v1333
  let c1280_809 : Index := 1280#32
  ![v1484.toNat, 1280]
def k0_off34 (k0_t1 : Fin k0_t1_loop.trips) : Fin 3 → Nat :=
  let c11_810 : Index := 11#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1488 : Index := Scalar.indexCast v1333
  let c0_811 : Index := 0#32
  ![11, v1488.toNat, 0]
def k0_off35 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1492 : Index := Scalar.indexCast v1331
  let c11_812 : Index := 11#32
  ![v1492.toNat, 11]
def k0_off36 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1498 : Index := Scalar.indexCast v1333
  let c1408_813 : Index := 1408#32
  ![v1498.toNat, 1408]
def k0_off37 (k0_t1 : Fin k0_t1_loop.trips) : Fin 3 → Nat :=
  let c12_814 : Index := 12#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1502 : Index := Scalar.indexCast v1333
  let c0_815 : Index := 0#32
  ![12, v1502.toNat, 0]
def k0_off38 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1506 : Index := Scalar.indexCast v1331
  let c12_816 : Index := 12#32
  ![v1506.toNat, 12]
def k0_off39 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1512 : Index := Scalar.indexCast v1333
  let c1536_817 : Index := 1536#32
  ![v1512.toNat, 1536]
def k0_off40 (k0_t1 : Fin k0_t1_loop.trips) : Fin 3 → Nat :=
  let c13_818 : Index := 13#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1516 : Index := Scalar.indexCast v1333
  let c0_819 : Index := 0#32
  ![13, v1516.toNat, 0]
def k0_off41 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1520 : Index := Scalar.indexCast v1331
  let c13_820 : Index := 13#32
  ![v1520.toNat, 13]
def k0_off42 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1526 : Index := Scalar.indexCast v1333
  let c1664_821 : Index := 1664#32
  ![v1526.toNat, 1664]
def k0_off43 (k0_t1 : Fin k0_t1_loop.trips) : Fin 3 → Nat :=
  let c14_822 : Index := 14#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1530 : Index := Scalar.indexCast v1333
  let c0_823 : Index := 0#32
  ![14, v1530.toNat, 0]
def k0_off44 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1534 : Index := Scalar.indexCast v1331
  let c14_824 : Index := 14#32
  ![v1534.toNat, 14]
def k0_off45 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1540 : Index := Scalar.indexCast v1333
  let c1792_825 : Index := 1792#32
  ![v1540.toNat, 1792]
def k0_off46 (k0_t1 : Fin k0_t1_loop.trips) : Fin 3 → Nat :=
  let c15_826 : Index := 15#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1544 : Index := Scalar.indexCast v1333
  let c0_827 : Index := 0#32
  ![15, v1544.toNat, 0]
def k0_off47 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1548 : Index := Scalar.indexCast v1331
  let c15_828 : Index := 15#32
  ![v1548.toNat, 15]
def k0_off48 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1554 : Index := Scalar.indexCast v1333
  let c1920_829 : Index := 1920#32
  ![v1554.toNat, 1920]
def k0_off49 (k0_t1 : Fin k0_t1_loop.trips) : Fin 3 → Nat :=
  let c16_830 : Index := 16#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1558 : Index := Scalar.indexCast v1333
  let c0_831 : Index := 0#32
  ![16, v1558.toNat, 0]
def k0_off50 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1562 : Index := Scalar.indexCast v1331
  let c16_832 : Index := 16#32
  ![v1562.toNat, 16]
def k0_off51 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1568 : Index := Scalar.indexCast v1333
  let c2048_833 : Index := 2048#32
  ![v1568.toNat, 2048]
def k0_off52 (k0_t1 : Fin k0_t1_loop.trips) : Fin 3 → Nat :=
  let c17_834 : Index := 17#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1572 : Index := Scalar.indexCast v1333
  let c0_835 : Index := 0#32
  ![17, v1572.toNat, 0]
def k0_off53 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1576 : Index := Scalar.indexCast v1331
  let c17_836 : Index := 17#32
  ![v1576.toNat, 17]
def k0_off54 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1582 : Index := Scalar.indexCast v1333
  let c2176_837 : Index := 2176#32
  ![v1582.toNat, 2176]
def k0_off55 (k0_t1 : Fin k0_t1_loop.trips) : Fin 3 → Nat :=
  let c18_838 : Index := 18#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1586 : Index := Scalar.indexCast v1333
  let c0_839 : Index := 0#32
  ![18, v1586.toNat, 0]
def k0_off56 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1590 : Index := Scalar.indexCast v1331
  let c18_840 : Index := 18#32
  ![v1590.toNat, 18]
def k0_off57 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1596 : Index := Scalar.indexCast v1333
  let c2304_841 : Index := 2304#32
  ![v1596.toNat, 2304]
def k0_off58 (k0_t1 : Fin k0_t1_loop.trips) : Fin 3 → Nat :=
  let c19_842 : Index := 19#32
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1600 : Index := Scalar.indexCast v1333
  let c0_843 : Index := 0#32
  ![19, v1600.toNat, 0]
def k0_off59 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let v1604 : Index := Scalar.indexCast v1331
  let c19_844 : Index := 19#32
  ![v1604.toNat, 19]
def k0_off60 (k0_t1 : Fin k0_t1_loop.trips) : Fin 2 → Nat :=
  let c0_i32_765 : BitVec 32 := 0#32
  let c0_i32_753 : BitVec 32 := 0#32
  let c1_i32 : BitVec 32 := 1#32
  let arg23 : BitVec 32 := Scf.iv c0_i32_753 c1_i32 k0_t1
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1610 : Index := Scalar.indexCast v1333
  let c2432_845 : Index := 2432#32
  ![v1610.toNat, 2432]
@[reducible] def k0_t2_loop : Scf.Loop 32 :=
  let c0_i32_756 : BitVec 32 := 0#32
  let c12_i32_757 : BitVec 32 := 12#32
  let v1325 : BitVec 32 := Scalar.addi c0_i32_756 c12_i32_757
  let c1_i32_758 : BitVec 32 := 1#32
  ⟨c0_i32_756, v1325, c1_i32_758⟩
def k0_mult2 (k0_t2 : Fin k0_t2_loop.trips) : BitVec 32 :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  v1332
def k0_off61 (k0_t2 : Fin k0_t2_loop.trips) : Fin 3 → Nat :=
  let c0_766 : Index := 0#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1334 : Index := Scalar.indexCast v1333
  let c0_767 : Index := 0#32
  ![0, v1334.toNat, 0]
def k0_off62 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1338 : Index := Scalar.indexCast v1331
  let c0_768 : Index := 0#32
  ![v1338.toNat, 0]
def k0_off63 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1344 : Index := Scalar.indexCast v1333
  let c2560_769 : Index := 2560#32
  ![v1344.toNat, 2560]
def k0_off64 (k0_t2 : Fin k0_t2_loop.trips) : Fin 3 → Nat :=
  let c1_770 : Index := 1#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1348 : Index := Scalar.indexCast v1333
  let c0_771 : Index := 0#32
  ![1, v1348.toNat, 0]
def k0_off65 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1352 : Index := Scalar.indexCast v1331
  let c1_772 : Index := 1#32
  ![v1352.toNat, 1]
def k0_off66 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1358 : Index := Scalar.indexCast v1333
  let c2688_773 : Index := 2688#32
  ![v1358.toNat, 2688]
def k0_off67 (k0_t2 : Fin k0_t2_loop.trips) : Fin 3 → Nat :=
  let c2_774 : Index := 2#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1362 : Index := Scalar.indexCast v1333
  let c0_775 : Index := 0#32
  ![2, v1362.toNat, 0]
def k0_off68 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1366 : Index := Scalar.indexCast v1331
  let c2_776 : Index := 2#32
  ![v1366.toNat, 2]
def k0_off69 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1372 : Index := Scalar.indexCast v1333
  let c2816_777 : Index := 2816#32
  ![v1372.toNat, 2816]
def k0_off70 (k0_t2 : Fin k0_t2_loop.trips) : Fin 3 → Nat :=
  let c3_778 : Index := 3#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1376 : Index := Scalar.indexCast v1333
  let c0_779 : Index := 0#32
  ![3, v1376.toNat, 0]
def k0_off71 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1380 : Index := Scalar.indexCast v1331
  let c3_780 : Index := 3#32
  ![v1380.toNat, 3]
def k0_off72 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1386 : Index := Scalar.indexCast v1333
  let c2944_781 : Index := 2944#32
  ![v1386.toNat, 2944]
def k0_off73 (k0_t2 : Fin k0_t2_loop.trips) : Fin 3 → Nat :=
  let c4_782 : Index := 4#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1390 : Index := Scalar.indexCast v1333
  let c0_783 : Index := 0#32
  ![4, v1390.toNat, 0]
def k0_off74 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1394 : Index := Scalar.indexCast v1331
  let c4_784 : Index := 4#32
  ![v1394.toNat, 4]
def k0_off75 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1400 : Index := Scalar.indexCast v1333
  let c3072_785 : Index := 3072#32
  ![v1400.toNat, 3072]
def k0_off76 (k0_t2 : Fin k0_t2_loop.trips) : Fin 3 → Nat :=
  let c5_786 : Index := 5#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1404 : Index := Scalar.indexCast v1333
  let c0_787 : Index := 0#32
  ![5, v1404.toNat, 0]
def k0_off77 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1408 : Index := Scalar.indexCast v1331
  let c5_788 : Index := 5#32
  ![v1408.toNat, 5]
def k0_off78 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1414 : Index := Scalar.indexCast v1333
  let c3200_789 : Index := 3200#32
  ![v1414.toNat, 3200]
def k0_off79 (k0_t2 : Fin k0_t2_loop.trips) : Fin 3 → Nat :=
  let c6_790 : Index := 6#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1418 : Index := Scalar.indexCast v1333
  let c0_791 : Index := 0#32
  ![6, v1418.toNat, 0]
def k0_off80 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1422 : Index := Scalar.indexCast v1331
  let c6_792 : Index := 6#32
  ![v1422.toNat, 6]
def k0_off81 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1428 : Index := Scalar.indexCast v1333
  let c3328_793 : Index := 3328#32
  ![v1428.toNat, 3328]
def k0_off82 (k0_t2 : Fin k0_t2_loop.trips) : Fin 3 → Nat :=
  let c7_794 : Index := 7#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1432 : Index := Scalar.indexCast v1333
  let c0_795 : Index := 0#32
  ![7, v1432.toNat, 0]
def k0_off83 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1436 : Index := Scalar.indexCast v1331
  let c7_796 : Index := 7#32
  ![v1436.toNat, 7]
def k0_off84 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1442 : Index := Scalar.indexCast v1333
  let c3456_797 : Index := 3456#32
  ![v1442.toNat, 3456]
def k0_off85 (k0_t2 : Fin k0_t2_loop.trips) : Fin 3 → Nat :=
  let c8_798 : Index := 8#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1446 : Index := Scalar.indexCast v1333
  let c0_799 : Index := 0#32
  ![8, v1446.toNat, 0]
def k0_off86 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1450 : Index := Scalar.indexCast v1331
  let c8_800 : Index := 8#32
  ![v1450.toNat, 8]
def k0_off87 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1456 : Index := Scalar.indexCast v1333
  let c3584_801 : Index := 3584#32
  ![v1456.toNat, 3584]
def k0_off88 (k0_t2 : Fin k0_t2_loop.trips) : Fin 3 → Nat :=
  let c9_802 : Index := 9#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1460 : Index := Scalar.indexCast v1333
  let c0_803 : Index := 0#32
  ![9, v1460.toNat, 0]
def k0_off89 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1464 : Index := Scalar.indexCast v1331
  let c9_804 : Index := 9#32
  ![v1464.toNat, 9]
def k0_off90 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1470 : Index := Scalar.indexCast v1333
  let c3712_805 : Index := 3712#32
  ![v1470.toNat, 3712]
def k0_off91 (k0_t2 : Fin k0_t2_loop.trips) : Fin 3 → Nat :=
  let c10_806 : Index := 10#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1474 : Index := Scalar.indexCast v1333
  let c0_807 : Index := 0#32
  ![10, v1474.toNat, 0]
def k0_off92 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1478 : Index := Scalar.indexCast v1331
  let c10_808 : Index := 10#32
  ![v1478.toNat, 10]
def k0_off93 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1484 : Index := Scalar.indexCast v1333
  let c3840_809 : Index := 3840#32
  ![v1484.toNat, 3840]
def k0_off94 (k0_t2 : Fin k0_t2_loop.trips) : Fin 3 → Nat :=
  let c11_810 : Index := 11#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1488 : Index := Scalar.indexCast v1333
  let c0_811 : Index := 0#32
  ![11, v1488.toNat, 0]
def k0_off95 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1492 : Index := Scalar.indexCast v1331
  let c11_812 : Index := 11#32
  ![v1492.toNat, 11]
def k0_off96 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1498 : Index := Scalar.indexCast v1333
  let c3968_813 : Index := 3968#32
  ![v1498.toNat, 3968]
def k0_off97 (k0_t2 : Fin k0_t2_loop.trips) : Fin 3 → Nat :=
  let c12_814 : Index := 12#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1502 : Index := Scalar.indexCast v1333
  let c0_815 : Index := 0#32
  ![12, v1502.toNat, 0]
def k0_off98 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1506 : Index := Scalar.indexCast v1331
  let c12_816 : Index := 12#32
  ![v1506.toNat, 12]
def k0_off99 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1512 : Index := Scalar.indexCast v1333
  let c4096_817 : Index := 4096#32
  ![v1512.toNat, 4096]
def k0_off100 (k0_t2 : Fin k0_t2_loop.trips) : Fin 3 → Nat :=
  let c13_818 : Index := 13#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1516 : Index := Scalar.indexCast v1333
  let c0_819 : Index := 0#32
  ![13, v1516.toNat, 0]
def k0_off101 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1520 : Index := Scalar.indexCast v1331
  let c13_820 : Index := 13#32
  ![v1520.toNat, 13]
def k0_off102 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1526 : Index := Scalar.indexCast v1333
  let c4224_821 : Index := 4224#32
  ![v1526.toNat, 4224]
def k0_off103 (k0_t2 : Fin k0_t2_loop.trips) : Fin 3 → Nat :=
  let c14_822 : Index := 14#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1530 : Index := Scalar.indexCast v1333
  let c0_823 : Index := 0#32
  ![14, v1530.toNat, 0]
def k0_off104 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1534 : Index := Scalar.indexCast v1331
  let c14_824 : Index := 14#32
  ![v1534.toNat, 14]
def k0_off105 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1540 : Index := Scalar.indexCast v1333
  let c4352_825 : Index := 4352#32
  ![v1540.toNat, 4352]
def k0_off106 (k0_t2 : Fin k0_t2_loop.trips) : Fin 3 → Nat :=
  let c15_826 : Index := 15#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1544 : Index := Scalar.indexCast v1333
  let c0_827 : Index := 0#32
  ![15, v1544.toNat, 0]
def k0_off107 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1548 : Index := Scalar.indexCast v1331
  let c15_828 : Index := 15#32
  ![v1548.toNat, 15]
def k0_off108 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1554 : Index := Scalar.indexCast v1333
  let c4480_829 : Index := 4480#32
  ![v1554.toNat, 4480]
def k0_off109 (k0_t2 : Fin k0_t2_loop.trips) : Fin 3 → Nat :=
  let c16_830 : Index := 16#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1558 : Index := Scalar.indexCast v1333
  let c0_831 : Index := 0#32
  ![16, v1558.toNat, 0]
def k0_off110 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1562 : Index := Scalar.indexCast v1331
  let c16_832 : Index := 16#32
  ![v1562.toNat, 16]
def k0_off111 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1568 : Index := Scalar.indexCast v1333
  let c4608_833 : Index := 4608#32
  ![v1568.toNat, 4608]
def k0_off112 (k0_t2 : Fin k0_t2_loop.trips) : Fin 3 → Nat :=
  let c17_834 : Index := 17#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1572 : Index := Scalar.indexCast v1333
  let c0_835 : Index := 0#32
  ![17, v1572.toNat, 0]
def k0_off113 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1576 : Index := Scalar.indexCast v1331
  let c17_836 : Index := 17#32
  ![v1576.toNat, 17]
def k0_off114 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1582 : Index := Scalar.indexCast v1333
  let c4736_837 : Index := 4736#32
  ![v1582.toNat, 4736]
def k0_off115 (k0_t2 : Fin k0_t2_loop.trips) : Fin 3 → Nat :=
  let c18_838 : Index := 18#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1586 : Index := Scalar.indexCast v1333
  let c0_839 : Index := 0#32
  ![18, v1586.toNat, 0]
def k0_off116 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1590 : Index := Scalar.indexCast v1331
  let c18_840 : Index := 18#32
  ![v1590.toNat, 18]
def k0_off117 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1596 : Index := Scalar.indexCast v1333
  let c4864_841 : Index := 4864#32
  ![v1596.toNat, 4864]
def k0_off118 (k0_t2 : Fin k0_t2_loop.trips) : Fin 3 → Nat :=
  let c19_842 : Index := 19#32
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1600 : Index := Scalar.indexCast v1333
  let c0_843 : Index := 0#32
  ![19, v1600.toNat, 0]
def k0_off119 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let v1604 : Index := Scalar.indexCast v1331
  let c19_844 : Index := 19#32
  ![v1604.toNat, 19]
def k0_off120 (k0_t2 : Fin k0_t2_loop.trips) : Fin 2 → Nat :=
  let c0_i32_765 : BitVec 32 := 0#32
  let c0_i32_756 : BitVec 32 := 0#32
  let c1_i32_758 : BitVec 32 := 1#32
  let arg23 : BitVec 32 := Scf.iv c0_i32_756 c1_i32_758 k0_t2
  let c1_i32_764 : BitVec 32 := 1#32
  let v1330 : BitVec 32 := Scalar.muli arg23 c1_i32_764
  let v1331 : BitVec 32 := Scalar.addi c0_i32_765 v1330
  let c128_i32 : BitVec 32 := 128#32
  let v1332 : BitVec 32 := Scalar.muli v1331 c128_i32
  let v1333 : BitVec 32 := v1332
  let v1610 : Index := Scalar.indexCast v1333
  let c4992_845 : Index := 4992#32
  ![v1610.toNat, 4992]
def k0_cond2 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c107_i32 : BitVec 32 := 107#32
  let v1321 : BitVec 1 := Scalar.cmpi .eq v1 c107_i32
  let v1322 : BitVec 32 := Scalar.extui v1321
  let c0_i32_752 : BitVec 32 := 0#32
  let v1323 : BitVec 1 := Scalar.cmpi .ne v1322 c0_i32_752
  v1323

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x20x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x12x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S20x1536x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x1536x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S12x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S12x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1536x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x20x512x128 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x20x512x128 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== DcRefIdeal.lean ====
abbrev S9x6144x20x128 : Shape := ⟨4, ![9, 6144, 20, 128]⟩
abbrev S9x6144x1536 : Shape := ⟨3, ![9, 6144, 1536]⟩
abbrev S9x6144x12 : Shape := ⟨3, ![9, 6144, 12]⟩
abbrev S1536x20x128 : Shape := ⟨3, ![1536, 20, 128]⟩
abbrev S12x20 : Shape := ⟨2, ![12, 20]⟩
abbrev S16 : Shape := ⟨1, ![16]⟩
abbrev S_ : Shape := ⟨0, ![]⟩
abbrev S253 : Shape := ⟨1, ![253]⟩
abbrev S1x1 : Shape := ⟨2, ![1, 1]⟩
abbrev S9x6144x12x128 : Shape := ⟨4, ![9, 6144, 12, 128]⟩
abbrev S9x6144x12x1 : Shape := ⟨4, ![9, 6144, 12, 1]⟩
abbrev S12x128x20x128 : Shape := ⟨4, ![12, 128, 20, 128]⟩
abbrev S12x1x20x1 : Shape := ⟨4, ![12, 1, 20, 1]⟩
abbrev S9x1536x6144 : Shape := ⟨3, ![9, 1536, 6144]⟩
abbrev S9x20x6144x128 : Shape := ⟨4, ![9, 20, 6144, 128]⟩
abbrev S1 : Shape := ⟨1, ![1]⟩
abbrev S15 : Shape := ⟨1, ![15]⟩

abbrev nBuf : Space → Nat
  | .hbm => 122
  | .vmem => 14
  | .smem => 0
  | _ => 0

abbrev bufTy : (tb : Table) → Fin (tcTables nBuf tb) → BufTy
  | .hbm, ⟨0, _⟩ => ⟨S9x6144x20x128, .bf16⟩
  | .hbm, ⟨1, _⟩ => ⟨S9x6144x20x128, .bf16⟩
  | .hbm, ⟨2, _⟩ => ⟨S9x6144x1536, .fp8e4m3⟩
  | .hbm, ⟨3, _⟩ => ⟨S9x6144x12, .f32⟩
  | .hbm, ⟨4, _⟩ => ⟨S1536x20x128, .fp8e4m3⟩
  | .hbm, ⟨5, _⟩ => ⟨S12x20, .f32⟩
  | .hbm, ⟨6, _⟩ => ⟨S1536x20x128, .fp8e4m3⟩
  | .hbm, ⟨7, _⟩ => ⟨S12x20, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S253, .i32⟩
  | .hbm, ⟨16, _⟩ => ⟨S253, .f32⟩
  | .hbm, ⟨17, _⟩ => ⟨S_, .f32⟩
  | .hbm, ⟨18, _⟩ => ⟨S253, .f32⟩
  | .hbm, ⟨19, _⟩ => ⟨S253, .f32⟩
  | .hbm, ⟨20, _⟩ => ⟨S_, .f32⟩
  | .hbm, ⟨21, _⟩ => ⟨S253, .f32⟩
  | .hbm, ⟨22, _⟩ => ⟨S253, .f32⟩
  | .hbm, ⟨23, _⟩ => ⟨S_, .f32⟩
  | .hbm, ⟨24, _⟩ => ⟨S_, .i1⟩
  | .hbm, ⟨25, _⟩ => ⟨S253, .f32⟩
  | .hbm, ⟨26, _⟩ => ⟨S253, .i1⟩
  | .hbm, ⟨27, _⟩ => ⟨S_, .f32⟩
  | .hbm, ⟨28, _⟩ => ⟨S_, .f32⟩
  | .hbm, ⟨29, _⟩ => ⟨S253, .f32⟩
  | .hbm, ⟨30, _⟩ => ⟨S253, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S253, .i32⟩
  | .hbm, ⟨44, _⟩ => ⟨S253, .f32⟩
  | .hbm, ⟨45, _⟩ => ⟨S_, .f32⟩
  | .hbm, ⟨46, _⟩ => ⟨S253, .f32⟩
  | .hbm, ⟨47, _⟩ => ⟨S253, .f32⟩
  | .hbm, ⟨48, _⟩ => ⟨S_, .f32⟩
  | .hbm, ⟨49, _⟩ => ⟨S253, .f32⟩
  | .hbm, ⟨50, _⟩ => ⟨S253, .f32⟩
  | .hbm, ⟨51, _⟩ => ⟨S_, .f32⟩
  | .hbm, ⟨52, _⟩ => ⟨S_, .i1⟩
  | .hbm, ⟨53, _⟩ => ⟨S253, .f32⟩
  | .hbm, ⟨54, _⟩ => ⟨S253, .i1⟩
  | .hbm, ⟨55, _⟩ => ⟨S_, .f32⟩
  | .hbm, ⟨56, _⟩ => ⟨S_, .f32⟩
  | .hbm, ⟨57, _⟩ => ⟨S253, .f32⟩
  | .hbm, ⟨58, _⟩ => ⟨S253, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x1, .f32⟩
  | .hbm, ⟨67, _⟩ => ⟨S1x1, .f32⟩
  | .hbm, ⟨68, _⟩ => ⟨S9x6144x20x128, .fp8e5m2⟩
  | .hbm, ⟨69, _⟩ => ⟨S9x6144x20x128, .fp8e5m2⟩
  | .hbm, ⟨70, _⟩ => ⟨S9x6144x20x128, .bf16⟩
  | .hbm, ⟨71, _⟩ => ⟨S9x6144x20x128, .bf16⟩
  | .hbm, ⟨72, _⟩ => ⟨S9x6144x1536, .bf16⟩
  | .hbm, ⟨73, _⟩ => ⟨S1536x20x128, .bf16⟩
  | .hbm, ⟨74, _⟩ => ⟨S1536x20x128, .bf16⟩
  | .hbm, ⟨75, _⟩ => ⟨S_, .bf16⟩
  | .hbm, ⟨76, _⟩ => ⟨S9x6144x20x128, .bf16⟩
  | .hbm, ⟨77, _⟩ => ⟨S9x6144x20x128, .bf16⟩
  | .hbm, ⟨78, _⟩ => ⟨S_, .bf16⟩
  | .hbm, ⟨79, _⟩ => ⟨S9x6144x20x128, .bf16⟩
  | .hbm, ⟨80, _⟩ => ⟨S9x6144x20x128, .bf16⟩
  | .hbm, ⟨81, _⟩ => ⟨S9x6144x12x128, .bf16⟩
  | .hbm, ⟨82, _⟩ => ⟨S9x6144x12, .bf16⟩
  | .hbm, ⟨83, _⟩ => ⟨S9x6144x12x1, .bf16⟩
  | .hbm, ⟨84, _⟩ => ⟨S9x6144x12x128, .bf16⟩
  | .hbm, ⟨85, _⟩ => ⟨S9x6144x12x128, .bf16⟩
  | .hbm, ⟨86, _⟩ => ⟨S9x6144x1536, .bf16⟩
  | .hbm, ⟨87, _⟩ => ⟨S12x128x20x128, .bf16⟩
  | .hbm, ⟨88, _⟩ => ⟨S12x20, .bf16⟩
  | .hbm, ⟨89, _⟩ => ⟨S12x1x20x1, .bf16⟩
  | .hbm, ⟨90, _⟩ => ⟨S12x128x20x128, .bf16⟩
  | .hbm, ⟨91, _⟩ => ⟨S12x128x20x128, .bf16⟩
  | .hbm, ⟨92, _⟩ => ⟨S1536x20x128, .bf16⟩
  | .hbm, ⟨93, _⟩ => ⟨S12x128x20x128, .bf16⟩
  | .hbm, ⟨94, _⟩ => ⟨S12x20, .bf16⟩
  | .hbm, ⟨95, _⟩ => ⟨S12x1x20x1, .bf16⟩
  | .hbm, ⟨96, _⟩ => ⟨S12x128x20x128, .bf16⟩
  | .hbm, ⟨97, _⟩ => ⟨S12x128x20x128, .bf16⟩
  | .hbm, ⟨98, _⟩ => ⟨S1536x20x128, .bf16⟩
  | .hbm, ⟨99, _⟩ => ⟨S9x6144x1536, .f32⟩
  | .hbm, ⟨100, _⟩ => ⟨S9x6144x1536, .f32⟩
  | .hbm, ⟨101, _⟩ => ⟨S9x6144x1536, .f32⟩
  | .hbm, ⟨102, _⟩ => ⟨S9x6144x1536, .bf16⟩
  | .hbm, ⟨103, _⟩ => ⟨S9x1536x6144, .bf16⟩
  | .hbm, ⟨104, _⟩ => ⟨S9x20x6144x128, .fp8e5m2⟩
  | .hbm, ⟨105, _⟩ => ⟨S9x20x6144x128, .fp8e5m2⟩
  | .hbm, ⟨106, _⟩ => ⟨S1x1, .f32⟩
  | .hbm, ⟨107, _⟩ => ⟨S1x1, .f32⟩
  | .hbm, ⟨108, _⟩ => ⟨S9x6144x20x128, .f32⟩
  | .hbm, ⟨109, _⟩ => ⟨S9x6144x20x128, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S15, .f32⟩
  | .hbm, ⟨114, _⟩ => ⟨S16, .f32⟩
  | .hbm, ⟨115, _⟩ => ⟨S9x6144x20x128, .f32⟩
  | .hbm, ⟨116, _⟩ => ⟨S9x6144x20x128, .f32⟩
  | .hbm, ⟨117, _⟩ => ⟨S_, .f32⟩
  | .hbm, ⟨118, _⟩ => ⟨S_, .f32⟩
  | .hbm, ⟨119, _⟩ => ⟨S1, .f32⟩
  | .hbm, ⟨120, _⟩ => ⟨S15, .f32⟩
  | .hbm, ⟨121, _⟩ => ⟨S16, .f32⟩
  | .local _ .vmem, ⟨0, _⟩ => ⟨S9x6144x20x128, .bf16⟩
  | .local _ .vmem, ⟨1, _⟩ => ⟨S9x6144x20x128, .bf16⟩
  | .local _ .vmem, ⟨2, _⟩ => ⟨S1x1, .f32⟩
  | .local _ .vmem, ⟨3, _⟩ => ⟨S1x1, .f32⟩
  | .local _ .vmem, ⟨4, _⟩ => ⟨S9x6144x1536, .fp8e4m3⟩
  | .local _ .vmem, ⟨5, _⟩ => ⟨S1536x20x128, .fp8e4m3⟩
  | .local _ .vmem, ⟨6, _⟩ => ⟨S1536x20x128, .fp8e4m3⟩
  | .local _ .vmem, ⟨7, _⟩ => ⟨S9x6144x20x128, .fp8e5m2⟩
  | .local _ .vmem, ⟨8, _⟩ => ⟨S9x6144x20x128, .fp8e5m2⟩
  | .local _ .vmem, ⟨9, _⟩ => ⟨S9x6144x20x128, .bf16⟩
  | .local _ .vmem, ⟨10, _⟩ => ⟨S9x6144x20x128, .bf16⟩
  | .local _ .vmem, ⟨11, _⟩ => ⟨S9x6144x1536, .bf16⟩
  | .local _ .vmem, ⟨12, _⟩ => ⟨S1536x20x128, .bf16⟩
  | .local _ .vmem, ⟨13, _⟩ => ⟨S1536x20x128, .bf16⟩
  | _, _ => ⟨S9x6144x20x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_cst_6 : Ref sig .tc := ⟨.hbm, 33, rfl⟩
abbrev main_call1_v0 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_cst_8 : Ref sig .tc := ⟨.hbm, 38, rfl⟩
abbrev main_v16 : Ref sig .tc := ⟨.hbm, 39, rfl⟩
abbrev main_cst_9 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_10 : Ref sig .tc := ⟨.hbm, 45, rfl⟩
abbrev main_v21 : Ref sig .tc := ⟨.hbm, 46, rfl⟩
abbrev main_v22 : Ref sig .tc := ⟨.hbm, 47, rfl⟩
abbrev main_cst_11 : Ref sig .tc := ⟨.hbm, 48, rfl⟩
abbrev main_v23 : Ref sig .tc := ⟨.hbm, 49, rfl⟩
abbrev main_v24 : Ref sig .tc := ⟨.hbm, 50, rfl⟩
abbrev main_cst_12 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_13 : Ref sig .tc := ⟨.hbm, 55, rfl⟩
abbrev main_call2_v0 : Ref sig .tc := ⟨.hbm, 56, rfl⟩
abbrev main_call2_v1 : Ref sig .tc := ⟨.hbm, 57, rfl⟩
abbrev main_v28 : Ref sig .tc := ⟨.hbm, 58, rfl⟩
abbrev main_cst_14 : Ref sig .tc := ⟨.hbm, 59, rfl⟩
abbrev main_v29 : Ref sig .tc := ⟨.hbm, 60, rfl⟩
abbrev main_cst_15 : Ref sig .tc := ⟨.hbm, 61, rfl⟩
abbrev main_call3_v0 : Ref sig .tc := ⟨.hbm, 62, rfl⟩
abbrev main_v30 : Ref sig .tc := ⟨.hbm, 63, rfl⟩
abbrev main_cst_16 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34_0 : Ref sig .tc := ⟨.hbm, 68, rfl⟩
abbrev main_v34_1 : Ref sig .tc := ⟨.hbm, 69, rfl⟩
abbrev main_v34_2 : Ref sig .tc := ⟨.hbm, 70, rfl⟩
abbrev main_v34_3 : Ref sig .tc := ⟨.hbm, 71, rfl⟩
abbrev main_v34_4 : Ref sig .tc := ⟨.hbm, 72, rfl⟩
abbrev main_v34_5 : Ref sig .tc := ⟨.hbm, 73, rfl⟩
abbrev main_v34_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_17 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_18 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S9x6144x20x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x6144x20x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x6144x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x20x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x20x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x6144x20x128 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x6144x20x128 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9x6144x20x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x6144x20x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9x6144x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x20x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x20x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Dw.lean ====
abbrev S9x1536x6144 : Shape := ⟨3, ![9, 1536, 6144]⟩
abbrev S9x20x6144x128 : Shape := ⟨4, ![9, 20, 6144, 128]⟩
abbrev S1x1 : Shape := ⟨2, ![1, 1]⟩
abbrev S20x1536x128 : Shape := ⟨3, ![20, 1536, 128]⟩
abbrev S1x1536x1024 : Shape := ⟨3, ![1, 1536, 1024]⟩
abbrev S1x20x1024x128 : Shape := ⟨4, ![1, 20, 1024, 128]⟩
abbrev S1x1x1024x128 : Shape := ⟨4, ![1, 1, 1024, 128]⟩
abbrev S1024x128 : Shape := ⟨2, ![1024, 128]⟩
abbrev S1024x256 : Shape := ⟨2, ![1024, 256]⟩
abbrev S1536x1024 : Shape := ⟨2, ![1536, 1024]⟩
abbrev S1536x256 : Shape := ⟨2, ![1536, 256]⟩
abbrev S1536x128 : Shape := ⟨2, ![1536, 128]⟩
abbrev S1x1536x128 : Shape := ⟨3, ![1, 1536, 128]⟩

abbrev nBuf : Space → Nat
  | .hbm => 7
  | .vmem => 8
  | .smem => 2
  | _ => 0

abbrev bufTy : (tb : Table) → Fin (tcTables nBuf tb) → BufTy
  | .hbm, ⟨0, _⟩ => ⟨S9x1536x6144, .bf16⟩
  | .hbm, ⟨1, _⟩ => ⟨S9x20x6144x128, .fp8e5m2⟩
  | .hbm, ⟨2, _⟩ => ⟨S9x20x6144x128, .fp8e5m2⟩
  | .hbm, ⟨3, _⟩ => ⟨S1x1, .f32⟩
  | .hbm, ⟨4, _⟩ => ⟨S1x1, .f32⟩
  | .hbm, ⟨5, _⟩ => ⟨S20x1536x128, .f32⟩
  | .hbm, ⟨6, _⟩ => ⟨S20x1536x128, .f32⟩
  | .local _ .vmem, ⟨0, _⟩ => ⟨S1x1536x1024, .bf16⟩
  | .local _ .vmem, ⟨1, _⟩ => ⟨S1x1536x1024, .bf16⟩
  | .local _ .vmem, ⟨2, _⟩ => ⟨S1x20x1024x128, .fp8e5m2⟩
  | .local _ .vmem, ⟨3, _⟩ => ⟨S1x20x1024x128, .fp8e5m2⟩
  | .local _ .vmem, ⟨4, _⟩ => ⟨S1x20x1024x128, .fp8e5m2⟩
  | .local _ .vmem, ⟨5, _⟩ => ⟨S1x20x1024x128, .fp8e5m2⟩
  | .local _ .vmem, ⟨6, _⟩ => ⟨S20x1536x128, .f32⟩
  | .local _ .vmem, ⟨7, _⟩ => ⟨S20x1536x128, .f32⟩
  | .local _ .smem, ⟨0, _⟩ => ⟨S1x1, .f32⟩
  | .local _ .smem, ⟨1, _⟩ => ⟨S1x1, .f32⟩
  | _, _ => ⟨S9x1536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![9, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x1024x128 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x20x1024x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S20x1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DwRefIdeal.lean ====
abbrev S9x1536x6144 : Shape := ⟨3, ![9, 1536, 6144]⟩
abbrev S9x20x6144x128 : Shape := ⟨4, ![9, 20, 6144, 128]⟩
abbrev S1x1 : Shape := ⟨2, ![1, 1]⟩
abbrev S_ : Shape := ⟨0, ![]⟩
abbrev S20x128x1536 : Shape := ⟨3, ![20, 128, 1536]⟩
abbrev S20x1536x128 : Shape := ⟨3, ![20, 1536, 128]⟩

abbrev nBuf : Space → Nat
  | .hbm => 19
  | .vmem => 4
  | .smem => 0
  | _ => 0

abbrev bufTy : (tb : Table) → Fin (tcTables nBuf tb) → BufTy
  | .hbm, ⟨0, _⟩ => ⟨S9x1536x6144, .bf16⟩
  | .hbm, ⟨1, _⟩ => ⟨S9x20x6144x128, .fp8e5m2⟩
  | .hbm, ⟨2, _⟩ => ⟨S9x20x6144x128, .fp8e5m2⟩
  | .hbm, ⟨3, _⟩ => ⟨S1x1, .f32⟩
  | .hbm, ⟨4, _⟩ => ⟨S1x1, .f32⟩
  | .hbm, ⟨5, _⟩ => ⟨S9x20x6144x128, .bf16⟩
  | .hbm, ⟨6, _⟩ => ⟨S9x20x6144x128, .bf16⟩
  | .hbm, ⟨7, _⟩ => ⟨S_, .f32⟩
  | .hbm, ⟨8, _⟩ => ⟨S_, .bf16⟩
  | .hbm, ⟨9, _⟩ => ⟨S9x20x6144x128, .bf16⟩
  | .hbm, ⟨10, _⟩ => ⟨S9x20x6144x128, .bf16⟩
  | .hbm, ⟨11, _⟩ => ⟨S_, .f32⟩
  | .hbm, ⟨12, _⟩ => ⟨S_, .bf16⟩
  | .hbm, ⟨13, _⟩ => ⟨S9x20x6144x128, .bf16⟩
  | .hbm, ⟨14, _⟩ => ⟨S9x20x6144x128, .bf16⟩
  | .hbm, ⟨15, _⟩ => ⟨S20x128x1536, .f32⟩
  | .hbm, ⟨16, _⟩ => ⟨S20x1536x128, .f32⟩
  | .hbm, ⟨17, _⟩ => ⟨S20x128x1536, .f32⟩
  | .hbm, ⟨18, _⟩ => ⟨S20x1536x128, .f32⟩
  | .local _ .vmem, ⟨0, _⟩ => ⟨S9x20x6144x128, .fp8e5m2⟩
  | .local _ .vmem, ⟨1, _⟩ => ⟨S9x20x6144x128, .fp8e5m2⟩
  | .local _ .vmem, ⟨2, _⟩ => ⟨S9x20x6144x128, .bf16⟩
  | .local _ .vmem, ⟨3, _⟩ => ⟨S9x20x6144x128, .bf16⟩
  | _, _ => ⟨S9x1536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9x20x6144x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x20x6144x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x20x6144x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x20x6144x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.DwBitsRun.lean ====
module

public import proofs.«01_k».proof.Proof.Gen.Dw.Frame
public import proofs.«01_k».proof.Proof.Gen.Dw.Skeleton

@[expose] public section

-- membership in a rectangle of production extents (`View.cover_of_tiled`): the elaborator's structural look
-- recurses once per coordinate of the long axes
set_option maxRecDepth 16384

noncomputable section

namespace Cert.Dw.Hand

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1128000 in
/-- One grid point of the weight-gradient kernel, run on whole buffers: the inputs are left as they were and each of
    the two accumulators, entered holding `x5` (`x6`), ends with the listed rectangles stored. -/
noncomputable def bodyRun (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec F S1x1536x1024 .bf16) (x1 : Vec F S1x20x1024x128 .fp8e5m2) (x2 : Vec F S1x20x1024x128 .fp8e5m2) (x3 : Vec F S1x1 .f32) (x4 : Vec F S1x1 .f32) (x5 x6 : Vec F S20x1536x128 .f32) :
    (L5 : List (View.Piece (Elt F) S20x1536x128 .f32)) × { L6 : List (View.Piece (Elt F) S20x1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) L5) ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dw i arg2 harg2 arg3 harg3 arg4 harg4 arg5 harg5 arg6 harg6 arg7 harg7 arg8 harg8) K } := by
  refine ⟨?_, ?_, fun E K => ?run⟩
  case run =>
    simp only [cc0_dw_eq_skeleton]; unfold cc0_dw_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    iexact H6

/-- What an accumulator holds after one grid point: the contents it was entered with, the listed rectangles stored. -/
abbrev stored (a : Memref sig .tc .vmem S20x1536x128 .f32) (ha : a.IsWhole) (x : Vec F S20x1536x128 .f32) (L : List (View.Piece (Elt F) S20x1536x128 .f32)) :
    Vec F S20x1536x128 .f32 := a.view.read (Elt F) (a.view.writes (Elt F) (ha.unread x) L)

/-- `bodyRun` with each accumulator's contents afterwards named. -/
theorem bodyTriple (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec F S1x1536x1024 .bf16) (x1 : Vec F S1x20x1024x128 .fp8e5m2) (x2 : Vec F S1x20x1024x128 .fp8e5m2) (x3 : Vec F S1x1 .f32) (x4 : Vec F S1x1 .f32) (x5 x6 : Vec F S20x1536x128 .f32)
    (X5 X6 : Vec F S20x1536x128 .f32)
    (h5 : stored arg7 harg7 x5 (bodyRun c i arg2 harg2 arg3 harg3 arg4 harg4 arg5 harg5 arg6 harg6 arg7 harg7 arg8 harg8 x0 x1 x2 x3 x4 x5 x6).1 = X5)
    (h6 : stored arg8 harg8 x6 (bodyRun c i arg2 harg2 arg3 harg3 arg4 harg4 arg5 harg5 arg6 harg6 arg7 harg7 arg8 harg8 x0 x1 x2 x3 x4 x5 x6).2.1 = X6)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare X5
              ∗ owns (c : Thread nD τ) arg8 fullShare X6) -∗ K ⟨⟩))
          ⊢ wp frame (wpE (defs₀ (F := F)) Variants.none c none) E (cc0_dw i arg2 harg2 arg3 harg3 arg4 harg4 arg5 harg5 arg6 harg6 arg7 harg7 arg8 harg8) K := by
  subst h5 h6
  generalize hR : bodyRun (F := F) c i arg2 harg2 arg3 harg3 arg4 harg4 arg5 harg5 arg6 harg6 arg7 harg7 arg8 harg8 x0 x1 x2 x3 x4 x5 x6 = R
  iintro ⟨H0, H1, H2, H3, H4, H5, H6, Hk⟩
  iapply (R.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; · ipureintro; exact rfl
    iexact H5
  · unfold owns; iexists _; isplitr; · ipureintro; exact rfl
    iexact H6

end Cert.Dw.Hand

end
-- ==== Proof.DwBitsFrame.lean ====
module

public import proofs.«01_k».proof.Proof.DwBitsRun
public import Idealize.ShloMosaic.Lib.Pipeline.Value
public import Idealize.ShloMosaic.Lib.Claim

@[expose] public section

set_option maxRecDepth 16384

noncomputable section

namespace Cert.Dw.Hand

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, the accumulators' contents forgotten -/

/-- The two windows of which the frame says nothing: the accumulators. -/
def forgotten : Fin 7 → Bool := fun w => w.val == 5 || w.val == 6

/-- What each window's buffer holds after a point: an input its block, an accumulator something unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d

/-- What the body is called with at point `t`, window by window. -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare d)
    ∗ (∃ d, owns (c : Thread nD τ) (st0_6 t) fullShare d))

/-- What the body returns at point `t`. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ (∃ d, owns (c : Thread nD τ) (st0_5 t) fullShare d)
    ∗ (∃ d, owns (c : Thread nD τ) (st0_6 t) fullShare d))

/-- The body at any point, from what it is called with to what it returns. -/
theorem fsound (c : Dev nD) (t : Fin cfg0.N) :
    fpre m c t ⊢ wp frame (wpE (defs₀ (F := F)) Variants.none c none) Set.univ (bodyAt0 t) (fun _ => fpost m c t) := by
  unfold fpre fpost bodyAt0
  simp only [fbefore_0, fbefore_1, fbefore_2, fbefore_3, fbefore_4]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyTriple c (grid0.coords t) _ _ _ _ _ _ _ _ _ _ _ _ _ _ (iblk m c 0 t) (iblk m c 1 t) (iblk m c 2 t) (iblk m c 3 t) (iblk m c 4 t) d5 d6 _ _ rfl rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem fobligation (c : Dev nD) : BodyObligation (fdats (F := F) m 0 c) (defs₀ (F := F)) Variants.none () Set.univ forgotten := fun t => by
  rw [bigSep_W0, bigSep_W0, defs₀_row]
  exact triple_restated (fsound m c t) rfl .rfl fun _ => .rfl

set_option backward.isDefEq.respectTransparency.types false in
/-- The launch: every execution ends, the inputs are as launched, and every semaphore counter is at zero. -/
theorem frun : θ_run defs (onTc (τ := τ) (main (F := F))) (s₀ m ρ) (fun r => (Pipeline.RDat.FramePost (cfgs 0) (fun c => (fdats m 0 c).toRForget forgotten) (V m)) r ∧ r.2.sem = fun _ => 0) :=
  Pipeline.θ_run_frame_forget (Q' := _) cfgs (fdats m) (0 : Fin 1) launch0 defs₀ Variants.none forgotten m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The weight-gradient kernel, on any values: from any memory with zero counters every execution ends, leaves each
    argument array as it was, and leaves every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r h c => by
    have hin : ∀ w : Fin cfg0.W, (cfg0.win w).isOut = false → r.2.mem ((cfg0.spec w).arr.view.loc (c.tc : Thread nD τ)) = V m c (Pipeline.arrRef spec0 w) := fun w hw => by
      have h1 := (h.1 c).1 w
      rw [((fdats m 0 c).toRForget forgotten).ArrAt_in w hw] at h1
      exact h1.trans (fA_eq m c w)
    exact ⟨hin 0 rfl, hin 1 rfl, hin 2 rfl, hin 3 rfl, hin 4 rfl⟩) (frun m ρ))
    ((θ_run defs _ _).mono (fun _ h => h.2) (frun m ρ))

end Cert.Dw.Hand

end
-- ==== Proof.DwRun.lean ====
module

public import proofs.«01_k».proof.Proof.Gen.DwIdeal.Frame
public import proofs.«01_k».proof.Proof.Gen.DwIdeal.Skeleton

@[expose] public section

-- membership in a rectangle of production extents (`View.cover_of_tiled`): the elaborator's structural look
-- recurses once per coordinate of the long axes
set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1128000 in
/-- One grid point of the weight-gradient kernel, run on whole buffers: the inputs are left as they were and each of
    the two accumulators, entered holding `x5` (`x6`), ends with the listed rectangles stored. -/
noncomputable def bodyRun (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec F S1x1536x1024 .bf16) (x1 : Vec F S1x20x1024x128 .fp8e5m2) (x2 : Vec F S1x20x1024x128 .fp8e5m2) (x3 : Vec F S1x1 .f32) (x4 : Vec F S1x1 .f32) (x5 x6 : Vec F S20x1536x128 .f32) :
    (L5 : List (View.Piece (Elt F) S20x1536x128 .f32)) × { L6 : List (View.Piece (Elt F) S20x1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread x5) L5) ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dw i arg2 harg2 arg3 harg3 arg4 harg4 arg5 harg5 arg6 harg6 arg7 harg7 arg8 harg8) K } := by
  refine ⟨?_, ?_, fun E K => ?run⟩
  case run =>
    simp only [cc0_dw_eq_skeleton]; unfold cc0_dw_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    iexact H6

/-- What an accumulator holds after one grid point: the contents it was entered with, the listed rectangles stored. -/
abbrev stored (a : Memref sig .tc .vmem S20x1536x128 .f32) (ha : a.IsWhole) (x : Vec F S20x1536x128 .f32) (L : List (View.Piece (Elt F) S20x1536x128 .f32)) :
    Vec F S20x1536x128 .f32 := a.view.read (Elt F) (a.view.writes (Elt F) (ha.unread x) L)

/-- `bodyRun` with each accumulator's contents afterwards named. -/
theorem bodyTriple (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec F S1x1536x1024 .bf16) (x1 : Vec F S1x20x1024x128 .fp8e5m2) (x2 : Vec F S1x20x1024x128 .fp8e5m2) (x3 : Vec F S1x1 .f32) (x4 : Vec F S1x1 .f32) (x5 x6 : Vec F S20x1536x128 .f32)
    (X5 X6 : Vec F S20x1536x128 .f32)
    (h5 : stored arg7 harg7 x5 (bodyRun c i arg2 harg2 arg3 harg3 arg4 harg4 arg5 harg5 arg6 harg6 arg7 harg7 arg8 harg8 x0 x1 x2 x3 x4 x5 x6).1 = X5)
    (h6 : stored arg8 harg8 x6 (bodyRun c i arg2 harg2 arg3 harg3 arg4 harg4 arg5 harg5 arg6 harg6 arg7 harg7 arg8 harg8 x0 x1 x2 x3 x4 x5 x6).2.1 = X6)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare X5
              ∗ owns (c : Thread nD τ) arg8 fullShare X6) -∗ K ⟨⟩))
          ⊢ wp frame (wpE (defs₀ (F := F)) Variants.none c none) E (cc0_dw i arg2 harg2 arg3 harg3 arg4 harg4 arg5 harg5 arg6 harg6 arg7 harg7 arg8 harg8) K := by
  subst h5 h6
  generalize hR : bodyRun (F := F) c i arg2 harg2 arg3 harg3 arg4 harg4 arg5 harg5 arg6 harg6 arg7 harg7 arg8 harg8 x0 x1 x2 x3 x4 x5 x6 = R
  iintro ⟨H0, H1, H2, H3, H4, H5, H6, Hk⟩
  iapply (R.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; · ipureintro; exact rfl
    iexact H5
  · unfold owns; iexists _; isplitr; · ipureintro; exact rfl
    iexact H6

end Cert.DwIdeal.Hand

end
-- ==== Proof.DwFrame.lean ====
module

public import proofs.«01_k».proof.Proof.DwRun
public import Idealize.ShloMosaic.Lib.Pipeline.Value
public import Idealize.ShloMosaic.Lib.Claim

@[expose] public section

set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, the accumulators' contents forgotten -/

/-- The two windows of which the frame says nothing: the accumulators. -/
def forgotten : Fin 7 → Bool := fun w => w.val == 5 || w.val == 6

/-- What each window's buffer holds after a point: an input its block, an accumulator something unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d

/-- What the body is called with at point `t`, window by window. -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare d)
    ∗ (∃ d, owns (c : Thread nD τ) (st0_6 t) fullShare d))

/-- What the body returns at point `t`. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ (∃ d, owns (c : Thread nD τ) (st0_5 t) fullShare d)
    ∗ (∃ d, owns (c : Thread nD τ) (st0_6 t) fullShare d))

/-- The body at any point, from what it is called with to what it returns. -/
theorem fsound (c : Dev nD) (t : Fin cfg0.N) :
    fpre m c t ⊢ wp frame (wpE (defs₀ (F := F)) Variants.none c none) Set.univ (bodyAt0 t) (fun _ => fpost m c t) := by
  unfold fpre fpost bodyAt0
  simp only [fbefore_0, fbefore_1, fbefore_2, fbefore_3, fbefore_4]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyTriple c (grid0.coords t) _ _ _ _ _ _ _ _ _ _ _ _ _ _ (iblk m c 0 t) (iblk m c 1 t) (iblk m c 2 t) (iblk m c 3 t) (iblk m c 4 t) d5 d6 _ _ rfl rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem fobligation (c : Dev nD) : BodyObligation (fdats (F := F) m 0 c) (defs₀ (F := F)) Variants.none () Set.univ forgotten := fun t => by
  rw [bigSep_W0, bigSep_W0, defs₀_row]
  exact triple_restated (fsound m c t) rfl .rfl fun _ => .rfl

set_option backward.isDefEq.respectTransparency.types false in
/-- The launch: every execution ends, the inputs are as launched, and every semaphore counter is at zero. -/
theorem frun : θ_run defs (onTc (τ := τ) (main (F := F))) (s₀ m ρ) (fun r => (Pipeline.RDat.FramePost (cfgs 0) (fun c => (fdats m 0 c).toRForget forgotten) (V m)) r ∧ r.2.sem = fun _ => 0) :=
  Pipeline.θ_run_frame_forget (Q' := _) cfgs (fdats m) (0 : Fin 1) launch0 defs₀ Variants.none forgotten m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The weight-gradient kernel, on any values: from any memory with zero counters every execution ends, leaves each
    argument array as it was, and leaves every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r h c => by
    have hin : ∀ w : Fin cfg0.W, (cfg0.win w).isOut = false → r.2.mem ((cfg0.spec w).arr.view.loc (c.tc : Thread nD τ)) = V m c (Pipeline.arrRef spec0 w) := fun w hw => by
      have h1 := (h.1 c).1 w
      rw [((fdats m 0 c).toRForget forgotten).ArrAt_in w hw] at h1
      exact h1.trans (fA_eq m c w)
    exact ⟨hin 0 rfl, hin 1 rfl, hin 2 rfl, hin 3 rfl, hin 4 rfl⟩) (frun m ρ))
    ((θ_run defs _ _).mono (fun _ h => h.2) (frun m ρ))

end Cert.DwIdeal.Hand

end
-- ==== Proof.DwValue.lean ====
module

public import proofs.«01_k».proof.Proof.DwRun
public import Idealize.ShloMosaic.Lib.Pipeline.Value

@[expose] public section

set_option maxRecDepth 16384

noncomputable section

namespace Cert.DwIdeal.Hand

open Cert.DwIdeal Cert.DwIdeal.Gen
open Idealize.ShloMosaic Idealize.ShloMosaic.TcCoe

variable {F : FTy → Type} [FloatOps F]

/-- Whether the grid point is the first one, as the kernel computes it: both coordinates are zero. -/
abbrev firstBit (i : grid0.Coords) : BitVec 1 :=
  Scalar.andi (Scalar.cmpi .eq (BitVec.ofNat 32 (i 0).val) 0#32) (Scalar.cmpi .eq (BitVec.ofNat 32 (i 1).val) 0#32)

theorem inbQ (h : Nat) (hh : h < 20) : ∀ a, (![0, h, 0, 0] : Fin 4 → Nat) a + (![1, 1, 1024, 128] : Fin 4 → Nat) a ≤ S1x20x1024x128.size a := by
  intro a; fin_cases a <;> simp [S1x20x1024x128] <;> omega

theorem inbO (h : Nat) (hh : h < 20) : ∀ a, (![h, 0, 0] : Fin 3 → Nat) a + (![1, 1536, 128] : Fin 3 → Nat) a ≤ S20x1536x128.size a := by
  intro a; fin_cases a <;> simp [S20x1536x128] <;> omega

/-- Head `h`'s codes, as the kernel loads them. -/
abbrev ldQ (a : Memref sig .tc .vmem S1x20x1024x128 .fp8e5m2) (ha : a.IsWhole) (q : Vec F S1x20x1024x128 .fp8e5m2) (h : Nat) (hh : h < 20) :
    Vec F S1x1x1024x128 .fp8e5m2 := View.readAt (Elt F) a.view (Rect.unit (s := S1x20x1024x128) ![0, h, 0, 0] ![1, 1, 1024, 128] (inbQ h hh)).toLoadRect (ha.unread q)

/-- Head `h`'s slab of the accumulator, as the kernel loads it. -/
abbrev ldO (a : Memref sig .tc .vmem S20x1536x128 .f32) (ha : a.IsWhole) (o : Vec F S20x1536x128 .f32) (h : Nat) (hh : h < 20) :
    Vec F S1x1536x128 .f32 := View.readAt (Elt F) a.view (Rect.unit (s := S20x1536x128) ![h, 0, 0] ![1, 1536, 128] (inbO h hh)).toLoadRect (ha.unread o)

/-- The block of latents, as the kernel loads it. -/
abbrev ldX (a : Memref sig .tc .vmem S1x1536x1024 .bf16) (ha : a.IsWhole) (x : Vec F S1x1536x1024 .bf16) :
    Vec F S1x1536x1024 .bf16 := View.readAt (Elt F) a.view (Rect.unit (s := S1x1536x1024) ![0, 0, 0] ![1, 1536, 1024] inb_S1x1536x1024_S1x1536x1024_0_0_0).toLoadRect (ha.unread x)

/-- The scale, as the kernel loads it. -/
abbrev ldS (a : Memref sig .tc .smem S1x1 .f32) (ha : a.IsWhole) (s : Vec F S1x1 .f32) : Elt F .f32 :=
  View.readAt (Elt F) a.view (Rect.unit (s := S1x1) ![0, 0] S1x1.size inb_S1x1_S1x1_0_0).toLoadRect (ha.unread s) (Shape.Idx.first (by decide))

/-- The two rectangles a pair of heads stores: head `2 n + 1`'s and head `2 n`'s slab. -/
def pairPieces (f : BitVec 1) (a2 : Memref sig .tc .vmem S1x1536x1024 .bf16) (h2 : a2.IsWhole) (a3 : Memref sig .tc .vmem S1x20x1024x128 .fp8e5m2) (h3 : a3.IsWhole)
    (a5 : Memref sig .tc .smem S1x1 .f32) (h5 : a5.IsWhole) (a7 : Memref sig .tc .vmem S20x1536x128 .f32) (h7 : a7.IsWhole)
    (x : Vec F S1x1536x1024 .bf16) (q : Vec F S1x20x1024x128 .fp8e5m2) (s : Vec F S1x1 .f32) (o : Vec F S20x1536x128 .f32) (n : Fin 10) :
    List (View.Piece (Elt F) S20x1536x128 .f32) :=
  [⟨Rect.unit (s := S20x1536x128) ![2 * n.val + 1, 0, 0] ![1, 1536, 128] (inbO _ (by omega)),
      k0_pay9 f (ldQ a3 h3 q (2 * n.val) (by omega)) (ldQ a3 h3 q (2 * n.val + 1) (by omega)) (ldX a2 h2 x) (ldS a5 h5 s) (ldO a7 h7 o (2 * n.val + 1) (by omega))⟩,
   ⟨Rect.unit (s := S20x1536x128) ![2 * n.val, 0, 0] ![1, 1536, 128] (inbO _ (by omega)),
      k0_pay8 f (ldQ a3 h3 q (2 * n.val) (by omega)) (ldQ a3 h3 q (2 * n.val + 1) (by omega)) (ldX a2 h2 x) (ldS a5 h5 s) (ldO a7 h7 o (2 * n.val) (by omega))⟩]

/-- The rectangles a grid point stores into one accumulator, last first. -/
def allPieces (f : BitVec 1) (a2 : Memref sig .tc .vmem S1x1536x1024 .bf16) (h2 : a2.IsWhole) (a3 : Memref sig .tc .vmem S1x20x1024x128 .fp8e5m2) (h3 : a3.IsWhole)
    (a5 : Memref sig .tc .smem S1x1 .f32) (h5 : a5.IsWhole) (a7 : Memref sig .tc .vmem S20x1536x128 .f32) (h7 : a7.IsWhole)
    (x : Vec F S1x1536x1024 .bf16) (q : Vec F S1x20x1024x128 .fp8e5m2) (s : Vec F S1x1 .f32) (o : Vec F S20x1536x128 .f32) :
    List (View.Piece (Elt F) S20x1536x128 .f32) :=
  ([9, 8, 7, 6, 5, 4, 3, 2, 1, 0] : List (Fin 10)).flatMap (pairPieces f a2 h2 a3 h3 a5 h5 a7 h7 x q s o)

section
variable (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec F S1x1536x1024 .bf16) (x1 : Vec F S1x20x1024x128 .fp8e5m2) (x2 : Vec F S1x20x1024x128 .fp8e5m2) (x3 : Vec F S1x1 .f32) (x4 : Vec F S1x1 .f32) (x5 x6 : Vec F S20x1536x128 .f32)

theorem bodyRun_fst : (bodyRun c i arg2 harg2 arg3 harg3 arg4 harg4 arg5 harg5 arg6 harg6 arg7 harg7 arg8 harg8 x0 x1 x2 x3 x4 x5 x6).1
    = allPieces (firstBit i) arg2 harg2 arg3 harg3 arg5 harg5 arg7 harg7 x0 x1 x3 x5 := rfl

theorem bodyRun_snd : (bodyRun c i arg2 harg2 arg3 harg3 arg4 harg4 arg5 harg5 arg6 harg6 arg7 harg7 arg8 harg8 x0 x1 x2 x3 x4 x5 x6).2.1
    = allPieces (firstBit i) arg2 harg2 arg4 harg4 arg6 harg6 arg8 harg8 x0 x2 x4 x6 := rfl
end

end Cert.DwIdeal.Hand

end
-- ==== Proof.DwBlock.lean ====
module

public import proofs.«01_k».proof.Proof.DwValue
public import Idealize.ShloMosaic.Lib.Pointwise

@[expose] public section

set_option maxRecDepth 16384

noncomputable section

namespace Cert.DwIdeal.Hand

open Cert.DwIdeal Cert.DwIdeal.Gen
open Idealize.ShloMosaic Idealize.ShloMosaic.TcCoe

/-- A choice between two arrays, read at an index. -/
theorem select_app {α β : Type} (f : BitVec 1) (a b : α → β) (j : α) : Scalar.select f a b j = Scalar.select f (a j) (b j) := by
  unfold Scalar.select; split <;> rfl

/-- One head's product of the latents with its codes, scaled, at a row and a column. -/
def headProd (x : Vec Ideal S1x1536x1024 .bf16) (q : Vec Ideal S1x1x1024x128 .fp8e5m2) (s : EReal) (r : Fin 1536) (d : Fin 128) : EReal :=
  (∑ k : Fin 1024, x (ix3 0 r k) * q (ix4 0 0 k d)) * s

/-- The first head of a pair: its slab is the product on the first grid point, and the sum with what was there on the others. -/
theorem pay8_apply (f : BitVec 1) (q0 q1 : Vec Ideal S1x1x1024x128 .fp8e5m2) (x : Vec Ideal S1x1536x1024 .bf16) (s : EReal) (o : Vec Ideal S1x1536x128 .f32)
    (u : Fin 1) (r : Fin 1536) (d : Fin 128) :
    k0_pay8 (F := Ideal) f q0 q1 x s o (ix3 u r d) = Scalar.select f (headProd x q0 s r d) (o (ix3 u r d) + headProd x q0 s r d) := by
  obtain rfl : u = 0 := Subsingleton.elim _ _
  unfold k0_pay8 k0_pay7 headProd
  pointwise [select_app, dot_S1536x1024_S1024x256_S1536x256_1_0_0_1_n_n, d.isLt]

/-- The second head of a pair. -/
theorem pay9_apply (f : BitVec 1) (q0 q1 : Vec Ideal S1x1x1024x128 .fp8e5m2) (x : Vec Ideal S1x1536x1024 .bf16) (s : EReal) (o : Vec Ideal S1x1536x128 .f32)
    (u : Fin 1) (r : Fin 1536) (d : Fin 128) :
    k0_pay9 (F := Ideal) f q0 q1 x s o (ix3 u r d) = Scalar.select f (headProd x q1 s r d) (o (ix3 u r d) + headProd x q1 s r d) := by
  obtain rfl : u = 0 := Subsingleton.elim _ _
  unfold k0_pay9 k0_pay7 headProd
  pointwise [select_app, dot_S1536x1024_S1024x256_S1536x256_1_0_0_1_n_n]

/-- One grid point's effect on an accumulator: per head, row and column, the product of the block of latents with the
    head's block of codes, scaled, in place of the old entry on the first point and added to it on the others. -/
def stepVal (f : BitVec 1) (x : Vec Ideal S1x1536x1024 .bf16) (q : Vec Ideal S1x20x1024x128 .fp8e5m2) (s : Vec Ideal S1x1 .f32) (o : Vec Ideal S20x1536x128 .f32) :
    Vec Ideal S20x1536x128 .f32 := fun y =>
  Scalar.select f ((∑ k : Fin 1024, x (ix3 0 (y 1) k) * q (ix4 0 (y 0) k (y 2))) * s (ix2 0 0))
    (o y + (∑ k : Fin 1024, x (ix3 0 (y 1) k) * q (ix4 0 (y 0) k (y 2))) * s (ix2 0 0))

section
variable (f : BitVec 1) (a2 : Memref sig .tc .vmem S1x1536x1024 .bf16) (h2 : a2.IsWhole) (a3 : Memref sig .tc .vmem S1x20x1024x128 .fp8e5m2) (h3 : a3.IsWhole)
    (a5 : Memref sig .tc .smem S1x1 .f32) (h5 : a5.IsWhole) (a7 : Memref sig .tc .vmem S20x1536x128 .f32) (h7 : a7.IsWhole)
    (x : Vec Ideal S1x1536x1024 .bf16) (q : Vec Ideal S1x20x1024x128 .fp8e5m2) (s : Vec Ideal S1x1 .f32) (o : Vec Ideal S20x1536x128 .f32)

theorem ldQ_apply (h : Nat) (hh : h < 20) (k : Fin 1024) (d : Fin 128) :
    ldQ (F := Ideal) a3 h3 q h hh (ix4 0 0 k d) = q (ix4 0 ⟨h, hh⟩ k d) := by
  unfold ldQ
  rw [View.readAt_eq_ld, h3.read_unread]
  refine congrArg q (funext fun a => Fin.ext ?_)
  fin_cases a <;> simp [LoadRect.idx, Rect.toLoadRect, Rect.unit, ix4]

theorem ldO_apply (h : Nat) (hh : h < 20) (u : Fin 1) (r : Fin 1536) (d : Fin 128) :
    ldO (F := Ideal) a7 h7 o h hh (ix3 u r d) = o (ix3 ⟨h, hh⟩ r d) := by
  unfold ldO
  rw [View.readAt_eq_ld, h7.read_unread]
  refine congrArg o (funext fun a => Fin.ext ?_)
  fin_cases a <;> simp [LoadRect.idx, Rect.toLoadRect, Rect.unit, ix3]

theorem ldX_eq : ldX (F := Ideal) a2 h2 x = x := by
  unfold ldX
  rw [View.readAt_eq_ld, h2.read_unread]
  exact View.ld_unit_zero (S := S1x1536x1024) (funext fun a => by fin_cases a <;> rfl) _ _

theorem ldS_eq : ldS (F := Ideal) a5 h5 s = s (ix2 0 0) := by
  unfold ldS
  rw [View.readAt_eq_ld, h5.read_unread]
  exact congrArg s (funext fun a => Fin.ext (by fin_cases a <;> rfl))

/-- A head's slab sits at the head's index. -/
theorem emb_head (h : Nat) (hh : h < 20) (u : Fin 1) (r : Fin 1536) (d : Fin 128) :
    (Rect.unit (s := S20x1536x128) ![h, 0, 0] ![1, 1536, 128] (inbO h hh)).emb (ix3 u r d) = ix3 ⟨h, hh⟩ r d := by
  funext a
  apply Fin.ext
  fin_cases a <;> (rw [Rect.emb_apply]; simp [Rect.unit, ix3])

/-- What is stored for head `h` is the grid point's effect there. -/
theorem head_eq (h : Nat) (hh : h < 20) (u : Fin 1) (r : Fin 1536) (d : Fin 128) :
    Scalar.select f (headProd (ldX a2 h2 x) (ldQ a3 h3 q h hh) (ldS a5 h5 s) r d)
      (ldO (F := Ideal) a7 h7 o h hh (ix3 u r d) + headProd (ldX a2 h2 x) (ldQ a3 h3 q h hh) (ldS a5 h5 s) r d)
      = stepVal f x q s o ((Rect.unit (s := S20x1536x128) ![h, 0, 0] ![1, 1536, 128] (inbO h hh)).emb (ix3 u r d)) := by
  rw [emb_head, ldX_eq, ldS_eq, ldO_apply]
  unfold headProd
  simp only [ldQ_apply]
  rfl

theorem pairPieces_eq (n : Fin 10) (p) (hp : p ∈ pairPieces (F := Ideal) f a2 h2 a3 h3 a5 h5 a7 h7 x q s o n) (j : p.1.shape.Idx) :
    p.2 j = stepVal f x q s o (p.1.emb j) := by
  unfold pairPieces at hp
  simp only [List.mem_cons, List.not_mem_nil, or_false] at hp
  rcases hp with rfl | rfl
  · obtain ⟨u, r, d, rfl⟩ : ∃ (u : Fin 1) (r : Fin 1536) (d : Fin 128), j = ix3 u r d := ⟨j 0, j 1, j 2, ValueIdx.eq_ix3 j⟩
    exact (pay9_apply _ _ _ _ _ _ u r d).trans (head_eq ..)
  · obtain ⟨u, r, d, rfl⟩ : ∃ (u : Fin 1) (r : Fin 1536) (d : Fin 128), j = ix3 u r d := ⟨j 0, j 1, j 2, ValueIdx.eq_ix3 j⟩
    exact (pay8_apply _ _ _ _ _ _ u r d).trans (head_eq ..)

/-- Every entry of the accumulator lies in some head's slab. -/
theorem allPieces_cover (y : S20x1536x128.Idx) : ∃ p ∈ allPieces (F := Ideal) f a2 h2 a3 h3 a5 h5 a7 h7 x q s o, y ∈ p.1.set := by
  obtain ⟨h, r, d, rfl⟩ : ∃ (h : Fin 20) (r : Fin 1536) (d : Fin 128), y = ix3 h r d := ⟨y 0, y 1, y 2, ValueIdx.eq_ix3 y⟩
  have hn : ∀ n : Fin 10, n ∈ ([9, 8, 7, 6, 5, 4, 3, 2, 1, 0] : List (Fin 10)) := by decide
  rcases Nat.even_or_odd' h.val with ⟨n, e | e⟩
  · refine ⟨_, List.mem_flatMap.mpr ⟨⟨n, by omega⟩, hn _, List.mem_cons_of_mem _ (List.mem_cons_self ..)⟩, ?_⟩
    rw [show ix3 h r d = ix3 (⟨2 * n, by omega⟩ : Fin 20) r d from congrArg (ix3 · r d) (Fin.ext e), ← emb_head _ _ 0]
    rw [← Rect.map_emb_univ]
    exact Finset.mem_map_of_mem _ (Finset.mem_univ _)
  · refine ⟨_, List.mem_flatMap.mpr ⟨⟨n, by omega⟩, hn _, List.mem_cons_self ..⟩, ?_⟩
    rw [show ix3 h r d = ix3 (⟨2 * n + 1, by omega⟩ : Fin 20) r d from congrArg (ix3 · r d) (Fin.ext e), ← emb_head _ _ 0]
    rw [← Rect.map_emb_univ]
    exact Finset.mem_map_of_mem _ (Finset.mem_univ _)

/-- The stores of one grid point, read back, are the grid point's effect on the accumulator. -/
theorem read_allPieces (g : a7.view.ty.Contents (Elt Ideal)) :
    a7.view.read (Elt Ideal) (a7.view.writes (Elt Ideal) g (allPieces (F := Ideal) f a2 h2 a3 h3 a5 h5 a7 h7 x q s o)) = stepVal f x q s o := by
  funext y
  rw [View.read_writes_apply_eq_canon _ _ _ _ (allPieces_cover f a2 h2 a3 h3 a5 h5 a7 h7 x q s o y)]
  refine View.canon_apply_of_pieces _ _ (fun p hp j => ?_) y (allPieces_cover f a2 h2 a3 h3 a5 h5 a7 h7 x q s o y)
  obtain ⟨n, -, hp⟩ := List.mem_flatMap.mp hp
  exact pairPieces_eq f a2 h2 a3 h3 a5 h5 a7 h7 x q s o n p hp j

end

end Cert.DwIdeal.Hand

end
-- ==== Proof.DwAcc.lean ====
module

public import proofs.«01_k».proof.Proof.DwFrame
public import proofs.«01_k».proof.Proof.DwBlock
public import Idealize.ShloMosaic.Lib.Pipeline.ValueKit

@[expose] public section

set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run with the accumulators' contents named -/

/-- An accumulator after point `n`: the first point's scaled product, then the later points' added to it in order. -/
def accOf (x : Fin cfg0.N → Vec Ideal S1x1536x1024 .bf16) (q : Fin cfg0.N → Vec Ideal S1x20x1024x128 .fp8e5m2) (s : Fin cfg0.N → Vec Ideal S1x1 .f32) :
    (n : ℕ) → n < cfg0.N → Vec Ideal S20x1536x128 .f32
  | 0, h => stepVal 1#1 (x ⟨0, h⟩) (q ⟨0, h⟩) (s ⟨0, h⟩) (fun _ => 0)
  | n + 1, h => stepVal 0#1 (x ⟨n + 1, h⟩) (q ⟨n + 1, h⟩) (s ⟨n + 1, h⟩) (accOf x q s n (Nat.lt_of_succ_lt h))

theorem stepVal_first (x q s o o') : stepVal 1#1 x q s o = stepVal 1#1 x q s o' := by
  funext y; simp [stepVal, Scalar.select]

/-- The kernel's test for the first point is true at point 0 and false later. -/
theorem firstBit_coords : ∀ t : Fin grid0.N, firstBit (grid0.coords t) = if t.val = 0 then 1#1 else 0#1 := by decide +kernel

/-- The accumulator for the keys after point `n`. -/
abbrev accK (c : Dev nD) := accOf (iblk m c 0) (iblk m c 1) (iblk m c 3)
/-- The accumulator for the values after point `n`. -/
abbrev accV (c : Dev nD) := accOf (iblk m c 0) (iblk m c 2) (iblk m c 4)

/-- What each window's buffer holds after a point: an input its block, an accumulator its partial sum. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accK m c t.val t.isLt
    | ⟨6, _⟩ => accV m c t.val t.isLt
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = accK m c t.val t.isLt := by dsimp only [vdats]
theorem vafter_6 (c : Dev nD) (t : Fin cfg0.N) : (vdats m 0 c).after 6 t = accV m c t.val t.isLt := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d

theorem no_flush_5 (t : Fin cfg0.N) (ht : t.val + 1 < cfg0.N) : (cfg0.win 5).flush t = false := by
  have hN : cfg0.N = 54 := N_0
  rw [← Bool.not_eq_true, flush0_5]; omega
theorem no_flush_6 (t : Fin cfg0.N) (ht : t.val + 1 < cfg0.N) : (cfg0.win 6).flush t = false := by
  have hN : cfg0.N = 54 := N_0
  rw [← Bool.not_eq_true, flush0_6]; omega

/-- One point's step on what the keys' accumulator held before it is what it holds after it. -/
theorem step_5 (c : Dev nD) (t : Fin cfg0.N) (d) :
    stepVal (firstBit (grid0.coords t)) (iblk m c 0 t) (iblk m c 1 t) (iblk m c 3 t) ((vdats m 0 c).before 5 t d) = accK m c t.val t.isLt := by
  rw [firstBit_coords]
  rcases Nat.eq_zero_or_pos t.val with h0 | hp
  · obtain ⟨n, hn⟩ := t
    obtain rfl : n = 0 := h0
    exact stepVal_first ..
  · rw [if_neg hp.ne', (vdats m 0 c).before_out_kept 5 rfl t hp.ne' (no_flush_5 _ (by show t.val - 1 + 1 < _; have := t.isLt; omega)) (fun _ => rfl) (fun _ _ => rfl) d, vafter_5]
    obtain ⟨_ | n, hn⟩ := t
    · exact absurd hp (lt_irrefl 0)
    · rfl

/-- The same for the values' accumulator. -/
theorem step_6 (c : Dev nD) (t : Fin cfg0.N) (d) :
    stepVal (firstBit (grid0.coords t)) (iblk m c 0 t) (iblk m c 2 t) (iblk m c 4 t) ((vdats m 0 c).before 6 t d) = accV m c t.val t.isLt := by
  rw [firstBit_coords]
  rcases Nat.eq_zero_or_pos t.val with h0 | hp
  · obtain ⟨n, hn⟩ := t
    obtain rfl : n = 0 := h0
    exact stepVal_first ..
  · rw [if_neg hp.ne', (vdats m 0 c).before_out_kept 6 rfl t hp.ne' (no_flush_6 _ (by show t.val - 1 + 1 < _; have := t.isLt; omega)) (fun _ => rfl) (fun _ _ => rfl) d, vafter_6]
    obtain ⟨_ | n, hn⟩ := t
    · exact absurd hp (lt_irrefl 0)
    · rfl

/-- What the body is called with at point `t`, window by window. -/
def vpre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))

/-- What the body returns at point `t`. -/
def vpost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t))

/-- `bodyTriple` with the accumulators' contents after the point named. -/
theorem bodyStep (c : Dev nD) (i : grid0.Coords) (arg2 : Memref sig .tc .vmem S1x1536x1024 .bf16) (harg2 : arg2.IsWhole) (arg3 : Memref sig .tc .vmem S1x20x1024x128 .fp8e5m2) (harg3 : arg3.IsWhole) (arg4 : Memref sig .tc .vmem S1x20x1024x128 .fp8e5m2) (harg4 : arg4.IsWhole) (arg5 : Memref sig .tc .smem S1x1 .f32) (harg5 : arg5.IsWhole) (arg6 : Memref sig .tc .smem S1x1 .f32) (harg6 : arg6.IsWhole) (arg7 : Memref sig .tc .vmem S20x1536x128 .f32) (harg7 : arg7.IsWhole) (arg8 : Memref sig .tc .vmem S20x1536x128 .f32) (harg8 : arg8.IsWhole)
    (x0 : Vec Ideal S1x1536x1024 .bf16) (x1 : Vec Ideal S1x20x1024x128 .fp8e5m2) (x2 : Vec Ideal S1x20x1024x128 .fp8e5m2) (x3 : Vec Ideal S1x1 .f32) (x4 : Vec Ideal S1x1 .f32) (x5 x6 : Vec Ideal S20x1536x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare (stepVal (firstBit i) x0 x1 x3 x5)
              ∗ owns (c : Thread nD τ) arg8 fullShare (stepVal (firstBit i) x0 x2 x4 x6)) -∗ K ⟨⟩))
          ⊢ wp frame (wpE (defs₀ (F := Ideal)) Variants.none c none) E (cc0_dw i arg2 harg2 arg3 harg3 arg4 harg4 arg5 harg5 arg6 harg6 arg7 harg7 arg8 harg8) K :=
  bodyTriple (F := Ideal) c i arg2 harg2 arg3 harg3 arg4 harg4 arg5 harg5 arg6 harg6 arg7 harg7 arg8 harg8 x0 x1 x2 x3 x4 x5 x6 _ _
    ((congrArg (stored arg7 harg7 x5) (bodyRun_fst c i arg2 harg2 arg3 harg3 arg4 harg4 arg5 harg5 arg6 harg6 arg7 harg7 arg8 harg8 x0 x1 x2 x3 x4 x5 x6)).trans (read_allPieces (firstBit i) arg2 harg2 arg3 harg3 arg5 harg5 arg7 harg7 x0 x1 x3 x5 _))
    ((congrArg (stored arg8 harg8 x6) (bodyRun_snd c i arg2 harg2 arg3 harg3 arg4 harg4 arg5 harg5 arg6 harg6 arg7 harg7 arg8 harg8 x0 x1 x2 x3 x4 x5 x6)).trans (read_allPieces (firstBit i) arg2 harg2 arg4 harg4 arg6 harg6 arg8 harg8 x0 x2 x4 x6 _)) E K

/-- The body at any point, from what it is called with to what it returns. -/
theorem vsound (c : Dev nD) (t : Fin cfg0.N) :
    vpre m c t ⊢ wp frame (wpE (defs₀ (F := Ideal)) Variants.none c none) Set.univ (bodyAt0 t) (fun _ => vpost m c t) := by
  unfold vpre vpost bodyAt0
  simp only [vbefore_0, vbefore_1, vbefore_2, vbefore_3, vbefore_4]
  rw [show (vdats m 0 c).Φ t.succ = (vdats m 0 c).Φ t.castSucc from rfl,
    show (vdats m 0 c).owesAt () t.succ = (vdats m 0 c).owesAt () t.castSucc from rfl,
    vafter_0, vafter_1, vafter_2, vafter_3, vafter_4, vafter_5, vafter_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step_5 m c t d5, ← step_6 m c t d6]
  iapply (bodyStep c (grid0.coords t) _ _ _ _ _ _ _ _ _ _ _ _ _ _ (iblk m c 0 t) (iblk m c 1 t) (iblk m c 2 t) (iblk m c 3 t) (iblk m c 4 t) ((vdats m 0 c).before 5 t d5) ((vdats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem vobligation (c : Dev nD) : BodyObligation (vdats m 0 c) (defs₀ (F := Ideal)) Variants.none () Set.univ := fun t => by
  rw [bigSep_W0, bigSep_W0, defs₀_row]
  exact triple_restated (vsound m c t) rfl .rfl fun _ => .rfl

set_option backward.isDefEq.respectTransparency.types false in
/-- The launch: every array of the pipeline ends at what the proof data give after the last point. -/
theorem vrun : θ_run defs (onTc (τ := τ) (main (F := Ideal))) (s₀ m ρ) (Pipeline.FramePost cfgs (vdats m) 0 (V m)) :=
  Pipeline.θ_run_frame (Q' := _) cfgs (vdats m) (0 : Fin 1) launch0 defs₀ Variants.none m ρ main
    (hbody := fun c => (vobligation m c).loose) (hshare := fun c => (vdats m 0 c).share_full fun _ => rfl)
    (howed := fun _ _ => rfl) (V := V m) (hmain := hmain m Variants.none) (hA := vA_eq m) (hΦ := fun _ _ => rfl)

/-- The last grid point. -/
abbrev tLast : Fin cfg0.N := ⟨53, by rw [show cfg0.N = 54 from N_0]; decide⟩

theorem final_5 (c : Dev nD) : (vdats m 0 c).arrAt 5 cfg0.N = accK m c 53 tLast.isLt := by
  refine (vdats m 0 c).arrAt_eq_of_covers 5 _ (by decide +kernel) fun t hf y => ?_
  have hN : cfg0.N = 54 := N_0
  obtain rfl : t = tLast := Fin.ext (by have := (flush0_5 t).mp hf; have := t.isLt; show t.val = 53; omega)
  have e : win0_5.index tLast = fun _ => 0 := by decide +kernel
  rw [vafter_5]
  blk_simp
  refine congrArg (accK m c 53 tLast.isLt) (funext fun a => Fin.ext ?_)
  blk_simp [e]

theorem final_6 (c : Dev nD) : (vdats m 0 c).arrAt 6 cfg0.N = accV m c 53 tLast.isLt := by
  refine (vdats m 0 c).arrAt_eq_of_covers 6 _ (by decide +kernel) fun t hf y => ?_
  have hN : cfg0.N = 54 := N_0
  obtain rfl : t = tLast := Fin.ext (by have := (flush0_6 t).mp hf; have := t.isLt; show t.val = 53; omega)
  have e : win0_6.index tLast = fun _ => 0 := by decide +kernel
  rw [vafter_6]
  blk_simp
  refine congrArg (accV m c 53 tLast.isLt) (funext fun a => Fin.ext ?_)
  blk_simp [e]

/-- The weight-gradient kernel's results: each accumulator after the last point; the arguments end unchanged. -/
theorem value : θ_run defs (onTc (τ := τ) (main (F := Ideal))) ⟨m, fun _ => 0, ρ⟩ fun r => ∀ c : Dev nD,
      r.2.mem ((c.tc : Thread nD τ).loc main_v0_0) = accK m c 53 tLast.isLt
      ∧ r.2.mem ((c.tc : Thread nD τ).loc main_v0_1) = accV m c 53 tLast.isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final_5 m c), ((h c).1 6).trans (final_6 m c),
    ((h c).1 0).trans ((vdats m 0 c).arrAt_in 0 rfl _), ((h c).1 1).trans ((vdats m 0 c).arrAt_in 1 rfl _),
    ((h c).1 2).trans ((vdats m 0 c).arrAt_in 2 rfl _), ((h c).1 3).trans ((vdats m 0 c).arrAt_in 3 rfl _),
    ((h c).1 4).trans ((vdats m 0 c).arrAt_in 4 rfl _)⟩) (vrun m ρ)

end Cert.DwIdeal.Hand

end
-- ==== Proof.DwSum.lean ====
module

public import proofs.«01_k».proof.Proof.DwAcc

@[expose] public section

set_option maxRecDepth 16384

noncomputable section

namespace Cert.DwIdeal.Hand

open Cert.DwIdeal Cert.DwIdeal.Gen
open Idealize.ShloMosaic Idealize.ShloMosaic.TcCoe

/-- A finite nonnegative factor distributes over a finite sum of extended reals. -/
theorem EReal_sum_mul {ι : Type} (S : Finset ι) (f : ι → EReal) {s : EReal} (h0 : 0 ≤ s) (h1 : s ≠ ⊤) : (∑ i ∈ S, f i) * s = ∑ i ∈ S, f i * s := by
  classical
  induction S using Finset.induction_on with
  | empty => simp
  | insert a S ha ih => rw [Finset.sum_insert ha, Finset.sum_insert ha, EReal.right_distrib_of_nonneg_of_ne_top h0 h1, ih]

/-- An accumulator after point `n` is the sum of the points' scaled products. -/
theorem accOf_eq (x : Fin cfg0.N → Vec Ideal S1x1536x1024 .bf16) (q : Fin cfg0.N → Vec Ideal S1x20x1024x128 .fp8e5m2) (s : Fin cfg0.N → Vec Ideal S1x1 .f32)
    (h : Fin 20) (r : Fin 1536) (d : Fin 128) : ∀ (n : ℕ) (hn : n < cfg0.N),
    accOf x q s n hn (ix3 h r d) = ∑ t : Fin (n + 1), (∑ k : Fin 1024, x ⟨t.val, by omega⟩ (ix3 0 r k) * q ⟨t.val, by omega⟩ (ix4 0 h k d)) * s ⟨t.val, by omega⟩ (ix2 0 0)
  | 0, hn => by
    rw [Fin.sum_univ_one]
    simp [accOf, stepVal, Scalar.select, ix3]
  | n + 1, hn => by
    rw [Fin.sum_univ_castSucc]
    have e : accOf x q s (n + 1) hn (ix3 h r d) = accOf x q s n (by omega) (ix3 h r d)
        + (∑ k : Fin 1024, x ⟨n + 1, hn⟩ (ix3 0 r k) * q ⟨n + 1, hn⟩ (ix4 0 h k d)) * s ⟨n + 1, hn⟩ (ix2 0 0) := by
      simp [accOf, stepVal, Scalar.select, ix3]
    rw [e, accOf_eq x q s h r d n]
    rfl

variable (m : (ℓ : Loc nD τ sig) → Buf (Elt Ideal) ℓ)

theorem index_0 : ∀ t : Fin grid0.N, win0_0.index t = ![t.val / 6, 0, t.val % 6] := by decide +kernel
theorem index_1 : ∀ t : Fin grid0.N, win0_1.index t = ![t.val / 6, 0, t.val % 6, 0] := by decide +kernel
theorem index_2 : ∀ t : Fin grid0.N, win0_2.index t = ![t.val / 6, 0, t.val % 6, 0] := by decide +kernel
theorem index_3 : ∀ t : Fin grid0.N, win0_3.index t = ![0, 0] := by decide +kernel
theorem index_4 : ∀ t : Fin grid0.N, win0_4.index t = ![0, 0] := by decide +kernel

/-- Point `t`'s block of latents: batch `t / 6`, positions from `(t % 6) * 1024`. -/
theorem iblk_0 (c : Dev nD) (t : Fin cfg0.N) (b : Fin 9) (j : Fin 6) (ht : t.val = b.val * 6 + j.val) (r : Fin 1536) (k : Fin 1024) :
    (iblk m c 0 t : Vec Ideal S1x1536x1024 .bf16) (ix3 0 r k) = m ((c.tc : Thread nD τ).loc main_arg0) (ix3 b r ⟨j.val * 1024 + k.val, by omega⟩) := by
  blk_simp [iblk]
  refine congrArg (m ((c.tc : Thread nD τ).loc main_arg0)) (funext fun a => Fin.ext ?_)
  blk_simp [index_0]
  fin_cases a <;> simp [ix3] <;> omega

theorem iblk_1 (c : Dev nD) (t : Fin cfg0.N) (b : Fin 9) (j : Fin 6) (ht : t.val = b.val * 6 + j.val) (h : Fin 20) (k : Fin 1024) (d : Fin 128) :
    (iblk m c 1 t : Vec Ideal S1x20x1024x128 .fp8e5m2) (ix4 0 h k d) = m ((c.tc : Thread nD τ).loc main_arg1) (ix4 b h ⟨j.val * 1024 + k.val, by omega⟩ d) := by
  blk_simp [iblk]
  refine congrArg (m ((c.tc : Thread nD τ).loc main_arg1)) (funext fun a => Fin.ext ?_)
  blk_simp [index_1]
  fin_cases a <;> simp [ix4] <;> omega

theorem iblk_2 (c : Dev nD) (t : Fin cfg0.N) (b : Fin 9) (j : Fin 6) (ht : t.val = b.val * 6 + j.val) (h : Fin 20) (k : Fin 1024) (d : Fin 128) :
    (iblk m c 2 t : Vec Ideal S1x20x1024x128 .fp8e5m2) (ix4 0 h k d) = m ((c.tc : Thread nD τ).loc main_arg2) (ix4 b h ⟨j.val * 1024 + k.val, by omega⟩ d) := by
  blk_simp [iblk]
  refine congrArg (m ((c.tc : Thread nD τ).loc main_arg2)) (funext fun a => Fin.ext ?_)
  blk_simp [index_2]
  fin_cases a <;> simp [ix4] <;> omega

theorem iblk_3 (c : Dev nD) (t : Fin cfg0.N) : (iblk m c 3 t : Vec Ideal S1x1 .f32) (ix2 0 0) = m ((c.tc : Thread nD τ).loc main_arg3) (ix2 0 0) := by
  blk_simp [iblk]
  refine congrArg (m ((c.tc : Thread nD τ).loc main_arg3)) (funext fun a => Fin.ext ?_)
  blk_simp [index_3]
  fin_cases a <;> simp [ix2]

theorem iblk_4 (c : Dev nD) (t : Fin cfg0.N) : (iblk m c 4 t : Vec Ideal S1x1 .f32) (ix2 0 0) = m ((c.tc : Thread nD τ).loc main_arg4) (ix2 0 0) := by
  blk_simp [iblk]
  refine congrArg (m ((c.tc : Thread nD τ).loc main_arg4)) (funext fun a => Fin.ext ?_)
  blk_simp [index_4]
  fin_cases a <;> simp [ix2]

/-- The sum over the grid's points and each block's positions is the sum over the batch and the sequence, the scale
    taken into each term. -/
theorem acc_sum (x : Fin cfg0.N → Vec Ideal S1x1536x1024 .bf16) (q : Fin cfg0.N → Vec Ideal S1x20x1024x128 .fp8e5m2) (s : Fin cfg0.N → Vec Ideal S1x1 .f32)
    (X : Fin 9 → Fin 6144 → EReal) (Q : Fin 9 → Fin 6144 → EReal) (σ : EReal) (h0 : 0 ≤ σ) (h1 : σ ≠ ⊤) (h : Fin 20) (r : Fin 1536) (d : Fin 128)
    (hx : ∀ t b (j : Fin 6), t.val = b.val * 6 + j.val → ∀ k : Fin 1024, x t (ix3 0 r k) = X b ⟨j.val * 1024 + k.val, by omega⟩)
    (hq : ∀ t b (j : Fin 6), t.val = b.val * 6 + j.val → ∀ k : Fin 1024, q t (ix4 0 h k d) = Q b ⟨j.val * 1024 + k.val, by omega⟩)
    (hs : ∀ t, s t (ix2 0 0) = σ) :
    accOf x q s 53 tLast.isLt (ix3 h r d) = ∑ b : Fin 9, ∑ k : Fin 6144, Q b k * σ * X b k := by
  have hN : cfg0.N = 54 := N_0
  rw [accOf_eq, Fin.sum_univ_tiles (N := 53 + 1) 9 6 (by rfl)]
  refine Finset.sum_congr rfl fun b _ => ?_
  rw [Fin.sum_univ_tiles (N := 6144) 6 1024 (by rfl)]
  refine Finset.sum_congr rfl fun j _ => ?_
  rw [hs, EReal_sum_mul _ _ h0 h1]
  refine Finset.sum_congr rfl fun k _ => ?_
  rw [hx _ b j rfl, hq _ b j rfl, mul_comm (X _ _), mul_right_comm]

/-- Argument 0 as an array of extended reals. -/
abbrev arg0 (c : Dev nD) : FVec Ideal S9x1536x6144 .bf16 := m ((c.tc : Thread nD τ).loc main_arg0)
/-- Argument 1 as an array of extended reals. -/
abbrev arg1 (c : Dev nD) : FVec Ideal S9x20x6144x128 .fp8e5m2 := m ((c.tc : Thread nD τ).loc main_arg1)
/-- Argument 2 as an array of extended reals. -/
abbrev arg2 (c : Dev nD) : FVec Ideal S9x20x6144x128 .fp8e5m2 := m ((c.tc : Thread nD τ).loc main_arg2)
/-- Argument 3 as an array of extended reals. -/
abbrev arg3 (c : Dev nD) : FVec Ideal S1x1 .f32 := m ((c.tc : Thread nD τ).loc main_arg3)
/-- Argument 4 as an array of extended reals. -/
abbrev arg4 (c : Dev nD) : FVec Ideal S1x1 .f32 := m ((c.tc : Thread nD τ).loc main_arg4)

/-- The keys' weight gradient as one sum. -/
theorem accK_at (c : Dev nD) (h0 : 0 ≤ arg3 m c (ix2 0 0)) (h1 : arg3 m c (ix2 0 0) ≠ ⊤)
    (h : Fin 20) (r : Fin 1536) (d : Fin 128) :
    accK m c 53 tLast.isLt (ix3 h r d) = ∑ b : Fin 9, ∑ k : Fin 6144,
      arg1 m c (ix4 b h k d) * arg3 m c (ix2 0 0) * arg0 m c (ix3 b r k) :=
  acc_sum _ _ _ (fun b k => arg0 m c (ix3 b r k)) (fun b k => arg1 m c (ix4 b h k d)) _ h0 h1 h r d
    (fun t b j ht k => iblk_0 m c t b j ht r k) (fun t b j ht k => iblk_1 m c t b j ht h k d) (fun t => iblk_3 m c t)

/-- The values' weight gradient as one sum. -/
theorem accV_at (c : Dev nD) (h0 : 0 ≤ arg4 m c (ix2 0 0)) (h1 : arg4 m c (ix2 0 0) ≠ ⊤)
    (h : Fin 20) (r : Fin 1536) (d : Fin 128) :
    accV m c 53 tLast.isLt (ix3 h r d) = ∑ b : Fin 9, ∑ k : Fin 6144,
      arg2 m c (ix4 b h k d) * arg4 m c (ix2 0 0) * arg0 m c (ix3 b r k) :=
  acc_sum _ _ _ (fun b k => arg0 m c (ix3 b r k)) (fun b k => arg2 m c (ix4 b h k d)) _ h0 h1 h r d
    (fun t b j ht k => iblk_0 m c t b j ht r k) (fun t b j ht k => iblk_2 m c t b j ht h k d) (fun t => iblk_4 m c t)

end Cert.DwIdeal.Hand

end
-- ==== Proof.DwRef.lean ====
module

public import proofs.«01_k».proof.Proof.Gen.DwRefIdeal.Run
public import proofs.«01_k».proof.Proof.Gen.DwRefIdeal.Read
public import Idealize.ShloMosaic.Lib.Pipeline.ValueKit
public import Idealize.ShloMosaic.Lib.Pointwise
public import Idealize.ShloMosaic.Lib.TwoAxisContraction

@[expose] public section

set_option maxRecDepth 16384

noncomputable section

namespace Cert.DwRefIdeal.Hand

open Cert.DwRefIdeal Cert.DwRefIdeal.Gen Cert.DwRefIdeal.Value Cert.DwRefIdeal.Read
open Idealize.ShloMosaic Idealize.ShloMosaic.TcCoe

variable (m : (ℓ : Loc nD τ sig) → Buf (Elt Ideal) ℓ)

/-- The codes of the keys' gradient, converted: the codes' own values. -/
theorem codesK (c : Dev nD) : reg_main_v0_0 m c = (fun i => m ((c.tc : Thread nD τ).loc main_arg1) i : S9x20x6144x128.Idx → EReal) := by
  unfold reg_main_v0_0
  refine (dats m 0 c).arrAt_eq_of_covers 2 _ (by decide +kernel) fun t hf y => ?_
  blk_simp
  rw [after0_2]; frame_out
  unfold k0_pay1
  blk_simp [iblk]
  show m ((c.tc : Thread nD τ).loc main_arg1) (((cfg0.win 0).blk t).view.emb y) = _
  exact congrArg (m ((c.tc : Thread nD τ).loc main_arg1)) (funext fun a => Fin.ext (by rfl))

/-- The codes of the values' gradient, converted: the codes' own values. -/
theorem codesV (c : Dev nD) : reg_main_v0_1 m c = (fun i => m ((c.tc : Thread nD τ).loc main_arg2) i : S9x20x6144x128.Idx → EReal) := by
  unfold reg_main_v0_1
  refine (dats m 0 c).arrAt_eq_of_covers 3 _ (by decide +kernel) fun t hf y => ?_
  blk_simp
  rw [after0_3]; frame_out
  unfold k0_pay2
  blk_simp [iblk]
  show m ((c.tc : Thread nD τ).loc main_arg2) (((cfg0.win 1).blk t).view.emb y) = _
  exact congrArg (m ((c.tc : Thread nD τ).loc main_arg2)) (funext fun a => Fin.ext (by rfl))

/-- One result of the reference: at head `h`, row `r`, column `d`, the sum over the batch and the sequence of the codes'
    value times the scale, times the latent. -/
theorem val_main_v10_at (x0 : Vec Ideal S9x1536x6144 .bf16) (x3 : Vec Ideal S1x1 .f32) (r0 : Vec Ideal S9x20x6144x128 .bf16) (h : Fin 20) (r : Fin 1536) (d : Fin 128) :
    val_main_v10 (F := Ideal) x0 x3 r0 (ix3 h r d) = ∑ b : Fin 9, ∑ k : Fin 6144, r0 (ix4 b h k d) * x3 (ix2 0 0) * x0 (ix3 b r k) := by
  rw [val_main_v10_apply]
  unfold val_main_v9 val_main_v4 val_main_v3 val_main_v2 val_main_v1
  pointwise [dot_S9x20x6144x128_S9x1536x6144_S20x128x1536_02_02_13_1_n_n]
  rfl

/-- The other result of the reference: at head `h`, row `r`, column `d`, the sum over the batch and the sequence of the codes'
    value times the scale, times the latent. -/
theorem val_main_v12_at (x0 : Vec Ideal S9x1536x6144 .bf16) (x3 : Vec Ideal S1x1 .f32) (r0 : Vec Ideal S9x20x6144x128 .bf16) (h : Fin 20) (r : Fin 1536) (d : Fin 128) :
    val_main_v12 (F := Ideal) x0 x3 r0 (ix3 h r d) = ∑ b : Fin 9, ∑ k : Fin 6144, r0 (ix4 b h k d) * x3 (ix2 0 0) * x0 (ix3 b r k) := by
  rw [val_main_v12_apply]
  unfold val_main_v11 val_main_v8 val_main_v7 val_main_v6 val_main_v5
  pointwise [dot_S9x20x6144x128_S9x1536x6144_S20x128x1536_02_02_13_1_n_n]
  rfl

end Cert.DwRefIdeal.Hand

end
-- ==== Proof.DwPre.lean ====
module

public import proofs.«01_k».proof.Proof.Gen.Pre_scales_finite
public import Idealize.ShloMosaic.Lib.Pointwise

@[expose] public section

noncomputable section

namespace Cert.Pre_scales_finite.Hand

open Idealize.ShloMosaic Cert.Pre_scales_finite

/-- The precondition says that both scales are nonnegative and finite. -/
theorem scales (x0 : FVec Ideal S9x1536x6144 .bf16) (x1 x2 : FVec Ideal S9x20x6144x128 .fp8e5m2) (x3 x4 : FVec Ideal S1x1 .f32)
    (h : fn (F := Ideal) x0 x1 x2 x3 x4 = fun _ => 1#1) :
    ((0 : EReal) ≤ x3 (ix2 0 0) ∧ (x3 (ix2 0 0) : EReal) ≠ ⊤) ∧ ((0 : EReal) ≤ x4 (ix2 0 0) ∧ (x4 (ix2 0 0) : EReal) ≠ ⊤) := by
  have h' := congrFun h ix0
  unfold fn at h'
  pointwise at h'
  have e : Ideal.ofBits FTy.f32 2139095040#32 = (⊤ : EReal) := by
    simp [Ideal.ofBits, Ideal.ieee]
  rw [e] at h'
  simp only [IntOp.andi_eq_one] at h'
  obtain ⟨⟨⟨a, b⟩, c⟩, d⟩ := h'
  have t : ∀ p : Bool, BitVec.ofBool p = 1#1 → p = true := by decide
  exact ⟨⟨of_decide_eq_true (t _ a), (of_decide_eq_true (t _ b)).ne⟩, ⟨of_decide_eq_true (t _ c), (of_decide_eq_true (t _ d)).ne⟩⟩

end Cert.Pre_scales_finite.Hand

end
-- ==== Proof.DcRefRun.lean ====
module

public import proofs.«01_k».proof.Proof.Gen.DcRefIdeal
public import proofs.«01_k».proof.Proof.Gen.DcRefIdeal.Frame
public import Idealize.ShloMosaic.Lib.StableHlo.Run
public import Idealize.ShloMosaic.Lib.StableHlo.RunRead
public import Idealize.ShloMosaic.Lib.Pipeline.FrameSuffix

@[expose] public section

noncomputable section

namespace Cert.DcRefIdeal.Value

open Cert.DcRefIdeal Cert.DcRefIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v34_0` (window 7's): not opened here. -/
def reg_main_v34_0 (c : Dev nD) : Buf (Elt F) ((c.tc : Thread nD τ).loc main_v34_0) := (Gen.dats m 0 c).arrAt 7 cfg0.N
/-- What the kernel region leaves in its result array `main_v34_1` (window 8's): not opened here. -/
def reg_main_v34_1 (c : Dev nD) : Buf (Elt F) ((c.tc : Thread nD τ).loc main_v34_1) := (Gen.dats m 0 c).arrAt 8 cfg0.N
/-- What the kernel region leaves in its result array `main_v34_2` (window 9's): not opened here. -/
def reg_main_v34_2 (c : Dev nD) : Buf (Elt F) ((c.tc : Thread nD τ).loc main_v34_2) := (Gen.dats m 0 c).arrAt 9 cfg0.N
/-- What the kernel region leaves in its result array `main_v34_3` (window 10's): not opened here. -/
def reg_main_v34_3 (c : Dev nD) : Buf (Elt F) ((c.tc : Thread nD τ).loc main_v34_3) := (Gen.dats m 0 c).arrAt 10 cfg0.N
/-- What the kernel region leaves in its result array `main_v34_4` (window 11's): not opened here. -/
def reg_main_v34_4 (c : Dev nD) : Buf (Elt F) ((c.tc : Thread nD τ).loc main_v34_4) := (Gen.dats m 0 c).arrAt 11 cfg0.N
/-- What the kernel region leaves in its result array `main_v34_5` (window 12's): not opened here. -/
def reg_main_v34_5 (c : Dev nD) : Buf (Elt F) ((c.tc : Thread nD τ).loc main_v34_5) := (Gen.dats m 0 c).arrAt 12 cfg0.N
/-- What the kernel region leaves in its result array `main_v34_6` (window 13's): not opened here. -/
def reg_main_v34_6 (c : Dev nD) : Buf (Elt F) ((c.tc : Thread nD τ).loc main_v34_6) := (Gen.dats m 0 c).arrAt 13 cfg0.N

/-- The exit contents at argument `main_arg0`, which an input window stages: as launched. -/
theorem exit_main_arg0 (c : Dev nD) : exitV m c (Proc.devRef .tc main_arg0) = m ((c.tc : Thread nD τ).loc main_arg0) :=
  ((Pipeline.withArrays_arr spec0 Gen.launch0.win.arr_inj c (Gen.V0 m c) _ 0).trans (((Gen.dats m 0 c).arrAt_in 0 rfl _).trans (Gen.A_eq m c 0))).trans (Gen.V_main_arg0 m c)
/-- The exit contents at argument `main_arg1`, which an input window stages: as launched. -/
theorem exit_main_arg1 (c : Dev nD) : exitV m c (Proc.devRef .tc main_arg1) = m ((c.tc : Thread nD τ).loc main_arg1) :=
  ((Pipeline.withArrays_arr spec0 Gen.launch0.win.arr_inj c (Gen.V0 m c) _ 1).trans (((Gen.dats m 0 c).arrAt_in 1 rfl _).trans (Gen.A_eq m c 1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
/-- The exit contents at argument `main_arg8`: as launched. -/
theorem exit_main_arg8 (c : Dev nD) : exitV m c (Proc.devRef .tc main_arg8) = m ((c.tc : Thread nD τ).loc main_arg8) :=
  (Pipeline.withArrays_of_ne _ c (Gen.V0 m c) _ main_arg8 (by exact (by decide : ∀ w, Pipeline.arrRef spec0 w ≠ main_arg8))).trans (Gen.V_main_arg8 m c)
/-- The exit contents at argument `main_arg9`: as launched. -/
theorem exit_main_arg9 (c : Dev nD) : exitV m c (Proc.devRef .tc main_arg9) = m ((c.tc : Thread nD τ).loc main_arg9) :=
  (Pipeline.withArrays_of_ne _ c (Gen.V0 m c) _ main_arg9 (by exact (by decide : ∀ w, Pipeline.arrRef spec0 w ≠ main_arg9))).trans (Gen.V_main_arg9 m c)
set_option maxRecDepth 8192 in
set_option maxHeartbeats 2000000 in
/-- The exit contents at `main_v14`, computed before the region: its composed term of the arguments' launch contents. -/
theorem exit_main_v14 (c : Dev nD) : exitV m c (Proc.devRef .tc main_v14) = select (cmpf .oeq (Host.reduce FloatOps.maximumf (m ((c.tc : Thread nD τ).loc main_arg8)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg8)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_) :=
  (Pipeline.withArrays_of_ne _ c (Gen.V0 m c) _ main_v14 (by exact (by decide : ∀ w, Pipeline.arrRef spec0 w ≠ main_v14))).trans (by
    show Gen.V0 m c (Proc.devRef .tc main_v14) = _
    simp only [Gen.V0, Gen.hostOps0, Gen.hostOps0_1, Gen.hostOps0_2, Gen.hostOps0_3, Gen.hostOps0_4, Gen.hostOps0_5, Gen.hostOps0_6, Gen.hostOps0_7, Gen.hostOps0_8, TRef.ternary, TRef.unary, TRef.toBuf, TRef.ofBuf, cast_eq, List.flatten_cons, List.flatten_nil, List.append_nil, List.cons_append, List.nil_append]
    after_results_simp <;> rfl)
/-- The exit contents at the region's result array `main_v34_2`. -/
theorem exit_main_v34_2 (c : Dev nD) : exitV m c (Proc.devRef .tc main_v34_2) = reg_main_v34_2 m c :=
  Pipeline.withArrays_arr spec0 Gen.launch0.win.arr_inj c (Gen.V0 m c) _ 9
set_option maxRecDepth 8192 in
set_option maxHeartbeats 2000000 in
/-- The exit contents at `main_v30`, computed before the region: its composed term of the arguments' launch contents. -/
theorem exit_main_v30 (c : Dev nD) : exitV m c (Proc.devRef .tc main_v30) = select (cmpf .oeq (Host.reduce FloatOps.maximumf (m ((c.tc : Thread nD τ).loc main_arg9)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg9)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_) :=
  (Pipeline.withArrays_of_ne _ c (Gen.V0 m c) _ main_v30 (by exact (by decide : ∀ w, Pipeline.arrRef spec0 w ≠ main_v30))).trans (by
    show Gen.V0 m c (Proc.devRef .tc main_v30) = _
    simp only [Gen.V0, Gen.hostOps0, Gen.hostOps0_1, Gen.hostOps0_2, Gen.hostOps0_3, Gen.hostOps0_4, Gen.hostOps0_5, Gen.hostOps0_6, Gen.hostOps0_7, Gen.hostOps0_8, TRef.ternary, TRef.unary, TRef.toBuf, TRef.ofBuf, cast_eq, List.flatten_cons, List.flatten_nil, List.append_nil, List.cons_append, List.nil_append]
    after_results_simp <;> rfl)
/-- The exit contents at the region's result array `main_v34_3`. -/
theorem exit_main_v34_3 (c : Dev nD) : exitV m c (Proc.devRef .tc main_v34_3) = reg_main_v34_3 m c :=
  Pipeline.withArrays_arr spec0 Gen.launch0.win.arr_inj c (Gen.V0 m c) _ 10
/-- The exit contents at the region's result array `main_v34_4`. -/
theorem exit_main_v34_4 (c : Dev nD) : exitV m c (Proc.devRef .tc main_v34_4) = reg_main_v34_4 m c :=
  Pipeline.withArrays_arr spec0 Gen.launch0.win.arr_inj c (Gen.V0 m c) _ 11
/-- The exit contents at the region's result array `main_v34_5`. -/
theorem exit_main_v34_5 (c : Dev nD) : exitV m c (Proc.devRef .tc main_v34_5) = reg_main_v34_5 m c :=
  Pipeline.withArrays_arr spec0 Gen.launch0.win.arr_inj c (Gen.V0 m c) _ 12
/-- The exit contents at the region's result array `main_v34_6`. -/
theorem exit_main_v34_6 (c : Dev nD) : exitV m c (Proc.devRef .tc main_v34_6) = reg_main_v34_6 m c :=
  Pipeline.withArrays_arr spec0 Gen.launch0.win.arr_inj c (Gen.V0 m c) _ 13
/-- The exit contents at the region's result array `main_v34_0`. -/
theorem exit_main_v34_0 (c : Dev nD) : exitV m c (Proc.devRef .tc main_v34_0) = reg_main_v34_0 m c :=
  Pipeline.withArrays_arr spec0 Gen.launch0.win.arr_inj c (Gen.V0 m c) _ 7
/-- The exit contents at the region's result array `main_v34_1`. -/
theorem exit_main_v34_1 (c : Dev nD) : exitV m c (Proc.devRef .tc main_v34_1) = reg_main_v34_1 m c :=
  Pipeline.withArrays_arr spec0 Gen.launch0.win.arr_inj c (Gen.V0 m c) _ 8

set_option maxRecDepth 8192 in
set_option maxHeartbeats 2000000 in
/-- The later operations from any contents `V0`, read at result `main_v62`. -/
theorem tail_main_v62 (V0 : Valuation τ sig (Elt F)) :
    after (List.flatten [Gen.hostOps1]) V0 (Proc.devRef .tc main_v62) = truncf .bf16 (addf (Host.dotGeneral dot_S9x6144x20x128_S1536x20x128_S9x6144x1536_32_21_01_0_n_n none (mulf (V0 (Proc.devRef .tc main_v34_2)) (broadcastInDim S9x6144x20x128 ![] bcast_S_S9x6144x20x128 (truncf .bf16 (V0 (Proc.devRef .tc main_v14)) bitsLt_bf16_f32))) (shapeCast _ (mulf (shapeCast _ (V0 (Proc.devRef .tc main_v34_5)) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (V0 (Proc.devRef .tc main_arg5)) bitsLt_bf16_f32)))) shapeCasts_S12x128x20x128_S1536x20x128)) (Host.dotGeneral dot_S9x6144x20x128_S1536x20x128_S9x6144x1536_32_21_01_0_n_n none (mulf (V0 (Proc.devRef .tc main_v34_3)) (broadcastInDim S9x6144x20x128 ![] bcast_S_S9x6144x20x128 (truncf .bf16 (V0 (Proc.devRef .tc main_v30)) bitsLt_bf16_f32))) (shapeCast _ (mulf (shapeCast _ (V0 (Proc.devRef .tc main_v34_6)) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (V0 (Proc.devRef .tc main_arg7)) bitsLt_bf16_f32)))) shapeCasts_S12x128x20x128_S1536x20x128))) bitsLt_bf16_f32 := by
  simp only [Gen.hostOps1, List.flatten_cons, List.flatten_nil, List.append_nil, List.cons_append, List.nil_append]
  after_results_simp <;> rfl
/-- Result `main_v62` after the later operations from the region's exit contents. -/
theorem fin_main_v62 (c : Dev nD) :
    Pipeline.afterTail₀ cfgs (Gen.dats m) 0 (Gen.V0 m) [Gen.hostOps1] c main_v62 = truncf .bf16 (addf (Host.dotGeneral dot_S9x6144x20x128_S1536x20x128_S9x6144x1536_32_21_01_0_n_n none (mulf (reg_main_v34_2 m c) (broadcastInDim S9x6144x20x128 ![] bcast_S_S9x6144x20x128 (truncf .bf16 (select (cmpf .oeq (Host.reduce FloatOps.maximumf (m ((c.tc : Thread nD τ).loc main_arg8)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg8)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) bitsLt_bf16_f32))) (shapeCast _ (mulf (shapeCast _ (reg_main_v34_5 m c) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (m ((c.tc : Thread nD τ).loc main_arg5)) bitsLt_bf16_f32)))) shapeCasts_S12x128x20x128_S1536x20x128)) (Host.dotGeneral dot_S9x6144x20x128_S1536x20x128_S9x6144x1536_32_21_01_0_n_n none (mulf (reg_main_v34_3 m c) (broadcastInDim S9x6144x20x128 ![] bcast_S_S9x6144x20x128 (truncf .bf16 (select (cmpf .oeq (Host.reduce FloatOps.maximumf (m ((c.tc : Thread nD τ).loc main_arg9)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg9)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) bitsLt_bf16_f32))) (shapeCast _ (mulf (shapeCast _ (reg_main_v34_6 m c) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (m ((c.tc : Thread nD τ).loc main_arg7)) bitsLt_bf16_f32)))) shapeCasts_S12x128x20x128_S1536x20x128))) bitsLt_bf16_f32 :=
  (tail_main_v62 (exitV m c)).trans (by rw [exit_main_arg5, exit_main_arg7, exit_main_v14, exit_main_v34_2, exit_main_v30, exit_main_v34_3, exit_main_v34_5, exit_main_v34_6])

set_option maxRecDepth 8192 in
set_option maxHeartbeats 2000000 in
/-- The later operations from any contents `V0`, read at result `main_v63`. -/
theorem tail_main_v63 (V0 : Valuation τ sig (Elt F)) :
    after (List.flatten [Gen.hostOps1]) V0 (Proc.devRef .tc main_v63) = transpose S9x1536x6144 [0, 2, 1] (shapeCast _ (mulf (shapeCast _ (V0 (Proc.devRef .tc main_v34_4)) shapeCasts_S9x6144x1536_S9x6144x12x128) (broadcastInDim S9x6144x12x128 ![0, 1, 2, 3] bcast_S9x6144x12x1_S9x6144x12x128_0_1_2_3 (broadcastInDim S9x6144x12x1 ![0, 1, 2] bcast_S9x6144x12_S9x6144x12x1_0_1_2 (truncf .bf16 (V0 (Proc.devRef .tc main_arg3)) bitsLt_bf16_f32)))) shapeCasts_S9x6144x12x128_S9x6144x1536) transposes_S9x6144x1536_S9x1536x6144_0_2_1 := by
  simp only [Gen.hostOps1, List.flatten_cons, List.flatten_nil, List.append_nil, List.cons_append, List.nil_append]
  after_results_simp <;> rfl
/-- Result `main_v63` after the later operations from the region's exit contents. -/
theorem fin_main_v63 (c : Dev nD) :
    Pipeline.afterTail₀ cfgs (Gen.dats m) 0 (Gen.V0 m) [Gen.hostOps1] c main_v63 = transpose S9x1536x6144 [0, 2, 1] (shapeCast _ (mulf (shapeCast _ (reg_main_v34_4 m c) shapeCasts_S9x6144x1536_S9x6144x12x128) (broadcastInDim S9x6144x12x128 ![0, 1, 2, 3] bcast_S9x6144x12x1_S9x6144x12x128_0_1_2_3 (broadcastInDim S9x6144x12x1 ![0, 1, 2] bcast_S9x6144x12_S9x6144x12x1_0_1_2 (truncf .bf16 (m ((c.tc : Thread nD τ).loc main_arg3)) bitsLt_bf16_f32)))) shapeCasts_S9x6144x12x128_S9x6144x1536) transposes_S9x6144x1536_S9x1536x6144_0_2_1 :=
  (tail_main_v63 (exitV m c)).trans (by rw [exit_main_arg3, exit_main_v34_4])

set_option maxRecDepth 8192 in
set_option maxHeartbeats 2000000 in
/-- The later operations from any contents `V0`, read at result `main_v64`. -/
theorem tail_main_v64 (V0 : Valuation τ sig (Elt F)) :
    after (List.flatten [Gen.hostOps1]) V0 (Proc.devRef .tc main_v64) = transpose S9x20x6144x128 [0, 2, 1, 3] (V0 (Proc.devRef .tc main_v34_0)) transposes_S9x6144x20x128_S9x20x6144x128_0_2_1_3 := by
  simp only [Gen.hostOps1, List.flatten_cons, List.flatten_nil, List.append_nil, List.cons_append, List.nil_append]
  after_results_simp <;> rfl
/-- Result `main_v64` after the later operations from the region's exit contents. -/
theorem fin_main_v64 (c : Dev nD) :
    Pipeline.afterTail₀ cfgs (Gen.dats m) 0 (Gen.V0 m) [Gen.hostOps1] c main_v64 = transpose S9x20x6144x128 [0, 2, 1, 3] (reg_main_v34_0 m c) transposes_S9x6144x20x128_S9x20x6144x128_0_2_1_3 :=
  (tail_main_v64 (exitV m c)).trans (by rw [exit_main_v34_0])

set_option maxRecDepth 8192 in
set_option maxHeartbeats 2000000 in
/-- The later operations from any contents `V0`, read at result `main_v65`. -/
theorem tail_main_v65 (V0 : Valuation τ sig (Elt F)) :
    after (List.flatten [Gen.hostOps1]) V0 (Proc.devRef .tc main_v65) = transpose S9x20x6144x128 [0, 2, 1, 3] (V0 (Proc.devRef .tc main_v34_1)) transposes_S9x6144x20x128_S9x20x6144x128_0_2_1_3 := by
  simp only [Gen.hostOps1, List.flatten_cons, List.flatten_nil, List.append_nil, List.cons_append, List.nil_append]
  after_results_simp <;> rfl
/-- Result `main_v65` after the later operations from the region's exit contents. -/
theorem fin_main_v65 (c : Dev nD) :
    Pipeline.afterTail₀ cfgs (Gen.dats m) 0 (Gen.V0 m) [Gen.hostOps1] c main_v65 = transpose S9x20x6144x128 [0, 2, 1, 3] (reg_main_v34_1 m c) transposes_S9x6144x20x128_S9x20x6144x128_0_2_1_3 :=
  (tail_main_v65 (exitV m c)).trans (by rw [exit_main_v34_1])

set_option maxRecDepth 8192 in
set_option maxHeartbeats 2000000 in
/-- The later operations from any contents `V0`, read at result `main_v66`. -/
theorem tail_main_v66 (V0 : Valuation τ sig (Elt F)) :
    after (List.flatten [Gen.hostOps1]) V0 (Proc.devRef .tc main_v66) = shapeCast _ (V0 (Proc.devRef .tc main_v14)) shapeCasts_S_S1x1 := by
  simp only [Gen.hostOps1, List.flatten_cons, List.flatten_nil, List.append_nil, List.cons_append, List.nil_append]
  after_results_simp <;> rfl
/-- Result `main_v66` after the later operations from the region's exit contents. -/
theorem fin_main_v66 (c : Dev nD) :
    Pipeline.afterTail₀ cfgs (Gen.dats m) 0 (Gen.V0 m) [Gen.hostOps1] c main_v66 = shapeCast _ (select (cmpf .oeq (Host.reduce FloatOps.maximumf (m ((c.tc : Thread nD τ).loc main_arg8)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg8)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) shapeCasts_S_S1x1 :=
  (tail_main_v66 (exitV m c)).trans (by rw [exit_main_v14])

set_option maxRecDepth 8192 in
set_option maxHeartbeats 2000000 in
/-- The later operations from any contents `V0`, read at result `main_v67`. -/
theorem tail_main_v67 (V0 : Valuation τ sig (Elt F)) :
    after (List.flatten [Gen.hostOps1]) V0 (Proc.devRef .tc main_v67) = shapeCast _ (V0 (Proc.devRef .tc main_v30)) shapeCasts_S_S1x1 := by
  simp only [Gen.hostOps1, List.flatten_cons, List.flatten_nil, List.append_nil, List.cons_append, List.nil_append]
  after_results_simp <;> rfl
/-- Result `main_v67` after the later operations from the region's exit contents. -/
theorem fin_main_v67 (c : Dev nD) :
    Pipeline.afterTail₀ cfgs (Gen.dats m) 0 (Gen.V0 m) [Gen.hostOps1] c main_v67 = shapeCast _ (select (cmpf .oeq (Host.reduce FloatOps.maximumf (m ((c.tc : Thread nD τ).loc main_arg9)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg9)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) shapeCasts_S_S1x1 :=
  (tail_main_v67 (exitV m c)).trans (by rw [exit_main_v30])

set_option maxRecDepth 8192 in
set_option maxHeartbeats 2000000 in
/-- The later operations from any contents `V0`, read at result `main_v73`. -/
theorem tail_main_v73 (V0 : Valuation τ sig (Elt F)) :
    after (List.flatten [Gen.hostOps1]) V0 (Proc.devRef .tc main_v73) = concatenate S16 0 [⟨S1, (broadcastInDim S1 ![] bcast_S_S1 (Host.reduce FloatOps.maximumf (Host.absf (extf .f32 (V0 (Proc.devRef .tc main_arg0)) bitsLt_bf16_f32)) (constant S_ .f32 0xFF800000#32) reducesTo_S9x6144x20x128_S_d0_1_2_3 h_S_))⟩, ⟨S15, (extractStridedSlice S15 ![0] (V0 (Proc.devRef .tc main_arg8)) slices_S16_S15_0)⟩] concatenates_S1_S15_S16_d0 := by
  rw [show List.flatten [Gen.hostOps1 (F := F)] = Gen.hostOps1 from List.append_nil _]
  refine (after_last_write (i := 39) [main_v74, main_v75, main_cst_18, main_v76, main_v77, main_v78, main_v79] rfl rfl (by decide) V0).trans ((binary_result' ..).trans ?_)
  have e1 : upto (Gen.hostOps1 (F := F)) V0 39 (Proc.devRef .tc main_v71) = (broadcastInDim S1 ![] bcast_S_S1 (Host.reduce FloatOps.maximumf (Host.absf (extf .f32 (V0 (Proc.devRef .tc main_arg0)) bitsLt_bf16_f32)) (constant S_ .f32 0xFF800000#32) reducesTo_S9x6144x20x128_S_d0_1_2_3 h_S_)) := by
    simp only [Gen.hostOps1]
    after_reads_simp <;> rfl
  have e2 : upto (Gen.hostOps1 (F := F)) V0 39 (Proc.devRef .tc main_v72) = (extractStridedSlice S15 ![0] (V0 (Proc.devRef .tc main_arg8)) slices_S16_S15_0) := by
    simp only [Gen.hostOps1]
    after_reads_simp <;> rfl
  exact congrArg₂ (fun (p : (⟨S1, .f32⟩ : BufTy).Contents (Elt F)) (q : (⟨S15, .f32⟩ : BufTy).Contents (Elt F)) =>
    (concatenate S16 0 [⟨S1, p⟩, ⟨S15, q⟩] concatenates_S1_S15_S16_d0 : (⟨S16, .f32⟩ : BufTy).Contents (Elt F))) e1 e2
/-- Result `main_v73` after the later operations from the region's exit contents. -/
theorem fin_main_v73 (c : Dev nD) :
    Pipeline.afterTail₀ cfgs (Gen.dats m) 0 (Gen.V0 m) [Gen.hostOps1] c main_v73 = concatenate S16 0 [⟨S1, (broadcastInDim S1 ![] bcast_S_S1 (Host.reduce FloatOps.maximumf (Host.absf (extf .f32 (m ((c.tc : Thread nD τ).loc main_arg0)) bitsLt_bf16_f32)) (constant S_ .f32 0xFF800000#32) reducesTo_S9x6144x20x128_S_d0_1_2_3 h_S_))⟩, ⟨S15, (extractStridedSlice S15 ![0] (m ((c.tc : Thread nD τ).loc main_arg8)) slices_S16_S15_0)⟩] concatenates_S1_S15_S16_d0 :=
  (tail_main_v73 (exitV m c)).trans (by rw [exit_main_arg0, exit_main_arg8])

set_option maxRecDepth 8192 in
set_option maxHeartbeats 2000000 in
/-- The later operations from any contents `V0`, read at result `main_v79`. -/
theorem tail_main_v79 (V0 : Valuation τ sig (Elt F)) :
    after (List.flatten [Gen.hostOps1]) V0 (Proc.devRef .tc main_v79) = concatenate S16 0 [⟨S1, (broadcastInDim S1 ![] bcast_S_S1 (Host.reduce FloatOps.maximumf (Host.absf (extf .f32 (V0 (Proc.devRef .tc main_arg1)) bitsLt_bf16_f32)) (constant S_ .f32 0xFF800000#32) reducesTo_S9x6144x20x128_S_d0_1_2_3 h_S_))⟩, ⟨S15, (extractStridedSlice S15 ![0] (V0 (Proc.devRef .tc main_arg9)) slices_S16_S15_0)⟩] concatenates_S1_S15_S16_d0 := by
  rw [show List.flatten [Gen.hostOps1 (F := F)] = Gen.hostOps1 from List.append_nil _]
  refine (after_last_write (i := 46) [] rfl rfl (by decide) V0).trans ((binary_result' ..).trans ?_)
  have e1 : upto (Gen.hostOps1 (F := F)) V0 46 (Proc.devRef .tc main_v77) = (broadcastInDim S1 ![] bcast_S_S1 (Host.reduce FloatOps.maximumf (Host.absf (extf .f32 (V0 (Proc.devRef .tc main_arg1)) bitsLt_bf16_f32)) (constant S_ .f32 0xFF800000#32) reducesTo_S9x6144x20x128_S_d0_1_2_3 h_S_)) := by
    simp only [Gen.hostOps1]
    after_reads_simp <;> rfl
  have e2 : upto (Gen.hostOps1 (F := F)) V0 46 (Proc.devRef .tc main_v78) = (extractStridedSlice S15 ![0] (V0 (Proc.devRef .tc main_arg9)) slices_S16_S15_0) := by
    simp only [Gen.hostOps1]
    after_reads_simp <;> rfl
  exact congrArg₂ (fun (p : (⟨S1, .f32⟩ : BufTy).Contents (Elt F)) (q : (⟨S15, .f32⟩ : BufTy).Contents (Elt F)) =>
    (concatenate S16 0 [⟨S1, p⟩, ⟨S15, q⟩] concatenates_S1_S15_S16_d0 : (⟨S16, .f32⟩ : BufTy).Contents (Elt F))) e1 e2
/-- Result `main_v79` after the later operations from the region's exit contents. -/
theorem fin_main_v79 (c : Dev nD) :
    Pipeline.afterTail₀ cfgs (Gen.dats m) 0 (Gen.V0 m) [Gen.hostOps1] c main_v79 = concatenate S16 0 [⟨S1, (broadcastInDim S1 ![] bcast_S_S1 (Host.reduce FloatOps.maximumf (Host.absf (extf .f32 (m ((c.tc : Thread nD τ).loc main_arg1)) bitsLt_bf16_f32)) (constant S_ .f32 0xFF800000#32) reducesTo_S9x6144x20x128_S_d0_1_2_3 h_S_))⟩, ⟨S15, (extractStridedSlice S15 ![0] (m ((c.tc : Thread nD τ).loc main_arg9)) slices_S16_S15_0)⟩] concatenates_S1_S15_S16_d0 :=
  (tail_main_v79 (exitV m c)).trans (by rw [exit_main_arg1, exit_main_arg9])

set_option maxHeartbeats 1080000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v62) = truncf .bf16 (addf (Host.dotGeneral dot_S9x6144x20x128_S1536x20x128_S9x6144x1536_32_21_01_0_n_n none (mulf (reg_main_v34_2 m c) (broadcastInDim S9x6144x20x128 ![] bcast_S_S9x6144x20x128 (truncf .bf16 (select (cmpf .oeq (Host.reduce FloatOps.maximumf (m ((c.tc : Thread nD τ).loc main_arg8)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg8)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) bitsLt_bf16_f32))) (shapeCast _ (mulf (shapeCast _ (reg_main_v34_5 m c) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (m ((c.tc : Thread nD τ).loc main_arg5)) bitsLt_bf16_f32)))) shapeCasts_S12x128x20x128_S1536x20x128)) (Host.dotGeneral dot_S9x6144x20x128_S1536x20x128_S9x6144x1536_32_21_01_0_n_n none (mulf (reg_main_v34_3 m c) (broadcastInDim S9x6144x20x128 ![] bcast_S_S9x6144x20x128 (truncf .bf16 (select (cmpf .oeq (Host.reduce FloatOps.maximumf (m ((c.tc : Thread nD τ).loc main_arg9)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg9)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) bitsLt_bf16_f32))) (shapeCast _ (mulf (shapeCast _ (reg_main_v34_6 m c) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (m ((c.tc : Thread nD τ).loc main_arg7)) bitsLt_bf16_f32)))) shapeCasts_S12x128x20x128_S1536x20x128))) bitsLt_bf16_f32
      ∧ r.2.mem ((c.tc : Thread nD τ).loc main_v63) = transpose S9x1536x6144 [0, 2, 1] (shapeCast _ (mulf (shapeCast _ (reg_main_v34_4 m c) shapeCasts_S9x6144x1536_S9x6144x12x128) (broadcastInDim S9x6144x12x128 ![0, 1, 2, 3] bcast_S9x6144x12x1_S9x6144x12x128_0_1_2_3 (broadcastInDim S9x6144x12x1 ![0, 1, 2] bcast_S9x6144x12_S9x6144x12x1_0_1_2 (truncf .bf16 (m ((c.tc : Thread nD τ).loc main_arg3)) bitsLt_bf16_f32)))) shapeCasts_S9x6144x12x128_S9x6144x1536) transposes_S9x6144x1536_S9x1536x6144_0_2_1
      ∧ r.2.mem ((c.tc : Thread nD τ).loc main_v64) = transpose S9x20x6144x128 [0, 2, 1, 3] (reg_main_v34_0 m c) transposes_S9x6144x20x128_S9x20x6144x128_0_2_1_3
      ∧ r.2.mem ((c.tc : Thread nD τ).loc main_v65) = transpose S9x20x6144x128 [0, 2, 1, 3] (reg_main_v34_1 m c) transposes_S9x6144x20x128_S9x20x6144x128_0_2_1_3
      ∧ r.2.mem ((c.tc : Thread nD τ).loc main_v66) = shapeCast _ (select (cmpf .oeq (Host.reduce FloatOps.maximumf (m ((c.tc : Thread nD τ).loc main_arg8)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg8)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) shapeCasts_S_S1x1
      ∧ r.2.mem ((c.tc : Thread nD τ).loc main_v67) = shapeCast _ (select (cmpf .oeq (Host.reduce FloatOps.maximumf (m ((c.tc : Thread nD τ).loc main_arg9)) (constant S_ .f32 0xFF800000#32) reducesTo_S16_S_d0 h_S_) (constant S_ .f32 0x00000000#32)) (id (constant S_ .f32 0x3F800000#32)) (Host.reduce FloatOps.minimumf (select (cmpf .ogt (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (Host.absf (mulf (Host.reduce FloatOps.maximumf (m ((c.tc : Thread nD τ).loc main_arg9)) (constant S_ .f32 0xFF800000#32) reducesTo_S16_S_d0 h_S_) (constant S_ .f32 0x37924925#32))))) (Host.powf (broadcastInDim S253 ![] bcast_S_S253 (constant S_ .f32 0x40000000#32)) (subf (sitofp .f32 (iotaInDim S253 32 0)) (broadcastInDim S253 ![] bcast_S_S253 (constant S_ .f32 0x42FC0000#32)))) (broadcastInDim S253 ![] bcast_S_S253 (id (constant S_ .f32 0x7F800000#32)))) (constant S_ .f32 0x7F800000#32) reducesTo_S253_S_d0 h_S_)) shapeCasts_S_S1x1
      ∧ r.2.mem ((c.tc : Thread nD τ).loc main_v73) = concatenate S16 0 [⟨S1, (broadcastInDim S1 ![] bcast_S_S1 (Host.reduce FloatOps.maximumf (Host.absf (extf .f32 (m ((c.tc : Thread nD τ).loc main_arg0)) bitsLt_bf16_f32)) (constant S_ .f32 0xFF800000#32) reducesTo_S9x6144x20x128_S_d0_1_2_3 h_S_))⟩, ⟨S15, (extractStridedSlice S15 ![0] (m ((c.tc : Thread nD τ).loc main_arg8)) slices_S16_S15_0)⟩] concatenates_S1_S15_S16_d0
      ∧ r.2.mem ((c.tc : Thread nD τ).loc main_v79) = concatenate S16 0 [⟨S1, (broadcastInDim S1 ![] bcast_S_S1 (Host.reduce FloatOps.maximumf (Host.absf (extf .f32 (m ((c.tc : Thread nD τ).loc main_arg1)) bitsLt_bf16_f32)) (constant S_ .f32 0xFF800000#32) reducesTo_S9x6144x20x128_S_d0_1_2_3 h_S_))⟩, ⟨S15, (extractStridedSlice S15 ![0] (m ((c.tc : Thread nD τ).loc main_arg9)) slices_S16_S15_0)⟩] concatenates_S1_S15_S16_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v62 (Pipeline.mem_restRefs_of main_v62 (by decide) (by decide))).trans (fin_main_v62 m c),
      ((h c).2 main_v63 (Pipeline.mem_restRefs_of main_v63 (by decide) (by decide))).trans (fin_main_v63 m c),
      ((h c).2 main_v64 (Pipeline.mem_restRefs_of main_v64 (by decide) (by decide))).trans (fin_main_v64 m c),
      ((h c).2 main_v65 (Pipeline.mem_restRefs_of main_v65 (by decide) (by decide))).trans (fin_main_v65 m c),
      ((h c).2 main_v66 (Pipeline.mem_restRefs_of main_v66 (by decide) (by decide))).trans (fin_main_v66 m c),
      ((h c).2 main_v67 (Pipeline.mem_restRefs_of main_v67 (by decide) (by decide))).trans (fin_main_v67 m c),
      ((h c).2 main_v73 (Pipeline.mem_restRefs_of main_v73 (by decide) (by decide))).trans (fin_main_v73 m c),
      ((h c).2 main_v79 (Pipeline.mem_restRefs_of main_v79 (by decide) (by decide))).trans (fin_main_v79 m c),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c))),
      ((h c).1 4).trans (((Gen.dats m 0 c).arrAt_in 4 rfl _).trans ((Gen.A_eq m c 4).trans (Gen.V_main_arg2 m c))),
      ((h c).2 main_arg3 (Pipeline.mem_restRefs_of main_arg3 (by decide) (by decide))).trans (Gen.W_main_arg3 m (Gen.dats m) c),
      ((h c).1 5).trans (((Gen.dats m 0 c).arrAt_in 5 rfl _).trans ((Gen.A_eq m c 5).trans (Gen.V_main_arg4 m c))),
      ((h c).2 main_arg5 (Pipeline.mem_restRefs_of main_arg5 (by decide) (by decide))).trans (Gen.W_main_arg5 m (Gen.dats m) c),
      ((h c).1 6).trans (((Gen.dats m 0 c).arrAt_in 6 rfl _).trans ((Gen.A_eq m c 6).trans (Gen.V_main_arg6 m c))),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c)⟩) (Gen.run_main m ρ)

end Cert.DcRefIdeal.Value

end
-- ==== Proof.DcRefRead.lean ====
module

public import proofs.«01_k».proof.Proof.DcRefRun
public import Idealize.ShloMosaic.Lib.Pipeline.Value

@[expose] public section

noncomputable section

namespace Cert.DcRefIdeal.Read

open Cert.DcRefIdeal Cert.DcRefIdeal.Gen Idealize.ShloMosaic Idealize.ShloMosaic.TcCoe Idealize.SL.Sem Idealize.ShloMosaic.StableHlo

variable {F : FTy → Type} [FloatOps F]

-- %35 = stablehlo.convert %14 : (tensor<f32>) -> tensor<bf16>
def val_main_v35 (e0 : (⟨S_, .f32⟩ : BufTy).Contents (Elt F)) : (⟨S_, .bf16⟩ : BufTy).Contents (Elt F) :=
  truncf .bf16 (e0) bitsLt_bf16_f32
theorem val_main_v35_apply (e0 : (⟨S_, .f32⟩ : BufTy).Contents (Elt F)) (i : S_.Idx) :
    val_main_v35 (F := F) e0 i = FloatOps.truncf .bf16 bitsLt_bf16_f32 (e0 i) := rfl

-- %36 = stablehlo.broadcast_in_dim %35, dims = [] : (tensor<bf16>) -> tensor<9x6144x20x128xbf16>
def val_main_v36 (e0 : (⟨S_, .f32⟩ : BufTy).Contents (Elt F)) : (⟨S9x6144x20x128, .bf16⟩ : BufTy).Contents (Elt F) :=
  broadcastInDim S9x6144x20x128 ![] bcast_S_S9x6144x20x128 (val_main_v35 (F := F) e0)
abbrev idx_main_v36 (i : S9x6144x20x128.Idx) : S_.Idx := fun a => a.elim0
theorem val_main_v36_apply (e0 : (⟨S_, .f32⟩ : BufTy).Contents (Elt F)) (i : S9x6144x20x128.Idx) :
    val_main_v36 (F := F) e0 i = val_main_v35 (F := F) e0 (idx_main_v36 i) := by
  unfold val_main_v36
  generalize val_main_v35 (F := F) e0 = y
  exact broadcastInDim_apply _ bcast_S_S9x6144x20x128 y i (idx_main_v36 i) (fun a => a.elim0)

-- %37 = stablehlo.multiply %34#2, %36 : tensor<9x6144x20x128xbf16>
def val_main_v37 (r2 : (⟨S9x6144x20x128, .bf16⟩ : BufTy).Contents (Elt F)) (e0 : (⟨S_, .f32⟩ : BufTy).Contents (Elt F)) : (⟨S9x6144x20x128, .bf16⟩ : BufTy).Contents (Elt F) :=
  mulf (r2) (val_main_v36 (F := F) e0)
theorem val_main_v37_apply (r2 : (⟨S9x6144x20x128, .bf16⟩ : BufTy).Contents (Elt F)) (e0 : (⟨S_, .f32⟩ : BufTy).Contents (Elt F)) (i : S9x6144x20x128.Idx) :
    val_main_v37 (F := F) r2 e0 i = FloatOps.mulf (r2 i) (val_main_v36 (F := F) e0 i) := rfl

-- %38 = stablehlo.convert %30 : (tensor<f32>) -> tensor<bf16>
def val_main_v38 (e1 : (⟨S_, .f32⟩ : BufTy).Contents (Elt F)) : (⟨S_, .bf16⟩ : BufTy).Contents (Elt F) :=
  truncf .bf16 (e1) bitsLt_bf16_f32
theorem val_main_v38_apply (e1 : (⟨S_, .f32⟩ : BufTy).Contents (Elt F)) (i : S_.Idx) :
    val_main_v38 (F := F) e1 i = FloatOps.truncf .bf16 bitsLt_bf16_f32 (e1 i) := rfl

-- %39 = stablehlo.broadcast_in_dim %38, dims = [] : (tensor<bf16>) -> tensor<9x6144x20x128xbf16>
def val_main_v39 (e1 : (⟨S_, .f32⟩ : BufTy).Contents (Elt F)) : (⟨S9x6144x20x128, .bf16⟩ : BufTy).Contents (Elt F) :=
  broadcastInDim S9x6144x20x128 ![] bcast_S_S9x6144x20x128 (val_main_v38 (F := F) e1)
abbrev idx_main_v39 (i : S9x6144x20x128.Idx) : S_.Idx := fun a => a.elim0
theorem val_main_v39_apply (e1 : (⟨S_, .f32⟩ : BufTy).Contents (Elt F)) (i : S9x6144x20x128.Idx) :
    val_main_v39 (F := F) e1 i = val_main_v38 (F := F) e1 (idx_main_v39 i) := by
  unfold val_main_v39
  generalize val_main_v38 (F := F) e1 = y
  exact broadcastInDim_apply _ bcast_S_S9x6144x20x128 y i (idx_main_v39 i) (fun a => a.elim0)

-- %40 = stablehlo.multiply %34#3, %39 : tensor<9x6144x20x128xbf16>
def val_main_v40 (r3 : (⟨S9x6144x20x128, .bf16⟩ : BufTy).Contents (Elt F)) (e1 : (⟨S_, .f32⟩ : BufTy).Contents (Elt F)) : (⟨S9x6144x20x128, .bf16⟩ : BufTy).Contents (Elt F) :=
  mulf (r3) (val_main_v39 (F := F) e1)
theorem val_main_v40_apply (r3 : (⟨S9x6144x20x128, .bf16⟩ : BufTy).Contents (Elt F)) (e1 : (⟨S_, .f32⟩ : BufTy).Contents (Elt F)) (i : S9x6144x20x128.Idx) :
    val_main_v40 (F := F) r3 e1 i = FloatOps.mulf (r3 i) (val_main_v39 (F := F) e1 i) := rfl

-- %41 = stablehlo.reshape %34#4 : (tensor<9x6144x1536xbf16>) -> tensor<9x6144x12x128xbf16>
def val_main_v41 (r4 : (⟨S9x6144x1536, .bf16⟩ : BufTy).Contents (Elt F)) : (⟨S9x6144x12x128, .bf16⟩ : BufTy).Contents (Elt F) :=
  shapeCast _ (r4) shapeCasts_S9x6144x1536_S9x6144x12x128
set_option backward.proofsInPublic true in
abbrev idx_main_v41 (i : S9x6144x12x128.Idx) : S9x6144x1536.Idx := fun a => match a with
  | ⟨0, _⟩ => ⟨((((i 0).val * 6144 + (i 1).val) * 12 + (i 2).val) * 128 + (i 3).val) / 9437184, by have h0 : (i 0).val < 9 := (i 0).isLt; have h1 : (i 1).val < 6144 := (i 1).isLt; have h2 : (i 2).val < 12 := (i 2).isLt; have h3 : (i 3).val < 128 := (i 3).isLt; show ((((i 0).val * 6144 + (i 1).val) * 12 + (i 2).val) * 128 + (i 3).val) / 9437184 < 9; omega⟩
  | ⟨1, _⟩ => ⟨((((i 0).val * 6144 + (i 1).val) * 12 + (i 2).val) * 128 + (i 3).val) / 1536 % 6144, by have h0 : (i 0).val < 9 := (i 0).isLt; have h1 : (i 1).val < 6144 := (i 1).isLt; have h2 : (i 2).val < 12 := (i 2).isLt; have h3 : (i 3).val < 128 := (i 3).isLt; show ((((i 0).val * 6144 + (i 1).val) * 12 + (i 2).val) * 128 + (i 3).val) / 1536 % 6144 < 6144; omega⟩
  | ⟨2, _⟩ => ⟨((((i 0).val * 6144 + (i 1).val) * 12 + (i 2).val) * 128 + (i 3).val) % 1536, by have h0 : (i 0).val < 9 := (i 0).isLt; have h1 : (i 1).val < 6144 := (i 1).isLt; have h2 : (i 2).val < 12 := (i 2).isLt; have h3 : (i 3).val < 128 := (i 3).isLt; show ((((i 0).val * 6144 + (i 1).val) * 12 + (i 2).val) * 128 + (i 3).val) % 1536 < 1536; omega⟩
theorem val_main_v41_apply (r4 : (⟨S9x6144x1536, .bf16⟩ : BufTy).Contents (Elt F)) (i : S9x6144x12x128.Idx) :
    val_main_v41 (F := F) r4 i = r4 (idx_main_v41 i) := by
  unfold val_main_v41
  exact shapeCast_apply r4 shapeCasts_S9x6144x1536_S9x6144x12x128 i (idx_main_v41 i)
    (by rewrite [Shape.rowMajor_val_three, Shape.rowMajor_val_four]; have h0 : (i 0).val < 9 := (i 0).isLt; have h1 : (i 1).val < 6144 := (i 1).isLt; have h2 : (i 2).val < 12 := (i 2).isLt; have h3 : (i 3).val < 128 := (i 3).isLt; show (((((i 0).val * 6144 + (i 1).val) * 12 + (i 2).val) * 128 + (i 3).val) / 9437184 * 6144 + ((((i 0).val * 6144 + (i 1).val) * 12 + (i 2).val) * 128 + (i 3).val) / 1536 % 6144) * 1536 + ((((i 0).val * 6144 + (i 1).val) * 12 + (i 2).val) * 128 + (i 3).val) % 1536 = (((i 0).val * 6144 + (i 1).val) * 12 + (i 2).val) * 128 + (i 3).val; omega)

-- %42 = stablehlo.convert %arg3 : (tensor<9x6144x12xf32>) -> tensor<9x6144x12xbf16>
def val_main_v42 (x3 : (⟨S9x6144x12, .f32⟩ : BufTy).Contents (Elt F)) : (⟨S9x6144x12, .bf16⟩ : BufTy).Contents (Elt F) :=
  truncf .bf16 (x3) bitsLt_bf16_f32
theorem val_main_v42_apply (x3 : (⟨S9x6144x12, .f32⟩ : BufTy).Contents (Elt F)) (i : S9x6144x12.Idx) :
    val_main_v42 (F := F) x3 i = FloatOps.truncf .bf16 bitsLt_bf16_f32 (x3 i) := rfl

-- %43 = stablehlo.broadcast_in_dim %42, dims = [0, 1, 2] : (tensor<9x6144x12xbf16>) -> tensor<9x6144x12x1xbf16>
def val_main_v43 (x3 : (⟨S9x6144x12, .f32⟩ : BufTy).Contents (Elt F)) : (⟨S9x6144x12x1, .bf16⟩ : BufTy).Contents (Elt F) :=
  broadcastInDim S9x6144x12x1 ![0, 1, 2] bcast_S9x6144x12_S9x6144x12x1_0_1_2 (val_main_v42 (F := F) x3)
abbrev idx_main_v43 (i : S9x6144x12x1.Idx) : S9x6144x12.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v43_apply (x3 : (⟨S9x6144x12, .f32⟩ : BufTy).Contents (Elt F)) (i : S9x6144x12x1.Idx) :
    val_main_v43 (F := F) x3 i = val_main_v42 (F := F) x3 (idx_main_v43 i) := by
  unfold val_main_v43
  generalize val_main_v42 (F := F) x3 = y
  exact broadcastInDim_apply _ bcast_S9x6144x12_S9x6144x12x1_0_1_2 y i (idx_main_v43 i) (fun a => match a with
    | ⟨0, _⟩ => by show (i 0).val = if (9 : Nat) = 1 then 0 else (i 0).val; rw [if_neg (by decide)]
    | ⟨1, _⟩ => by show (i 1).val = if (6144 : Nat) = 1 then 0 else (i 1).val; rw [if_neg (by decide)]
    | ⟨2, _⟩ => by show (i 2).val = if (12 : Nat) = 1 then 0 else (i 2).val; rw [if_neg (by decide)])

-- %44 = stablehlo.broadcast_in_dim %43, dims = [0, 1, 2, 3] : (tensor<9x6144x12x1xbf16>) -> tensor<9x6144x12x128xbf16>
def val_main_v44 (x3 : (⟨S9x6144x12, .f32⟩ : BufTy).Contents (Elt F)) : (⟨S9x6144x12x128, .bf16⟩ : BufTy).Contents (Elt F) :=
  broadcastInDim S9x6144x12x128 ![0, 1, 2, 3] bcast_S9x6144x12x1_S9x6144x12x128_0_1_2_3 (val_main_v43 (F := F) x3)
abbrev idx_main_v44 (i : S9x6144x12x128.Idx) : S9x6144x12x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v44_apply (x3 : (⟨S9x6144x12, .f32⟩ : BufTy).Contents (Elt F)) (i : S9x6144x12x128.Idx) :
    val_main_v44 (F := F) x3 i = val_main_v43 (F := F) x3 (idx_main_v44 i) := by
  unfold val_main_v44
  generalize val_main_v43 (F := F) x3 = y
  exact broadcastInDim_apply _ bcast_S9x6144x12x1_S9x6144x12x128_0_1_2_3 y i (idx_main_v44 i) (fun a => match a with
    | ⟨0, _⟩ => by show (i 0).val = if (9 : Nat) = 1 then 0 else (i 0).val; rw [if_neg (by decide)]
    | ⟨1, _⟩ => by show (i 1).val = if (6144 : Nat) = 1 then 0 else (i 1).val; rw [if_neg (by decide)]
    | ⟨2, _⟩ => by show (i 2).val = if (12 : Nat) = 1 then 0 else (i 2).val; rw [if_neg (by decide)]
    | ⟨3, _⟩ => by show 0 = if (1 : Nat) = 1 then 0 else (i 3).val; rw [if_pos rfl])

-- %45 = stablehlo.multiply %41, %44 : tensor<9x6144x12x128xbf16>
def val_main_v45 (x3 : (⟨S9x6144x12, .f32⟩ : BufTy).Contents (Elt F)) (r4 : (⟨S9x6144x1536, .bf16⟩ : BufTy).Contents (Elt F)) : (⟨S9x6144x12x128, .bf16⟩ : BufTy).Contents (Elt F) :=
  mulf (val_main_v41 (F := F) r4) (val_main_v44 (F := F) x3)
theorem val_main_v45_apply (x3 : (⟨S9x6144x12, .f32⟩ : BufTy).Contents (Elt F)) (r4 : (⟨S9x6144x1536, .bf16⟩ : BufTy).Contents (Elt F)) (i : S9x6144x12x128.Idx) :
    val_main_v45 (F := F) x3 r4 i = FloatOps.mulf (val_main_v41 (F := F) r4 i) (val_main_v44 (F := F) x3 i) := rfl

-- %46 = stablehlo.reshape %45 : (tensor<9x6144x12x128xbf16>) -> tensor<9x6144x1536xbf16>
def val_main_v46 (x3 : (⟨S9x6144x12, .f32⟩ : BufTy).Contents (Elt F)) (r4 : (⟨S9x6144x1536, .bf16⟩ : BufTy).Contents (Elt F)) : (⟨S9x6144x1536, .bf16⟩ : BufTy).Contents (Elt F) :=
  shapeCast _ (val_main_v45 (F := F) x3 r4) shapeCasts_S9x6144x12x128_S9x6144x1536
set_option backward.proofsInPublic true in
abbrev idx_main_v46 (i : S9x6144x1536.Idx) : S9x6144x12x128.Idx := fun a => match a with
  | ⟨0, _⟩ => ⟨(((i 0).val * 6144 + (i 1).val) * 1536 + (i 2).val) / 9437184, by have h0 : (i 0).val < 9 := (i 0).isLt; have h1 : (i 1).val < 6144 := (i 1).isLt; have h2 : (i 2).val < 1536 := (i 2).isLt; show (((i 0).val * 6144 + (i 1).val) * 1536 + (i 2).val) / 9437184 < 9; omega⟩
  | ⟨1, _⟩ => ⟨(((i 0).val * 6144 + (i 1).val) * 1536 + (i 2).val) / 1536 % 6144, by have h0 : (i 0).val < 9 := (i 0).isLt; have h1 : (i 1).val < 6144 := (i 1).isLt; have h2 : (i 2).val < 1536 := (i 2).isLt; show (((i 0).val * 6144 + (i 1).val) * 1536 + (i 2).val) / 1536 % 6144 < 6144; omega⟩
  | ⟨2, _⟩ => ⟨(((i 0).val * 6144 + (i 1).val) * 1536 + (i 2).val) / 128 % 12, by have h0 : (i 0).val < 9 := (i 0).isLt; have h1 : (i 1).val < 6144 := (i 1).isLt; have h2 : (i 2).val < 1536 := (i 2).isLt; show (((i 0).val * 6144 + (i 1).val) * 1536 + (i 2).val) / 128 % 12 < 12; omega⟩
  | ⟨3, _⟩ => ⟨(((i 0).val * 6144 + (i 1).val) * 1536 + (i 2).val) % 128, by have h0 : (i 0).val < 9 := (i 0).isLt; have h1 : (i 1).val < 6144 := (i 1).isLt; have h2 : (i 2).val < 1536 := (i 2).isLt; show (((i 0).val * 6144 + (i 1).val) * 1536 + (i 2).val) % 128 < 128; omega⟩
theorem val_main_v46_apply (x3 : (⟨S9x6144x12, .f32⟩ : BufTy).Contents (Elt F)) (r4 : (⟨S9x6144x1536, .bf16⟩ : BufTy).Contents (Elt F)) (i : S9x6144x1536.Idx) :
    val_main_v46 (F := F) x3 r4 i = val_main_v45 (F := F) x3 r4 (idx_main_v46 i) := by
  unfold val_main_v46
  generalize val_main_v45 (F := F) x3 r4 = y
  exact shapeCast_apply y shapeCasts_S9x6144x12x128_S9x6144x1536 i (idx_main_v46 i)
    (by rewrite [Shape.rowMajor_val_four, Shape.rowMajor_val_three]; have h0 : (i 0).val < 9 := (i 0).isLt; have h1 : (i 1).val < 6144 := (i 1).isLt; have h2 : (i 2).val < 1536 := (i 2).isLt; show (((((i 0).val * 6144 + (i 1).val) * 1536 + (i 2).val) / 9437184 * 6144 + (((i 0).val * 6144 + (i 1).val) * 1536 + (i 2).val) / 1536 % 6144) * 12 + (((i 0).val * 6144 + (i 1).val) * 1536 + (i 2).val) / 128 % 12) * 128 + (((i 0).val * 6144 + (i 1).val) * 1536 + (i 2).val) % 128 = ((i 0).val * 6144 + (i 1).val) * 1536 + (i 2).val; omega)

-- %47 = stablehlo.reshape %34#5 : (tensor<1536x20x128xbf16>) -> tensor<12x128x20x128xbf16>
def val_main_v47 (r5 : (⟨S1536x20x128, .bf16⟩ : BufTy).Contents (Elt F)) : (⟨S12x128x20x128, .bf16⟩ : BufTy).Contents (Elt F) :=
  shapeCast _ (r5) shapeCasts_S1536x20x128_S12x128x20x128
set_option backward.proofsInPublic true in
abbrev idx_main_v47 (i : S12x128x20x128.Idx) : S1536x20x128.Idx := fun a => match a with
  | ⟨0, _⟩ => ⟨((((i 0).val * 128 + (i 1).val) * 20 + (i 2).val) * 128 + (i 3).val) / 2560, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) / 2560 < 1536; omega⟩
  | ⟨1, _⟩ => ⟨((((i 0).val * 128 + (i 1).val) * 20 + (i 2).val) * 128 + (i 3).val) / 128 % 20, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) / 128 % 20 < 20; omega⟩
  | ⟨2, _⟩ => ⟨((((i 0).val * 128 + (i 1).val) * 20 + (i 2).val) * 128 + (i 3).val) % 128, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) % 128 < 128; omega⟩
theorem val_main_v47_apply (r5 : (⟨S1536x20x128, .bf16⟩ : BufTy).Contents (Elt F)) (i : S12x128x20x128.Idx) :
    val_main_v47 (F := F) r5 i = r5 (idx_main_v47 i) := by
  unfold val_main_v47
  exact shapeCast_apply r5 shapeCasts_S1536x20x128_S12x128x20x128 i (idx_main_v47 i)
    (by rewrite [Shape.rowMajor_val_three, Shape.rowMajor_val_four]; have h0 : (i 0).val < 12 := (i 0).isLt; have h1 : (i 1).val < 128 := (i 1).isLt; have h2 : (i 2).val < 20 := (i 2).isLt; have h3 : (i 3).val < 128 := (i 3).isLt; show (((((i 0).val * 128 + (i 1).val) * 20 + (i 2).val) * 128 + (i 3).val) / 2560 * 20 + ((((i 0).val * 128 + (i 1).val) * 20 + (i 2).val) * 128 + (i 3).val) / 128 % 20) * 128 + ((((i 0).val * 128 + (i 1).val) * 20 + (i 2).val) * 128 + (i 3).val) % 128 = (((i 0).val * 128 + (i 1).val) * 20 + (i 2).val) * 128 + (i 3).val; omega)

-- %48 = stablehlo.convert %arg5 : (tensor<12x20xf32>) -> tensor<12x20xbf16>
def val_main_v48 (x5 : (⟨S12x20, .f32⟩ : BufTy).Contents (Elt F)) : (⟨S12x20, .bf16⟩ : BufTy).Contents (Elt F) :=
  truncf .bf16 (x5) bitsLt_bf16_f32
theorem val_main_v48_apply (x5 : (⟨S12x20, .f32⟩ : BufTy).Contents (Elt F)) (i : S12x20.Idx) :
    val_main_v48 (F := F) x5 i = FloatOps.truncf .bf16 bitsLt_bf16_f32 (x5 i) := rfl

-- %49 = stablehlo.broadcast_in_dim %48, dims = [0, 2] : (tensor<12x20xbf16>) -> tensor<12x1x20x1xbf16>
def val_main_v49 (x5 : (⟨S12x20, .f32⟩ : BufTy).Contents (Elt F)) : (⟨S12x1x20x1, .bf16⟩ : BufTy).Contents (Elt F) :=
  broadcastInDim S12x1x20x1 ![0, 2] bcast_S12x20_S12x1x20x1_0_2 (val_main_v48 (F := F) x5)
abbrev idx_main_v49 (i : S12x1x20x1.Idx) : S12x20.Idx := fun a => match a with
  | ⟨0, _⟩ => ⟨(i 0).val, (i 0).isLt⟩
  | ⟨1, _⟩ => ⟨(i 2).val, (i 2).isLt⟩
theorem val_main_v49_apply (x5 : (⟨S12x20, .f32⟩ : BufTy).Contents (Elt F)) (i : S12x1x20x1.Idx) :
    val_main_v49 (F := F) x5 i = val_main_v48 (F := F) x5 (idx_main_v49 i) := by
  unfold val_main_v49
  generalize val_main_v48 (F := F) x5 = y
  exact broadcastInDim_apply _ bcast_S12x20_S12x1x20x1_0_2 y i (idx_main_v49 i) (fun a => match a with
    | ⟨0, _⟩ => by show (i 0).val = if (12 : Nat) = 1 then 0 else (i 0).val; rw [if_neg (by decide)]
    | ⟨1, _⟩ => by show (i 2).val = if (20 : Nat) = 1 then 0 else (i 2).val; rw [if_neg (by decide)])

-- %50 = stablehlo.broadcast_in_dim %49, dims = [0, 1, 2, 3] : (tensor<12x1x20x1xbf16>) -> tensor<12x128x20x128xbf16>
def val_main_v50 (x5 : (⟨S12x20, .f32⟩ : BufTy).Contents (Elt F)) : (⟨S12x128x20x128, .bf16⟩ : BufTy).Contents (Elt F) :=
  broadcastInDim S12x128x20x128 ![0, 1, 2, 3] bcast_S12x1x20x1_S12x128x20x128_0_1_2_3 (val_main_v49 (F := F) x5)
abbrev idx_main_v50 (i : S12x128x20x128.Idx) : S12x1x20x1.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
theorem val_main_v50_apply (x5 : (⟨S12x20, .f32⟩ : BufTy).Contents (Elt F)) (i : S12x128x20x128.Idx) :
    val_main_v50 (F := F) x5 i = val_main_v49 (F := F) x5 (idx_main_v50 i) := by
  unfold val_main_v50
  generalize val_main_v49 (F := F) x5 = y
  exact broadcastInDim_apply _ bcast_S12x1x20x1_S12x128x20x128_0_1_2_3 y i (idx_main_v50 i) (fun a => match a with
    | ⟨0, _⟩ => by show (i 0).val = if (12 : Nat) = 1 then 0 else (i 0).val; rw [if_neg (by decide)]
    | ⟨1, _⟩ => by show 0 = if (1 : Nat) = 1 then 0 else (i 1).val; rw [if_pos rfl]
    | ⟨2, _⟩ => by show (i 2).val = if (20 : Nat) = 1 then 0 else (i 2).val; rw [if_neg (by decide)]
    | ⟨3, _⟩ => by show 0 = if (1 : Nat) = 1 then 0 else (i 3).val; rw [if_pos rfl])

-- %51 = stablehlo.multiply %47, %50 : tensor<12x128x20x128xbf16>
def val_main_v51 (x5 : (⟨S12x20, .f32⟩ : BufTy).Contents (Elt F)) (r5 : (⟨S1536x20x128, .bf16⟩ : BufTy).Contents (Elt F)) : (⟨S12x128x20x128, .bf16⟩ : BufTy).Contents (Elt F) :=
  mulf (val_main_v47 (F := F) r5) (val_main_v50 (F := F) x5)
theorem val_main_v51_apply (x5 : (⟨S12x20, .f32⟩ : BufTy).Contents (Elt F)) (r5 : (⟨S1536x20x128, .bf16⟩ : BufTy).Contents (Elt F)) (i : S12x128x20x128.Idx) :
    val_main_v51 (F := F) x5 r5 i = FloatOps.mulf (val_main_v47 (F := F) r5 i) (val_main_v50 (F := F) x5 i) := rfl

-- %52 = stablehlo.reshape %51 : (tensor<12x128x20x128xbf16>) -> tensor<1536x20x128xbf16>
def val_main_v52 (x5 : (⟨S12x20, .f32⟩ : BufTy).Contents (Elt F)) (r5 : (⟨S1536x20x128, .bf16⟩ : BufTy).Contents (Elt F)) : (⟨S1536x20x128, .bf16⟩ : BufTy).Contents (Elt F) :=
  shapeCast _ (val_main_v51 (F := F) x5 r5) shapeCasts_S12x128x20x128_S1536x20x128
set_option backward.proofsInPublic true in
abbrev idx_main_v52 (i : S1536x20x128.Idx) : S12x128x20x128.Idx := fun a => match a with
  | ⟨0, _⟩ => ⟨(((i 0).val * 20 + (i 1).val) * 128 + (i 2).val) / 327680, by have h0 : (i 0).val < 1536 := (i 0).isLt; have h1 : (i 1).val < 20 := (i 1).isLt; have h2 : (i 2).val < 128 := (i 2).isLt; show (((i 0).val * 20 + (i 1).val) * 128 + (i 2).val) / 327680 < 12; omega⟩
  | ⟨1, _⟩ => ⟨(((i 0).val * 20 + (i 1).val) * 128 + (i 2).val) / 2560 % 128, by have h0 : (i 0).val < 1536 := (i 0).isLt; have h1 : (i 1).val < 20 := (i 1).isLt; have h2 : (i 2).val < 128 := (i 2).isLt; show (((i 0).val * 20 + (i 1).val) * 128 + (i 2).val) / 2560 % 128 < 128; omega⟩
  | ⟨2, _⟩ => ⟨(((i 0).val * 20 + (i 1).val) * 128 + (i 2).val) / 128 % 20, by have h0 : (i 0).val < 1536 := (i 0).isLt; have h1 : (i 1).val < 20 := (i 1).isLt; have h2 : (i 2).val < 128 := (i 2).isLt; show (((i 0).val * 20 + (i 1).val) * 128 + (i 2).val) / 128 % 20 < 20; omega⟩
  | ⟨3, _⟩ => ⟨(((i 0).val * 20 + (i 1).val) * 128 + (i 2).val) % 128, by have h0 : (i 0).val < 1536 := (i 0).isLt; have h1 : (i 1).val < 20 := (i 1).isLt; have h2 : (i 2).val < 128 := (i 2).isLt; show (((i 0).val * 20 + (i 1).val) * 128 + (i 2).val) % 128 < 128; omega⟩
theorem val_main_v52_apply (x5 : (⟨S12x20, .f32⟩ : BufTy).Contents (Elt F)) (r5 : (⟨S1536x20x128, .bf16⟩ : BufTy).Contents (Elt F)) (i : S1536x20x128.Idx) :
    val_main_v52 (F := F) x5 r5 i = val_main_v51 (F := F) x5 r5 (idx_main_v52 i) := by
  unfold val_main_v52
  generalize val_main_v51 (F := F) x5 r5 = y
  exact shapeCast_apply y shapeCasts_S12x128x20x128_S1536x20x128 i (idx_main_v52 i)
    (by rewrite [Shape.rowMajor_val_four, Shape.rowMajor_val_three]; have h0 : (i 0).val < 1536 := (i 0).isLt; have h1 : (i 1).val < 20 := (i 1).isLt; have h2 : (i 2).val < 128 := (i 2).isLt; show (((((i 0).val * 20 + (i 1).val) * 128 + (i 2).val) / 327680 * 128 + (((i 0).val * 20 + (i 1).val) * 128 + (i 2).val) / 2560 % 128) * 20 + (((i 0).val * 20 + (i 1).val) * 128 + (i 2).val) / 128 % 20) * 128 + (((i 0).val * 20 + (i 1).val) * 128 + (i 2).val) % 128 = ((i 0).val * 20 + (i 1).val) * 128 + (i 2).val; omega)

-- %53 = stablehlo.reshape %34#6 : (tensor<1536x20x128xbf16>) -> tensor<12x128x20x128xbf16>
def val_main_v53 (r6 : (⟨S1536x20x128, .bf16⟩ : BufTy).Contents (Elt F)) : (⟨S12x128x20x128, .bf16⟩ : BufTy).Contents (Elt F) :=
  shapeCast _ (r6) shapeCasts_S1536x20x128_S12x128x20x128
set_option backward.proofsInPublic true in
abbrev idx_main_v53 (i : S12x128x20x128.Idx) : S1536x20x128.Idx := fun a => match a with
  | ⟨0, _⟩ => ⟨((((i 0).val * 128 + (i 1).val) * 20 + (i 2).val) * 128 + (i 3).val) / 2560, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) / 2560 < 1536; omega⟩
  | ⟨1, _⟩ => ⟨((((i 0).val * 128 + (i 1).val) * 20 + (i 2).val) * 128 + (i 3).val) / 128 % 20, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) / 128 % 20 < 20; omega⟩
  | ⟨2, _⟩ => ⟨((((i 0).val * 128 + (i 1).val) * 20 + (i 2).val) * 128 + (i 3).val) % 128, by have h0 : (i 0).val < 12 := (i 0).isLt; have h1 : (i 1).val < 128 := (i 1).isLt; have h2 : (i 2).val < 20 := (i 2).isLt; have h3 : (i 3).val < 128 := (i 3).isLt; show ((((i 0).val * 128 + (i 1).val) * 20 + (i 2).val) * 128 + (i 3).val) % 128 < 128; omega⟩
theorem val_main_v53_apply (r6 : (⟨S1536x20x128, .bf16⟩ : BufTy).Contents (Elt F)) (i : S12x128x20x128.Idx) :
    val_main_v53 (F := F) r6 i = r6 (idx_main_v53 i) := by
  unfold val_main_v53
  exact shapeCast_apply r6 shapeCasts_S1536x20x128_S12x128x20x128 i (idx_main_v53 i)
    (by rewrite [Shape.rowMajor_val_three, Shape.rowMajor_val_four]; have h0 : (i 0).val < 12 := (i 0).isLt; have h1 : (i 1).val < 128 := (i 1).isLt; have h2 : (i 2).val < 20 := (i 2).isLt; have h3 : (i 3).val < 128 := (i 3).isLt; show (((((i 0).val * 128 + (i 1).val) * 20 + (i 2).val) * 128 + (i 3).val) / 2560 * 20 + ((((i 0).val * 128 + (i 1).val) * 20 + (i 2).val) * 128 + (i 3).val) / 128 % 20) * 128 + ((((i 0).val * 128 + (i 1).val) * 20 + (i 2).val) * 128 + (i 3).val) % 128 = (((i 0).val * 128 + (i 1).val) * 20 + (i 2).val) * 128 + (i 3).val; omega)

-- %54 = stablehlo.convert %arg7 : (tensor<12x20xf32>) -> tensor<12x20xbf16>
def val_main_v54 (x7 : (⟨S12x20, .f32⟩ : BufTy).Contents (Elt F)) : (⟨S12x20, .bf16⟩ : BufTy).Contents (Elt F) :=
  truncf .bf16 (x7) bitsLt_bf16_f32
theorem val_main_v54_apply (x7 : (⟨S12x20, .f32⟩ : BufTy).Contents (Elt F)) (i : S12x20.Idx) :
    val_main_v54 (F := F) x7 i = FloatOps.truncf .bf16 bitsLt_bf16_f32 (x7 i) := rfl

-- %55 = stablehlo.broadcast_in_dim %54, dims = [0, 2] : (tensor<12x20xbf16>) -> tensor<12x1x20x1xbf16>
def val_main_v55 (x7 : (⟨S12x20, .f32⟩ : BufTy).Contents (Elt F)) : (⟨S12x1x20x1, .bf16⟩ : BufTy).Contents (Elt F) :=
  broadcastInDim S12x1x20x1 ![0, 2] bcast_S12x20_S12x1x20x1_0_2 (val_main_v54 (F := F) x7)
abbrev idx_main_v55 (i : S12x1x20x1.Idx) : S12x20.Idx := fun a => match a with
  | ⟨0, _⟩ => ⟨(i 0).val, (i 0).isLt⟩
  | ⟨1, _⟩ => ⟨(i 2).val, (i 2).isLt⟩
theorem val_main_v55_apply (x7 : (⟨S12x20, .f32⟩ : BufTy).Contents (Elt F)) (i : S12x1x20x1.Idx) :
    val_main_v55 (F := F) x7 i = val_main_v54 (F := F) x7 (idx_main_v55 i) := by
  unfold val_main_v55
  generalize val_main_v54 (F := F) x7 = y
  exact broadcastInDim_apply _ bcast_S12x20_S12x1x20x1_0_2 y i (idx_main_v55 i) (fun a => match a with
    | ⟨0, _⟩ => by show (i 0).val = if (12 : Nat) = 1 then 0 else (i 0).val; rw [if_neg (by decide)]
    | ⟨1, _⟩ => by show (i 2).val = if (20 : Nat) = 1 then 0 else (i 2).val; rw [if_neg (by decide)])

-- %56 = stablehlo.broadcast_in_dim %55, dims = [0, 1, 2, 3] : (tensor<12x1x20x1xbf16>) -> tensor<12x128x20x128xbf16>
def val_main_v56 (x7 : (⟨S12x20, .f32⟩ : BufTy).Contents (Elt F)) : (⟨S12x128x20x128, .bf16⟩ : BufTy).Contents (Elt F) :=
  broadcastInDim S12x128x20x128 ![0, 1, 2, 3] bcast_S12x1x20x1_S12x128x20x128_0_1_2_3 (val_main_v55 (F := F) x7)
abbrev idx_main_v56 (i : S12x128x20x128.Idx) : S12x1x20x1.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
theorem val_main_v56_apply (x7 : (⟨S12x20, .f32⟩ : BufTy).Contents (Elt F)) (i : S12x128x20x128.Idx) :
    val_main_v56 (F := F) x7 i = val_main_v55 (F := F) x7 (idx_main_v56 i) := by
  unfold val_main_v56
  generalize val_main_v55 (F := F) x7 = y
  exact broadcastInDim_apply _ bcast_S12x1x20x1_S12x128x20x128_0_1_2_3 y i (idx_main_v56 i) (fun a => match a with
    | ⟨0, _⟩ => by show (i 0).val = if (12 : Nat) = 1 then 0 else (i 0).val; rw [if_neg (by decide)]
    | ⟨1, _⟩ => by show 0 = if (1 : Nat) = 1 then 0 else (i 1).val; rw [if_pos rfl]
    | ⟨2, _⟩ => by show (i 2).val = if (20 : Nat) = 1 then 0 else (i 2).val; rw [if_neg (by decide)]
    | ⟨3, _⟩ => by show 0 = if (1 : Nat) = 1 then 0 else (i 3).val; rw [if_pos rfl])

-- %57 = stablehlo.multiply %53, %56 : tensor<12x128x20x128xbf16>
def val_main_v57 (x7 : (⟨S12x20, .f32⟩ : BufTy).Contents (Elt F)) (r6 : (⟨S1536x20x128, .bf16⟩ : BufTy).Contents (Elt F)) : (⟨S12x128x20x128, .bf16⟩ : BufTy).Contents (Elt F) :=
  mulf (val_main_v53 (F := F) r6) (val_main_v56 (F := F) x7)
theorem val_main_v57_apply (x7 : (⟨S12x20, .f32⟩ : BufTy).Contents (Elt F)) (r6 : (⟨S1536x20x128, .bf16⟩ : BufTy).Contents (Elt F)) (i : S12x128x20x128.Idx) :
    val_main_v57 (F := F) x7 r6 i = FloatOps.mulf (val_main_v53 (F := F) r6 i) (val_main_v56 (F := F) x7 i) := rfl

-- %58 = stablehlo.reshape %57 : (tensor<12x128x20x128xbf16>) -> tensor<1536x20x128xbf16>
def val_main_v58 (x7 : (⟨S12x20, .f32⟩ : BufTy).Contents (Elt F)) (r6 : (⟨S1536x20x128, .bf16⟩ : BufTy).Contents (Elt F)) : (⟨S1536x20x128, .bf16⟩ : BufTy).Contents (Elt F) :=
  shapeCast _ (val_main_v57 (F := F) x7 r6) shapeCasts_S12x128x20x128_S1536x20x128
set_option backward.proofsInPublic true in
abbrev idx_main_v58 (i : S1536x20x128.Idx) : S12x128x20x128.Idx := fun a => match a with
  | ⟨0, _⟩ => ⟨(((i 0).val * 20 + (i 1).val) * 128 + (i 2).val) / 327680, by have h0 : (i 0).val < 1536 := (i 0).isLt; have h1 : (i 1).val < 20 := (i 1).isLt; have h2 : (i 2).val < 128 := (i 2).isLt; show (((i 0).val * 20 + (i 1).val) * 128 + (i 2).val) / 327680 < 12; omega⟩
  | ⟨1, _⟩ => ⟨(((i 0).val * 20 + (i 1).val) * 128 + (i 2).val) / 2560 % 128, by have h0 : (i 0).val < 1536 := (i 0).isLt; have h1 : (i 1).val < 20 := (i 1).isLt; have h2 : (i 2).val < 128 := (i 2).isLt; show (((i 0).val * 20 + (i 1).val) * 128 + (i 2).val) / 2560 % 128 < 128; omega⟩
  | ⟨2, _⟩ => ⟨(((i 0).val * 20 + (i 1).val) * 128 + (i 2).val) / 128 % 20, by have h0 : (i 0).val < 1536 := (i 0).isLt; have h1 : (i 1).val < 20 := (i 1).isLt; have h2 : (i 2).val < 128 := (i 2).isLt; show (((i 0).val * 20 + (i 1).val) * 128 + (i 2).val) / 128 % 20 < 20; omega⟩
  | ⟨3, _⟩ => ⟨(((i 0).val * 20 + (i 1).val) * 128 + (i 2).val) % 128, by have h0 : (i 0).val < 1536 := (i 0).isLt; have h1 : (i 1).val < 20 := (i 1).isLt; have h2 : (i 2).val < 128 := (i 2).isLt; show (((i 0).val * 20 + (i 1).val) * 128 + (i 2).val) % 128 < 128; omega⟩
theorem val_main_v58_apply (x7 : (⟨S12x20, .f32⟩ : BufTy).Contents (Elt F)) (r6 : (⟨S1536x20x128, .bf16⟩ : BufTy).Contents (Elt F)) (i : S1536x20x128.Idx) :
    val_main_v58 (F := F) x7 r6 i = val_main_v57 (F := F) x7 r6 (idx_main_v58 i) := by
  unfold val_main_v58
  generalize val_main_v57 (F := F) x7 r6 = y
  exact shapeCast_apply y shapeCasts_S12x128x20x128_S1536x20x128 i (idx_main_v58 i)
    (by rewrite [Shape.rowMajor_val_four, Shape.rowMajor_val_three]; have h0 : (i 0).val < 1536 := (i 0).isLt; have h1 : (i 1).val < 20 := (i 1).isLt; have h2 : (i 2).val < 128 := (i 2).isLt; show (((((i 0).val * 20 + (i 1).val) * 128 + (i 2).val) / 327680 * 128 + (((i 0).val * 20 + (i 1).val) * 128 + (i 2).val) / 2560 % 128) * 20 + (((i 0).val * 20 + (i 1).val) * 128 + (i 2).val) / 128 % 20) * 128 + (((i 0).val * 20 + (i 1).val) * 128 + (i 2).val) % 128 = ((i 0).val * 20 + (i 1).val) * 128 + (i 2).val; omega)

-- %59 = stablehlo.dot_general %37, %52, contracting_dims = [3, 2] x [2, 1], precision = [DEFAULT, DEFAULT] : (tensor<9x6144x20x128xbf16>, tensor<1536x20x128xbf16>) -> tensor<9x6144x1536xf32>
def val_main_v59 (x5 : (⟨S12x20, .f32⟩ : BufTy).Contents (Elt F)) (r2 : (⟨S9x6144x20x128, .bf16⟩ : BufTy).Contents (Elt F)) (r5 : (⟨S1536x20x128, .bf16⟩ : BufTy).Contents (Elt F)) (e0 : (⟨S_, .f32⟩ : BufTy).Contents (Elt F)) : (⟨S9x6144x1536, .f32⟩ : BufTy).Contents (Elt F) :=
  Host.dotGeneral dot_S9x6144x20x128_S1536x20x128_S9x6144x1536_32_21_01_0_n_n none (val_main_v37 (F := F) r2 e0) (val_main_v52 (F := F) x5 r5)

-- %60 = stablehlo.dot_general %40, %58, contracting_dims = [3, 2] x [2, 1], precision = [DEFAULT, DEFAULT] : (tensor<9x6144x20x128xbf16>, tensor<1536x20x128xbf16>) -> tensor<9x6144x1536xf32>
def val_main_v60 (x7 : (⟨S12x20, .f32⟩ : BufTy).Contents (Elt F)) (r3 : (⟨S9x6144x20x128, .bf16⟩ : BufTy).Contents (Elt F)) (r6 : (⟨S1536x20x128, .bf16⟩ : BufTy).Contents (Elt F)) (e1 : (⟨S_, .f32⟩ : BufTy).Contents (Elt F)) : (⟨S9x6144x1536, .f32⟩ : BufTy).Contents (Elt F) :=
  Host.dotGeneral dot_S9x6144x20x128_S1536x20x128_S9x6144x1536_32_21_01_0_n_n none (val_main_v40 (F := F) r3 e1) (val_main_v58 (F := F) x7 r6)

-- %61 = stablehlo.add %59, %60 : tensor<9x6144x1536xf32>
def val_main_v61 (x5 x7 : (⟨S12x20, .f32⟩ : BufTy).Contents (Elt F)) (r2 r3 : (⟨S9x6144x20x128, .bf16⟩ : BufTy).Contents (Elt F)) (r5 r6 : (⟨S1536x20x128, .bf16⟩ : BufTy).Contents (Elt F)) (e0 e1 : (⟨S_, .f32⟩ : BufTy).Contents (Elt F)) : (⟨S9x6144x1536, .f32⟩ : BufTy).Contents (Elt F) :=
  addf (val_main_v59 (F := F) x5 r2 r5 e0) (val_main_v60 (F := F) x7 r3 r6 e1)
theorem val_main_v61_apply (x5 x7 : (⟨S12x20, .f32⟩ : BufTy).Contents (Elt F)) (r2 r3 : (⟨S9x6144x20x128, .bf16⟩ : BufTy).Contents (Elt F)) (r5 r6 : (⟨S1536x20x128, .bf16⟩ : BufTy).Contents (Elt F)) (e0 e1 : (⟨S_, .f32⟩ : BufTy).Contents (Elt F)) (i : S9x6144x1536.Idx) :
    val_main_v61 (F := F) x5 x7 r2 r3 r5 r6 e0 e1 i = FloatOps.addf (val_main_v59 (F := F) x5 r2 r5 e0 i) (val_main_v60 (F := F) x7 r3 r6 e1 i) := rfl

-- %62 = stablehlo.convert %61 : (tensor<9x6144x1536xf32>) -> tensor<9x6144x1536xbf16>
def val_main_v62 (x5 x7 : (⟨S12x20, .f32⟩ : BufTy).Contents (Elt F)) (r2 r3 : (⟨S9x6144x20x128, .bf16⟩ : BufTy).Contents (Elt F)) (r5 r6 : (⟨S1536x20x128, .bf16⟩ : BufTy).Contents (Elt F)) (e0 e1 : (⟨S_, .f32⟩ : BufTy).Contents (Elt F)) : (⟨S9x6144x1536, .bf16⟩ : BufTy).Contents (Elt F) :=
  truncf .bf16 (val_main_v61 (F := F) x5 x7 r2 r3 r5 r6 e0 e1) bitsLt_bf16_f32
theorem val_main_v62_apply (x5 x7 : (⟨S12x20, .f32⟩ : BufTy).Contents (Elt F)) (r2 r3 : (⟨S9x6144x20x128, .bf16⟩ : BufTy).Contents (Elt F)) (r5 r6 : (⟨S1536x20x128, .bf16⟩ : BufTy).Contents (Elt F)) (e0 e1 : (⟨S_, .f32⟩ : BufTy).Contents (Elt F)) (i : S9x6144x1536.Idx) :
    val_main_v62 (F := F) x5 x7 r2 r3 r5 r6 e0 e1 i = FloatOps.truncf .bf16 bitsLt_bf16_f32 (val_main_v61 (F := F) x5 x7 r2 r3 r5 r6 e0 e1 i) := rfl

-- %63 = stablehlo.transpose %46, dims = [0, 2, 1] : (tensor<9x6144x1536xbf16>) -> tensor<9x1536x6144xbf16>
def val_main_v63 (x3 : (⟨S9x6144x12, .f32⟩ : BufTy).Contents (Elt F)) (r4 : (⟨S9x6144x1536, .bf16⟩ : BufTy).Contents (Elt F)) : (⟨S9x1536x6144, .bf16⟩ : BufTy).Contents (Elt F) :=
  transpose S9x1536x6144 [0, 2, 1] (val_main_v46 (F := F) x3 r4) transposes_S9x6144x1536_S9x1536x6144_0_2_1
abbrev idx_main_v63 (i : S9x1536x6144.Idx) : S9x6144x1536.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v63_apply (x3 : (⟨S9x6144x12, .f32⟩ : BufTy).Contents (Elt F)) (r4 : (⟨S9x6144x1536, .bf16⟩ : BufTy).Contents (Elt F)) (i : S9x1536x6144.Idx) :
    val_main_v63 (F := F) x3 r4 i = val_main_v46 (F := F) x3 r4 (idx_main_v63 i) := by
  unfold val_main_v63
  generalize val_main_v46 (F := F) x3 r4 = y
  exact transpose_apply [0, 2, 1] y transposes_S9x6144x1536_S9x1536x6144_0_2_1 i (idx_main_v63 i) (fun b => match b with
    | ⟨0, _⟩ => rfl
    | ⟨1, _⟩ => rfl
    | ⟨2, _⟩ => rfl)

-- %64 = stablehlo.transpose %34#0, dims = [0, 2, 1, 3] : (tensor<9x6144x20x128xf8E5M2>) -> tensor<9x20x6144x128xf8E5M2>
def val_main_v64 (r0 : (⟨S9x6144x20x128, .fp8e5m2⟩ : BufTy).Contents (Elt F)) : (⟨S9x20x6144x128, .fp8e5m2⟩ : BufTy).Contents (Elt F) :=
  transpose S9x20x6144x128 [0, 2, 1, 3] (r0) transposes_S9x6144x20x128_S9x20x6144x128_0_2_1_3
abbrev idx_main_v64 (i : S9x20x6144x128.Idx) : S9x6144x20x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v64_apply (r0 : (⟨S9x6144x20x128, .fp8e5m2⟩ : BufTy).Contents (Elt F)) (i : S9x20x6144x128.Idx) :
    val_main_v64 (F := F) r0 i = r0 (idx_main_v64 i) := by
  unfold val_main_v64
  exact transpose_apply [0, 2, 1, 3] r0 transposes_S9x6144x20x128_S9x20x6144x128_0_2_1_3 i (idx_main_v64 i) (fun b => match b with
    | ⟨0, _⟩ => rfl
    | ⟨1, _⟩ => rfl
    | ⟨2, _⟩ => rfl
    | ⟨3, _⟩ => rfl)

-- %65 = stablehlo.transpose %34#1, dims = [0, 2, 1, 3] : (tensor<9x6144x20x128xf8E5M2>) -> tensor<9x20x6144x128xf8E5M2>
def val_main_v65 (r1 : (⟨S9x6144x20x128, .fp8e5m2⟩ : BufTy).Contents (Elt F)) : (⟨S9x20x6144x128, .fp8e5m2⟩ : BufTy).Contents (Elt F) :=
  transpose S9x20x6144x128 [0, 2, 1, 3] (r1) transposes_S9x6144x20x128_S9x20x6144x128_0_2_1_3
abbrev idx_main_v65 (i : S9x20x6144x128.Idx) : S9x6144x20x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v65_apply (r1 : (⟨S9x6144x20x128, .fp8e5m2⟩ : BufTy).Contents (Elt F)) (i : S9x20x6144x128.Idx) :
    val_main_v65 (F := F) r1 i = r1 (idx_main_v65 i) := by
  unfold val_main_v65
  exact transpose_apply [0, 2, 1, 3] r1 transposes_S9x6144x20x128_S9x20x6144x128_0_2_1_3 i (idx_main_v65 i) (fun b => match b with
    | ⟨0, _⟩ => rfl
    | ⟨1, _⟩ => rfl
    | ⟨2, _⟩ => rfl
    | ⟨3, _⟩ => rfl)

-- %66 = stablehlo.reshape %14 : (tensor<f32>) -> tensor<1x1xf32>
def val_main_v66 (e0 : (⟨S_, .f32⟩ : BufTy).Contents (Elt F)) : (⟨S1x1, .f32⟩ : BufTy).Contents (Elt F) :=
  shapeCast _ (e0) shapeCasts_S_S1x1

-- %67 = stablehlo.reshape %30 : (tensor<f32>) -> tensor<1x1xf32>
def val_main_v67 (e1 : (⟨S_, .f32⟩ : BufTy).Contents (Elt F)) : (⟨S1x1, .f32⟩ : BufTy).Contents (Elt F) :=
  shapeCast _ (e1) shapeCasts_S_S1x1

-- %68 = stablehlo.convert %arg0 : (tensor<9x6144x20x128xbf16>) -> tensor<9x6144x20x128xf32>
def val_main_v68 (x0 : (⟨S9x6144x20x128, .bf16⟩ : BufTy).Contents (Elt F)) : (⟨S9x6144x20x128, .f32⟩ : BufTy).Contents (Elt F) :=
  extf .f32 (x0) bitsLt_bf16_f32
theorem val_main_v68_apply (x0 : (⟨S9x6144x20x128, .bf16⟩ : BufTy).Contents (Elt F)) (i : S9x6144x20x128.Idx) :
    val_main_v68 (F := F) x0 i = FloatOps.extf .f32 bitsLt_bf16_f32 (x0 i) := rfl

-- %69 = stablehlo.abs %68 : tensor<9x6144x20x128xf32>
def val_main_v69 (x0 : (⟨S9x6144x20x128, .bf16⟩ : BufTy).Contents (Elt F)) : (⟨S9x6144x20x128, .f32⟩ : BufTy).Contents (Elt F) :=
  Host.absf (val_main_v68 (F := F) x0)
theorem val_main_v69_apply (x0 : (⟨S9x6144x20x128, .bf16⟩ : BufTy).Contents (Elt F)) (i : S9x6144x20x128.Idx) :
    val_main_v69 (F := F) x0 i = FloatOps.hostAbsf (val_main_v68 (F := F) x0 i) := rfl

-- %cst_17 = stablehlo.constant dense<0xFF800000> : tensor<f32>
def val_main_cst_17 : (⟨S_, .f32⟩ : BufTy).Contents (Elt F) :=
  constant S_ .f32 0xFF800000#32
theorem val_main_cst_17_apply (i : S_.Idx) :
    val_main_cst_17 (F := F) i = FloatOps.ofBits .f32 0xFF800000#32 := rfl

-- %70 = stablehlo.reduce(%69 init: %cst_17) applies stablehlo.maximum across dimensions = [0, 1, 2, 3] : (tensor<9x6144x20x128xf32>, tensor<f32>) -> tensor<f32> {
def val_main_v70 (x0 : (⟨S9x6144x20x128, .bf16⟩ : BufTy).Contents (Elt F)) : (⟨S_, .f32⟩ : BufTy).Contents (Elt F) :=
  Host.reduce FloatOps.maximumf (val_main_v69 (F := F) x0) (val_main_cst_17 (F := F)) reducesTo_S9x6144x20x128_S_d0_1_2_3 h_S_

-- %71 = stablehlo.broadcast_in_dim %70, dims = [] : (tensor<f32>) -> tensor<1xf32>
def val_main_v71 (x0 : (⟨S9x6144x20x128, .bf16⟩ : BufTy).Contents (Elt F)) : (⟨S1, .f32⟩ : BufTy).Contents (Elt F) :=
  broadcastInDim S1 ![] bcast_S_S1 (val_main_v70 (F := F) x0)
abbrev idx_main_v71 (i : S1.Idx) : S_.Idx := fun a => a.elim0
theorem val_main_v71_apply (x0 : (⟨S9x6144x20x128, .bf16⟩ : BufTy).Contents (Elt F)) (i : S1.Idx) :
    val_main_v71 (F := F) x0 i = val_main_v70 (F := F) x0 (idx_main_v71 i) := by
  unfold val_main_v71
  generalize val_main_v70 (F := F) x0 = y
  exact broadcastInDim_apply _ bcast_S_S1 y i (idx_main_v71 i) (fun a => a.elim0)

-- %72 = stablehlo.slice %arg8 [0:15] : (tensor<16xf32>) -> tensor<15xf32>
def val_main_v72 (x8 : (⟨S16, .f32⟩ : BufTy).Contents (Elt F)) : (⟨S15, .f32⟩ : BufTy).Contents (Elt F) :=
  extractStridedSlice S15 ![0] (x8) slices_S16_S15_0
set_option backward.proofsInPublic true in
abbrev idx_main_v72 (i : S15.Idx) : S16.Idx := fun a => match a with
  | ⟨0, _⟩ => ⟨(i 0).val, by have h0 : (i 0).val < 15 := (i 0).isLt; show (i 0).val < 16; omega⟩
theorem val_main_v72_apply (x8 : (⟨S16, .f32⟩ : BufTy).Contents (Elt F)) (i : S15.Idx) :
    val_main_v72 (F := F) x8 i = x8 (idx_main_v72 i) := by
  unfold val_main_v72
  exact extractStridedSlice_apply ![0] x8 slices_S16_S15_0 i (idx_main_v72 i) (fun a => match a with
    | ⟨0, _⟩ => by show (i 0).val = 0 + (i 0).val; omega)

-- %73 = stablehlo.concatenate %71, %72, dim = 0 : (tensor<1xf32>, tensor<15xf32>) -> tensor<16xf32>
def val_main_v73 (x0 : (⟨S9x6144x20x128, .bf16⟩ : BufTy).Contents (Elt F)) (x8 : (⟨S16, .f32⟩ : BufTy).Contents (Elt F)) : (⟨S16, .f32⟩ : BufTy).Contents (Elt F) :=
  concatenate S16 0 [⟨S1, (val_main_v71 (F := F) x0)⟩, ⟨S15, (val_main_v72 (F := F) x8)⟩] concatenates_S1_S15_S16_d0

-- %74 = stablehlo.convert %arg1 : (tensor<9x6144x20x128xbf16>) -> tensor<9x6144x20x128xf32>
def val_main_v74 (x1 : (⟨S9x6144x20x128, .bf16⟩ : BufTy).Contents (Elt F)) : (⟨S9x6144x20x128, .f32⟩ : BufTy).Contents (Elt F) :=
  extf .f32 (x1) bitsLt_bf16_f32
theorem val_main_v74_apply (x1 : (⟨S9x6144x20x128, .bf16⟩ : BufTy).Contents (Elt F)) (i : S9x6144x20x128.Idx) :
    val_main_v74 (F := F) x1 i = FloatOps.extf .f32 bitsLt_bf16_f32 (x1 i) := rfl

-- %75 = stablehlo.abs %74 : tensor<9x6144x20x128xf32>
def val_main_v75 (x1 : (⟨S9x6144x20x128, .bf16⟩ : BufTy).Contents (Elt F)) : (⟨S9x6144x20x128, .f32⟩ : BufTy).Contents (Elt F) :=
  Host.absf (val_main_v74 (F := F) x1)
theorem val_main_v75_apply (x1 : (⟨S9x6144x20x128, .bf16⟩ : BufTy).Contents (Elt F)) (i : S9x6144x20x128.Idx) :
    val_main_v75 (F := F) x1 i = FloatOps.hostAbsf (val_main_v74 (F := F) x1 i) := rfl

-- %cst_18 = stablehlo.constant dense<0xFF800000> : tensor<f32>
def val_main_cst_18 : (⟨S_, .f32⟩ : BufTy).Contents (Elt F) :=
  constant S_ .f32 0xFF800000#32
theorem val_main_cst_18_apply (i : S_.Idx) :
    val_main_cst_18 (F := F) i = FloatOps.ofBits .f32 0xFF800000#32 := rfl

-- %76 = stablehlo.reduce(%75 init: %cst_18) applies stablehlo.maximum across dimensions = [0, 1, 2, 3] : (tensor<9x6144x20x128xf32>, tensor<f32>) -> tensor<f32> {
def val_main_v76 (x1 : (⟨S9x6144x20x128, .bf16⟩ : BufTy).Contents (Elt F)) : (⟨S_, .f32⟩ : BufTy).Contents (Elt F) :=
  Host.reduce FloatOps.maximumf (val_main_v75 (F := F) x1) (val_main_cst_18 (F := F)) reducesTo_S9x6144x20x128_S_d0_1_2_3 h_S_

-- %77 = stablehlo.broadcast_in_dim %76, dims = [] : (tensor<f32>) -> tensor<1xf32>
def val_main_v77 (x1 : (⟨S9x6144x20x128, .bf16⟩ : BufTy).Contents (Elt F)) : (⟨S1, .f32⟩ : BufTy).Contents (Elt F) :=
  broadcastInDim S1 ![] bcast_S_S1 (val_main_v76 (F := F) x1)
abbrev idx_main_v77 (i : S1.Idx) : S_.Idx := fun a => a.elim0
theorem val_main_v77_apply (x1 : (⟨S9x6144x20x128, .bf16⟩ : BufTy).Contents (Elt F)) (i : S1.Idx) :
    val_main_v77 (F := F) x1 i = val_main_v76 (F := F) x1 (idx_main_v77 i) := by
  unfold val_main_v77
  generalize val_main_v76 (F := F) x1 = y
  exact broadcastInDim_apply _ bcast_S_S1 y i (idx_main_v77 i) (fun a => a.elim0)

-- %78 = stablehlo.slice %arg9 [0:15] : (tensor<16xf32>) -> tensor<15xf32>
def val_main_v78 (x9 : (⟨S16, .f32⟩ : BufTy).Contents (Elt F)) : (⟨S15, .f32⟩ : BufTy).Contents (Elt F) :=
  extractStridedSlice S15 ![0] (x9) slices_S16_S15_0
set_option backward.proofsInPublic true in
abbrev idx_main_v78 (i : S15.Idx) : S16.Idx := fun a => match a with
  | ⟨0, _⟩ => ⟨(i 0).val, by have h0 : (i 0).val < 15 := (i 0).isLt; show (i 0).val < 16; omega⟩
theorem val_main_v78_apply (x9 : (⟨S16, .f32⟩ : BufTy).Contents (Elt F)) (i : S15.Idx) :
    val_main_v78 (F := F) x9 i = x9 (idx_main_v78 i) := by
  unfold val_main_v78
  exact extractStridedSlice_apply ![0] x9 slices_S16_S15_0 i (idx_main_v78 i) (fun a => match a with
    | ⟨0, _⟩ => by show (i 0).val = 0 + (i 0).val; omega)

-- %79 = stablehlo.concatenate %77, %78, dim = 0 : (tensor<1xf32>, tensor<15xf32>) -> tensor<16xf32>
def val_main_v79 (x1 : (⟨S9x6144x20x128, .bf16⟩ : BufTy).Contents (Elt F)) (x9 : (⟨S16, .f32⟩ : BufTy).Contents (Elt F)) : (⟨S16, .f32⟩ : BufTy).Contents (Elt F) :=
  concatenate S16 0 [⟨S1, (val_main_v77 (F := F) x1)⟩, ⟨S15, (val_main_v78 (F := F) x9)⟩] concatenates_S1_S15_S16_d0

/-- The term the Run module states for `main_v62` over any contents `V0` is the stage. -/
theorem val_main_v62_eq (V0 : Valuation τ sig (Elt F)) :
    truncf .bf16 (addf (Host.dotGeneral dot_S9x6144x20x128_S1536x20x128_S9x6144x1536_32_21_01_0_n_n none (mulf (V0 (Proc.devRef .tc main_v34_2)) (broadcastInDim S9x6144x20x128 ![] bcast_S_S9x6144x20x128 (truncf .bf16 (V0 (Proc.devRef .tc main_v14)) bitsLt_bf16_f32))) (shapeCast _ (mulf (shapeCast _ (V0 (Proc.devRef .tc main_v34_5)) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (V0 (Proc.devRef .tc main_arg5)) bitsLt_bf16_f32)))) shapeCasts_S12x128x20x128_S1536x20x128)) (Host.dotGeneral dot_S9x6144x20x128_S1536x20x128_S9x6144x1536_32_21_01_0_n_n none (mulf (V0 (Proc.devRef .tc main_v34_3)) (broadcastInDim S9x6144x20x128 ![] bcast_S_S9x6144x20x128 (truncf .bf16 (V0 (Proc.devRef .tc main_v30)) bitsLt_bf16_f32))) (shapeCast _ (mulf (shapeCast _ (V0 (Proc.devRef .tc main_v34_6)) shapeCasts_S1536x20x128_S12x128x20x128) (broadcastInDim S12x128x20x128 ![0, 1, 2, 3] bcast_S12x1x20x1_S12x128x20x128_0_1_2_3 (broadcastInDim S12x1x20x1 ![0, 2] bcast_S12x20_S12x1x20x1_0_2 (truncf .bf16 (V0 (Proc.devRef .tc main_arg7)) bitsLt_bf16_f32)))) shapeCasts_S12x128x20x128_S1536x20x128))) bitsLt_bf16_f32
      = val_main_v62 (F := F) (V0 (Proc.devRef .tc main_arg5)) (V0 (Proc.devRef .tc main_arg7)) (V0 (Proc.devRef .tc main_v34_2)) (V0 (Proc.devRef .tc main_v34_3)) (V0 (Proc.devRef .tc main_v34_5)) (V0 (Proc.devRef .tc main_v34_6)) (V0 (Proc.devRef .tc main_v14)) (V0 (Proc.devRef .tc main_v30)) := rfl

/-- The term the Run module states for `main_v63` over any contents `V0` is the stage. -/
theorem val_main_v63_eq (V0 : Valuation τ sig (Elt F)) :
    transpose S9x1536x6144 [0, 2, 1] (shapeCast _ (mulf (shapeCast _ (V0 (Proc.devRef .tc main_v34_4)) shapeCasts_S9x6144x1536_S9x6144x12x128) (broadcastInDim S9x6144x12x128 ![0, 1, 2, 3] bcast_S9x6144x12x1_S9x6144x12x128_0_1_2_3 (broadcastInDim S9x6144x12x1 ![0, 1, 2] bcast_S9x6144x12_S9x6144x12x1_0_1_2 (truncf .bf16 (V0 (Proc.devRef .tc main_arg3)) bitsLt_bf16_f32)))) shapeCasts_S9x6144x12x128_S9x6144x1536) transposes_S9x6144x1536_S9x1536x6144_0_2_1
      = val_main_v63 (F := F) (V0 (Proc.devRef .tc main_arg3)) (V0 (Proc.devRef .tc main_v34_4)) := rfl

/-- The term the Run module states for `main_v64` over any contents `V0` is the stage. -/
theorem val_main_v64_eq (V0 : Valuation τ sig (Elt F)) :
    transpose S9x20x6144x128 [0, 2, 1, 3] (V0 (Proc.devRef .tc main_v34_0)) transposes_S9x6144x20x128_S9x20x6144x128_0_2_1_3
      = val_main_v64 (F := F) (V0 (Proc.devRef .tc main_v34_0)) := rfl

/-- The term the Run module states for `main_v65` over any contents `V0` is the stage. -/
theorem val_main_v65_eq (V0 : Valuation τ sig (Elt F)) :
    transpose S9x20x6144x128 [0, 2, 1, 3] (V0 (Proc.devRef .tc main_v34_1)) transposes_S9x6144x20x128_S9x20x6144x128_0_2_1_3
      = val_main_v65 (F := F) (V0 (Proc.devRef .tc main_v34_1)) := rfl

/-- The term the Run module states for `main_v66` over any contents `V0` is the stage. -/
theorem val_main_v66_eq (V0 : Valuation τ sig (Elt F)) :
    shapeCast _ (V0 (Proc.devRef .tc main_v14)) shapeCasts_S_S1x1
      = val_main_v66 (F := F) (V0 (Proc.devRef .tc main_v14)) := rfl

/-- The term the Run module states for `main_v67` over any contents `V0` is the stage. -/
theorem val_main_v67_eq (V0 : Valuation τ sig (Elt F)) :
    shapeCast _ (V0 (Proc.devRef .tc main_v30)) shapeCasts_S_S1x1
      = val_main_v67 (F := F) (V0 (Proc.devRef .tc main_v30)) := rfl

/-- The term the Run module states for `main_v73` over any contents `V0` is the stage. -/
theorem val_main_v73_eq (V0 : Valuation τ sig (Elt F)) :
    concatenate S16 0 [⟨S1, (broadcastInDim S1 ![] bcast_S_S1 (Host.reduce FloatOps.maximumf (Host.absf (extf .f32 (V0 (Proc.devRef .tc main_arg0)) bitsLt_bf16_f32)) (constant S_ .f32 0xFF800000#32) reducesTo_S9x6144x20x128_S_d0_1_2_3 h_S_))⟩, ⟨S15, (extractStridedSlice S15 ![0] (V0 (Proc.devRef .tc main_arg8)) slices_S16_S15_0)⟩] concatenates_S1_S15_S16_d0
      = val_main_v73 (F := F) (V0 (Proc.devRef .tc main_arg0)) (V0 (Proc.devRef .tc main_arg8)) := rfl

/-- The term the Run module states for `main_v79` over any contents `V0` is the stage. -/
theorem val_main_v79_eq (V0 : Valuation τ sig (Elt F)) :
    concatenate S16 0 [⟨S1, (broadcastInDim S1 ![] bcast_S_S1 (Host.reduce FloatOps.maximumf (Host.absf (extf .f32 (V0 (Proc.devRef .tc main_arg1)) bitsLt_bf16_f32)) (constant S_ .f32 0xFF800000#32) reducesTo_S9x6144x20x128_S_d0_1_2_3 h_S_))⟩, ⟨S15, (extractStridedSlice S15 ![0] (V0 (Proc.devRef .tc main_arg9)) slices_S16_S15_0)⟩] concatenates_S1_S15_S16_d0
      = val_main_v79 (F := F) (V0 (Proc.devRef .tc main_arg1)) (V0 (Proc.devRef .tc main_arg9)) := rfl

end Cert.DcRefIdeal.Read

end
-- ==== Proof.DcRef.lean ====
module

public import proofs.«01_k».proof.Proof.DcRefRun
public import proofs.«01_k».proof.Proof.DcRefRead
public import Idealize.ShloMosaic.Lib.Pipeline.ValueKit
public import Idealize.ShloMosaic.Lib.Pointwise
public import Idealize.ShloMosaic.Lib.TwoAxisContraction

@[expose] public section

set_option maxRecDepth 16384

noncomputable section

namespace Cert.DcRefIdeal.Hand

open Cert.DcRefIdeal Cert.DcRefIdeal.Gen Cert.DcRefIdeal.Value Cert.DcRefIdeal.Read
open Idealize.ShloMosaic Idealize.ShloMosaic.TcCoe

end Cert.DcRefIdeal.Hand

end
-- ==== Proof.DcStage.lean ====
module

public import proofs.«01_k».proof.Proof.Gen.DcIdeal.Frame
public import proofs.«01_k».proof.Proof.Gen.DcIdeal.Skeleton
public import proofs.«01_k».proof.Proof.Gen.DcIdeal.Loops

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first grid point alone does: dequantise the two weights and zero the running maxima. -/
def stInit (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) PUnit := do
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1)
    Scf.Loop.for k0_t2_loop (k0_t2_ok i k0_h1) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1)
    let v1327 : Vec F S2x16x128 .bf16 ← Prog.lift (.load arg22 (Rect.unit (s := S2x16x128) ![0, 0, 0] S2x16x128.size inb_S2x16x128_S2x16x128_0_0_0).toLoadRect (View.loadsAt_vmem h_S2x16x128))
    Prog.lift (.store arg22 (Rect.unit (s := S2x16x128) ![0, 0, 0] S2x16x128.size inb_S2x16x128_S2x16x128_0_0_0) (k0_pay54 (F := F)) Finset.univ (View.stores_vmem h_S2x16x128 (harg22.storeExact_slice rfl _ packedbf16_S2x16x128_S2x16x128_0_0_0) (fun _ => rfl)) (.inl rfl))
    pure ⟨⟩
  else do
    pure ⟨⟩

/-- The history of the first gradient read: its largest entry, and that entry divided down to the codes' range. -/
def stHistK (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (Σ' (v35 : F .f32), F .f32) := do
  let v5 : Elt F .f32 ← smemLoad arg10 (Rect.unit (s := S16) ![0] S1.size inb_S16_S1_0) numel1_S1 rfl
  let v6 : Elt F .f32 ← smemLoad arg10 (Rect.unit (s := S16) ![1] S1.size inb_S16_S1_1) numel1_S1 rfl
  let v8 : Elt F .f32 ← smemLoad arg10 (Rect.unit (s := S16) ![2] S1.size inb_S16_S1_2) numel1_S1 rfl
  let v10 : Elt F .f32 ← smemLoad arg10 (Rect.unit (s := S16) ![3] S1.size inb_S16_S1_3) numel1_S1 rfl
  let v12 : Elt F .f32 ← smemLoad arg10 (Rect.unit (s := S16) ![4] S1.size inb_S16_S1_4) numel1_S1 rfl
  let v14 : Elt F .f32 ← smemLoad arg10 (Rect.unit (s := S16) ![5] S1.size inb_S16_S1_5) numel1_S1 rfl
  let v16 : Elt F .f32 ← smemLoad arg10 (Rect.unit (s := S16) ![6] S1.size inb_S16_S1_6) numel1_S1 rfl
  let v18 : Elt F .f32 ← smemLoad arg10 (Rect.unit (s := S16) ![7] S1.size inb_S16_S1_7) numel1_S1 rfl
  let v20 : Elt F .f32 ← smemLoad arg10 (Rect.unit (s := S16) ![8] S1.size inb_S16_S1_8) numel1_S1 rfl
  let v22 : Elt F .f32 ← smemLoad arg10 (Rect.unit (s := S16) ![9] S1.size inb_S16_S1_9) numel1_S1 rfl
  let v24 : Elt F .f32 ← smemLoad arg10 (Rect.unit (s := S16) ![10] S1.size inb_S16_S1_10) numel1_S1 rfl
  let v26 : Elt F .f32 ← smemLoad arg10 (Rect.unit (s := S16) ![11] S1.size inb_S16_S1_11) numel1_S1 rfl
  let v28 : Elt F .f32 ← smemLoad arg10 (Rect.unit (s := S16) ![12] S1.size inb_S16_S1_12) numel1_S1 rfl
  let v30 : Elt F .f32 ← smemLoad arg10 (Rect.unit (s := S16) ![13] S1.size inb_S16_S1_13) numel1_S1 rfl
  let v32 : Elt F .f32 ← smemLoad arg10 (Rect.unit (s := S16) ![14] S1.size inb_S16_S1_14) numel1_S1 rfl
  let v34 : Elt F .f32 ← smemLoad arg10 (Rect.unit (s := S16) ![15] S1.size inb_S16_S1_15) numel1_S1 rfl
  pure ⟨k0_pay55 v5 v6 v8 v10 v12 v14 v16 v18 v20 v22 v24 v26 v28 v30 v32 v34, k0_pay56 v5 v6 v8 v10 v12 v14 v16 v18 v20 v22 v24 v26 v28 v30 v32 v34⟩

/-- The first gradient quantised: codes, scale, the scaled-down operand and the running maximum. Returns the scale. -/
def stK (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (F .f32) := do
  let ⟨v35, v36⟩ ← stHistK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  let v78 : BitVec 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v36
  let ⟨v87, v100, v108, v110⟩ : Σ' (v87 : F .f32) (v100 : FVec F S1x128 .bf16) (v108 : FVec F S16x128 .bf16), FVec F S512x128 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v78
  let ⟨v130, v146⟩ : Σ' (v130 : FVec F S16x128 .bf16), FVec F S512x128 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v108 v110
  let ⟨v174, v183⟩ : Σ' (v174 : FVec F S16x128 .bf16), FVec F S512x128 .fp8e5m2 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v130 v146
  let ⟨v196, v214, v216⟩ : Σ' (v196 : FVec F S16x128 .bf16) (v214 : FVec F S512x128 .bf16), FVec F S32x16x128 .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v174 v183
  let ⟨v240, v253⟩ : Σ' (v240 : FVec F S16x128 .bf16), FVec F S512x128 .bf16 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v196 v214 v216
  let ⟨v284, v286, cst_129, v288⟩ : Σ' (v284 : FVec F S16x128 .bf16) (v286 : FVec F S512x128 .bf16) (cst_129 : F .f32), FVec F S512x128 .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v240 v253
  let v306 : FVec F S16x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v284 v286 cst_129 v288
  let ⟨v350, v359⟩ : Σ' (v350 : FVec F S16x128 .bf16), FVec F S512x128 .fp8e5m2 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v306
  let ⟨v390, v394, v395⟩ : Σ' (v390 : FVec F S512x128 .bf16) (v394 : FVec F S16x128 .bf16), FVec F S512x128 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v350 v359
  let ⟨v416, v429⟩ : Σ' (v416 : FVec F S16x128 .bf16), FVec F S512x128 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v390 v394 v395
  let ⟨v460, v468⟩ : Σ' (v460 : FVec F S16x128 .bf16), FVec F S512x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v416 v429
  let ⟨v482, v500, v501⟩ : Σ' (v482 : FVec F S16x128 .bf16) (v500 : FVec F S512x128 .bf16), FVec F S512x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v460 v468
  let ⟨v526, v535⟩ : Σ' (v526 : FVec F S16x128 .bf16), FVec F S512x128 .fp8e5m2 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v482 v500 v501
  let v540 : Vec F S512x128 .bf16 ← Prog.lift (.load arg21 (Rect.unit (s := S512x5120) ![0, 2432] S512x128.size inb_S512x5120_S512x128_0_2432).toLoadRect (View.loadsAt_vmem h_S512x128))
  Prog.lift (.store arg21 (Rect.unit (s := S512x5120) ![0, 2432] S512x128.size inb_S512x5120_S512x128_0_2432) (k0_pay169 v535) Finset.univ (View.stores_vmem h_S512x128 (harg21.storeExact_slice rfl _ packedbf16_S512x5120_S512x128_0_2432) (fun _ => rfl)) (.inl rfl))
  let v543 : Vec F S1x16x128 .bf16 ← Prog.lift (.load arg22 (Rect.unit (s := S2x16x128) ![0, 0, 0] S1x16x128.size inb_S2x16x128_S1x16x128_0_0_0).toLoadRect (View.loadsAt_vmem h_S1x16x128))
  Prog.lift (.store arg22 (Rect.unit (s := S2x16x128) ![0, 0, 0] S1x16x128.size inb_S2x16x128_S1x16x128_0_0_0) (k0_pay170 v526) Finset.univ (View.stores_vmem h_S1x16x128 (harg22.storeExact_slice rfl _ packedbf16_S2x16x128_S1x16x128_0_0_0) (fun _ => rfl)) (.inl rfl))
  pure v87

/-- The second gradient quantised, in the same way. Returns the scale. -/
def stV (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (F .f32) := do
  let v546 : Elt F .f32 ← smemLoad arg11 (Rect.unit (s := S16) ![0] S1.size inb_S16_S1_0) numel1_S1 rfl
  let v547 : Elt F .f32 ← smemLoad arg11 (Rect.unit (s := S16) ![1] S1.size inb_S16_S1_1) numel1_S1 rfl
  let v549 : Elt F .f32 ← smemLoad arg11 (Rect.unit (s := S16) ![2] S1.size inb_S16_S1_2) numel1_S1 rfl
  let v551 : Elt F .f32 ← smemLoad arg11 (Rect.unit (s := S16) ![3] S1.size inb_S16_S1_3) numel1_S1 rfl
  let v553 : Elt F .f32 ← smemLoad arg11 (Rect.unit (s := S16) ![4] S1.size inb_S16_S1_4) numel1_S1 rfl
  let v555 : Elt F .f32 ← smemLoad arg11 (Rect.unit (s := S16) ![5] S1.size inb_S16_S1_5) numel1_S1 rfl
  let v557 : Elt F .f32 ← smemLoad arg11 (Rect.unit (s := S16) ![6] S1.size inb_S16_S1_6) numel1_S1 rfl
  let v559 : Elt F .f32 ← smemLoad arg11 (Rect.unit (s := S16) ![7] S1.size inb_S16_S1_7) numel1_S1 rfl
  let v561 : Elt F .f32 ← smemLoad arg11 (Rect.unit (s := S16) ![8] S1.size inb_S16_S1_8) numel1_S1 rfl
  let v563 : Elt F .f32 ← smemLoad arg11 (Rect.unit (s := S16) ![9] S1.size inb_S16_S1_9) numel1_S1 rfl
  let v565 : Elt F .f32 ← smemLoad arg11 (Rect.unit (s := S16) ![10] S1.size inb_S16_S1_10) numel1_S1 rfl
  let v567 : Elt F .f32 ← smemLoad arg11 (Rect.unit (s := S16) ![11] S1.size inb_S16_S1_11) numel1_S1 rfl
  let v569 : Elt F .f32 ← smemLoad arg11 (Rect.unit (s := S16) ![12] S1.size inb_S16_S1_12) numel1_S1 rfl
  let v571 : Elt F .f32 ← smemLoad arg11 (Rect.unit (s := S16) ![13] S1.size inb_S16_S1_13) numel1_S1 rfl
  let v573 : Elt F .f32 ← smemLoad arg11 (Rect.unit (s := S16) ![14] S1.size inb_S16_S1_14) numel1_S1 rfl
  let v575 : Elt F .f32 ← smemLoad arg11 (Rect.unit (s := S16) ![15] S1.size inb_S16_S1_15) numel1_S1 rfl
  have v574 : F .f32 := k0_pay171 v546 v547 v549 v551 v553 v555 v557 v559 v561 v563 v565 v567 v569 v571 v573
  let ⟨v576, v617, cst_299⟩ : Σ' (v576 : F .f32) (v617 : BitVec 32), F .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v574 v575
  let ⟨v628, v641, v643, v645, v648⟩ : Σ' (v628 : F .f32) (v641 : FVec F S1x128 .bf16) (v643 : FVec F S16x128 .bf16) (v645 : FVec F S512x128 .bf16), FVec F S16x128 .bf16 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 v617 cst_299
  let ⟨v671, v684⟩ : Σ' (v671 : FVec F S16x128 .bf16), FVec F S512x128 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v643 v645 v648
  let ⟨v715, v720, v721⟩ : Σ' (v715 : FVec F S16x128 .bf16) (v720 : FVec F S512x128 .bf16), F .bf16 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v671 v684
  let ⟨v737, v754⟩ : Σ' (v737 : FVec F S16x128 .bf16), Vec F S1x1x512x128 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v715 v720 v721
  let ⟨v781, v790⟩ : Σ' (v781 : FVec F S16x128 .bf16), FVec F S512x128 .fp8e5m2 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v737 v754
  let ⟨v825, v827, cst_424⟩ : Σ' (v825 : FVec F S16x128 .bf16) (v827 : FVec F S512x128 .bf16), F .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v781 v790
  let v847 : FVec F S16x128 .bf16 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v825 v827 cst_424
  let ⟨v891, v900⟩ : Σ' (v891 : FVec F S16x128 .bf16), FVec F S512x128 .fp8e5m2 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v847
  let ⟨v913, v931, v933⟩ : Σ' (v913 : FVec F S16x128 .bf16) (v931 : FVec F S512x128 .bf16), FVec F S32x16x128 .bf16 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v891 v900
  let ⟨v957, v970⟩ : Σ' (v957 : FVec F S16x128 .bf16), FVec F S512x128 .bf16 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v913 v931 v933
  let ⟨v1001, cst_521, v1006⟩ : Σ' (v1001 : FVec F S16x128 .bf16) (cst_521 : F .f32), FVec F S512x128 .bf16 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v957 v970
  let v1023 : FVec F S16x128 .bf16 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v1001 cst_521 v1006
  let ⟨v1067, v1076, v1077⟩ : Σ' (v1067 : FVec F S16x128 .bf16) (v1076 : FVec F S512x128 .fp8e5m2), Vec F S1x1x512x128 .fp8e5m2 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v1023
  Prog.lift (.store arg15 (Rect.unit (s := S1x20x512x128) ![0, 19, 0, 0] S1x1x512x128.size inb_S1x20x512x128_S1x1x512x128_0_19_0_0) (k0_pay283 v1076) Finset.univ (View.stores_vmem h_S1x1x512x128 (harg15.storeExact_slice rfl _ packedfp8e5m2_S1x20x512x128_S1x1x512x128_0_19_0_0) (fun _ => rfl)) (.inl rfl))
  let v1081 : Vec F S512x128 .bf16 ← Prog.lift (.load arg21 (Rect.unit (s := S512x5120) ![0, 4992] S512x128.size inb_S512x5120_S512x128_0_4992).toLoadRect (View.loadsAt_vmem h_S512x128))
  Prog.lift (.store arg21 (Rect.unit (s := S512x5120) ![0, 4992] S512x128.size inb_S512x5120_S512x128_0_4992) (k0_pay284 v1076) Finset.univ (View.stores_vmem h_S512x128 (harg21.storeExact_slice rfl _ packedbf16_S512x5120_S512x128_0_4992) (fun _ => rfl)) (.inl rfl))
  let v1084 : Vec F S1x16x128 .bf16 ← Prog.lift (.load arg22 (Rect.unit (s := S2x16x128) ![1, 0, 0] S1x16x128.size inb_S2x16x128_S1x16x128_1_0_0).toLoadRect (View.loadsAt_vmem h_S1x16x128))
  Prog.lift (.store arg22 (Rect.unit (s := S2x16x128) ![1, 0, 0] S1x16x128.size inb_S2x16x128_S1x16x128_1_0_0) (k0_pay285 v1067) Finset.univ (View.stores_vmem h_S1x16x128 (harg22.storeExact_slice rfl _ packedbf16_S2x16x128_S1x16x128_1_0_0) (fun _ => rfl)) (.inl rfl))
  pure v628

/-- The transposed latents and the latents' gradient. -/
def stC (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (v87 v628 : F .f32) : Prog (TpuEff nD τ sig (Elt F) Λ₀ .tc) PUnit := do
  let v1087 : Vec F S1x512x128 .fp8e4m3 ← Prog.lift (.load arg4 (Rect.unit (s := S1x512x1536) ![0, 0, 0] S1x512x128.size inb_S1x512x1536_S1x512x128_0_0_0).toLoadRect (View.loadsAt_vmem h_S1x512x128))
  let v1091 : Vec F S1x1x512 .f32 ← Prog.lift (.load arg5 (Rect.unit (s := S1x12x512) ![0, 0, 0] S1x1x512.size inb_S1x12x512_S1x1x512_0_0_0).toLoadRect (View.loadsAt_vmem h_S1x1x512))
  let v1096 : Vec F S1x128x512 .bf16 ← Prog.lift (.load arg13 (Rect.unit (s := S1x1536x512) ![0, 0, 0] S1x128x512.size inb_S1x1536x512_S1x128x512_0_0_0).toLoadRect (View.loadsAt_vmem h_S1x128x512))
  Prog.lift (.store arg13 (Rect.unit (s := S1x1536x512) ![0, 0, 0] S1x128x512.size inb_S1x1536x512_S1x128x512_0_0_0) (k0_pay286 v1087 v1091) Finset.univ (View.stores_vmem h_S1x128x512 (harg13.storeExact_slice rfl _ packedbf16_S1x1536x512_S1x128x512_0_0_0) (fun _ => rfl)) (.inl rfl))
  let v1099 : Vec F S1x512x128 .fp8e4m3 ← Prog.lift (.load arg4 (Rect.unit (s := S1x512x1536) ![0, 0, 128] S1x512x128.size inb_S1x512x1536_S1x512x128_0_0_128).toLoadRect (View.loadsAt_vmem h_S1x512x128))
  let v1103 : Vec F S1x1x512 .f32 ← Prog.lift (.load arg5 (Rect.unit (s := S1x12x512) ![0, 1, 0] S1x1x512.size inb_S1x12x512_S1x1x512_0_1_0).toLoadRect (View.loadsAt_vmem h_S1x1x512))
  let v1108 : Vec F S1x128x512 .bf16 ← Prog.lift (.load arg13 (Rect.unit (s := S1x1536x512) ![0, 128, 0] S1x128x512.size inb_S1x1536x512_S1x128x512_0_128_0).toLoadRect (View.loadsAt_vmem h_S1x128x512))
  have v1110 : FVec F S1x128x512 .bf16 := k0_pay287 v1099 v1103
  let v1143 : FVec F S128x512 .bf16 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1110
  let v1174 : FVec F S128x512 .bf16 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1143
  k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1174
  let ⟨v1236, v1238, v1239⟩ : Σ' (v1236 : FVec F S512x256 .f32) (v1238 : FVec F S512x256 .f32), FVec F S512x256 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628
  let v1271 : FVec F S512x256 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 v1236 v1238 v1239
  let v1302 : FVec F S512x256 .bf16 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 v1271
  let v1303 : Vec F S1x512x256 .bf16 ← Prog.lift (.load arg12 (Rect.unit (s := S1x512x1536) ![0, 0, 1024] S1x512x256.size inb_S1x512x1536_S1x512x256_0_0_1024).toLoadRect (View.loadsAt_vmem h_S1x512x256))
  Prog.lift (.store arg12 (Rect.unit (s := S1x512x1536) ![0, 0, 1024] S1x512x256.size inb_S1x512x1536_S1x512x256_0_0_1024) (k0_pay309 v1302) Finset.univ (View.stores_vmem h_S1x512x256 (harg12.storeExact_slice rfl _ packedbf16_S1x512x1536_S1x512x256_0_0_1024) (fun _ => rfl)) (.inl rfl))
  let v1306 : Vec F S512x2560 .bf16 ← Prog.lift (.load arg21 (Rect.unit (s := S512x5120) ![0, 0] S512x2560.size inb_S512x5120_S512x2560_0_0).toLoadRect (View.loadsAt_vmem h_S512x2560))
  let v1307 : Vec F S256x2560 .bf16 ← Prog.lift (.load arg20 (Rect.unit (s := S1536x5120) ![1280, 0] S256x2560.size inb_S1536x5120_S256x2560_1280_0).toLoadRect (View.loadsAt_vmem h_S256x2560))
  let v1309 : Vec F S512x2560 .bf16 ← Prog.lift (.load arg21 (Rect.unit (s := S512x5120) ![0, 2560] S512x2560.size inb_S512x5120_S512x2560_0_2560).toLoadRect (View.loadsAt_vmem h_S512x2560))
  let v1310 : Vec F S256x2560 .bf16 ← Prog.lift (.load arg20 (Rect.unit (s := S1536x5120) ![1280, 2560] S256x2560.size inb_S1536x5120_S256x2560_1280_2560).toLoadRect (View.loadsAt_vmem h_S256x2560))
  have v1308 := k0_pay310 v1306 v1307
  have v1311 := k0_pay311 v1309 v1310
  have v1312 := k0_pay312 v87
  let v1318 : Vec F S1x512x256 .bf16 ← Prog.lift (.load arg12 (Rect.unit (s := S1x512x1536) ![0, 0, 1280] S1x512x256.size inb_S1x512x1536_S1x512x256_0_0_1280).toLoadRect (View.loadsAt_vmem h_S1x512x256))
  Prog.lift (.store arg12 (Rect.unit (s := S1x512x1536) ![0, 0, 1280] S1x512x256.size inb_S1x512x1536_S1x512x256_0_0_1280) (k0_pay1 v628 v1308 v1311 v1312) Finset.univ (View.stores_vmem h_S1x512x256 (harg12.storeExact_slice rfl _ packedbf16_S1x512x1536_S1x512x256_0_0_1280) (fun _ => rfl)) (.inl rfl))

/-- What the last grid point alone does: write the two histories. -/
def stEnd (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) PUnit := do
  if k0_h2 : k0_cond2 i = 1#1 then do
    k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    pure ⟨⟩
  else do
    pure ⟨⟩

/-- A grid point of the kernel is its five stages in order. -/
theorem body_eq (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (do
    stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v87 ← stK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v628 ← stV (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    stC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628
    stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  simp only [cc0_quantise_dc_eq_skeleton]; unfold cc0_quantise_dc_skel
  simp only [k0_part53_eq_skeleton]; unfold k0_part53_skel
  simp only [k0_part16_eq_skeleton, k0_part31_eq_skeleton, k0_part46_eq_skeleton]; unfold k0_part16_skel k0_part31_skel k0_part46_skel
  unfold stInit stK stHistK stV stC stEnd
  by_cases h1 : k0_cond1 i = 1#1 <;> by_cases h2 : k0_cond2 i = 1#1 <;>
    simp only [h1, h2, dite_true, dite_false, ↓reduceDIte, bind_assoc, pure_bind]

end Cert.DcIdeal.Hand

end
-- ==== Proof.DcRunK.lean ====
module

public import proofs.«01_k».proof.Proof.DcStage

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The first gradient's stage, run on whole buffers: the inputs are left as they were, each buffer it writes ends with
    the listed rectangles stored, and the scale is returned. -/
def runK (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x10 : Vec F S16 .f32) (x14 : Vec F S1x20x512x128 .fp8e5m2) (x16 : Vec F S1x1 .f32) (x21 : Vec F S512x5120 .bf16) (x22 : Vec F S2x16x128 .bf16) :
    (L14 : List (View.Piece (Elt F) S1x20x512x128 .fp8e5m2)) ×' (L16 : List (View.Piece (Elt F) S1x1 .f32)) ×' (L21 : List (View.Piece (Elt F) S512x5120 .bf16)) ×' (L22 : List (View.Piece (Elt F) S2x16x128 .bf16)) ×' (r : F .f32) ×'
      (∀ (E : Set ℕ) (K : F .f32 → sProp 𝕄),
        iprop(owns (c : Thread nD τ) arg2 fullShare x2 ∗ owns (c : Thread nD τ) arg10 fullShare x10 ∗ owns (c : Thread nD τ) arg14 fullShare x14 ∗ owns (c : Thread nD τ) arg16 fullShare x16 ∗ owns (c : Thread nD τ) arg21 fullShare x21 ∗ owns (c : Thread nD τ) arg22 fullShare x22
            ∗ (iprop(owns (c : Thread nD τ) arg2 fullShare x2 ∗ owns (c : Thread nD τ) arg10 fullShare x10 ∗ (arg14.view.loc (c : Thread nD τ) ↦[arg14.view.set]{fullShare} arg14.view.writes (Elt F) (harg14.unread x14) L14) ∗ (arg16.view.loc (c : Thread nD τ) ↦[arg16.view.set]{fullShare} arg16.view.writes (Elt F) (harg16.unread x16) L16) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K r))
          ⊢ wp frame (wpE (defs₀ (F := F)) Variants.none c none) E (stK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, ?_, ?_, ?_, fun E K => ?run⟩
  case run =>
    unfold stK stHistK
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f2, %hf2, H2⟩, ⟨%f10, %hf10, H10⟩, ⟨%f14, %hf14, H14⟩, ⟨%f16, %hf16, H16⟩, ⟨%f21, %hf21, H21⟩, ⟨%f22, %hf22, H22⟩, Hk⟩
    obtain rfl := harg2.eq_unread hf2; obtain rfl := harg10.eq_unread hf10; obtain rfl := harg14.eq_unread hf14; obtain rfl := harg16.eq_unread hf16; obtain rfl := harg21.eq_unread hf21; obtain rfl := harg22.eq_unread hf22
    sl_exec
    sl_step
    iapply Hk
    isplitl [H2]
    · iexists _; isplitr; · ipureintro; exact harg2.read_unread _
      iexact H2
    isplitl [H10]
    · iexists _; isplitr; · ipureintro; exact harg10.read_unread _
      iexact H10
    isplitl [H14]
    · iexact H14
    isplitl [H16]
    · iexact H16
    isplitl [H21]
    · iexact H21
    iexact H22

end Cert.DcIdeal.Hand

end
-- ==== Proof.DcRunV.lean ====
module

public import proofs.«01_k».proof.Proof.DcStage

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The second gradient's stage, run on whole buffers: the inputs are left as they were, each buffer it writes ends
    with the listed rectangles stored, and the scale is returned. -/
def runV (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x3 : Vec F S1x20x512x128 .bf16) (x11 : Vec F S16 .f32) (x15 : Vec F S1x20x512x128 .fp8e5m2) (x17 : Vec F S1x1 .f32) (x21 : Vec F S512x5120 .bf16) (x22 : Vec F S2x16x128 .bf16) :
    (L15 : List (View.Piece (Elt F) S1x20x512x128 .fp8e5m2)) ×' (L17 : List (View.Piece (Elt F) S1x1 .f32)) ×' (L21 : List (View.Piece (Elt F) S512x5120 .bf16)) ×' (L22 : List (View.Piece (Elt F) S2x16x128 .bf16)) ×' (r : F .f32) ×'
      (∀ (E : Set ℕ) (K : F .f32 → sProp 𝕄),
        iprop(owns (c : Thread nD τ) arg3 fullShare x3 ∗ owns (c : Thread nD τ) arg11 fullShare x11 ∗ owns (c : Thread nD τ) arg15 fullShare x15 ∗ owns (c : Thread nD τ) arg17 fullShare x17 ∗ owns (c : Thread nD τ) arg21 fullShare x21 ∗ owns (c : Thread nD τ) arg22 fullShare x22
            ∗ (iprop(owns (c : Thread nD τ) arg3 fullShare x3 ∗ owns (c : Thread nD τ) arg11 fullShare x11 ∗ (arg15.view.loc (c : Thread nD τ) ↦[arg15.view.set]{fullShare} arg15.view.writes (Elt F) (harg15.unread x15) L15) ∗ (arg17.view.loc (c : Thread nD τ) ↦[arg17.view.set]{fullShare} arg17.view.writes (Elt F) (harg17.unread x17) L17) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K r))
          ⊢ wp frame (wpE (defs₀ (F := F)) Variants.none c none) E (stV (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, ?_, ?_, ?_, fun E K => ?run⟩
  case run =>
    unfold stV
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f3, %hf3, H3⟩, ⟨%f11, %hf11, H11⟩, ⟨%f15, %hf15, H15⟩, ⟨%f17, %hf17, H17⟩, ⟨%f21, %hf21, H21⟩, ⟨%f22, %hf22, H22⟩, Hk⟩
    obtain rfl := harg3.eq_unread hf3; obtain rfl := harg11.eq_unread hf11; obtain rfl := harg15.eq_unread hf15; obtain rfl := harg17.eq_unread hf17; obtain rfl := harg21.eq_unread hf21; obtain rfl := harg22.eq_unread hf22
    sl_exec
    sl_step
    iapply Hk
    isplitl [H3]
    · iexists _; isplitr; · ipureintro; exact harg3.read_unread _
      iexact H3
    isplitl [H11]
    · iexists _; isplitr; · ipureintro; exact harg11.read_unread _
      iexact H11
    isplitl [H15]
    · iexact H15
    isplitl [H17]
    · iexact H17
    isplitl [H21]
    · iexact H21
    iexact H22

end Cert.DcIdeal.Hand

end
-- ==== Proof.DcRunC.lean ====
module

public import proofs.«01_k».proof.Proof.DcStage

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The products' stage, run on whole buffers: the inputs and the two operands in scratch are left as they were, each
    output ends with the listed rectangles stored. -/
def runC (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (v87 v628 : F .f32)
    (x4 : Vec F S1x512x1536 .fp8e4m3) (x5 : Vec F S1x12x512 .f32) (x20 : Vec F S1536x5120 .bf16) (x21 : Vec F S512x5120 .bf16) (x12 : Vec F S1x512x1536 .bf16) (x13 : Vec F S1x1536x512 .bf16) :
    (L12 : List (View.Piece (Elt F) S1x512x1536 .bf16)) ×' (L13 : List (View.Piece (Elt F) S1x1536x512 .bf16)) ×'
      (∀ (E : Set ℕ) (K : PUnit → sProp 𝕄),
        iprop(owns (c : Thread nD τ) arg4 fullShare x4 ∗ owns (c : Thread nD τ) arg5 fullShare x5 ∗ owns (c : Thread nD τ) arg12 fullShare x12 ∗ owns (c : Thread nD τ) arg13 fullShare x13 ∗ owns (c : Thread nD τ) arg20 fullShare x20 ∗ owns (c : Thread nD τ) arg21 fullShare x21
            ∗ (iprop(owns (c : Thread nD τ) arg4 fullShare x4 ∗ owns (c : Thread nD τ) arg5 fullShare x5 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg20 fullShare x20 ∗ owns (c : Thread nD τ) arg21 fullShare x21) -∗ K ⟨⟩))
          ⊢ wp frame (wpE (defs₀ (F := F)) Variants.none c none) E (stC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628) K) := by
  refine ⟨?_, ?_, fun E K => ?run⟩
  case run =>
    unfold stC
    simp only [k0_part47_eq_skeleton, k0_part48_eq_skeleton, k0_part49_eq_skeleton, k0_part50_eq_skeleton, k0_part51_eq_skeleton, k0_part52_eq_skeleton]
    unfold owns
    iintro ⟨⟨%f4, %hf4, H4⟩, ⟨%f5, %hf5, H5⟩, ⟨%f12, %hf12, H12⟩, ⟨%f13, %hf13, H13⟩, ⟨%f20, %hf20, H20⟩, ⟨%f21, %hf21, H21⟩, Hk⟩
    obtain rfl := harg4.eq_unread hf4; obtain rfl := harg5.eq_unread hf5; obtain rfl := harg12.eq_unread hf12; obtain rfl := harg13.eq_unread hf13; obtain rfl := harg20.eq_unread hf20; obtain rfl := harg21.eq_unread hf21
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H12]
    · iexact H12
    isplitl [H13]
    · iexact H13
    isplitl [H20]
    · iexists _; isplitr; · ipureintro; exact harg20.read_unread _
      iexact H20
    iexists _; isplitr; · ipureintro; exact harg21.read_unread _
    iexact H21

end Cert.DcIdeal.Hand

end
-- ==== Proof.DcRunI.lean ====
module

public import proofs.«01_k».proof.Proof.DcStage

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The first point's own stage, run on whole buffers: the weights and their scales are left as they were, the
    dequantised weights and the running maxima are stored. -/
def runInit (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (hc : k0_cond1 i = 1#1) :
    (L20 : List (View.Piece (Elt F) S1536x5120 .bf16)) ×' (L22 : List (View.Piece (Elt F) S2x16x128 .bf16)) ×'
      (∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare x20 ∗ owns (c : Thread nD τ) arg22 fullShare x22
            ∗ (iprop(owns (c : Thread nD τ) arg6 fullShare x6 ∗ owns (c : Thread nD τ) arg7 fullShare x7 ∗ owns (c : Thread nD τ) arg8 fullShare x8 ∗ owns (c : Thread nD τ) arg9 fullShare x9 ∗ (arg20.view.loc (c : Thread nD τ) ↦[arg20.view.set]{fullShare} arg20.view.writes (Elt F) (harg20.unread x20) L20) ∗ (arg22.view.loc (c : Thread nD τ) ↦[arg22.view.set]{fullShare} arg22.view.writes (Elt F) (harg22.unread x22) L22)) -∗ K ⟨⟩))
          ⊢ wp frame (wpE (defs₀ (F := F)) Variants.none c none) E (stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, fun E K => ?run⟩
  case run =>
    unfold stInit
    unfold owns
    iintro ⟨⟨%f6, %hf6, H6⟩, ⟨%f7, %hf7, H7⟩, ⟨%f8, %hf8, H8⟩, ⟨%f9, %hf9, H9⟩, ⟨%f20, %hf20, H20⟩, ⟨%f22, %hf22, H22⟩, Hk⟩
    obtain rfl := harg6.eq_unread hf6; obtain rfl := harg7.eq_unread hf7; obtain rfl := harg8.eq_unread hf8; obtain rfl := harg9.eq_unread hf9; obtain rfl := harg20.eq_unread hf20; obtain rfl := harg22.eq_unread hf22
    sl_exec (disch := sl_exact hc)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H20]
    · iexact H20
    iexact H22

-- (the run's proof term is large: checking it walks past the default budget)
set_option maxHeartbeats 4000000 in
/-- The last point's own stage, run on whole buffers: the histories and the running maxima are left as they were, the
    new histories are stored. -/
def runEnd (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x10 : Vec F S16 .f32) (x11 : Vec F S16 .f32) (x22 : Vec F S2x16x128 .bf16) (x18 : Vec F S16 .f32) (x19 : Vec F S16 .f32) (hc : k0_cond2 i = 1#1) :
    (L18 : List (View.Piece (Elt F) S16 .f32)) ×' (L19 : List (View.Piece (Elt F) S16 .f32)) ×'
      (∀ (E : Set ℕ) (K : PUnit → sProp 𝕄),
        iprop(owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg22 fullShare x22
            ∗ (iprop(owns (c : Thread nD τ) arg10 fullShare x10 ∗ owns (c : Thread nD τ) arg11 fullShare x11 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ owns (c : Thread nD τ) arg22 fullShare x22) -∗ K ⟨⟩))
          ⊢ wp frame (wpE (defs₀ (F := F)) Variants.none c none) E (stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, fun E K => ?run⟩
  case run =>
    unfold stEnd
    simp only [k0_part13_eq_skeleton, k0_part14_eq_skeleton, k0_part15_eq_skeleton]
    unfold owns
    iintro ⟨⟨%f10, %hf10, H10⟩, ⟨%f11, %hf11, H11⟩, ⟨%f18, %hf18, H18⟩, ⟨%f19, %hf19, H19⟩, ⟨%f22, %hf22, H22⟩, Hk⟩
    obtain rfl := harg10.eq_unread hf10; obtain rfl := harg11.eq_unread hf11; obtain rfl := harg18.eq_unread hf18; obtain rfl := harg19.eq_unread hf19; obtain rfl := harg22.eq_unread hf22
    sl_exec (disch := sl_exact hc)
    sl_step
    iapply Hk
    isplitl [H10]
    · iexists _; isplitr; · ipureintro; exact harg10.read_unread _
      iexact H10
    isplitl [H11]
    · iexists _; isplitr; · ipureintro; exact harg11.read_unread _
      iexact H11
    isplitl [H18]
    · iexact H18
    isplitl [H19]
    · iexact H19
    iexists _; isplitr; · ipureintro; exact harg22.read_unread _
    iexact H22

end Cert.DcIdeal.Hand

end
-- ==== Proof.DcPiece.lean ====
module

public import proofs.«01_k».proof.Proof.DcRunK
public import proofs.«01_k».proof.Proof.DcRunV
public import proofs.«01_k».proof.Proof.DcRunC
public import proofs.«01_k».proof.Proof.DcRunI

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of a head lies in a gradient's block. -/
theorem inbG (h : Nat) (hh : h < 20) : ∀ a, (![0, h, 0, 0] : Fin 4 → Nat) a + S1x1x512x128.size a ≤ S1x20x512x128.size a := by
  intro a; fin_cases a <;> simp [S1x20x512x128, S1x1x512x128] <;> omega

/-- The columns of a head lie in the operand. -/
theorem inbL (k : Nat) (hk : k < 40) : ∀ a, (![0, k * 128] : Fin 2 → Nat) a + S512x128.size a ≤ S512x5120.size a := by
  intro a; fin_cases a <;> simp [S512x5120, S512x128] <;> omega

/-- An entry lies in the history. -/
theorem inbH (j : Nat) (hj : j < 16) : ∀ a, (![j] : Fin 1 → Nat) a + S1.size a ≤ S16.size a := by
  intro a; fin_cases a; simp [S16, S1]; omega

/-- The columns of a group lie in the block of latents. -/
theorem inbC (g : Nat) (hg : g < 12) : ∀ a, (![0, 0, g * 128] : Fin 3 → Nat) a + S1x512x128.size a ≤ S1x512x1536.size a := by
  intro a; fin_cases a <;> simp [S1x512x1536, S1x512x128] <;> omega

/-- The row of a group lies in the block of scales. -/
theorem inbCs (g : Nat) (hg : g < 12) : ∀ a, (![0, g, 0] : Fin 3 → Nat) a + S1x1x512.size a ≤ S1x12x512.size a := by
  intro a; fin_cases a <;> simp [S1x12x512, S1x1x512] <;> omega

/-- The rows of a group lie in the block of dequantised latents. -/
theorem inbT (g : Nat) (hg : g < 12) : ∀ a, (![0, g * 128, 0] : Fin 3 → Nat) a + S1x128x512.size a ≤ S1x1536x512.size a := by
  intro a; fin_cases a <;> simp [S1x1536x512, S1x128x512] <;> omega

/-- The columns of a product lie in the block of the gradient. -/
theorem inbD (n : Nat) (hn : n < 6) : ∀ a, (![0, 0, n * 256] : Fin 3 → Nat) a + S1x512x256.size a ≤ S1x512x1536.size a := by
  intro a; fin_cases a <;> simp [S1x512x1536, S1x512x256] <;> omega

/-- One half lies in the operand. -/
theorem inbR (p : Nat) (hp : p < 2) : ∀ a, (![0, p * 2560] : Fin 2 → Nat) a + S512x2560.size a ≤ S512x5120.size a := by
  intro a; fin_cases a <;> simp [S512x5120, S512x2560] <;> omega

/-- One half of a product's rows lies in the widened weights. -/
theorem inbW (n p : Nat) (hn : n < 6) (hp : p < 2) : ∀ a, (![n * 256, p * 2560] : Fin 2 → Nat) a + S256x2560.size a ≤ S1536x5120.size a := by
  intro a; fin_cases a <;> simp [S1536x5120, S256x2560] <;> omega

/-- One half lies in the running maxima. -/
theorem inbA (p : Nat) (hp : p < 2) : ∀ a, (![p, 0, 0] : Fin 3 → Nat) a + S1x16x128.size a ≤ S2x16x128.size a := by
  intro a; fin_cases a <;> simp [S2x16x128, S1x16x128] <;> omega

/-- One head of a gradient's block, as the kernel loads it. -/
abbrev ldG (a : Memref sig .tc .vmem S1x20x512x128 .bf16) (ha : a.IsWhole) (x : Vec F S1x20x512x128 .bf16) (h : Nat) (hh : h < 20) : Vec F S1x1x512x128 .bf16 :=
  View.readAt (Elt F) a.view (Rect.unit (s := S1x20x512x128) ![0, h, 0, 0] S1x1x512x128.size (inbG h hh)).toLoadRect (ha.unread x)

/-- One entry of a history, as the kernel loads it. -/
abbrev ldH (a : Memref sig .tc .smem S16 .f32) (ha : a.IsWhole) (x : Vec F S16 .f32) (j : Nat) (hj : j < 16) : Elt F .f32 :=
  View.readAt (Elt F) a.view (Rect.unit (s := S16) ![j] S1.size (inbH j hj)).toLoadRect (ha.unread x) (Shape.Idx.first (s := S1) (by decide))

/-- The largest entry of a history, taken in the kernel's order. -/
def histMax (a : Memref sig .tc .smem S16 .f32) (ha : a.IsWhole) (x : Vec F S16 .f32) : F .f32 :=
  k0_pay55 (ldH a ha x 0 (by decide)) (ldH a ha x 1 (by decide)) (ldH a ha x 2 (by decide)) (ldH a ha x 3 (by decide)) (ldH a ha x 4 (by decide)) (ldH a ha x 5 (by decide)) (ldH a ha x 6 (by decide)) (ldH a ha x 7 (by decide)) (ldH a ha x 8 (by decide)) (ldH a ha x 9 (by decide)) (ldH a ha x 10 (by decide)) (ldH a ha x 11 (by decide)) (ldH a ha x 12 (by decide)) (ldH a ha x 13 (by decide)) (ldH a ha x 14 (by decide)) (ldH a ha x 15 (by decide))

/-- The exponent the kernel finds for a history's largest entry `h`, of `x = h / 57344`. -/
def gradExp (h x : F .f32) : BitVec 32 :=
  let v38 : BitVec 32 := Scalar.addi 0#32 1073741824#32
  let v40 : BitVec 1 := Scalar.cmpf .oge (k0_pay57 x) (k0_pay58 (F := F))
  let v41 : BitVec 32 := Scalar.select v40 v38 0#32
  let v42 : BitVec 32 := Scalar.addi v41 536870912#32
  let v44 : BitVec 1 := Scalar.cmpf .oge (k0_pay57 x) (k0_pay59 x)
  let v45 : BitVec 32 := Scalar.select v44 v42 v41
  let v46 : BitVec 32 := Scalar.addi v45 268435456#32
  let v48 : BitVec 1 := Scalar.cmpf .oge (k0_pay57 x) (k0_pay60 x)
  let v49 : BitVec 32 := Scalar.select v48 v46 v45
  let v50 : BitVec 32 := Scalar.addi v49 134217728#32
  let v52 : BitVec 1 := Scalar.cmpf .oge (k0_pay57 x) (k0_pay61 x)
  let v53 : BitVec 32 := Scalar.select v52 v50 v49
  let v54 : BitVec 32 := Scalar.addi v53 67108864#32
  let v56 : BitVec 1 := Scalar.cmpf .oge (k0_pay57 x) (k0_pay62 x)
  let v57 : BitVec 32 := Scalar.select v56 v54 v53
  let v58 : BitVec 32 := Scalar.addi v57 33554432#32
  let v60 : BitVec 1 := Scalar.cmpf .oge (k0_pay57 x) (k0_pay63 x)
  let v61 : BitVec 32 := Scalar.select v60 v58 v57
  let v62 : BitVec 32 := Scalar.addi v61 16777216#32
  let v64 : BitVec 1 := Scalar.cmpf .oge (k0_pay57 x) (k0_pay64 x)
  let v65 : BitVec 32 := Scalar.select v64 v62 v61
  let v66 : BitVec 32 := Scalar.addi v65 8388608#32
  let v68 : BitVec 1 := Scalar.cmpf .oge (k0_pay57 x) (k0_pay65 x)
  let v69 : BitVec 32 := Scalar.select v68 v66 v65
  let v70 : BitVec 32 := Scalar.shrsi v69 23#32
  let v71 : BitVec 32 := Scalar.andi v70 255#32
  let v72 : BitVec 1 := Scalar.cmpi .eq v71 0#32
  let v73 : BitVec 1 := Scalar.cmpi .eq v71 255#32
  let v74 : BitVec 1 := Scalar.ori v72 v73
  let v75 : BitVec 32 := Scalar.subi v71 126#32
  let v76 : BitVec 32 := Scalar.select v74 0#32 v75
  have cst_6 : F .f32 := Scalar.ofBits .f32 0x00000000#32
  let v77 : BitVec 1 := Scalar.cmpf .oeq h cst_6
  let v78 : BitVec 32 := Scalar.select v77 0#32 v76
  v78

/-- The exponent of a history, from the history. -/
def histExp (a : Memref sig .tc .smem S16 .f32) (ha : a.IsWhole) (x : Vec F S16 .f32) : BitVec 32 :=
  gradExp (histMax a ha x) (Scalar.mulf (histMax a ha x) (Scalar.ofBits .f32 0x37924925#32))

/-- The rectangle of codes stored for head `h`. -/
def codePiece (e : BitVec 32) (a : Memref sig .tc .vmem S1x20x512x128 .bf16) (ha : a.IsWhole) (x : Vec F S1x20x512x128 .bf16) (h : Fin 20) :
    View.Piece (Elt F) S1x20x512x128 .fp8e5m2 :=
  ⟨Rect.unit (s := S1x20x512x128) ![0, h.val, 0, 0] S1x1x512x128.size (inbG _ h.isLt), k0_pay72 (k0_pay70 e (ldG a ha x h.val h.isLt))⟩

/-- The rectangle of widened codes stored for head `h`, in the half `p` of the operand. -/
def lhsPiece (p : Nat) (hp : p < 2) (e : BitVec 32) (a : Memref sig .tc .vmem S1x20x512x128 .bf16) (ha : a.IsWhole) (x : Vec F S1x20x512x128 .bf16) (h : Fin 20) :
    View.Piece (Elt F) S512x5120 .bf16 :=
  ⟨Rect.unit (s := S512x5120) ![0, (p * 20 + h.val) * 128] S512x128.size (inbL _ (by omega)), k0_pay73 (k0_pay70 e (ldG a ha x h.val h.isLt))⟩

/-- One head's magnitudes taken into the running maximum. -/
def amaxStep (acc : FVec F S16x128 .bf16) (g : Vec F S1x1x512x128 .bf16) : FVec F S16x128 .bf16 :=
  maximumf acc (multiReduction .maximumf [0] S16x128 (shapeCast S32x16x128 (absf (k0_pay68 g)) shapeCasts_S512x128_S32x16x128) 0xFF80#16 reduces_S32x16x128_S16x128 (.inr rfl) rfl)

/-- The running maximum after the heads of one block. -/
def amaxRun (p : Nat) (hp : p < 2) (b : Memref sig .tc .vmem S2x16x128 .bf16) (hb : b.IsWhole) (s : Vec F S2x16x128 .bf16)
    (a : Memref sig .tc .vmem S1x20x512x128 .bf16) (ha : a.IsWhole) (x : Vec F S1x20x512x128 .bf16) : FVec F S16x128 .bf16 :=
  ([0, 1, 2, 3, 4, 5, 6, 7, 8, 9, 10, 11, 12, 13, 14, 15, 16, 17, 18, 19] : List (Fin 20)).foldl (fun acc h => amaxStep acc (ldG a ha x h.val h.isLt))
    (shapeCast S16x128 (View.readAt (Elt F) b.view (Rect.unit (s := S2x16x128) ![p, 0, 0] S1x16x128.size (inbA p hp)).toLoadRect (hb.unread s)) shapeCasts_S1x16x128_S16x128)

/-- The rectangle of the running maximum that one stage stores. -/
def amaxPiece (p : Nat) (hp : p < 2) (b : Memref sig .tc .vmem S2x16x128 .bf16) (hb : b.IsWhole) (s : Vec F S2x16x128 .bf16)
    (a : Memref sig .tc .vmem S1x20x512x128 .bf16) (ha : a.IsWhole) (x : Vec F S1x20x512x128 .bf16) : View.Piece (Elt F) S2x16x128 .bf16 :=
  ⟨Rect.unit (s := S2x16x128) ![p, 0, 0] S1x16x128.size (inbA p hp), k0_pay170 (amaxRun p hp b hb s a ha x)⟩

/-- The rectangle the scale is stored in. -/
def scalePiece (e : BitVec 32) : View.Piece (Elt F) S1x1 .f32 :=
  ⟨Rect.unit (s := S1x1) ![0, 0] S1x1.size inb_S1x1_S1x1_0_0, fun _ => k0_pay66 e⟩

/-- One group of the latents' codes, transposed and scaled. -/
def ctPiece (a4 : Memref sig .tc .vmem S1x512x1536 .fp8e4m3) (h4 : a4.IsWhole) (x4 : Vec F S1x512x1536 .fp8e4m3)
    (a5 : Memref sig .tc .vmem S1x12x512 .f32) (h5 : a5.IsWhole) (x5 : Vec F S1x12x512 .f32) (g : Fin 12) : View.Piece (Elt F) S1x1536x512 .bf16 :=
  ⟨Rect.unit (s := S1x1536x512) ![0, g.val * 128, 0] S1x128x512.size (inbT _ g.isLt),
    k0_pay286 (View.readAt (Elt F) a4.view (Rect.unit (s := S1x512x1536) ![0, 0, g.val * 128] S1x512x128.size (inbC _ g.isLt)).toLoadRect (h4.unread x4))
      (View.readAt (Elt F) a5.view (Rect.unit (s := S1x12x512) ![0, g.val, 0] S1x1x512.size (inbCs _ g.isLt)).toLoadRect (h5.unread x5))⟩

/-- One tile of the latents' gradient. -/
def dcPiece (sk sv : F .f32) (a21 : Memref sig .tc .vmem S512x5120 .bf16) (h21 : a21.IsWhole) (x21 : Vec F S512x5120 .bf16)
    (a20 : Memref sig .tc .vmem S1536x5120 .bf16) (h20 : a20.IsWhole) (x20 : Vec F S1536x5120 .bf16) (n : Fin 6) : View.Piece (Elt F) S1x512x1536 .bf16 :=
  ⟨Rect.unit (s := S1x512x1536) ![0, 0, n.val * 256] S1x512x256.size (inbD _ n.isLt),
    k0_pay1 sv
      (k0_pay310 (View.readAt (Elt F) a21.view (Rect.unit (s := S512x5120) ![0, 0 * 2560] S512x2560.size (inbR 0 (by decide))).toLoadRect (h21.unread x21))
        (View.readAt (Elt F) a20.view (Rect.unit (s := S1536x5120) ![n.val * 256, 0 * 2560] S256x2560.size (inbW _ 0 n.isLt (by decide))).toLoadRect (h20.unread x20)))
      (k0_pay311 (View.readAt (Elt F) a21.view (Rect.unit (s := S512x5120) ![0, 1 * 2560] S512x2560.size (inbR 1 (by decide))).toLoadRect (h21.unread x21))
        (View.readAt (Elt F) a20.view (Rect.unit (s := S1536x5120) ![n.val * 256, 1 * 2560] S256x2560.size (inbW _ 1 n.isLt (by decide))).toLoadRect (h20.unread x20)))
      (k0_pay312 sk)⟩

/-- The heads, last first. -/
abbrev heads : List (Fin 20) := [19, 18, 17, 16, 15, 14, 13, 12, 11, 10, 9, 8, 7, 6, 5, 4, 3, 2, 1, 0]

section
variable (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
section
variable (x2 : Vec F S1x20x512x128 .bf16) (x10 : Vec F S16 .f32) (x14 : Vec F S1x20x512x128 .fp8e5m2) (x16 : Vec F S1x1 .f32) (x21 : Vec F S512x5120 .bf16) (x22 : Vec F S2x16x128 .bf16)

/-- What the keys' stage stores of the codes. -/
theorem runK_codes : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 x22).1 = heads.map (codePiece (histExp arg10 harg10 x10) arg2 harg2 x2) := rfl

/-- What the keys' stage stores of the scale. -/
theorem runK_scale : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 x22).2.1 = [scalePiece (histExp arg10 harg10 x10)] := rfl

/-- What the keys' stage stores of the operand. -/
theorem runK_lhs : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 x22).2.2.1 = heads.map (lhsPiece 0 (by decide) (histExp arg10 harg10 x10) arg2 harg2 x2) := rfl

/-- What the keys' stage stores of the running maxima. -/
theorem runK_amax : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 x22).2.2.2.1 = [amaxPiece 0 (by decide) arg22 harg22 x22 arg2 harg2 x2] := rfl

/-- What the keys' stage returns. -/
theorem runK_ret : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 x22).2.2.2.2.1 = k0_pay66 (histExp arg10 harg10 x10) := rfl

end

section
variable (x3 : Vec F S1x20x512x128 .bf16) (x11 : Vec F S16 .f32) (x15 : Vec F S1x20x512x128 .fp8e5m2) (x17 : Vec F S1x1 .f32) (x21 : Vec F S512x5120 .bf16) (x22 : Vec F S2x16x128 .bf16)

/-- What the values' stage stores of the codes. -/
theorem runV_codes : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 x21 x22).1 = heads.map (codePiece (histExp arg11 harg11 x11) arg3 harg3 x3) := rfl

/-- What the values' stage stores of the scale. -/
theorem runV_scale : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 x21 x22).2.1 = [scalePiece (histExp arg11 harg11 x11)] := rfl

/-- What the values' stage stores of the operand. -/
theorem runV_lhs : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 x21 x22).2.2.1 = heads.map (lhsPiece 1 (by decide) (histExp arg11 harg11 x11) arg3 harg3 x3) := rfl

/-- What the values' stage stores of the running maxima. -/
theorem runV_amax : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 x21 x22).2.2.2.1 = [amaxPiece 1 (by decide) arg22 harg22 x22 arg3 harg3 x3] := rfl

/-- What the values' stage returns. -/
theorem runV_ret : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 x21 x22).2.2.2.2.1 = k0_pay66 (histExp arg11 harg11 x11) := rfl

end

section
variable (v87 v628 : F .f32) (x4 : Vec F S1x512x1536 .fp8e4m3) (x5 : Vec F S1x12x512 .f32) (x20 : Vec F S1536x5120 .bf16) (x21 : Vec F S512x5120 .bf16) (x12 : Vec F S1x512x1536 .bf16) (x13 : Vec F S1x1536x512 .bf16)

/-- What the product stage stores of the gradient. -/
theorem runC_dc : (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 x20 x21 x12 x13).1 = ([5, 4, 3, 2, 1, 0] : List (Fin 6)).map (dcPiece v87 v628 arg21 harg21 x21 arg20 harg20 x20) := rfl

/-- What the product stage stores of the dequantised latents. -/
theorem runC_ct : (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 x20 x21 x12 x13).2.1 = ([11, 10, 9, 8, 7, 6, 5, 4, 3, 2, 1, 0] : List (Fin 12)).map (ctPiece arg4 harg4 x4 arg5 harg5 x5) := rfl

end

end

end Cert.DcIdeal.Hand

end
-- ==== Proof.DcInit.lean ====
module

public import proofs.«01_k».proof.Proof.DcPiece

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop has twelve trips. -/
theorem trips_eq : k0_t1_loop.trips = 12 := by decide

/-- The row at which trip `t` starts. -/
theorem row_eq (t : Fin k0_t1_loop.trips) : k0_off3 t 0 = t.val * 128 := by
  revert t; decide

/-- The group of trip `t`. -/
theorem grp_eq (t : Fin k0_t1_loop.trips) : k0_off2 t 0 = t.val := by
  revert t; decide

/-- The rectangle of codes a trip reads for a head lies in the weights. -/
theorem inbWl (t : Fin k0_t1_loop.trips) (h : Nat) (hh : h < 20) : ∀ a, (![h, k0_off3 t 0, 0] : Fin 3 → Nat) a + S1x128x128.size a ≤ S20x1536x128.size a := by
  have := t.isLt.trans_eq trips_eq; rw [row_eq]
  intro a; fin_cases a <;> simp [S20x1536x128, S1x128x128] <;> omega

/-- The scale a trip reads lies in the scales. -/
theorem inbWs (t : Fin k0_t1_loop.trips) (h : Nat) (hh : h < 20) : ∀ a, (![k0_off2 t 0, h] : Fin 2 → Nat) a + S1x1.size a ≤ S12x20.size a := by
  have := t.isLt.trans_eq trips_eq; rw [grp_eq]
  intro a; fin_cases a <;> simp [S12x20, S1x1] <;> omega

/-- The rectangle a trip stores lies in the scratch. -/
theorem inbWo (t : Fin k0_t1_loop.trips) (k : Nat) (hk : k < 40) : ∀ a, (![k0_off3 t 0, k * 128] : Fin 2 → Nat) a + S128x128.size a ≤ S1536x5120.size a := by
  have := t.isLt.trans_eq trips_eq; rw [row_eq]
  intro a; fin_cases a <;> simp [S1536x5120, S128x128] <;> omega

/-- One group's rows of one head's weights, dequantised, in the half `p` of the operand. -/
def wPiece (p : Nat) (hp : p < 2) (aw : Memref sig .tc .vmem S20x1536x128 .fp8e4m3) (asc : Memref sig .tc .smem S12x20 .f32)
    (X : aw.view.ty.Contents (Elt F)) (Y : asc.view.ty.Contents (Elt F)) (t : Fin k0_t1_loop.trips) (h : Fin 20) : View.Piece (Elt F) S1536x5120 .bf16 :=
  ⟨Rect.unit (s := S1536x5120) ![k0_off3 t 0, (p * 20 + h.val) * 128] S128x128.size (inbWo t _ (by omega)),
    k0_pay2 (View.readAt (Elt F) aw.view (Rect.unit (s := S20x1536x128) ![h.val, k0_off3 t 0, 0] S1x128x128.size (inbWl t _ h.isLt)).toLoadRect X)
      (View.readAt (Elt F) asc.view (Rect.unit (s := S12x20) ![k0_off2 t 0, h.val] S1x1.size (inbWs t _ h.isLt)).toLoadRect Y (Shape.Idx.first (s := S1x1) (by decide)))⟩

/-- The rectangles the last point stores into a history, last first: entry `j` is the old entry `j - 1`, entry 0 the new maximum. -/
def histPieces (a : Memref sig .tc .smem S16 .f32) (ha : a.IsWhole) (x : Vec F S16 .f32) (v : F .f32) : List (View.Piece (Elt F) S16 .f32) :=
  ([14, 13, 12, 11, 10, 9, 8, 7, 6, 5, 4, 3, 2, 1, 0] : List (Fin 15)).map
    (fun j => ⟨Rect.unit (s := S16) ![j.val + 1] S1.size (inbH _ (by omega)), fun _ => ldH a ha x j.val (by omega)⟩)
  ++ [⟨Rect.unit (s := S16) ![0] S1.size inb_S16_S1_0, fun _ => v⟩]

section
variable (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)

/-- What a trip of the keys' loop stores. -/
theorem trip1 (h1 : k0_cond1 i = 1#1) (X : arg6.view.ty.Contents (Elt F)) (Y : arg8.view.ty.Contents (Elt F)) (t : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y t = heads.map (wPiece 0 (by decide) arg6 arg8 X Y t) := by
  unfold tripL_k0_t1 trip_k0_t1
  rfl

/-- What a trip of the values' loop stores. -/
theorem trip2 (h1 : k0_cond1 i = 1#1) (X : arg7.view.ty.Contents (Elt F)) (Y : arg9.view.ty.Contents (Elt F)) (t : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y t = heads.map (wPiece 1 (by decide) arg7 arg9 X Y t) := by
  unfold tripL_k0_t2 trip_k0_t2
  rfl

/-- What the first point's own stage leaves of the weights. -/
theorem runInit_w (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (h1 : k0_cond1 i = 1#1) :
    (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h1).1
      = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 (harg7.unread x7) (harg9.unread x9) k0_t2_loop.trips
        ++ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 (harg6.unread x6) (harg8.unread x8) k0_t1_loop.trips := rfl

/-- What the first point's own stage leaves of the running maxima. -/
theorem runInit_amax (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (h1 : k0_cond1 i = 1#1) :
    (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h1).2.1
      = [⟨Rect.unit (s := S2x16x128) ![0, 0, 0] S2x16x128.size inb_S2x16x128_S2x16x128_0_0_0, k0_pay54⟩] := rfl

/-- What the last point's own stage leaves of the keys' history. -/
theorem runEnd_hk (x10 x11 : Vec F S16 .f32) (x22 : Vec F S2x16x128 .bf16) (x18 x19 : Vec F S16 .f32) (h2 : k0_cond2 i = 1#1) :
    (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h2).1 = histPieces arg10 harg10 x10
      (k0_pay48 (View.readAt (Elt F) arg22.view (Rect.unit (s := S2x16x128) ![0, 0, 0] S1x16x128.size (inbA 0 (by decide))).toLoadRect (harg22.unread x22))) := rfl

/-- What the last point's own stage leaves of the values' history. -/
theorem runEnd_hv (x10 x11 : Vec F S16 .f32) (x22 : Vec F S2x16x128 .bf16) (x18 x19 : Vec F S16 .f32) (h2 : k0_cond2 i = 1#1) :
    (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h2).2.1 = histPieces arg11 harg11 x11
      (k0_pay48 (View.readAt (Elt F) arg22.view (Rect.unit (s := S2x16x128) ![1, 0, 0] S1x16x128.size (inbA 1 (by decide))).toLoadRect (harg22.unread x22))) := rfl
end

end Cert.DcIdeal.Hand

end
-- ==== Proof.DcVal.lean ====
module

public import proofs.«01_k».proof.Proof.DcInit
public import Idealize.ShloMosaic.Lib.Pointwise

@[expose] public section

set_option maxRecDepth 16384

noncomputable section

namespace Cert.DcIdeal.Hand

open Cert.DcIdeal Cert.DcIdeal.Gen
open Idealize.ShloMosaic Idealize.ShloMosaic.TcCoe

/-- The reciprocal of the scale with exponent `e`, as the kernel builds it. -/
def invOf (e : BitVec 32) : EReal := k0_pay67 (F := Ideal) e (ix2 0 0)

/-- The scale with exponent `e`, as the kernel builds it. -/
def scaleOf (e : BitVec 32) : EReal := k0_pay66 (F := Ideal) e

/-- A gradient's entry times the scale's reciprocal, clipped to the codes' range. -/
def code (x i : EReal) : EReal := min (Ideal.ofBits .f32 0x47600000#32) (max (Ideal.ofBits .f32 0xC7600000#32) (x * i))

theorem pay67_apply (e : BitVec 32) (d : Fin 128) : k0_pay67 (F := Ideal) e (ix2 0 d) = invOf e := by
  unfold invOf k0_pay67
  pointwise

theorem pay71_apply (e : BitVec 32) (g : Vec Ideal S1x1x512x128 .bf16) (r : Fin 512) (d : Fin 128) :
    k0_pay71 (F := Ideal) (k0_pay70 e g) (ix2 r d) = code (g (ix4 0 0 r d)) (invOf e) := by
  unfold k0_pay71 k0_pay70 k0_pay68 code
  pointwise [pay67_apply]

theorem pay72_apply (e : BitVec 32) (g : Vec Ideal S1x1x512x128 .bf16) (u v : Fin 1) (r : Fin 512) (d : Fin 128) :
    k0_pay72 (F := Ideal) (k0_pay70 e g) (ix4 u v r d) = code (g (ix4 0 0 r d)) (invOf e) := by
  obtain rfl : u = 0 := Subsingleton.elim _ _
  obtain rfl : v = 0 := Subsingleton.elim _ _
  unfold k0_pay72
  pointwise [pay71_apply]

theorem pay73_apply (e : BitVec 32) (g : Vec Ideal S1x1x512x128 .bf16) (r : Fin 512) (d : Fin 128) :
    k0_pay73 (F := Ideal) (k0_pay70 e g) (ix2 r d) = code (g (ix4 0 0 r d)) (invOf e) := by
  unfold k0_pay73
  pointwise [pay71_apply]

theorem pay286_apply (v : Vec Ideal S1x512x128 .fp8e4m3) (w : Vec Ideal S1x1x512 .f32) (u : Fin 1) (r : Fin 128) (k : Fin 512) :
    k0_pay286 (F := Ideal) v w (ix3 u r k) = v (ix3 0 k r) * w (ix3 0 0 k) := by
  obtain rfl : u = 0 := Subsingleton.elim _ _
  unfold k0_pay286
  pointwise

theorem pay2_apply (v : Vec Ideal S1x128x128 .fp8e4m3) (s : EReal) (r d : Fin 128) :
    k0_pay2 (F := Ideal) v s (ix2 r d) = v (ix3 0 r d) * s := by
  unfold k0_pay2
  pointwise

theorem tile_apply (sk sv : EReal) (a c : Vec Ideal S512x2560 .bf16) (b d : Vec Ideal S256x2560 .bf16) (u : Fin 1) (r : Fin 512) (j : Fin 256) :
    k0_pay1 (F := Ideal) sv (k0_pay310 a b) (k0_pay311 c d) (k0_pay312 sk) (ix3 u r j)
      = (∑ k : Fin 2560, a (ix2 r k) * b (ix2 j k)) * sk + (∑ k : Fin 2560, c (ix2 r k) * d (ix2 j k)) * sv := by
  obtain rfl : u = 0 := Subsingleton.elim _ _
  unfold k0_pay1 k0_pay310 k0_pay311 k0_pay312
  pointwise [dot_S512x2560_S256x2560_S512x256_1_1_0_0_n_n]

end Cert.DcIdeal.Hand

end
-- ==== Proof.DcBody.lean ====
module

public import proofs.«01_k».proof.Proof.DcRunK
public import proofs.«01_k».proof.Proof.DcRunV
public import proofs.«01_k».proof.Proof.DcRunC
public import proofs.«01_k».proof.Proof.DcRunI

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer entered holding `x` holds once the listed rectangles are stored. -/
abbrev stored {sp : Space} {S : Shape} {e : EltTy} (a : Memref sig .tc sp S e) (ha : a.IsWhole) (x : Vec F S e) (L : List (View.Piece (Elt F) S e)) :
    Vec F S e := a.view.read (Elt F) (a.view.writes (Elt F) (ha.unread x) L)

attribute [local irreducible] runK runV runC runInit runEnd

/-- A buffer holding the listed rectangles over `x` holds what `stored` names. -/
theorem owns_of {c : Dev nD} {sp : Space} {S : Shape} {e : EltTy} {a : Memref sig .tc sp S e} {ha : a.IsWhole} {x : Vec F S e} {L : List (View.Piece (Elt F) S e)}
    {Y : Vec F S e} (h : stored a ha x L = Y) :
    (iprop(a.view.loc (c : Thread nD τ) ↦[a.view.set]{fullShare} a.view.writes (Elt F) (ha.unread x) L) : sProp 𝕄) ⊢ owns (c : Thread nD τ) a fullShare Y := by
  unfold owns; iintro H; iexists _; isplitr; · ipureintro; exact h
  iexact H

/-- The first point's own stage at any point: done at the first, skipped at the others. -/
theorem wp_init_of (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (Y20 : Vec F S1536x5120 .bf16) (Y22 : Vec F S2x16x128 .bf16)
    (h1 : ∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
    (h2 : k0_cond1 i ≠ 1#1 → x20 = Y20 ∧ x22 = Y22) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare x20 ∗ owns (c : Thread nD τ) arg22 fullShare x22 ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare Y20 ∗ owns (c : Thread nD τ) arg22 fullShare Y22) -∗ K ⟨⟩))
      ⊢ wp frame (wpE (defs₀ (F := F)) Variants.none c none) E (stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond1 i = 1#1
  · iintro ⟨H6, H7, H8, H9, H20, H22, Hk⟩
    iapply ((runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.2 E _)
    isplitl [H6]; · iexact H6
    isplitl [H7]; · iexact H7
    isplitl [H8]; · iexact H8
    isplitl [H9]; · iexact H9
    isplitl [H20]; · iexact H20
    isplitl [H22]; · iexact H22
    iintro ⟨H6, H7, H8, H9, H20, H22⟩
    ihave H20 := (owns_of (c := c) (a := arg20) (ha := harg20) (h1 h).1) $$ H20
    ihave H22 := (owns_of (c := c) (a := arg22) (ha := harg22) (h1 h).2) $$ H22
    iapply Hk
    isplitl [H6]; · iexact H6
    isplitl [H7]; · iexact H7
    isplitl [H8]; · iexact H8
    isplitl [H9]; · iexact H9
    isplitl [H20]; · iexact H20
    iexact H22
  · obtain ⟨rfl, rfl⟩ := h2 h
    unfold stInit
    simp only [h, dite_false, ↓reduceDIte]
    iintro ⟨H6, H7, H8, H9, H20, H22, Hk⟩
    sl_step
    iapply Hk
    isplitl [H6]; · iexact H6
    isplitl [H7]; · iexact H7
    isplitl [H8]; · iexact H8
    isplitl [H9]; · iexact H9
    isplitl [H20]; · iexact H20
    iexact H22

/-- The last point's own stage at any point: done at the last, skipped at the others. -/
theorem wp_end_of (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (x10 : Vec F S16 .f32) (x11 : Vec F S16 .f32) (x22 : Vec F S2x16x128 .bf16) (x18 : Vec F S16 .f32) (x19 : Vec F S16 .f32) (Y18 : Vec F S16 .f32) (Y19 : Vec F S16 .f32)
    (h1 : ∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).2.1 = Y19)
    (h2 : k0_cond2 i ≠ 1#1 → x18 = Y18 ∧ x19 = Y19) (E : Set ℕ) (K : PUnit → sProp 𝕄) :
    iprop(owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg22 fullShare x22 ∗ (iprop(owns (c : Thread nD τ) arg10 fullShare x10 ∗ owns (c : Thread nD τ) arg11 fullShare x11 ∗ owns (c : Thread nD τ) arg18 fullShare Y18 ∗ owns (c : Thread nD τ) arg19 fullShare Y19 ∗ owns (c : Thread nD τ) arg22 fullShare x22) -∗ K ⟨⟩))
      ⊢ wp frame (wpE (defs₀ (F := F)) Variants.none c none) E (stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond2 i = 1#1
  · iintro ⟨H10, H11, H18, H19, H22, Hk⟩
    iapply ((runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).2.2 E _)
    isplitl [H10]; · iexact H10
    isplitl [H11]; · iexact H11
    isplitl [H18]; · iexact H18
    isplitl [H19]; · iexact H19
    isplitl [H22]; · iexact H22
    iintro ⟨H10, H11, H18, H19, H22⟩
    ihave H18 := (owns_of (c := c) (a := arg18) (ha := harg18) (h1 h).1) $$ H18
    ihave H19 := (owns_of (c := c) (a := arg19) (ha := harg19) (h1 h).2) $$ H19
    iapply Hk
    isplitl [H10]; · iexact H10
    isplitl [H11]; · iexact H11
    isplitl [H18]; · iexact H18
    isplitl [H19]; · iexact H19
    iexact H22
  · obtain ⟨rfl, rfl⟩ := h2 h
    unfold stEnd
    simp only [h, dite_false, ↓reduceDIte]
    iintro ⟨H10, H11, H18, H19, H22, Hk⟩
    sl_step
    iapply Hk
    isplitl [H10]; · iexact H10
    isplitl [H11]; · iexact H11
    isplitl [H18]; · iexact H18
    isplitl [H19]; · iexact H19
    iexact H22

set_option maxHeartbeats 4000000 in
/-- One grid point of the kernel on whole buffers, each buffer's contents afterwards named. -/
theorem bodyTriple (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x3 : Vec F S1x20x512x128 .bf16) (x4 : Vec F S1x512x1536 .fp8e4m3) (x5 : Vec F S1x12x512 .f32) (x6 : Vec F S20x1536x128 .fp8e4m3) (x7 : Vec F S20x1536x128 .fp8e4m3) (x8 : Vec F S12x20 .f32) (x9 : Vec F S12x20 .f32) (x10 : Vec F S16 .f32) (x11 : Vec F S16 .f32) (x12 : Vec F S1x512x1536 .bf16) (x13 : Vec F S1x1536x512 .bf16) (x14 : Vec F S1x20x512x128 .fp8e5m2) (x15 : Vec F S1x20x512x128 .fp8e5m2) (x16 : Vec F S1x1 .f32) (x17 : Vec F S1x1 .f32) (x18 : Vec F S16 .f32) (x19 : Vec F S16 .f32) (x20 : Vec F S1536x5120 .bf16) (x21 : Vec F S512x5120 .bf16) (x22 : Vec F S2x16x128 .bf16)
    (Y12 : Vec F S1x512x1536 .bf16) (Y13 : Vec F S1x1536x512 .bf16) (Y14 : Vec F S1x20x512x128 .fp8e5m2) (Y15 : Vec F S1x20x512x128 .fp8e5m2) (Y16 : Vec F S1x1 .f32) (Y17 : Vec F S1x1 .f32) (Y18 : Vec F S16 .f32) (Y19 : Vec F S16 .f32)
    (Y20 : Vec F S1536x5120 .bf16) (Y21 Z21 : Vec F S512x5120 .bf16) (Y22 Z22 W22 : Vec F S2x16x128 .bf16) (v87 v628 : F .f32)
    (hI : ∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
    (hI' : k0_cond1 i ≠ 1#1 → x20 = Y20 ∧ x22 = Y22)
    (hK14 : stored arg14 harg14 x14 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).1 = Y14) (hK16 : stored arg16 harg16 x16 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.1 = Y16) (hK21 : stored arg21 harg21 x21 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.1 = Y21)
    (hK22 : stored arg22 harg22 Y22 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.1 = Z22) (hKr : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.2.1 = v87)
    (hV15 : stored arg15 harg15 x15 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).1 = Y15) (hV17 : stored arg17 harg17 x17 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.1 = Y17) (hV21 : stored arg21 harg21 Y21 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.1 = Z21)
    (hV22 : stored arg22 harg22 Z22 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.1 = W22) (hVr : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.2.1 = v628)
    (hC12 : stored arg12 harg12 x12 (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).1 = Y12) (hC13 : stored arg13 harg13 x13 (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).2.1 = Y13)
    (hE : ∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1 = Y19)
    (hE' : k0_cond2 i ≠ 1#1 → x18 = Y18 ∧ x19 = Y19)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare Y12 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ owns (c : Thread nD τ) arg19 fullShare Y19 ∗ owns (c : Thread nD τ) arg20 fullShare Y20 ∗ owns (c : Thread nD τ) arg21 fullShare Z21 ∗ owns (c : Thread nD τ) arg22 fullShare W22) -∗ K ⟨⟩))
      ⊢ wp frame (wpE (defs₀ (F := F)) Variants.none c none) E (cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [body_eq]
  simp only [wp_bind]
  iintro ⟨H2, H3, H4, H5, H6, H7, H8, H9, H10, H11, H12, H13, H14, H15, H16, H17, H18, H19, H20, H21, H22, Hk⟩
  iapply (wp_init_of (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 Y20 Y22 hI hI' E _)
  isplitl [H6]; · iexact H6
  isplitl [H7]; · iexact H7
  isplitl [H8]; · iexact H8
  isplitl [H9]; · iexact H9
  isplitl [H20]; · iexact H20
  isplitl [H22]; · iexact H22
  iintro ⟨H6, H7, H8, H9, H20, H22⟩
  iapply ((runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.2.2 E _)
  isplitl [H2]; · iexact H2
  isplitl [H10]; · iexact H10
  isplitl [H14]; · iexact H14
  isplitl [H16]; · iexact H16
  isplitl [H21]; · iexact H21
  isplitl [H22]; · iexact H22
  iintro ⟨H2, H10, H14, H16, H21, H22⟩
  ihave H14 := (owns_of (c := c) (a := arg14) (ha := harg14) hK14) $$ H14
  ihave H16 := (owns_of (c := c) (a := arg16) (ha := harg16) hK16) $$ H16
  ihave H21 := (owns_of (c := c) (a := arg21) (ha := harg21) hK21) $$ H21
  ihave H22 := (owns_of (c := c) (a := arg22) (ha := harg22) hK22) $$ H22
  iapply ((runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.2.2 E _)
  isplitl [H3]; · iexact H3
  isplitl [H11]; · iexact H11
  isplitl [H15]; · iexact H15
  isplitl [H17]; · iexact H17
  isplitl [H21]; · iexact H21
  isplitl [H22]; · iexact H22
  iintro ⟨H3, H11, H15, H17, H21, H22⟩
  ihave H15 := (owns_of (c := c) (a := arg15) (ha := harg15) hV15) $$ H15
  ihave H17 := (owns_of (c := c) (a := arg17) (ha := harg17) hV17) $$ H17
  ihave H21 := (owns_of (c := c) (a := arg21) (ha := harg21) hV21) $$ H21
  ihave H22 := (owns_of (c := c) (a := arg22) (ha := harg22) hV22) $$ H22
  rw [hKr, hVr]
  iapply ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).2.2 E _)
  isplitl [H4]; · iexact H4
  isplitl [H5]; · iexact H5
  isplitl [H12]; · iexact H12
  isplitl [H13]; · iexact H13
  isplitl [H20]; · iexact H20
  isplitl [H21]; · iexact H21
  iintro ⟨H4, H5, H12, H13, H20, H21⟩
  ihave H12 := (owns_of (c := c) (a := arg12) (ha := harg12) hC12) $$ H12
  ihave H13 := (owns_of (c := c) (a := arg13) (ha := harg13) hC13) $$ H13
  iapply (wp_end_of (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 Y18 Y19 hE hE' E _)
  isplitl [H10]; · iexact H10
  isplitl [H11]; · iexact H11
  isplitl [H18]; · iexact H18
  isplitl [H19]; · iexact H19
  isplitl [H22]; · iexact H22
  iintro ⟨H10, H11, H18, H19, H22⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
/-- One grid point of the kernel on whole buffers: the inputs are left as they were, the rest holds something. -/
theorem bodyFrame (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x3 : Vec F S1x20x512x128 .bf16) (x4 : Vec F S1x512x1536 .fp8e4m3) (x5 : Vec F S1x12x512 .f32) (x6 : Vec F S20x1536x128 .fp8e4m3) (x7 : Vec F S20x1536x128 .fp8e4m3) (x8 : Vec F S12x20 .f32) (x9 : Vec F S12x20 .f32) (x10 : Vec F S16 .f32) (x11 : Vec F S16 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H2, H3, H4, H5, H6, H7, H8, H9, H10, H11, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, Hk⟩
  obtain ⟨Y20, Y22, hI, hI'⟩ : ∃ Y20 Y22, (∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
      ∧ (k0_cond1 i ≠ 1#1 → x20 = Y20 ∧ x22 = Y22) := by
    by_cases h : k0_cond1 i = 1#1
    · exact ⟨stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1, stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1, fun _ => ⟨rfl, rfl⟩, fun h' => absurd h h'⟩
    · exact ⟨_, _, fun h' => absurd h' h, fun _ => ⟨rfl, rfl⟩⟩
  generalize hZ : stored arg22 harg22 Y22 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.1 = Z22
  generalize hY : stored arg21 harg21 x21 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.1 = Y21
  generalize hW : stored arg22 harg22 Z22 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.1 = W22
  obtain ⟨Y18, Y19, hE, hE'⟩ : ∃ Y18 Y19, (∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1 = Y19)
      ∧ (k0_cond2 i ≠ 1#1 → x18 = Y18 ∧ x19 = Y19) := by
    by_cases h : k0_cond2 i = 1#1
    · exact ⟨stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1, stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1, fun _ => ⟨rfl, rfl⟩, fun h' => absurd h h'⟩
    · exact ⟨_, _, fun h' => absurd h' h, fun _ => ⟨rfl, rfl⟩⟩
  iapply (bodyTriple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 x17 x18 x19 x20 x21 x22 _ _ _ _ _ _ Y18 Y19 Y20 Y21 _ Y22 Z22 W22 _ _ hI hI' rfl rfl hY hZ rfl rfl rfl rfl hW rfl rfl rfl hE hE' E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H2, H3, H4, H5, H6, H7, H8, H9, H10, H11, H12, H13, H14, H15, H16, H17, H18, H19, H20, H21, H22⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

end Cert.DcIdeal.Hand

end
-- ==== Proof.DcBlock.lean ====
module

public import proofs.«01_k».proof.Proof.DcVal
public import proofs.«01_k».proof.Proof.DcBody

@[expose] public section

set_option maxRecDepth 16384

noncomputable section

namespace Cert.DcIdeal.Hand

open Cert.DcIdeal Cert.DcIdeal.Gen
open Idealize.ShloMosaic Idealize.ShloMosaic.TcCoe

/-! ## What the stages store, as functions of the blocks -/

/-- The head of a column of the operand's half. -/
def headOf (k : Fin 5120) : Fin 20 := ⟨k.val / 128 % 20, Nat.mod_lt _ (by decide)⟩
/-- The entry of a head that a column of the operand holds. -/
def dimOf (k : Fin 5120) : Fin 128 := ⟨k.val % 128, Nat.mod_lt _ (by decide)⟩
/-- The group of 128 a latent's coordinate lies in. -/
def grpOf (r : Fin 1536) : Fin 12 := ⟨r.val / 128, by have := r.isLt; omega⟩
/-- A column of the first half. -/
def loCol (k : Fin 2560) : Fin 5120 := ⟨k.val, by have := k.isLt; omega⟩
/-- A column of the second half. -/
def hiCol (k : Fin 2560) : Fin 5120 := ⟨2560 + k.val, by have := k.isLt; omega⟩

/-- One head of a gradient's block. -/
def hd (g : Vec Ideal S1x20x512x128 .bf16) (h : Fin 20) : Vec Ideal S1x1x512x128 .bf16 := fun y => g (ix4 0 h (y 2) (y 3))

/-- The largest entry of a history, in the kernel's order. -/
def hmax (x : Vec Ideal S16 .f32) : EReal :=
  k0_pay55 (F := Ideal) (x (ix1 0)) (x (ix1 1)) (x (ix1 2)) (x (ix1 3)) (x (ix1 4)) (x (ix1 5)) (x (ix1 6)) (x (ix1 7)) (x (ix1 8)) (x (ix1 9))
    (x (ix1 10)) (x (ix1 11)) (x (ix1 12)) (x (ix1 13)) (x (ix1 14)) (x (ix1 15))

/-- The exponent of a history. -/
def expOf (x : Vec Ideal S16 .f32) : BitVec 32 := gradExp (F := Ideal) (hmax x) (Scalar.mulf (F := Ideal) (φ := .f32) (hmax x) (Scalar.ofBits .f32 0x37924925#32))

/-- The codes of a block of a gradient. -/
def codesOf (e : BitVec 32) (g : Vec Ideal S1x20x512x128 .bf16) : Vec Ideal S1x20x512x128 .fp8e5m2 := fun y => code (g y) (invOf e)

/-- The operand that holds both gradients' codes side by side. -/
def lhsOf (ek ev : BitVec 32) (gk gv : Vec Ideal S1x20x512x128 .bf16) : Vec Ideal S512x5120 .bf16 := fun y =>
  if (y 1).val < 2560 then code (gk (ix4 0 (headOf (y 1)) (y 0) (dimOf (y 1)))) (invOf ek)
  else code (gv (ix4 0 (headOf (y 1)) (y 0) (dimOf (y 1)))) (invOf ev)

/-- The operand that holds both dequantised weights side by side. -/
def wOf (wk wv : Vec Ideal S20x1536x128 .fp8e4m3) (sk sv : Vec Ideal S12x20 .f32) : Vec Ideal S1536x5120 .bf16 := fun y =>
  if (y 1).val < 2560 then wk (ix3 (headOf (y 1)) (y 0) (dimOf (y 1))) * sk (ix2 (grpOf (y 0)) (headOf (y 1)))
  else wv (ix3 (headOf (y 1)) (y 0) (dimOf (y 1))) * sv (ix2 (grpOf (y 0)) (headOf (y 1)))

/-- The dequantised latents of a block, transposed. -/
def ctOf (x : Vec Ideal S1x512x1536 .fp8e4m3) (s : Vec Ideal S1x12x512 .f32) : Vec Ideal S1x1536x512 .bf16 := fun y =>
  x (ix3 0 (y 2) (y 1)) * s (ix3 0 (grpOf (y 1)) (y 2))

/-- The latents' gradient of a block, of the two operands. -/
def dcOf (sk sv : EReal) (l : Vec Ideal S512x5120 .bf16) (w : Vec Ideal S1536x5120 .bf16) : Vec Ideal S1x512x1536 .bf16 := fun y =>
  (∑ k : Fin 2560, l (ix2 (y 1) (loCol k)) * w (ix2 (y 2) (loCol k))) * sk + (∑ k : Fin 2560, l (ix2 (y 1) (hiCol k)) * w (ix2 (y 2) (hiCol k))) * sv

/-- One half of the running maxima. -/
def slab (A : Vec Ideal S2x16x128 .bf16) (p : Fin 2) : Vec Ideal S16x128 .bf16 := fun y => A (ix3 p (y 0) (y 1))

/-- A running maximum after one block. -/
def amaxAcc (s : Vec Ideal S16x128 .bf16) (g : Vec Ideal S1x20x512x128 .bf16) : Vec Ideal S16x128 .bf16 :=
  ([0, 1, 2, 3, 4, 5, 6, 7, 8, 9, 10, 11, 12, 13, 14, 15, 16, 17, 18, 19] : List (Fin 20)).foldl (fun acc h => amaxStep (F := Ideal) acc (hd g h)) s

/-- The running maxima after one block, both halves. -/
def amaxOf (A : Vec Ideal S2x16x128 .bf16) (gk gv : Vec Ideal S1x20x512x128 .bf16) : Vec Ideal S2x16x128 .bf16 := fun y =>
  if (y 0).val = 0 then amaxAcc (slab A 0) gk (ix2 (y 1) (y 2)) else amaxAcc (slab A 1) gv (ix2 (y 1) (y 2))

/-- A history with the newest maximum in front. -/
def histOf (x : Vec Ideal S16 .f32) (v : EReal) : Vec Ideal S16 .f32 := fun y =>
  if (y 0).val = 0 then v else x (ix1 ⟨(y 0).val - 1, by have := (y 0).isLt; simp [S16] at this ⊢; omega⟩)

/-! ## The loads -/

theorem ldG_eq (a : Memref sig .tc .vmem S1x20x512x128 .bf16) (ha : a.IsWhole) (x : Vec Ideal S1x20x512x128 .bf16) (h : Fin 20) :
    ldG (F := Ideal) a ha x h.val h.isLt = hd x h := by
  funext y
  obtain ⟨u, v, r, d, rfl⟩ : ∃ (u v : Fin 1) (r : Fin 512) (d : Fin 128), y = ix4 u v r d := ⟨y 0, y 1, y 2, y 3, ValueIdx.eq_ix4 y⟩
  unfold ldG hd
  rw [View.readAt_eq_ld, ha.read_unread]
  refine congrArg x (funext fun a => Fin.ext ?_)
  obtain rfl : u = 0 := Subsingleton.elim _ _
  obtain rfl : v = 0 := Subsingleton.elim _ _
  fin_cases a <;> simp [LoadRect.idx, Rect.toLoadRect, Rect.unit, ix4]

/-- A history's entry, as the body reads it. -/
theorem ldH_eq (a : Memref sig .tc .smem S16 .f32) (ha : a.IsWhole) (x : Vec Ideal S16 .f32) (j : Nat) (hj : j < 16) :
    ldH (F := Ideal) a ha x j hj = x (ix1 ⟨j, hj⟩) := by
  unfold ldH
  rw [View.readAt_eq_ld, ha.read_unread]
  refine congrArg x (funext fun a => Fin.ext ?_)
  fin_cases a; simp [LoadRect.idx, Rect.toLoadRect, Rect.unit, ix1, Shape.Idx.first]

/-- The exponent the body computes is the one of the history read. -/
theorem histExp_eq (a : Memref sig .tc .smem S16 .f32) (ha : a.IsWhole) (x : Vec Ideal S16 .f32) : histExp (F := Ideal) a ha x = expOf x := by
  unfold histExp expOf histMax hmax
  simp only [ldH_eq]
  rfl

/-- A stored entry is a function's at the place it is stored at, the place told coordinate by coordinate. -/
theorem piece_eq {s : Shape} {α : Type} {off size : Fin s.rank → ℕ} (inb : ∀ a, off a + size a ≤ s.size a) (v : α) (G : s.Idx → α)
    (j : (Rect.unit off size inb).shape.Idx) (y : s.Idx) (hx : ∀ a, (y a).val = off a + (j a).val) (h : v = G y) : v = G ((Rect.unit off size inb).emb j) := by
  rw [h, (Rect.unit off size inb).emb_eq_of_coords j y fun a => by rw [hx a]; simp [Rect.unit]]

/-- A place told coordinate by coordinate lies in the rectangle. -/
theorem mem_unit {s : Shape} {off size : Fin s.rank → ℕ} (inb : ∀ a, off a + size a ≤ s.size a) (y : s.Idx)
    (j : (Rect.unit off size inb).shape.Idx) (hx : ∀ a, (y a).val = off a + (j a).val) : y ∈ (Rect.unit off size inb).set := by
  rw [← (Rect.unit off size inb).emb_eq_of_coords j y fun a => by rw [hx a]; simp [Rect.unit], ← Rect.map_emb_univ]
  exact Finset.mem_map_of_mem _ (Finset.mem_univ _)

/-! ## The codes -/

theorem heads_mem (h : Fin 20) : h ∈ heads := by revert h; decide

/-- The pieces of codes stored head by head make up the block of codes. -/
theorem stored_codes (e : BitVec 32) (a : Memref sig .tc .vmem S1x20x512x128 .bf16) (ha : a.IsWhole) (x : Vec Ideal S1x20x512x128 .bf16)
    (b : Memref sig .tc .vmem S1x20x512x128 .fp8e5m2) (hb : b.IsWhole) (y0 : Vec Ideal S1x20x512x128 .fp8e5m2) :
    stored b hb y0 (heads.map (codePiece e a ha x)) = codesOf e x := by
  funext y
  refine View.read_writes_apply_of_pieces _ _ (codesOf e x) _ (fun p hp j => ?_) y ?_
  · obtain ⟨h, -, rfl⟩ := List.mem_map.mp hp
    obtain ⟨u, v, r, d, rfl⟩ : ∃ (u v : Fin 1) (r : Fin 512) (d : Fin 128), j = ix4 u v r d := ⟨j 0, j 1, j 2, j 3, ValueIdx.eq_ix4 j⟩
    refine piece_eq (inbG _ h.isLt) _ (codesOf e x) _ (ix4 0 h r d) (fun a => ?_) ((pay72_apply e _ u v r d).trans ?_)
    · obtain rfl : u = 0 := Subsingleton.elim _ _
      obtain rfl : v = 0 := Subsingleton.elim _ _
      fin_cases a <;> simp [ix4]
    · rw [ldG_eq]; rfl
  · obtain ⟨u, h, r, d, rfl⟩ : ∃ (u : Fin 1) (h : Fin 20) (r : Fin 512) (d : Fin 128), y = ix4 u h r d := ⟨y 0, y 1, y 2, y 3, ValueIdx.eq_ix4 y⟩
    refine ⟨_, List.mem_map.mpr ⟨h, heads_mem h, rfl⟩, mem_unit (inbG _ h.isLt) _ (ix4 0 0 r d) fun a => ?_⟩
    obtain rfl : u = 0 := Subsingleton.elim _ _
    fin_cases a <;> simp [ix4]

/-- The scale's one entry. -/
theorem stored_scale (e : BitVec 32) (b : Memref sig .tc .smem S1x1 .f32) (hb : b.IsWhole) (y0 : Vec Ideal S1x1 .f32) :
    stored b hb y0 [scalePiece e] = (fun _ => scaleOf e : Vec Ideal S1x1 .f32) := by
  funext y
  refine View.read_writes_apply_of_pieces (Val := Elt Ideal) (e := .f32) _ _ (fun _ => scaleOf e) _ (fun p hp j => ?_) y ?_
  · obtain rfl := List.mem_singleton.mp hp
    rfl
  · refine ⟨_, List.mem_singleton.mpr rfl, mem_unit inb_S1x1_S1x1_0_0 _ y fun a => ?_⟩
    fin_cases a <;> simp

/-! ## The operand of the codes -/

theorem lhsPiece_eq (p : Nat) (hp : p < 2) (e ek ev : BitVec 32) (a : Memref sig .tc .vmem S1x20x512x128 .bf16) (ha : a.IsWhole)
    (x gk gv : Vec Ideal S1x20x512x128 .bf16) (h : Fin 20) (h0 : p = 0 → e = ek ∧ x = gk) (h1 : p = 1 → e = ev ∧ x = gv)
    (j : (lhsPiece (F := Ideal) p hp e a ha x h).1.shape.Idx) :
    (lhsPiece (F := Ideal) p hp e a ha x h).2 j = lhsOf ek ev gk gv ((lhsPiece (F := Ideal) p hp e a ha x h).1.emb j) := by
  obtain ⟨r, d, rfl⟩ : ∃ (r : Fin 512) (d : Fin 128), j = ix2 r d := ⟨j 0, j 1, ValueIdx.eq_ix2 j⟩
  have hl : (p * 20 + h.val) * 128 + d.val < 5120 := by have := h.isLt; have := d.isLt; omega
  refine piece_eq (inbL _ (by omega)) _ (lhsOf ek ev gk gv) _ (ix2 r (⟨(p * 20 + h.val) * 128 + d.val, hl⟩ : Fin 5120)) (fun a => by fin_cases a <;> simp [ix2]) ((pay73_apply e _ r d).trans ?_)
  rw [ldG_eq]
  have e1 : dimOf ⟨(p * 20 + h.val) * 128 + d.val, hl⟩ = d := Fin.ext (by have := d.isLt; simp [dimOf] <;> omega)
  have e2 : headOf ⟨(p * 20 + h.val) * 128 + d.val, hl⟩ = h := Fin.ext (by have := d.isLt; have := h.isLt; simp [headOf] <;> omega)
  show code (x (ix4 0 h r d)) _ = lhsOf ek ev gk gv (ix2 r _)
  unfold lhsOf
  show _ = if (p * 20 + h.val) * 128 + d.val < 2560 then code (gk (ix4 0 (headOf ⟨(p * 20 + h.val) * 128 + d.val, hl⟩) r (dimOf ⟨(p * 20 + h.val) * 128 + d.val, hl⟩))) (invOf ek)
    else code (gv (ix4 0 (headOf ⟨(p * 20 + h.val) * 128 + d.val, hl⟩) r (dimOf ⟨(p * 20 + h.val) * 128 + d.val, hl⟩))) (invOf ev)
  rw [e1, e2]
  have := d.isLt; have := h.isLt
  obtain rfl | rfl : p = 0 ∨ p = 1 := by omega
  · rw [if_pos (by omega), (h0 rfl).1, (h0 rfl).2]
  · rw [if_neg (by omega), (h1 rfl).1, (h1 rfl).2]

/-- The pieces of widened codes make up the operand. -/
theorem stored_lhs (ek ev : BitVec 32) (a : Memref sig .tc .vmem S1x20x512x128 .bf16) (ha : a.IsWhole) (gk : Vec Ideal S1x20x512x128 .bf16)
    (a' : Memref sig .tc .vmem S1x20x512x128 .bf16) (ha' : a'.IsWhole) (gv : Vec Ideal S1x20x512x128 .bf16)
    (b : Memref sig .tc .vmem S512x5120 .bf16) (hb : b.IsWhole) (y0 : Vec Ideal S512x5120 .bf16) :
    stored b hb (stored b hb y0 (heads.map (lhsPiece 0 (by decide) ek a ha gk))) (heads.map (lhsPiece 1 (by decide) ev a' ha' gv)) = lhsOf ek ev gk gv := by
  funext y
  unfold stored
  rw [hb.unread_read, ← View.writes_append]
  refine View.read_writes_apply_of_pieces _ _ (lhsOf ek ev gk gv) _ (fun p hp j => ?_) y ?_
  · rcases List.mem_append.mp hp with hp | hp
    · obtain ⟨h, -, rfl⟩ := List.mem_map.mp hp
      exact lhsPiece_eq 1 _ ev ek ev a' ha' gv gk gv h (fun h => absurd h (by decide)) (fun _ => ⟨rfl, rfl⟩) j
    · obtain ⟨h, -, rfl⟩ := List.mem_map.mp hp
      exact lhsPiece_eq 0 _ ek ek ev a ha gk gk gv h (fun _ => ⟨rfl, rfl⟩) (fun h => absurd h (by decide)) j
  · obtain ⟨r, k, rfl⟩ : ∃ (r : Fin 512) (k : Fin 5120), y = ix2 r k := ⟨y 0, y 1, ValueIdx.eq_ix2 y⟩
    have := k.isLt
    by_cases hk : k.val < 2560
    · refine ⟨_, List.mem_append_right _ (List.mem_map.mpr ⟨⟨k.val / 128, by omega⟩, heads_mem _, rfl⟩), mem_unit (inbL (0 * 20 + k.val / 128) (by omega)) _ (ix2 r (⟨k.val % 128, by omega⟩ : Fin 128)) fun a => ?_⟩
      fin_cases a <;> simp [ix2]; omega
    · refine ⟨_, List.mem_append_left _ (List.mem_map.mpr ⟨⟨k.val / 128 - 20, by omega⟩, heads_mem _, rfl⟩), mem_unit (inbL (1 * 20 + (k.val / 128 - 20)) (by omega)) _ (ix2 r (⟨k.val % 128, by omega⟩ : Fin 128)) fun a => ?_⟩
      fin_cases a <;> simp [ix2]; omega

end Cert.DcIdeal.Hand

end
-- ==== Proof.DcExp.lean ====
module

public import proofs.«01_k».proof.Proof.DcBlock

@[expose] public section

set_option maxRecDepth 65536

noncomputable section

namespace Cert.DcIdeal.Hand

open Cert.DcIdeal Cert.DcIdeal.Gen
open Idealize.ShloMosaic Idealize.ShloMosaic.TcCoe

/-! # The exponent the kernel finds, and the scale it makes of it -/

/-- The number whose word has the exponent field `n` and no fraction. -/
def pw (n : ℕ) : EReal := Ideal.ofBits .f32 (BitVec.ofNat 32 (n * 2 ^ 23))

/-- The fields of the words of the powers. -/
theorem pw_fields : ∀ n : Fin 256, (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by decide +kernel

/-- A power is its word read as a number. -/
theorem pw_ieee (n : ℕ) : pw n = Ideal.ieee 8 23 (BitVec.ofNat 32 (n * 2 ^ 23)) := rfl

/-- A normal exponent field is a power of two. -/
theorem pw_eq {n : ℕ} (h1 : 1 ≤ n) (h2 : n ≤ 254) : pw n = (((2 : ℝ) ^ ((n : ℤ) - 127) : ℝ) : EReal) := by
  obtain ⟨f1, f2, f3⟩ := pw_fields ⟨n, by omega⟩
  rw [pw_ieee]
  unfold Ideal.ieee
  simp only [Nat.reduceAdd] at *
  rw [f1, f2, f3, if_neg (by norm_num; omega), if_neg (by omega)]
  congr 1
  rw [show ((n : ℤ) - 127) = 23 + ((n : ℤ) - (2 ^ (8 - 1) - 1) - (23 : ℕ)) by norm_num, zpow_add₀ (by norm_num)]
  norm_num

/-- The exponent field of all ones is plus infinity. -/
theorem pw_top : pw 255 = ⊤ := by
  obtain ⟨f1, f2, f3⟩ := pw_fields ⟨255, by omega⟩
  rw [pw_ieee]
  unfold Ideal.ieee
  simp only [Nat.reduceAdd] at *
  rw [f1, f2, f3]
  simp

/-- The zero word is zero. -/
theorem pw_zero : pw 0 = 0 := by
  obtain ⟨f1, f2, f3⟩ := pw_fields ⟨0, by omega⟩
  rw [pw_ieee]
  unfold Ideal.ieee
  simp only [Nat.reduceAdd] at *
  rw [f1, f2, f3]
  simp

/-- The powers grow with the field. -/
theorem pw_le {m n : ℕ} (h1 : 1 ≤ m) (h : m ≤ n) (h2 : n ≤ 255) : pw m ≤ pw n := by
  rcases Nat.lt_or_ge n 255 with h3 | h3
  · rw [pw_eq h1 (by omega), pw_eq (by omega) (by omega), EReal.coe_le_coe_iff]
    exact zpow_le_zpow_right₀ (by norm_num) (by omega)
  · obtain rfl : n = 255 := by omega
    rw [pw_top]; exact le_top

/-- The powers are positive. -/
theorem pw_pos {n : ℕ} (h1 : 1 ≤ n) (h2 : n ≤ 254) : 0 < pw n := by
  rw [pw_eq h1 h2]; exact EReal.coe_pos.mpr (by positivity)

/-- `F` is the exponent field of `a`, and `a` is far enough from the ends of the range. -/
structure Field (a : EReal) (F : ℕ) : Prop where
  one : 1 ≤ F
  top : F ≤ 252
  le : pw F ≤ a
  lt : a < pw (F + 1)

/-- A number between the ends has an exponent field. -/
theorem Field.exists {a : EReal} (h1 : pw 1 ≤ a) (h2 : a < pw 253) : ∃ F, Field a F := by
  classical
  have hex : ∃ n, 1 ≤ n ∧ a < pw n := ⟨253, by omega, h2⟩
  have hs := Nat.find_spec hex
  have hle : Nat.find hex ≤ 253 := Nat.find_le ⟨by omega, h2⟩
  have hne : Nat.find hex ≠ 1 := fun e => absurd (e ▸ hs.2) (not_lt.mpr h1)
  refine ⟨Nat.find hex - 1, by omega, by omega, ?_, ?_⟩
  · have := Nat.find_min hex (m := Nat.find hex - 1) (by omega)
    exact not_lt.mp fun h => this ⟨by omega, h⟩
  · rw [Nat.sub_add_cancel (by omega)]; exact hs.2

/-- Which powers of two a number reaches is told by its exponent field. -/
theorem Field.reach {a : EReal} {F : ℕ} (h : Field a F) {n : ℕ} (h1 : 1 ≤ n) (h2 : n ≤ 255) : pw n ≤ a ↔ n ≤ F := by
  have := h.top
  constructor
  · intro hn
    by_contra hlt
    exact absurd (lt_of_lt_of_le h.lt (pw_le (by omega) (by omega : F + 1 ≤ n) h2)) (not_lt.mpr hn)
  · intro hn
    exact (pw_le h1 hn (by omega)).trans h.le

/-! ## The search for the exponent, bit by bit -/

/-- One step of the search: the bit `t` is kept when `a` reaches the number it makes. -/
def bitStep (a : EReal) (v t : BitVec 32) : BitVec 32 :=
  Scalar.select (Scalar.cmpf (F := Ideal) (φ := .f32) .oge a (Scalar.ofBits .f32 (Scalar.addi v t))) (Scalar.addi v t) v

/-- What the search leaves. -/
def bitsOf (a : EReal) : BitVec 32 :=
  bitStep a (bitStep a (bitStep a (bitStep a (bitStep a (bitStep a (bitStep a (bitStep a 0#32 1073741824#32) 536870912#32) 268435456#32)
    134217728#32) 67108864#32) 33554432#32) 16777216#32) 8388608#32

/-- The exponent, from the bits found. -/
def expFrom (h : EReal) (v69 : BitVec 32) : BitVec 32 :=
  Scalar.select (Scalar.cmpf (F := Ideal) (φ := .f32) .oeq h (Scalar.ofBits .f32 0x00000000#32)) 0#32
    (Scalar.select (Scalar.ori (Scalar.cmpi .eq (Scalar.andi (Scalar.shrsi v69 23#32) 255#32) 0#32) (Scalar.cmpi .eq (Scalar.andi (Scalar.shrsi v69 23#32) 255#32) 255#32))
      0#32 (Scalar.subi (Scalar.andi (Scalar.shrsi v69 23#32) 255#32) 126#32))

/-- The exponent is read off the bits the search leaves. -/
theorem gradExp_eq (h x : EReal) : gradExp (F := Ideal) h x = expFrom h (bitsOf (max x (-x))) := rfl

/-- The bits of the field `F` from bit `j` up. -/
def fieldTop (F j : ℕ) : BitVec 32 := BitVec.ofNat 32 (F / 2 ^ j * 2 ^ j * 2 ^ 23)

/-- The search on the fields alone: at each bit, adding it and comparing keeps the bits of the field from there up. -/
theorem bit_arith : ∀ (F : Fin 256) (j : Fin 8),
    Scalar.addi (fieldTop F.val (j.val + 1)) (BitVec.ofNat 32 (2 ^ (23 + j.val))) = BitVec.ofNat 32 ((F.val / 2 ^ (j.val + 1) * 2 ^ (j.val + 1) + 2 ^ j.val) * 2 ^ 23)
    ∧ 1 ≤ F.val / 2 ^ (j.val + 1) * 2 ^ (j.val + 1) + 2 ^ j.val ∧ F.val / 2 ^ (j.val + 1) * 2 ^ (j.val + 1) + 2 ^ j.val ≤ 255
    ∧ (if F.val / 2 ^ (j.val + 1) * 2 ^ (j.val + 1) + 2 ^ j.val ≤ F.val
        then BitVec.ofNat 32 ((F.val / 2 ^ (j.val + 1) * 2 ^ (j.val + 1) + 2 ^ j.val) * 2 ^ 23) else fieldTop F.val (j.val + 1)) = fieldTop F.val j.val := by
  decide +kernel

/-- A step of the search as a case distinction. -/
theorem bitStep_def (a : EReal) (v t : BitVec 32) :
    bitStep a v t = if Ideal.ofBits .f32 (Scalar.addi v t) ≤ a then Scalar.addi v t else v := by
  by_cases h : Ideal.ofBits .f32 (Scalar.addi v t) ≤ a
  · rw [if_pos h]
    show (if BitVec.ofBool (decide (Ideal.ofBits .f32 (Scalar.addi v t) ≤ a)) = 1 then _ else _) = _
    rw [decide_eq_true h]; rfl
  · rw [if_neg h]
    show (if BitVec.ofBool (decide (Ideal.ofBits .f32 (Scalar.addi v t) ≤ a)) = 1 then _ else _) = _
    rw [decide_eq_false h]; rfl

/-- A step of the search keeps the right bit of the field. -/
theorem bitStep_eq {a : EReal} {F : ℕ} (h : Field a F) (j : Fin 8) :
    bitStep a (fieldTop F (j.val + 1)) (BitVec.ofNat 32 (2 ^ (23 + j.val))) = fieldTop F j.val := by
  have ht := h.top
  obtain ⟨e1, e2, e3, e4⟩ := bit_arith ⟨F, by omega⟩ j
  rw [bitStep_def, e1, ← e4]
  by_cases hc : F / 2 ^ (j.val + 1) * 2 ^ (j.val + 1) + 2 ^ j.val ≤ F
  · rw [if_pos hc]; exact if_pos ((h.reach e2 e3).mpr hc)
  · rw [if_neg hc]; exact if_neg fun hp => hc ((h.reach e2 e3).mp hp)

/-- The search leaves the field. -/
theorem bitsOf_eq {a : EReal} {F : ℕ} (h : Field a F) : bitsOf a = fieldTop F 0 := by
  have h0 : (0#32 : BitVec 32) = fieldTop F 8 := by
    unfold fieldTop
    rw [Nat.div_eq_of_lt (by have := h.top; omega), Nat.zero_mul, Nat.zero_mul]
  unfold bitsOf
  rw [h0, show bitStep a (fieldTop F 8) 1073741824#32 = fieldTop F 7 from bitStep_eq h 7, show bitStep a (fieldTop F 7) 536870912#32 = fieldTop F 6 from bitStep_eq h 6,
    show bitStep a (fieldTop F 6) 268435456#32 = fieldTop F 5 from bitStep_eq h 5, show bitStep a (fieldTop F 5) 134217728#32 = fieldTop F 4 from bitStep_eq h 4,
    show bitStep a (fieldTop F 4) 67108864#32 = fieldTop F 3 from bitStep_eq h 3, show bitStep a (fieldTop F 3) 33554432#32 = fieldTop F 2 from bitStep_eq h 2,
    show bitStep a (fieldTop F 2) 16777216#32 = fieldTop F 1 from bitStep_eq h 1, show bitStep a (fieldTop F 1) 8388608#32 = fieldTop F 0 from bitStep_eq h 0]

/-- The exponent of a field, by cases. -/
theorem exp_arith : ∀ F : Fin 256, 1 ≤ F.val → F.val ≤ 252 →
    Scalar.select (Scalar.ori (Scalar.cmpi .eq (Scalar.andi (Scalar.shrsi (fieldTop F.val 0) 23#32) 255#32) 0#32) (Scalar.cmpi .eq (Scalar.andi (Scalar.shrsi (fieldTop F.val 0) 23#32) 255#32) 255#32))
      0#32 (Scalar.subi (Scalar.andi (Scalar.shrsi (fieldTop F.val 0) 23#32) 255#32) 126#32) = BitVec.ofNat 32 F.val - 126#32 := by decide +kernel

/-- The exponent of a history that is not zero. -/
theorem expFrom_ne {h : EReal} (hh : h ≠ 0) (v : BitVec 32) : expFrom h v =
    Scalar.select (Scalar.ori (Scalar.cmpi .eq (Scalar.andi (Scalar.shrsi v 23#32) 255#32) 0#32) (Scalar.cmpi .eq (Scalar.andi (Scalar.shrsi v 23#32) 255#32) 255#32))
      0#32 (Scalar.subi (Scalar.andi (Scalar.shrsi v 23#32) 255#32) 126#32) := by
  show (if BitVec.ofBool (decide (h = pw 0)) = 1 then _ else _) = _
  rw [pw_zero, decide_eq_false hh]; rfl

/-- The exponent of a zero history is zero. -/
theorem expFrom_zero (v : BitVec 32) : expFrom 0 v = 0#32 := by
  show (if BitVec.ofBool (decide ((0 : EReal) = pw 0)) = 1 then _ else _) = _
  rw [pw_zero, decide_eq_true rfl]; rfl

/-- The exponent of a history whose scaled maximum has the field `F`. -/
theorem gradExp_field {h x : EReal} {F : ℕ} (hh : h ≠ 0) (hF : Field (max x (-x)) F) : gradExp (F := Ideal) h x = BitVec.ofNat 32 F - 126#32 := by
  rw [gradExp_eq, bitsOf_eq hF, expFrom_ne hh]
  exact exp_arith ⟨F, by have := hF.top; omega⟩ hF.one hF.top

/-- The same, from the history's maximum. -/
theorem gradExp_zero (x : EReal) : gradExp (F := Ideal) 0 x = 0#32 := by
  rw [gradExp_eq, expFrom_zero]

/-! ## The scale and its reciprocal -/

/-- The word of a scale with exponent `e`. -/
def scaleBits (e : BitVec 32) : BitVec 32 :=
  let v81 : BitVec 32 := Scalar.addi (Scalar.minsi 512#32 (Scalar.maxsi 4294966784#32 e)) 127#32
  Scalar.select (Scalar.cmpi .sge v81 255#32) 2139095040#32 (Scalar.select (Scalar.cmpi .sle v81 0#32) 0#32 (Scalar.shli v81 23#32))

/-- The scale is its word read as a number. -/
theorem scaleOf_bits (e : BitVec 32) : scaleOf e = Ideal.ofBits .f32 (scaleBits e) := rfl

/-- The inverse scale is the word of the opposite exponent read as a number. -/
theorem invOf_bits (e : BitVec 32) : invOf e = Ideal.ofBits .f32 (scaleBits (Scalar.subi 0#32 e)) := by
  unfold invOf k0_pay67
  rfl

/-- The words of the scale and of its inverse, by cases over the field. -/
theorem scaleBits_arith : ∀ F : Fin 256, 1 ≤ F.val → F.val ≤ 252 →
    scaleBits (BitVec.ofNat 32 F.val - 126#32) = BitVec.ofNat 32 ((F.val + 1) * 2 ^ 23)
    ∧ scaleBits (Scalar.subi 0#32 (BitVec.ofNat 32 F.val - 126#32)) = BitVec.ofNat 32 ((253 - F.val) * 2 ^ 23) := by decide +kernel

/-- The scale for the field `F` is the next power. -/
theorem scaleOf_field {F : ℕ} (h1 : 1 ≤ F) (h2 : F ≤ 252) : scaleOf (BitVec.ofNat 32 F - 126#32) = pw (F + 1) := by
  rw [scaleOf_bits, (scaleBits_arith ⟨F, by omega⟩ h1 h2).1]; rfl

/-- The inverse scale for the field `F`. -/
theorem invOf_field {F : ℕ} (h1 : 1 ≤ F) (h2 : F ≤ 252) : invOf (BitVec.ofNat 32 F - 126#32) = pw (253 - F) := by
  rw [invOf_bits, (scaleBits_arith ⟨F, by omega⟩ h1 h2).2]; rfl

/-- The scale of exponent zero is one. -/
theorem scaleOf_zero : scaleOf 0#32 = 1 := by
  rw [scaleOf_bits, show scaleBits 0#32 = BitVec.ofNat 32 (127 * 2 ^ 23) by decide +kernel]
  exact (pw_eq (by omega) (by omega)).trans (by norm_num)

/-- So is its inverse. -/
theorem invOf_zero : invOf 0#32 = 1 := by
  rw [invOf_bits, show scaleBits (Scalar.subi 0#32 0#32) = BitVec.ofNat 32 (127 * 2 ^ 23) by decide +kernel]
  exact (pw_eq (by omega) (by omega)).trans (by norm_num)

/-- The two are reciprocals. -/
theorem one_div_pw {F : ℕ} (h1 : 1 ≤ F) (h2 : F ≤ 252) : Ideal.div 1 (pw (F + 1)) = pw (253 - F) := by
  have hp := pw_pos (n := F + 1) (by omega) (by omega)
  unfold Ideal.div
  rw [if_neg hp.ne', one_mul, pw_eq (by omega) (by omega), pw_eq (by omega) (by omega), ← EReal.coe_inv, ← zpow_neg]
  congr 2
  push_cast [Nat.cast_sub (by omega : F ≤ 253)]
  ring

/-! ## The largest entry of a history -/

/-- The maximum of two numbers. -/
theorem smax_def (x y : EReal) : Scalar.maximumf (F := Ideal) (φ := .f32) x y = max x y := rfl

/-- A statement of sixteen entries, entry by entry. -/
theorem forall_16 (P : Fin 16 → Prop) : (∀ i, P i) ↔ P 0 ∧ P 1 ∧ P 2 ∧ P 3 ∧ P 4 ∧ P 5 ∧ P 6 ∧ P 7 ∧ P 8 ∧ P 9 ∧ P 10 ∧ P 11 ∧ P 12 ∧ P 13 ∧ P 14 ∧ P 15 := by
  constructor
  · intro h; exact ⟨h 0, h 1, h 2, h 3, h 4, h 5, h 6, h 7, h 8, h 9, h 10, h 11, h 12, h 13, h 14, h 15⟩
  · rintro ⟨h0, h1, h2, h3, h4, h5, h6, h7, h8, h9, h10, h11, h12, h13, h14, h15⟩ i
    fin_cases i <;> assumption

/-- The largest entry, taken one entry after another, is the least upper bound. -/
theorem hmax_le (x : Vec Ideal S16 .f32) (M : EReal) : hmax x ≤ M ↔ ∀ i : Fin 16, (x (ix1 i) : EReal) ≤ M := by
  unfold hmax k0_pay55
  rw [forall_16]
  simp only [smax_def, max_le_iff, and_assoc]

end Cert.DcIdeal.Hand

end
-- ==== Proof.DcRefScale.lean ====
module

public import proofs.«01_k».proof.Proof.DcRef
public import proofs.«01_k».proof.Proof.DcExp

@[expose] public section

set_option maxRecDepth 65536

noncomputable section

namespace Cert.DcRefIdeal.Hand

open Cert.DcRefIdeal Cert.DcRefIdeal.Gen Cert.DcRefIdeal.Value Cert.DcRefIdeal.Read
open Idealize.ShloMosaic Idealize.ShloMosaic.TcCoe
open Cert.DcIdeal.Hand (pw pw_eq pw_le pw_pos pw_zero Field one_div_pw)

/-! # The reference's scale -/

/-- The largest entry of a history. -/
def maxHost (h : FVec Ideal S16 .f32) : FVec Ideal S_ .f32 :=
  Host.reduce FloatOps.maximumf h (constant S_ .f32 0xFF800000#32) reducesTo_S16_S_d0 h_S_

/-- The scaled magnitude of the largest entry. -/
def absHost (h : FVec Ideal S16 .f32) : FVec Ideal S_ .f32 := Host.absf (mulf (maxHost h) (constant S_ .f32 0x37924925#32))

/-- The powers of two. -/
def powers : FVec Ideal S253 .f32 :=
  Host.powf (broadcastInDim S253 ![] bcast_S_S253 (constant S_ .f32 0x40000000#32)) (subf (sitofp .f32 (iotaInDim S253 32 0)) (broadcastInDim S253 ![] bcast_S_S253 (constant S_ .f32 0x42FC0000#32)))

/-- The powers of two above the scaled magnitude; the others are infinite. -/
def above (h : FVec Ideal S16 .f32) : FVec Ideal S253 .f32 :=
  select (cmpf .ogt powers (broadcastInDim S253 ![] bcast_S_S253 (absHost h))) powers (broadcastInDim S253 ![] bcast_S_S253 (id (constant S_ .f32 0x7F800000#32)))

/-- The scale of a history: the least power of two above the scaled magnitude, and one for a history of zeros. -/
def scaleHost (h : FVec Ideal S16 .f32) : FVec Ideal S_ .f32 :=
  select (cmpf .oeq (maxHost h) (constant S_ .f32 0x00000000#32)) (id (constant S_ .f32 0x3F800000#32))
    (Host.reduce FloatOps.minimumf (above h) (constant S_ .f32 0x7F800000#32) reducesTo_S253_S_d0 h_S_)

/-- A maximum over all of an array is the least upper bound of its entries. -/
theorem hostMax_le {s : Shape} {axes : List (Fin s.rank)} (x : FVec Ideal s .f32) (init : FVec Ideal S_ .f32) (h : s.ReducesTo axes S_) (hb : ∀ i, (init i : EReal) = ⊥)
    (j : S_.Idx) (M : EReal) : (Host.reduce (FloatOps.maximumf (F := Ideal) (φ := .f32)) x init h h_S_ j : EReal) ≤ M ↔ ∀ i, (x i : EReal) ≤ M := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold]
  refine (Finset.fold_max_le (β := EReal) (b := init (Shape.Idx.first h_S_)) (f := x) M).trans ?_
  rw [hb]
  have hj : ∀ i : s.Idx, h.drop i = j := fun i => funext fun a => a.elim0
  simp [hj]

/-- A minimum over all of an array is the greatest lower bound of its entries. -/
theorem le_hostMin {s : Shape} {axes : List (Fin s.rank)} (x : FVec Ideal s .f32) (init : FVec Ideal S_ .f32) (h : s.ReducesTo axes S_) (hb : ∀ i, (init i : EReal) = ⊤)
    (j : S_.Idx) (M : EReal) : M ≤ (Host.reduce (FloatOps.minimumf (F := Ideal) (φ := .f32)) x init h h_S_ j : EReal) ↔ ∀ i, M ≤ (x i : EReal) := by
  haveI : Std.Commutative (FloatOps.minimumf (F := Ideal) (φ := .f32)) := ⟨fun a b => min_comm (α := EReal) a b⟩
  haveI : Std.Associative (FloatOps.minimumf (F := Ideal) (φ := .f32)) := ⟨fun a b c => min_assoc (α := EReal) a b c⟩
  rw [Host.reduce_eq_fold]
  refine (Finset.le_fold_min (β := EReal) (b := init (Shape.Idx.first h_S_)) (f := x) M).trans ?_
  rw [hb]
  have hj : ∀ i : s.Idx, h.drop i = j := fun i => funext fun a => a.elim0
  simp [hj]

/-- The word of minus infinity. -/
theorem bot_f32 : Ideal.ofBits .f32 0xFF800000#32 = ⊥ := by simp [Ideal.ofBits, Ideal.ieee]
/-- The word of plus infinity. -/
theorem top_f32 : Ideal.ofBits .f32 0x7F800000#32 = ⊤ := by simp [Ideal.ofBits, Ideal.ieee]
/-- The word of two. -/
theorem two_f32 : Ideal.ofBits .f32 0x40000000#32 = ((2 : ℝ) : EReal) := by
  have h : Ideal.ofBits .f32 0x40000000#32 = pw 128 := rfl
  rw [h, pw_eq (by omega) (by omega)]; norm_num
/-- The word of one. -/
theorem one_f32 : Ideal.ofBits .f32 0x3F800000#32 = (1 : EReal) := by
  have h : Ideal.ofBits .f32 0x3F800000#32 = pw 127 := rfl
  rw [h, pw_eq (by omega) (by omega)]; norm_num
/-- The word of 126. -/
theorem c126_f32 : Ideal.ofBits .f32 0x42FC0000#32 = ((126 : ℝ) : EReal) := by
  simp [Ideal.ofBits, Ideal.ieee]
  rw [← EReal.coe_mul]; norm_num

/-- The largest entry of a history is its least upper bound. -/
theorem maxHost_le (h : FVec Ideal S16 .f32) (j : S_.Idx) (M : EReal) : (maxHost h j : EReal) ≤ M ↔ ∀ i : Fin 16, (h (ix1 i) : EReal) ≤ M := by
  refine (hostMax_le h _ reducesTo_S16_S_d0 (fun _ => bot_f32) j M).trans ⟨fun H i => H _, fun H i => ?_⟩
  rw [ValueIdx.eq_ix1 i]; exact H (i 0)

/-- A small word is the number it names. -/
theorem toInt_small : ∀ k : Fin 253, (BitVec.ofNat 32 k.val).toInt = (k.val : ℤ) := by decide +kernel

/-- The `k`-th power is two to the `k - 126`. -/
theorem powers_at (k : Fin 253) : (powers (ix1 k) : EReal) = pw (k.val + 1) := by
  have hk := k.isLt
  have h1 : (powers (ix1 k) : EReal) = Ideal.pow (Ideal.ofBits .f32 0x40000000#32) ((((BitVec.ofNat 32 k.val).toInt : ℝ) : EReal) - Ideal.ofBits .f32 0x42FC0000#32) := by
    unfold powers
    pointwise
    rfl
  rw [h1, two_f32, c126_f32, toInt_small, ← EReal.coe_sub, pw_eq (by omega) (by omega)]
  show ((Real.rpow 2 _ : ℝ) : EReal) = _
  congr 1
  rw [← Real.rpow_intCast]
  congr 1
  push_cast
  ring

/-- The scaled magnitude is the larger of the scaled maximum and its opposite. -/
theorem absHost_at (h : FVec Ideal S16 .f32) (j : S_.Idx) : (absHost h j : EReal)
    = max (maxHost h j * Ideal.ofBits .f32 0x37924925#32) (-(maxHost h j * Ideal.ofBits .f32 0x37924925#32)) := rfl

/-- The powers above the scaled magnitude, entry by entry. -/
theorem above_at (h : FVec Ideal S16 .f32) (k : Fin 253) : (above h (ix1 k) : EReal) = if (absHost h ix0 : EReal) < pw (k.val + 1) then pw (k.val + 1) else ⊤ := by
  have h1 : (above h (ix1 k) : EReal) = if (absHost h ix0 : EReal) < powers (ix1 k) then (powers (ix1 k) : EReal) else Ideal.ofBits .f32 0x7F800000#32 := by
    unfold above
    generalize powers = p
    generalize absHost h = a
    pointwise
    rfl
  rw [h1, powers_at, top_f32]

/-- The least of the powers of two above the scaled magnitude. -/
def minAbove (h : FVec Ideal S16 .f32) : FVec Ideal S_ .f32 :=
  Host.reduce FloatOps.minimumf (above h) (constant S_ .f32 0x7F800000#32) reducesTo_S253_S_d0 h_S_

/-- The least power above a number with the field `F` is the next power. -/
theorem min_above {h : FVec Ideal S16 .f32} {F : ℕ} (hF : Field (absHost h ix0) F) :
    (minAbove h ix0 : EReal) = pw (F + 1) := by
  have h1 := hF.one; have h2 := hF.top
  refine eq_of_forall_le_iff fun M => (le_hostMin (above h) _ reducesTo_S253_S_d0 (fun _ => top_f32) ix0 M).trans ⟨fun H => ?_, fun H i => ?_⟩
  · have := H (ix1 (⟨F, by omega⟩ : Fin 253))
    rw [above_at, if_pos hF.lt] at this
    exact this
  · obtain ⟨k, rfl⟩ : ∃ k : Fin 253, i = ix1 k := ⟨i 0, ValueIdx.eq_ix1 i⟩
    have hk := k.isLt
    rw [above_at]
    split_ifs with hc
    · refine H.trans (pw_le (by omega) ?_ (by omega))
      have : ¬ k.val + 1 ≤ F := fun hle => absurd ((hF.reach (by omega) (by omega)).mpr hle) (not_le.mpr hc)
      omega
    · exact le_top

/-- The scale: one for a zero maximum, else the least power above. -/
theorem scaleHost_at (h : FVec Ideal S16 .f32) : (scaleHost h ix0 : EReal) = if (maxHost h ix0 : EReal) = 0 then (1 : EReal)
    else (minAbove h ix0 : EReal) := by
  have h1 : (scaleHost h ix0 : EReal) = if BitVec.ofBool (decide ((maxHost h ix0 : EReal) = pw 0)) = 1 then Ideal.ofBits .f32 0x3F800000#32
      else (minAbove h ix0 : EReal) := rfl
  rw [h1, pw_zero, one_f32]
  by_cases hc : (maxHost h ix0 : EReal) = 0
  · rw [if_pos hc, decide_eq_true hc]; rfl
  · rw [if_neg hc, decide_eq_false hc]; rfl

/-- The reciprocal the reference quantises by. -/
def invHost (h : FVec Ideal S16 .f32) : FVec Ideal S_ .f32 := Host.divf (constant S_ .f32 0x3F800000#32) (scaleHost h)

/-- The inverse is one over the scale. -/
theorem invHost_at (h : FVec Ideal S16 .f32) : (invHost h ix0 : EReal) = Ideal.div 1 (scaleHost h ix0) := by
  rw [← one_f32]; rfl

end Cert.DcRefIdeal.Hand

end
-- ==== Proof.DcPre.lean ====
module

public import proofs.«01_k».proof.Proof.Gen.Pre_scales_in_range
public import proofs.«01_k».proof.Proof.DcRefScale

@[expose] public section

set_option maxRecDepth 65536

noncomputable section

namespace Cert.Pre_scales_in_range.Hand

open Cert.Pre_scales_in_range Cert.Pre_scales_in_range.Gen
open Idealize.ShloMosaic Idealize.ShloMosaic.TcCoe
open Cert.DcIdeal.Hand (pw pw_zero)

/-- What the precondition says of one history: its scaled magnitude is zero, or a normal number below the last powers of two. -/
def InRange (a : EReal) : Prop := a = 0 ∨ (pw 1 ≤ a ∧ a < pw 253)

/-- A bit that is one is true. -/
theorem bit_true : ∀ p : Bool, BitVec.ofBool p = 1#1 → p = true := by decide

/-- One of two bits is one where their disjunction is. -/
theorem ori_one : ∀ x y : BitVec 1, IntOp.ori x y = 1#1 → x = 1#1 ∨ y = 1#1 := by decide

/-- The precondition, at the two histories. -/
theorem in_range (x0 : FVec Ideal S9x6144x20x128 .bf16) (x1 : FVec Ideal S9x6144x20x128 .bf16) (x2 : FVec Ideal S9x6144x1536 .fp8e4m3) (x3 : FVec Ideal S9x6144x12 .f32)
    (x4 : FVec Ideal S1536x20x128 .fp8e4m3) (x5 : FVec Ideal S12x20 .f32) (x6 : FVec Ideal S1536x20x128 .fp8e4m3) (x7 : FVec Ideal S12x20 .f32) (x8 x9 : FVec Ideal S16 .f32)
    (h : Cert.Pre_scales_in_range.fn (F := Ideal) x0 x1 x2 x3 x4 x5 x6 x7 x8 x9 = fun _ => 1#1) :
    InRange (Cert.DcRefIdeal.Hand.absHost x8 ix0) ∧ InRange (Cert.DcRefIdeal.Hand.absHost x9 ix0) := by
  have h' := congrFun h ix0
  have e : ∀ (a b : EReal), IntOp.andi (IntOp.ori (BitVec.ofBool (decide (a = pw 0))) (IntOp.andi (BitVec.ofBool (decide (pw 1 ≤ a))) (BitVec.ofBool (decide (a < pw 253)))))
      (IntOp.ori (BitVec.ofBool (decide (b = pw 0))) (IntOp.andi (BitVec.ofBool (decide (pw 1 ≤ b))) (BitVec.ofBool (decide (b < pw 253))))) = 1#1 → InRange a ∧ InRange b := by
    intro a b hab
    have one : ∀ a : EReal, IntOp.ori (BitVec.ofBool (decide (a = pw 0))) (IntOp.andi (BitVec.ofBool (decide (pw 1 ≤ a))) (BitVec.ofBool (decide (a < pw 253)))) = 1#1 → InRange a := by
      intro a ha
      rcases ori_one _ _ ha with h1 | h1
      · exact .inl ((of_decide_eq_true (bit_true _ h1)).trans pw_zero)
      · rw [IntOp.andi_eq_one] at h1
        exact .inr ⟨of_decide_eq_true (bit_true _ h1.1), of_decide_eq_true (bit_true _ h1.2)⟩
    rw [IntOp.andi_eq_one] at hab
    exact ⟨one a hab.1, one b hab.2⟩
  exact e _ _ h'

end Cert.Pre_scales_in_range.Hand

end
-- ==== Proof.DcFrame.lean ====
module

public import proofs.«01_k».proof.Proof.DcBody
public import Idealize.ShloMosaic.Lib.Pipeline.Value
public import Idealize.ShloMosaic.Lib.Claim

@[expose] public section

set_option maxRecDepth 16384

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, the outputs' contents forgotten -/

/-- The windows of which the frame says nothing: the outputs. -/
def forgotten : Fin 18 → Bool := fun w => 10 ≤ w.val

/-- What each window's buffer holds after a point: an input its block, an output something unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨n + 18, h⟩ => absurd h (by have : cfg0.W = 18 := rfl; omega)
  Φ _ := Pipeline.ΦA spec0 c
  q _ := fullShare
  owed _ := 0

/-- Each array at the launch is what the memory holds there. -/
theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fafter_7 (c : Dev nD) (t : Fin cfg0.N) : (fdats m 0 c).after 7 t = iblk m c 7 t := by dsimp only [fdats]
theorem fafter_8 (c : Dev nD) (t : Fin cfg0.N) : (fdats m 0 c).after 8 t = iblk m c 8 t := by dsimp only [fdats]
theorem fafter_9 (c : Dev nD) (t : Fin cfg0.N) : (fdats m 0 c).after 9 t = iblk m c 9 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d
theorem fbefore_7 (c : Dev nD) (t : Fin cfg0.N) (d) : (fdats m 0 c).before 7 t d = iblk m c 7 t :=
  before0_7_of m (fdats m 0 c) (fA_eq m c 7) (fafter_7 m c) t d
theorem fbefore_8 (c : Dev nD) (t : Fin cfg0.N) (d) : (fdats m 0 c).before 8 t d = iblk m c 8 t :=
  before0_8_of m (fdats m 0 c) (fA_eq m c 8) (fafter_8 m c) t d
theorem fbefore_9 (c : Dev nD) (t : Fin cfg0.N) (d) : (fdats m 0 c).before 9 t d = iblk m c 9 t :=
  before0_9_of m (fdats m 0 c) (fA_eq m c 9) (fafter_9 m c) t d

/-- What the body is called with at point `t`, window by window. -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ d, owns (c : Thread nD τ) (st0_8 t) fullShare ((fdats m 0 c).before 8 t d))
    ∗ (∃ d, owns (c : Thread nD τ) (st0_9 t) fullShare ((fdats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d))

/-- What the body returns at point `t`. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ owns (c : Thread nD τ) (st0_7 t) fullShare ((fdats m 0 c).after 7 t)
    ∗ owns (c : Thread nD τ) (st0_8 t) fullShare ((fdats m 0 c).after 8 t)
    ∗ owns (c : Thread nD τ) (st0_9 t) fullShare ((fdats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d))

/-- A scratch buffer held at something is owned whole at something. -/
theorem owns_scratch (c : Dev nD) (b : Ref sig .tc) :
    (iprop(∃ f : Buf (Elt F) ((c : Thread nD τ).loc b), ((c : Thread nD τ).loc b) ↦{fullShare} f) : sProp 𝕄)
      ⊣⊢ iprop(∃ d, owns (c : Thread nD τ) (Memref.whole b) fullShare d) := by
  simp only [owns_whole]
  exact ⟨.rfl, .rfl⟩

set_option maxHeartbeats 1000000 in
/-- The body at any point, from what it is called with to what it returns. -/
theorem fsound (c : Dev nD) (t : Fin cfg0.N) :
    fpre m c t ⊢ wp frame (wpE (defs₀ (F := F)) Variants.none c none) Set.univ (bodyAt0 t) (fun _ => fpost m c t) := by
  unfold fpre fpost bodyAt0
  simp only [fbefore_0, fbefore_1, fbefore_2, fbefore_3, fbefore_4, fbefore_5, fbefore_6, fbefore_7, fbefore_8, fbefore_9]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4, fafter_5, fafter_6, fafter_7, fafter_8, fafter_9]
  rw [show (fdats m 0 c).Φ t.castSucc = Pipeline.ΦA spec0 c from rfl]
  unfold Pipeline.ΦA
  rw [scopedRest0_eq]
  iintro ⟨⟨⟨HS0, HS1, HS2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15, H16, H17⟩
  ihave HS0 := (owns_scratch c cc0_scratch0).1 $$ HS0
  ihave HS1 := (owns_scratch c cc0_scratch1).1 $$ HS1
  ihave HS2 := (owns_scratch c cc0_scratch2).1 $$ HS2
  iapply (bodyFrame c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, H14, H15, H16, H17, HS0, HS1, HS2⟩
  ihave HS0 := (owns_scratch c cc0_scratch0).2 $$ HS0
  ihave HS1 := (owns_scratch c cc0_scratch1).2 $$ HS1
  ihave HS2 := (owns_scratch c cc0_scratch2).2 $$ HS2
  isplitl [HS0 HS1 HS2 HP]
  · isplitl [HS0 HS1 HS2]
    · isplitl [HS0]; · iexact HS0
      isplitl [HS1]; · iexact HS1
      iexact HS2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem fobligation (c : Dev nD) : BodyObligation (fdats (F := F) m 0 c) (defs₀ (F := F)) Variants.none () Set.univ forgotten := fun t => by
  rw [bigSep_W0, bigSep_W0, defs₀_row]
  exact triple_restated (fsound m c t) rfl .rfl fun _ => .rfl

set_option backward.isDefEq.respectTransparency.types false in
/-- The launch: every execution ends, the inputs are as launched, and every semaphore counter is at zero. -/
theorem frun : θ_run defs (onTc (τ := τ) (main (F := F))) (s₀ m ρ) (fun r => (Pipeline.RDat.FramePost (cfgs 0) (fun c => (fdats m 0 c).toRForget forgotten) (V m)) r ∧ r.2.sem = fun _ => 0) :=
  Pipeline.θ_run_frame_forget (Q' := _) cfgs (fdats m) (0 : Fin 1) launch0 defs₀ Variants.none forgotten m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The kernel, on any values: from any memory with zero counters every execution ends, leaves each argument array as
    it was, and leaves every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and ((θ_run defs _ _).mono (fun r h c => by
    have hin : ∀ w : Fin cfg0.W, (cfg0.win w).isOut = false → r.2.mem ((cfg0.spec w).arr.view.loc (c.tc : Thread nD τ)) = V m c (Pipeline.arrRef spec0 w) := fun w hw => by
      have h1 := (h.1 c).1 w
      rw [((fdats m 0 c).toRForget forgotten).ArrAt_in w hw] at h1
      exact h1.trans (fA_eq m c w)
    exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (hin 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (hin 6 rfl).trans (V_main_arg5 m c),
      ((h.1 c).2 main_arg6 (Pipeline.mem_restRefs_of main_arg6 (by decide) (by decide))).trans (V_main_arg6 m c),
      (hin 7 rfl).trans (V_main_arg7 m c), (hin 8 rfl).trans (V_main_arg8 m c), (hin 9 rfl).trans (V_main_arg9 m c)⟩) (frun m ρ))
    ((θ_run defs _ _).mono (fun _ h => h.2) (frun m ρ))

end Cert.DcIdeal.Hand

end
-- ==== Proof.DcBlock2.lean ====
module

public import proofs.«01_k».proof.Proof.DcBlock

@[expose] public section

set_option maxRecDepth 16384

noncomputable section

namespace Cert.DcIdeal.Hand

open Cert.DcIdeal Cert.DcIdeal.Gen
open Idealize.ShloMosaic Idealize.ShloMosaic.TcCoe

/-! ## The latents -/

theorem ctPiece_eq (a4 : Memref sig .tc .vmem S1x512x1536 .fp8e4m3) (h4 : a4.IsWhole) (x4 : Vec Ideal S1x512x1536 .fp8e4m3)
    (a5 : Memref sig .tc .vmem S1x12x512 .f32) (h5 : a5.IsWhole) (x5 : Vec Ideal S1x12x512 .f32) (g : Fin 12)
    (j : (ctPiece (F := Ideal) a4 h4 x4 a5 h5 x5 g).1.shape.Idx) :
    (ctPiece (F := Ideal) a4 h4 x4 a5 h5 x5 g).2 j = ctOf x4 x5 ((ctPiece (F := Ideal) a4 h4 x4 a5 h5 x5 g).1.emb j) := by
  obtain ⟨u, r, k, rfl⟩ : ∃ (u : Fin 1) (r : Fin 128) (k : Fin 512), j = ix3 u r k := ⟨j 0, j 1, j 2, ValueIdx.eq_ix3 j⟩
  have hr : g.val * 128 + r.val < 1536 := by have := g.isLt; have := r.isLt; omega
  have hg : grpOf ⟨g.val * 128 + r.val, hr⟩ = g := Fin.ext (by have := r.isLt; simp [grpOf]; omega)
  refine piece_eq (inbT _ g.isLt) _ (ctOf x4 x5) _ (ix3 0 (⟨g.val * 128 + r.val, hr⟩ : Fin 1536) k) (fun a => ?_) ((pay286_apply _ _ u r k).trans ?_)
  · obtain rfl : u = 0 := Subsingleton.elim _ _
    fin_cases a <;> simp [ix3]
  · show _ = x4 (ix3 0 k ⟨g.val * 128 + r.val, hr⟩) * x5 (ix3 0 (grpOf ⟨g.val * 128 + r.val, hr⟩) k)
    rw [View.readAt_eq_ld, h4.read_unread, View.readAt_eq_ld, h5.read_unread, hg]
    refine congrArg₂ (· * ·) (congrArg x4 (funext fun a => Fin.ext ?_)) (congrArg x5 (funext fun a => Fin.ext ?_))
    · fin_cases a <;> simp [LoadRect.idx, Rect.toLoadRect, Rect.unit, ix3]
    · fin_cases a <;> simp [LoadRect.idx, Rect.toLoadRect, Rect.unit, ix3]

/-- The pieces of dequantised latents make up their block. -/
theorem stored_ct (a4 : Memref sig .tc .vmem S1x512x1536 .fp8e4m3) (h4 : a4.IsWhole) (x4 : Vec Ideal S1x512x1536 .fp8e4m3)
    (a5 : Memref sig .tc .vmem S1x12x512 .f32) (h5 : a5.IsWhole) (x5 : Vec Ideal S1x12x512 .f32)
    (b : Memref sig .tc .vmem S1x1536x512 .bf16) (hb : b.IsWhole) (y0 : Vec Ideal S1x1536x512 .bf16) :
    stored b hb y0 (([11, 10, 9, 8, 7, 6, 5, 4, 3, 2, 1, 0] : List (Fin 12)).map (ctPiece a4 h4 x4 a5 h5 x5)) = ctOf x4 x5 := by
  funext y
  refine View.read_writes_apply_of_pieces (Val := Elt Ideal) _ _ (ctOf x4 x5) _ (fun p hp j => ?_) y ?_
  · obtain ⟨g, -, rfl⟩ := List.mem_map.mp hp
    exact ctPiece_eq ..
  · obtain ⟨u, r, k, rfl⟩ : ∃ (u : Fin 1) (r : Fin 1536) (k : Fin 512), y = ix3 u r k := ⟨y 0, y 1, y 2, ValueIdx.eq_ix3 y⟩
    have := r.isLt
    have hm : ∀ n : Fin 12, n ∈ ([11, 10, 9, 8, 7, 6, 5, 4, 3, 2, 1, 0] : List (Fin 12)) := by decide
    refine ⟨_, List.mem_map.mpr ⟨⟨r.val / 128, by omega⟩, hm _, rfl⟩,
      mem_unit (inbT (r.val / 128) (by omega)) _ (ix3 u (⟨r.val % 128, by omega⟩ : Fin 128) k) fun a => ?_⟩
    obtain rfl : u = 0 := Subsingleton.elim _ _
    fin_cases a <;> simp [ix3]
    omega

/-! ## The latents' gradient -/

theorem dcPiece_eq (sk sv : EReal) (a21 : Memref sig .tc .vmem S512x5120 .bf16) (h21 : a21.IsWhole) (l : Vec Ideal S512x5120 .bf16)
    (a20 : Memref sig .tc .vmem S1536x5120 .bf16) (h20 : a20.IsWhole) (w : Vec Ideal S1536x5120 .bf16) (n : Fin 6)
    (j : (dcPiece (F := Ideal) sk sv a21 h21 l a20 h20 w n).1.shape.Idx) :
    (dcPiece (F := Ideal) sk sv a21 h21 l a20 h20 w n).2 j = dcOf sk sv l w ((dcPiece (F := Ideal) sk sv a21 h21 l a20 h20 w n).1.emb j) := by
  obtain ⟨u, r, k, rfl⟩ : ∃ (u : Fin 1) (r : Fin 512) (k : Fin 256), j = ix3 u r k := ⟨j 0, j 1, j 2, ValueIdx.eq_ix3 j⟩
  have hk : n.val * 256 + k.val < 1536 := by have := n.isLt; have := k.isLt; omega
  refine piece_eq (inbD _ n.isLt) _ (dcOf sk sv l w) _ (ix3 0 r (⟨n.val * 256 + k.val, hk⟩ : Fin 1536)) (fun a => ?_) ((tile_apply _ _ _ _ _ _ u r k).trans ?_)
  · obtain rfl : u = 0 := Subsingleton.elim _ _
    fin_cases a <;> simp [ix3]
  · show _ = (∑ q : Fin 2560, l (ix2 r (loCol q)) * w (ix2 ⟨n.val * 256 + k.val, hk⟩ (loCol q))) * sk
      + (∑ q : Fin 2560, l (ix2 r (hiCol q)) * w (ix2 ⟨n.val * 256 + k.val, hk⟩ (hiCol q))) * sv
    simp only [View.readAt_eq_ld, h21.read_unread, h20.read_unread]
    refine congrArg₂ (· + ·) (congrArg (· * sk) (Finset.sum_congr rfl fun q _ => ?_)) (congrArg (· * sv) (Finset.sum_congr rfl fun q _ => ?_)) <;>
    refine congrArg₂ (· * ·) (congrArg l (funext fun a => Fin.ext ?_)) (congrArg w (funext fun a => Fin.ext ?_)) <;>
    fin_cases a <;> simp [LoadRect.idx, Rect.toLoadRect, Rect.unit, ix2, loCol, hiCol]

/-- The pieces of the latents' gradient make up its block. -/
theorem stored_dc (sk sv : EReal) (a21 : Memref sig .tc .vmem S512x5120 .bf16) (h21 : a21.IsWhole) (l : Vec Ideal S512x5120 .bf16)
    (a20 : Memref sig .tc .vmem S1536x5120 .bf16) (h20 : a20.IsWhole) (w : Vec Ideal S1536x5120 .bf16)
    (b : Memref sig .tc .vmem S1x512x1536 .bf16) (hb : b.IsWhole) (y0 : Vec Ideal S1x512x1536 .bf16) :
    stored b hb y0 (([5, 4, 3, 2, 1, 0] : List (Fin 6)).map (dcPiece sk sv a21 h21 l a20 h20 w)) = dcOf sk sv l w := by
  funext y
  refine View.read_writes_apply_of_pieces (Val := Elt Ideal) _ _ (dcOf sk sv l w) _ (fun p hp j => ?_) y ?_
  · obtain ⟨g, -, rfl⟩ := List.mem_map.mp hp
    exact dcPiece_eq ..
  · obtain ⟨u, r, k, rfl⟩ : ∃ (u : Fin 1) (r : Fin 512) (k : Fin 1536), y = ix3 u r k := ⟨y 0, y 1, y 2, ValueIdx.eq_ix3 y⟩
    have := k.isLt
    have hm : ∀ n : Fin 6, n ∈ ([5, 4, 3, 2, 1, 0] : List (Fin 6)) := by decide
    refine ⟨_, List.mem_map.mpr ⟨⟨k.val / 256, by omega⟩, hm _, rfl⟩,
      mem_unit (inbD (k.val / 256) (by omega)) _ (ix3 u r (⟨k.val % 256, by omega⟩ : Fin 256)) fun a => ?_⟩
    obtain rfl : u = 0 := Subsingleton.elim _ _
    fin_cases a <;> simp [ix3]
    omega

/-! ## The running maxima -/

theorem cast_slab (v : Vec Ideal S1x16x128 .bf16) (r : Fin 16) (d : Fin 128) :
    shapeCast S16x128 v shapeCasts_S1x16x128_S16x128 (ix2 r d) = v (ix3 0 r d) := by
  pointwise

/-- One half of the running maxima, as the body reads it. -/
theorem ldA_apply (p : Fin 2) (b : Memref sig .tc .vmem S2x16x128 .bf16) (hb : b.IsWhole) (s : Vec Ideal S2x16x128 .bf16) (r : Fin 16) (d : Fin 128) :
    View.readAt (Elt Ideal) b.view (Rect.unit (s := S2x16x128) ![p.val, 0, 0] S1x16x128.size (inbA p.val p.isLt)).toLoadRect (hb.unread s) (ix3 0 r d) = s (ix3 p r d) := by
  rw [View.readAt_eq_ld, hb.read_unread]
  refine congrArg s (funext fun a => Fin.ext ?_)
  fin_cases a <;> simp [LoadRect.idx, Rect.toLoadRect, Rect.unit, ix3]

/-- That half without its leading axis. -/
theorem slab_ld (p : Fin 2) (b : Memref sig .tc .vmem S2x16x128 .bf16) (hb : b.IsWhole) (s : Vec Ideal S2x16x128 .bf16) :
    shapeCast S16x128 (View.readAt (Elt Ideal) b.view (Rect.unit (s := S2x16x128) ![p.val, 0, 0] S1x16x128.size (inbA p.val p.isLt)).toLoadRect (hb.unread s)) shapeCasts_S1x16x128_S16x128
      = slab s p := by
  funext y
  obtain ⟨r, d, rfl⟩ : ∃ (r : Fin 16) (d : Fin 128), y = ix2 r d := ⟨y 0, y 1, ValueIdx.eq_ix2 y⟩
  exact (cast_slab _ r d).trans (ldA_apply p b hb s r d)

/-- The running maxima after the heads of one gradient. -/
theorem amaxRun_eq (p : Fin 2) (b : Memref sig .tc .vmem S2x16x128 .bf16) (hb : b.IsWhole) (s : Vec Ideal S2x16x128 .bf16)
    (a : Memref sig .tc .vmem S1x20x512x128 .bf16) (ha : a.IsWhole) (x : Vec Ideal S1x20x512x128 .bf16) :
    amaxRun (F := Ideal) p.val p.isLt b hb s a ha x = amaxAcc (slab s p) x := by
  unfold amaxRun amaxAcc
  rw [slab_ld]
  simp only [ldG_eq]

/-- What is stored back of the running maxima is the same entries under a leading axis. -/
theorem pay170_apply (v : Vec Ideal S16x128 .bf16) (u : Fin 1) (r : Fin 16) (d : Fin 128) : k0_pay170 (F := Ideal) v (ix3 u r d) = v (ix2 r d) := by
  obtain rfl : u = 0 := Subsingleton.elim _ _
  unfold k0_pay170
  pointwise

/-- Storing one half of the running maxima leaves the other. -/
theorem slab_miss (b : Memref sig .tc .vmem S2x16x128 .bf16) (hb : b.IsWhole) (s : Vec Ideal S2x16x128 .bf16)
    (a : Memref sig .tc .vmem S1x20x512x128 .bf16) (ha : a.IsWhole) (x : Vec Ideal S1x20x512x128 .bf16) :
    slab (stored b hb s [amaxPiece 0 (by decide) b hb s a ha x]) 1 = slab s 1 := by
  funext y
  obtain ⟨r, d, rfl⟩ : ∃ (r : Fin 16) (d : Fin 128), y = ix2 r d := ⟨y 0, y 1, ValueIdx.eq_ix2 y⟩
  unfold slab stored
  refine (View.read_writes_cons_miss_of_axis _ _ _ _ _ 0 0 1 rfl rfl rfl (.inr ?_)).trans ?_
  · simp [ix3]
  · rw [View.writes_nil, hb.read_unread]

/-- Both halves stored make up the running maxima after the point. -/
theorem stored_amax (b : Memref sig .tc .vmem S2x16x128 .bf16) (hb : b.IsWhole) (A : Vec Ideal S2x16x128 .bf16)
    (a : Memref sig .tc .vmem S1x20x512x128 .bf16) (ha : a.IsWhole) (gk : Vec Ideal S1x20x512x128 .bf16)
    (a' : Memref sig .tc .vmem S1x20x512x128 .bf16) (ha' : a'.IsWhole) (gv : Vec Ideal S1x20x512x128 .bf16) :
    stored b hb (stored b hb A [amaxPiece 0 (by decide) b hb A a ha gk])
      [amaxPiece 1 (by decide) b hb (stored b hb A [amaxPiece 0 (by decide) b hb A a ha gk]) a' ha' gv] = amaxOf A gk gv := by
  have e1 : amaxRun (F := Ideal) 1 (by decide) b hb (stored b hb A [amaxPiece 0 (by decide) b hb A a ha gk]) a' ha' gv = amaxAcc (slab A 1) gv :=
    (amaxRun_eq 1 b hb _ a' ha' gv).trans (by rw [slab_miss])
  have e0 : amaxRun (F := Ideal) 0 (by decide) b hb A a ha gk = amaxAcc (slab A 0) gk := amaxRun_eq 0 b hb _ a ha gk
  unfold stored
  rw [hb.unread_read, ← View.writes_append]
  funext y
  refine View.read_writes_apply_of_pieces (Val := Elt Ideal) _ _ (amaxOf A gk gv) _ (fun p hp j => ?_) y ?_
  · rcases List.mem_append.mp hp with hp | hp
    · obtain rfl := List.mem_singleton.mp hp
      obtain ⟨u, r, d, rfl⟩ : ∃ (u : Fin 1) (r : Fin 16) (d : Fin 128), j = ix3 u r d := ⟨j 0, j 1, j 2, ValueIdx.eq_ix3 j⟩
      refine piece_eq (inbA 1 (by decide)) _ (amaxOf A gk gv) _ (ix3 1 r d) (fun a => ?_) ((pay170_apply _ u r d).trans ((congrFun e1 (ix2 r d)).trans rfl))
      obtain rfl : u = 0 := Subsingleton.elim _ _
      fin_cases a <;> simp [ix3]
    · obtain rfl := List.mem_singleton.mp hp
      obtain ⟨u, r, d, rfl⟩ : ∃ (u : Fin 1) (r : Fin 16) (d : Fin 128), j = ix3 u r d := ⟨j 0, j 1, j 2, ValueIdx.eq_ix3 j⟩
      refine piece_eq (inbA 0 (by decide)) _ (amaxOf A gk gv) _ (ix3 0 r d) (fun a => ?_) ((pay170_apply _ u r d).trans ((congrFun e0 (ix2 r d)).trans rfl))
      obtain rfl : u = 0 := Subsingleton.elim _ _
      fin_cases a <;> simp [ix3]
  · obtain ⟨q, r, d, rfl⟩ : ∃ (q : Fin 2) (r : Fin 16) (d : Fin 128), y = ix3 q r d := ⟨y 0, y 1, y 2, ValueIdx.eq_ix3 y⟩
    obtain rfl | rfl : q = 0 ∨ q = 1 := by revert q; decide
    · refine ⟨_, List.mem_append_right _ (List.mem_singleton.mpr rfl), mem_unit (inbA 0 (by decide)) _ (ix3 0 r d) fun a => ?_⟩
      fin_cases a <;> simp [ix3]
    · refine ⟨_, List.mem_append_left _ (List.mem_singleton.mpr rfl), mem_unit (inbA 1 (by decide)) _ (ix3 0 r d) fun a => ?_⟩
      fin_cases a <;> simp [ix3]

/-- The running maxima start at zero. -/
theorem stored_zero (b : Memref sig .tc .vmem S2x16x128 .bf16) (hb : b.IsWhole) (A : Vec Ideal S2x16x128 .bf16) :
    stored b hb A [⟨Rect.unit (s := S2x16x128) ![0, 0, 0] S2x16x128.size inb_S2x16x128_S2x16x128_0_0_0, k0_pay54 (F := Ideal)⟩] = fun _ => (0 : EReal) := by
  funext y
  refine View.read_writes_apply_of_pieces (Val := Elt Ideal) (e := .bf16) _ _ (fun _ => (0 : EReal)) _ (fun p hp j => ?_) y ?_
  · obtain rfl := List.mem_singleton.mp hp
    show k0_pay54 (F := Ideal) j = 0
    unfold k0_pay54
    obtain ⟨q, r, d, rfl⟩ : ∃ (q : Fin 2) (r : Fin 16) (d : Fin 128), j = ix3 q r d := ⟨j 0, j 1, j 2, ValueIdx.eq_ix3 j⟩
    pointwise
  · refine ⟨_, List.mem_singleton.mpr rfl, mem_unit inb_S2x16x128_S2x16x128_0_0_0 _ y fun a => ?_⟩
    fin_cases a <;> simp

/-! ## The histories -/

theorem stored_hist (a : Memref sig .tc .smem S16 .f32) (ha : a.IsWhole) (x : Vec Ideal S16 .f32) (v : EReal)
    (b : Memref sig .tc .smem S16 .f32) (hb : b.IsWhole) (y0 : Vec Ideal S16 .f32) :
    stored b hb y0 (histPieces a ha x v) = histOf x v := by
  funext y
  refine View.read_writes_apply_of_pieces (Val := Elt Ideal) _ _ (histOf x v) _ (fun p hp j => ?_) y ?_
  · rcases List.mem_append.mp hp with hp | hp
    · obtain ⟨n, -, rfl⟩ := List.mem_map.mp hp
      refine piece_eq (inbH (n.val + 1) (by omega)) _ (histOf x v) _ (ix1 (⟨n.val + 1, by omega⟩ : Fin 16)) (fun a => ?_) ((ldH_eq a ha x n.val (by omega)).trans ?_)
      · fin_cases a; have : (j 0).val < 1 := (j 0).isLt; simp [ix1]; omega
      · rfl
    · obtain rfl := List.mem_singleton.mp hp
      refine piece_eq inb_S16_S1_0 _ (histOf x v) _ (ix1 (0 : Fin 16)) (fun a => ?_) rfl
      fin_cases a; have : (j 0).val < 1 := (j 0).isLt; simp [ix1]; omega
  · obtain ⟨n, rfl⟩ : ∃ n : Fin 16, y = ix1 n := ⟨y 0, ValueIdx.eq_ix1 y⟩
    by_cases hn : n.val = 0
    · refine ⟨_, List.mem_append_right _ (List.mem_singleton.mpr rfl), mem_unit inb_S16_S1_0 _ (ix1 (0 : Fin 1)) fun a => ?_⟩
      fin_cases a; simp [ix1, hn]
    · have hm : ∀ n : Fin 15, n ∈ ([14, 13, 12, 11, 10, 9, 8, 7, 6, 5, 4, 3, 2, 1, 0] : List (Fin 15)) := by decide
      have := n.isLt
      refine ⟨_, List.mem_append_left _ (List.mem_map.mpr ⟨⟨n.val - 1, by omega⟩, hm _, rfl⟩),
        mem_unit (inbH (n.val - 1 + 1) (by omega)) _ (ix1 (0 : Fin 1)) fun a => ?_⟩
      fin_cases a; simp [ix1]; omega

/-! ## The weights -/

theorem wPiece_eq (p : Nat) (hp : p < 2) (aw : Memref sig .tc .vmem S20x1536x128 .fp8e4m3) (hw : aw.IsWhole) (asc : Memref sig .tc .smem S12x20 .f32) (hs : asc.IsWhole)
    (x : Vec Ideal S20x1536x128 .fp8e4m3) (y : Vec Ideal S12x20 .f32) (wk wv : Vec Ideal S20x1536x128 .fp8e4m3) (sk sv : Vec Ideal S12x20 .f32)
    (h0 : p = 0 → x = wk ∧ y = sk) (h1 : p = 1 → x = wv ∧ y = sv) (t : Fin k0_t1_loop.trips) (h : Fin 20)
    (j : (wPiece (F := Ideal) p hp aw asc (hw.unread x) (hs.unread y) t h).1.shape.Idx) :
    (wPiece (F := Ideal) p hp aw asc (hw.unread x) (hs.unread y) t h).2 j
      = wOf wk wv sk sv ((wPiece (F := Ideal) p hp aw asc (hw.unread x) (hs.unread y) t h).1.emb j) := by
  obtain ⟨r, d, rfl⟩ : ∃ (r d : Fin 128), j = ix2 r d := ⟨j 0, j 1, ValueIdx.eq_ix2 j⟩
  have ht := t.isLt.trans_eq trips_eq
  have hl : (p * 20 + h.val) * 128 + d.val < 5120 := by have := h.isLt; have := d.isLt; omega
  have hr : t.val * 128 + r.val < 1536 := by have := r.isLt; omega
  have e1 : dimOf ⟨(p * 20 + h.val) * 128 + d.val, hl⟩ = d := Fin.ext (by have := d.isLt; simp [dimOf] <;> omega)
  have e2 : headOf ⟨(p * 20 + h.val) * 128 + d.val, hl⟩ = h := Fin.ext (by have := d.isLt; have := h.isLt; simp [headOf] <;> omega)
  have e3 : grpOf ⟨t.val * 128 + r.val, hr⟩ = ⟨t.val, ht⟩ := Fin.ext (by have := r.isLt; simp [grpOf]; omega)
  refine piece_eq (inbWo t _ (by omega)) _ (wOf wk wv sk sv) _ (ix2 (⟨t.val * 128 + r.val, hr⟩ : Fin 1536) (⟨(p * 20 + h.val) * 128 + d.val, hl⟩ : Fin 5120))
    (fun a => by fin_cases a <;> simp [ix2, row_eq]) ((pay2_apply _ _ r d).trans ?_)
  have l1 : View.readAt (Elt Ideal) aw.view (Rect.unit (s := S20x1536x128) ![h.val, k0_off3 t 0, 0] S1x128x128.size (inbWl t _ h.isLt)).toLoadRect (hw.unread x) (ix3 0 r d)
      = x (ix3 h ⟨t.val * 128 + r.val, hr⟩ d) := by
    rw [View.readAt_eq_ld, hw.read_unread]
    refine congrArg x (funext fun a => Fin.ext ?_)
    fin_cases a <;> simp [LoadRect.idx, Rect.toLoadRect, Rect.unit, ix3, row_eq]
  have l2 : View.readAt (Elt Ideal) asc.view (Rect.unit (s := S12x20) ![k0_off2 t 0, h.val] S1x1.size (inbWs t _ h.isLt)).toLoadRect (hs.unread y) (Shape.Idx.first (s := S1x1) (by decide))
      = y (ix2 ⟨t.val, ht⟩ h) := by
    rw [View.readAt_eq_ld, hs.read_unread]
    refine congrArg y (funext fun a => Fin.ext ?_)
    fin_cases a <;> simp [LoadRect.idx, Rect.toLoadRect, Rect.unit, ix2, grp_eq, Shape.Idx.first]
  rw [l1, l2]
  show _ = if (p * 20 + h.val) * 128 + d.val < 2560
    then wk (ix3 (headOf ⟨(p * 20 + h.val) * 128 + d.val, hl⟩) ⟨t.val * 128 + r.val, hr⟩ (dimOf ⟨(p * 20 + h.val) * 128 + d.val, hl⟩))
      * sk (ix2 (grpOf ⟨t.val * 128 + r.val, hr⟩) (headOf ⟨(p * 20 + h.val) * 128 + d.val, hl⟩))
    else wv (ix3 (headOf ⟨(p * 20 + h.val) * 128 + d.val, hl⟩) ⟨t.val * 128 + r.val, hr⟩ (dimOf ⟨(p * 20 + h.val) * 128 + d.val, hl⟩))
      * sv (ix2 (grpOf ⟨t.val * 128 + r.val, hr⟩) (headOf ⟨(p * 20 + h.val) * 128 + d.val, hl⟩))
  rw [e1, e2, e3]
  have := d.isLt; have := h.isLt
  obtain rfl | rfl : p = 0 ∨ p = 1 := by omega
  · rw [if_pos (by omega), (h0 rfl).1, (h0 rfl).2]
  · rw [if_neg (by omega), (h1 rfl).1, (h1 rfl).2]

section
variable (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)

/-- What the keys' loop has stored after `n` trips: each head's rectangle of each trip so far. -/
theorem pb1_mem (h1 : k0_cond1 i = 1#1) (X : arg6.view.ty.Contents (Elt Ideal)) (Y : arg8.view.ty.Contents (Elt Ideal)) (p : View.Piece (Elt Ideal) S1536x5120 .bf16) :
    ∀ n, n ≤ k0_t1_loop.trips → (p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y n
      ↔ ∃ t : Fin k0_t1_loop.trips, t.val < n ∧ ∃ h : Fin 20, p = wPiece 0 (by decide) arg6 arg8 X Y t h)
  | 0, _ => ⟨fun h => absurd h List.not_mem_nil, fun ⟨t, h, _⟩ => absurd h (Nat.not_lt_zero _)⟩
  | n + 1, hn => by
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y ⟨n, hn⟩
    rw [trip1] at e
    rw [show pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y (n + 1) = _ from e, List.mem_append, pb1_mem h1 X Y p n (by omega), List.mem_map]
    constructor
    · rintro (⟨h, -, rfl⟩ | ⟨t, ht, h⟩)
      · exact ⟨⟨n, hn⟩, Nat.lt_succ_self n, h, rfl⟩
      · exact ⟨t, by omega, h⟩
    · rintro ⟨t, ht, h, rfl⟩
      by_cases e : t.val = n
      · obtain rfl : t = ⟨n, hn⟩ := Fin.ext e
        exact .inl ⟨h, heads_mem h, rfl⟩
      · exact .inr ⟨t, by omega, h, rfl⟩

/-- What the values' loop has stored after `n` trips: each head's rectangle of each trip so far. -/
theorem pb2_mem (h1 : k0_cond1 i = 1#1) (X : arg7.view.ty.Contents (Elt Ideal)) (Y : arg9.view.ty.Contents (Elt Ideal)) (p : View.Piece (Elt Ideal) S1536x5120 .bf16) :
    ∀ n, n ≤ k0_t2_loop.trips → (p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y n
      ↔ ∃ t : Fin k0_t1_loop.trips, t.val < n ∧ ∃ h : Fin 20, p = wPiece 1 (by decide) arg7 arg9 X Y t h)
  | 0, _ => ⟨fun h => absurd h List.not_mem_nil, fun ⟨t, h, _⟩ => absurd h (Nat.not_lt_zero _)⟩
  | n + 1, hn => by
    have e := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y ⟨n, hn⟩
    rw [trip2] at e
    rw [show pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 X Y (n + 1) = _ from e, List.mem_append, pb2_mem h1 X Y p n (by omega), List.mem_map]
    constructor
    · rintro (⟨h, -, rfl⟩ | ⟨t, ht, h⟩)
      · exact ⟨⟨n, hn⟩, Nat.lt_succ_self n, h, rfl⟩
      · exact ⟨t, by omega, h⟩
    · rintro ⟨t, ht, h, rfl⟩
      by_cases e : t.val = n
      · obtain rfl : t = ⟨n, hn⟩ := Fin.ext e
        exact .inl ⟨h, heads_mem h, rfl⟩
      · exact .inr ⟨t, by omega, h, rfl⟩

/-- The rectangles the loop stores make up the widened weights. -/
theorem stored_w (x6 : Vec Ideal S20x1536x128 .fp8e4m3) (x7 : Vec Ideal S20x1536x128 .fp8e4m3) (x8 : Vec Ideal S12x20 .f32) (x9 : Vec Ideal S12x20 .f32)
    (x20 : Vec Ideal S1536x5120 .bf16) (x22 : Vec Ideal S2x16x128 .bf16) (h1 : k0_cond1 i = 1#1) :
    stored arg20 harg20 x20 (runInit (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h1).1 = wOf x6 x7 x8 x9 := by
  rw [runInit_w]
  funext y
  refine View.read_writes_apply_of_pieces (Val := Elt Ideal) _ _ (wOf x6 x7 x8 x9) _ (fun p hp j => ?_) y ?_
  · rcases List.mem_append.mp hp with hp | hp
    · obtain ⟨t, -, h, rfl⟩ := (pb2_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 _ _ p _ le_rfl).mp hp
      exact wPiece_eq 1 _ arg7 harg7 arg9 harg9 x7 x9 x6 x7 x8 x9 (fun h => absurd h (by decide)) (fun _ => ⟨rfl, rfl⟩) t h j
    · obtain ⟨t, -, h, rfl⟩ := (pb1_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 _ _ p _ le_rfl).mp hp
      exact wPiece_eq 0 _ arg6 harg6 arg8 harg8 x6 x8 x6 x7 x8 x9 (fun _ => ⟨rfl, rfl⟩) (fun h => absurd h (by decide)) t h j
  · obtain ⟨r, k, rfl⟩ : ∃ (r : Fin 1536) (k : Fin 5120), y = ix2 r k := ⟨y 0, y 1, ValueIdx.eq_ix2 y⟩
    have := k.isLt; have := r.isLt
    have ht : r.val / 128 < k0_t1_loop.trips := by rw [trips_eq]; omega
    by_cases hk : k.val < 2560
    · refine ⟨_, List.mem_append_right _ ((pb1_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 _ _ _ _ le_rfl).mpr ⟨⟨r.val / 128, ht⟩, ht, ⟨k.val / 128, by omega⟩, rfl⟩),
        mem_unit (inbWo ⟨r.val / 128, ht⟩ (0 * 20 + k.val / 128) (by omega)) _ (ix2 (⟨r.val % 128, by omega⟩ : Fin 128) (⟨k.val % 128, by omega⟩ : Fin 128)) fun a => ?_⟩
      fin_cases a <;> simp [ix2, row_eq] <;> omega
    · refine ⟨_, List.mem_append_left _ ((pb2_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 _ _ _ _ le_rfl).mpr ⟨⟨r.val / 128, ht⟩, ht, ⟨k.val / 128 - 20, by omega⟩, rfl⟩),
        mem_unit (inbWo ⟨r.val / 128, ht⟩ (1 * 20 + (k.val / 128 - 20)) (by omega)) _ (ix2 (⟨r.val % 128, by omega⟩ : Fin 128) (⟨k.val % 128, by omega⟩ : Fin 128)) fun a => ?_⟩
      fin_cases a <;> simp [ix2, row_eq] <;> omega
end

end Cert.DcIdeal.Hand

end
-- ==== Proof.DcTrack.lean ====
module

public import proofs.«01_k».proof.Proof.DcFrame
public import proofs.«01_k».proof.Proof.DcBlock2
public import Idealize.ShloMosaic.Lib.Pipeline.Value
public import Idealize.ShloMosaic.Lib.Claim

@[expose] public section

set_option maxRecDepth 65536

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The values of one grid point -/

/-- The largest of one half of the running maxima. -/
def amaxTop (A : Vec Ideal S2x16x128 .bf16) (p : Fin 2) : EReal :=
  k0_pay48 (F := Ideal) (fun y => A (ix3 p (y 1) (y 2)) : Vec Ideal S1x16x128 .bf16)

theorem amaxTop_ld (p : Fin 2) (b : Memref sig .tc .vmem S2x16x128 .bf16) (hb : b.IsWhole) (A : Vec Ideal S2x16x128 .bf16) :
    k0_pay48 (F := Ideal) (View.readAt (Elt Ideal) b.view (Rect.unit (s := S2x16x128) ![p.val, 0, 0] S1x16x128.size (inbA p.val p.isLt)).toLoadRect (hb.unread A))
      = amaxTop A p := by
  refine congrArg (k0_pay48 (F := Ideal)) (funext fun y => ?_)
  obtain ⟨u, r, d, rfl⟩ : ∃ (u : Fin 1) (r : Fin 16) (d : Fin 128), y = ix3 u r d := ⟨y 0, y 1, y 2, ValueIdx.eq_ix3 y⟩
  obtain rfl : u = 0 := Subsingleton.elim _ _
  exact ldA_apply p b hb A r d

set_option maxHeartbeats 4000000 in
/-- One grid point of the kernel on whole buffers, each buffer's contents afterwards as a function of what it found:
    `W` the dequantised weights and `A` the running maxima as the point's work finds them. -/
theorem bodyValue (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec Ideal S1x20x512x128 .bf16) (x3 : Vec Ideal S1x20x512x128 .bf16) (x4 : Vec Ideal S1x512x1536 .fp8e4m3) (x5 : Vec Ideal S1x12x512 .f32) (x6 : Vec Ideal S20x1536x128 .fp8e4m3) (x7 : Vec Ideal S20x1536x128 .fp8e4m3) (x8 : Vec Ideal S12x20 .f32) (x9 : Vec Ideal S12x20 .f32) (x10 : Vec Ideal S16 .f32) (x11 : Vec Ideal S16 .f32) (x12 : Vec Ideal S1x512x1536 .bf16) (x13 : Vec Ideal S1x1536x512 .bf16) (x14 : Vec Ideal S1x20x512x128 .fp8e5m2) (x15 : Vec Ideal S1x20x512x128 .fp8e5m2) (x16 : Vec Ideal S1x1 .f32) (x17 : Vec Ideal S1x1 .f32) (x18 : Vec Ideal S16 .f32) (x19 : Vec Ideal S16 .f32) (x20 : Vec Ideal S1536x5120 .bf16) (x21 : Vec Ideal S512x5120 .bf16) (x22 : Vec Ideal S2x16x128 .bf16)
    (W : Vec Ideal S1536x5120 .bf16) (A : Vec Ideal S2x16x128 .bf16) (Y18 Y19 : Vec Ideal S16 .f32)
    (hI : k0_cond1 i = 1#1 → wOf x6 x7 x8 x9 = W ∧ (fun _ => (0 : EReal)) = A)
    (hI' : k0_cond1 i ≠ 1#1 → x20 = W ∧ x22 = A)
    (hE : k0_cond2 i = 1#1 → histOf x10 (amaxTop (amaxOf A x2 x3) 0) = Y18 ∧ histOf x11 (amaxTop (amaxOf A x2 x3) 1) = Y19)
    (hE' : k0_cond2 i ≠ 1#1 → x18 = Y18 ∧ x19 = Y19)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (dcOf (scaleOf (expOf x10)) (scaleOf (expOf x11)) (lhsOf (expOf x10) (expOf x11) x2 x3) W) ∗ owns (c : Thread nD τ) arg13 fullShare (ctOf x4 x5) ∗ owns (c : Thread nD τ) arg14 fullShare (codesOf (expOf x10) x2) ∗ owns (c : Thread nD τ) arg15 fullShare (codesOf (expOf x11) x3) ∗ owns (c : Thread nD τ) arg16 fullShare (fun _ => scaleOf (expOf x10) : Vec Ideal S1x1 .f32) ∗ owns (c : Thread nD τ) arg17 fullShare (fun _ => scaleOf (expOf x11) : Vec Ideal S1x1 .f32) ∗ owns (c : Thread nD τ) arg18 fullShare Y18 ∗ owns (c : Thread nD τ) arg19 fullShare Y19 ∗ owns (c : Thread nD τ) arg20 fullShare W ∗ owns (c : Thread nD τ) arg21 fullShare (lhsOf (expOf x10) (expOf x11) x2 x3) ∗ owns (c : Thread nD τ) arg22 fullShare (amaxOf A x2 x3)) -∗ K ⟨⟩))
      ⊢ wp frame (wpE (defs₀ (F := Ideal)) Variants.none c none) E (cc0_quantise_dc (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  refine bodyTriple (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    x2 x3 x4 x5 x6 x7 x8 x9 x10 x11 x12 x13 x14 x15 x16 x17 x18 x19 x20 x21 x22
    (dcOf (scaleOf (expOf x10)) (scaleOf (expOf x11)) (lhsOf (expOf x10) (expOf x11) x2 x3) W) (ctOf x4 x5) (codesOf (expOf x10) x2) (codesOf (expOf x11) x3) (fun _ => scaleOf (expOf x10) : Vec Ideal S1x1 .f32) (fun _ => scaleOf (expOf x11) : Vec Ideal S1x1 .f32) Y18 Y19
    W (stored arg21 harg21 x21 (heads.map (lhsPiece 0 (by decide) (expOf x10) arg2 harg2 x2))) (lhsOf (expOf x10) (expOf x11) x2 x3)
    A (stored arg22 harg22 A [amaxPiece 0 (by decide) arg22 harg22 A arg2 harg2 x2]) (amaxOf A x2 x3) (scaleOf (expOf x10)) (scaleOf (expOf x11))
    (fun h => ⟨?_, ?_⟩) hI' ?_ ?_ ?_ ?_ ?_ ?_ ?_ ?_ ?_ ?_ ?_ ?_ (fun h => ⟨?_, ?_⟩) hE' E K
  · rw [stored_w]; exact (hI h).1
  · rw [runInit_amax, stored_zero]; exact (hI h).2
  · rw [runK_codes, histExp_eq]; exact stored_codes ..
  · rw [runK_scale, histExp_eq]; exact stored_scale ..
  · rw [runK_lhs, histExp_eq]
  · rw [runK_amax]
  · rw [runK_ret, histExp_eq]; rfl
  · rw [runV_codes, histExp_eq]; exact stored_codes ..
  · rw [runV_scale, histExp_eq]; exact stored_scale ..
  · rw [runV_lhs, histExp_eq]; exact stored_lhs ..
  · rw [runV_amax]; exact stored_amax ..
  · rw [runV_ret, histExp_eq]; rfl
  · rw [runC_dc]; exact stored_dc ..
  · rw [runC_ct]; exact stored_ct ..
  · rw [runEnd_hk]
    exact (stored_hist ..).trans ((congrArg (histOf x10) (amaxTop_ld 0 arg22 harg22 _)).trans (hE h).1)
  · rw [runEnd_hv]
    exact (stored_hist ..).trans ((congrArg (histOf x11) (amaxTop_ld 1 arg22 harg22 _)).trans (hE h).2)

variable (m : (ℓ : Loc nD τ sig) → Buf (Elt Ideal) ℓ) (ρ : Dev nD → PrngReg)

/-! ## The values of the launch -/

/-- The dequantised weights, as the first point writes them. -/
def wAt (c : Dev nD) : Vec Ideal S1536x5120 .bf16 :=
  wOf (iblk m c 4 (⟨0, by decide⟩ : Fin cfg0.N)) (iblk m c 5 (⟨0, by decide⟩ : Fin cfg0.N)) (iblk m c 6 (⟨0, by decide⟩ : Fin cfg0.N)) (iblk m c 7 (⟨0, by decide⟩ : Fin cfg0.N))

/-- The running maxima before point `n`. -/
def amaxAt (c : Dev nD) : ℕ → Vec Ideal S2x16x128 .bf16
  | 0 => fun _ => (0 : EReal)
  | n + 1 => if h : n < cfg0.N then amaxOf (amaxAt c n) (iblk m c 0 ⟨n, h⟩) (iblk m c 1 ⟨n, h⟩) else amaxAt c n

/-- The exponents of the two gradients, as point `t` finds them. -/
def ekAt (c : Dev nD) (t : Fin cfg0.N) : BitVec 32 := expOf (iblk m c 8 t)
@[inherit_doc ekAt] def evAt (c : Dev nD) (t : Fin cfg0.N) : BitVec 32 := expOf (iblk m c 9 t)

/-- The histories as the last point writes them. -/
def hkAt (c : Dev nD) (t : Fin cfg0.N) : Vec Ideal S16 .f32 := histOf (iblk m c 8 t) (amaxTop (amaxAt m c (t.val + 1)) 0)
@[inherit_doc hkAt] def hvAt (c : Dev nD) (t : Fin cfg0.N) : Vec Ideal S16 .f32 := histOf (iblk m c 9 t) (amaxTop (amaxAt m c (t.val + 1)) 1)

theorem amaxAt_succ (c : Dev nD) (t : Fin cfg0.N) : amaxAt m c (t.val + 1) = amaxOf (amaxAt m c t.val) (iblk m c 0 t) (iblk m c 1 t) := by
  show (if h : t.val < cfg0.N then _ else _) = _
  rw [dif_pos t.isLt]

/-- What the scratch buffers hold between the points: after the first, the weights and the running maxima. -/
def track (c : Dev nD) (n : ℕ) : sProp 𝕄 :=
  iprop(∃ x20 x22, ⌜n ≠ 0 → x20 = wAt m c ∧ x22 = amaxAt m c n⌝
    ∗ owns (c : Thread nD τ) (Memref.whole cc0_scratch0) fullShare x20
    ∗ (∃ d, owns (c : Thread nD τ) (Memref.whole cc0_scratch1) fullShare d)
    ∗ owns (c : Thread nD τ) (Memref.whole cc0_scratch2) fullShare x22
    ∗ ∃ r, prngReg (c : Dev nD) r)

/-- What each window's buffer holds after a point. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dcOf (scaleOf (ekAt m c t)) (scaleOf (evAt m c t)) (lhsOf (ekAt m c t) (evAt m c t) (iblk m c 0 t) (iblk m c 1 t)) (wAt m c)
    | ⟨11, _⟩ => ctOf (iblk m c 2 t) (iblk m c 3 t)
    | ⟨12, _⟩ => codesOf (ekAt m c t) (iblk m c 0 t)
    | ⟨13, _⟩ => codesOf (evAt m c t) (iblk m c 1 t)
    | ⟨14, _⟩ => (fun _ => scaleOf (ekAt m c t) : Vec Ideal S1x1 .f32)
    | ⟨15, _⟩ => (fun _ => scaleOf (evAt m c t) : Vec Ideal S1x1 .f32)
    | ⟨16, _⟩ => hkAt m c t
    | ⟨17, _⟩ => hvAt m c t
    | ⟨n + 18, h⟩ => absurd h (by have : cfg0.W = 18 := rfl; omega)
  Φ t := track m c t.val
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = iblk m c 7 t := by dsimp only [vdats]
theorem vafter_8 (c : Dev nD) (t : Fin cfg0.N) : (vdats m 0 c).after 8 t = iblk m c 8 t := by dsimp only [vdats]
theorem vafter_9 (c : Dev nD) (t : Fin cfg0.N) : (vdats m 0 c).after 9 t = iblk m c 9 t := by dsimp only [vdats]
theorem vafter_10 (c : Dev nD) (t : Fin cfg0.N) : (vdats m 0 c).after 10 t = dcOf (scaleOf (ekAt m c t)) (scaleOf (evAt m c t)) (lhsOf (ekAt m c t) (evAt m c t) (iblk m c 0 t) (iblk m c 1 t)) (wAt m c) := by dsimp only [vdats]
theorem vafter_11 (c : Dev nD) (t : Fin cfg0.N) : (vdats m 0 c).after 11 t = ctOf (iblk m c 2 t) (iblk m c 3 t) := by dsimp only [vdats]
theorem vafter_12 (c : Dev nD) (t : Fin cfg0.N) : (vdats m 0 c).after 12 t = codesOf (ekAt m c t) (iblk m c 0 t) := by dsimp only [vdats]
theorem vafter_13 (c : Dev nD) (t : Fin cfg0.N) : (vdats m 0 c).after 13 t = codesOf (evAt m c t) (iblk m c 1 t) := by dsimp only [vdats]
theorem vafter_14 (c : Dev nD) (t : Fin cfg0.N) : (vdats m 0 c).after 14 t = (fun _ => scaleOf (ekAt m c t) : Vec Ideal S1x1 .f32) := by dsimp only [vdats]
theorem vafter_15 (c : Dev nD) (t : Fin cfg0.N) : (vdats m 0 c).after 15 t = (fun _ => scaleOf (evAt m c t) : Vec Ideal S1x1 .f32) := by dsimp only [vdats]
theorem vafter_16 (c : Dev nD) (t : Fin cfg0.N) : (vdats m 0 c).after 16 t = hkAt m c t := by dsimp only [vdats]
theorem vafter_17 (c : Dev nD) (t : Fin cfg0.N) : (vdats m 0 c).after 17 t = hvAt m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d
theorem vbefore_7 (c : Dev nD) (t : Fin cfg0.N) (d) : (vdats m 0 c).before 7 t d = iblk m c 7 t :=
  before0_7_of m (vdats m 0 c) (vA_eq m c 7) (vafter_7 m c) t d
theorem vbefore_8 (c : Dev nD) (t : Fin cfg0.N) (d) : (vdats m 0 c).before 8 t d = iblk m c 8 t :=
  before0_8_of m (vdats m 0 c) (vA_eq m c 8) (vafter_8 m c) t d
theorem vbefore_9 (c : Dev nD) (t : Fin cfg0.N) (d) : (vdats m 0 c).before 9 t d = iblk m c 9 t :=
  before0_9_of m (vdats m 0 c) (vA_eq m c 9) (vafter_9 m c) t d

/-- What the body is called with at point `t`, window by window. -/
def vpre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d))
    ∗ (∃ d, owns (c : Thread nD τ) (st0_10 t) fullShare ((vdats m 0 c).before 10 t d))
    ∗ (∃ d, owns (c : Thread nD τ) (st0_11 t) fullShare ((vdats m 0 c).before 11 t d))
    ∗ (∃ d, owns (c : Thread nD τ) (st0_12 t) fullShare ((vdats m 0 c).before 12 t d))
    ∗ (∃ d, owns (c : Thread nD τ) (st0_13 t) fullShare ((vdats m 0 c).before 13 t d))
    ∗ (∃ d, owns (c : Thread nD τ) (st0_14 t) fullShare ((vdats m 0 c).before 14 t d))
    ∗ (∃ d, owns (c : Thread nD τ) (st0_15 t) fullShare ((vdats m 0 c).before 15 t d))
    ∗ (∃ d, owns (c : Thread nD τ) (st0_16 t) fullShare ((vdats m 0 c).before 16 t d))
    ∗ (∃ d, owns (c : Thread nD τ) (st0_17 t) fullShare ((vdats m 0 c).before 17 t d)))

/-- What the body leaves in the two histories' buffers: they are written at the last point only. -/
def vhist (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((vdats m 0 c).before w t d))
    | true => owns (c : Thread nD τ) ((cfg0.win w).stage (cfg0.slots t w)) fullShare ((vdats m 0 c).after w t)
  | false => owns (c : Thread nD τ) ((cfg0.win w).stage (cfg0.slots t w)) fullShare ((vdats m 0 c).after w t)

/-- What the body returns at point `t`. -/
def vpost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t)
    ∗ owns (c : Thread nD τ) (st0_8 t) fullShare ((vdats m 0 c).after 8 t)
    ∗ owns (c : Thread nD τ) (st0_9 t) fullShare ((vdats m 0 c).after 9 t)
    ∗ owns (c : Thread nD τ) (st0_10 t) fullShare ((vdats m 0 c).after 10 t)
    ∗ owns (c : Thread nD τ) (st0_11 t) fullShare ((vdats m 0 c).after 11 t)
    ∗ owns (c : Thread nD τ) (st0_12 t) fullShare ((vdats m 0 c).after 12 t)
    ∗ owns (c : Thread nD τ) (st0_13 t) fullShare ((vdats m 0 c).after 13 t)
    ∗ owns (c : Thread nD τ) (st0_14 t) fullShare ((vdats m 0 c).after 14 t)
    ∗ owns (c : Thread nD τ) (st0_15 t) fullShare ((vdats m 0 c).after 15 t)
    ∗ vhist m c t 16
    ∗ vhist m c t 17)

theorem cond1_first : ∀ t : Fin cfg0.N, k0_cond1 (grid0.coords t) = 1#1 ↔ t.val = 0 := by decide +kernel
theorem cond2_flush : ∀ t : Fin cfg0.N, k0_cond2 (grid0.coords t) ≠ 1#1 → (cfg0.win 16).flush t = false ∧ (cfg0.win 17).flush t = false := by decide +kernel

theorem idle_of (t : Fin cfg0.N) (h : k0_cond2 (grid0.coords t) = 1#1) :
    cfg0.idle 16 (cfg0.grid.coords t) = false ∧ cfg0.idle 17 (cfg0.grid.coords t) = false := by
  have e : (!(k0_cond2 (grid0.coords t) == 1#1)) = false := by rw [h]; rfl
  exact ⟨e, e⟩
theorem idle_of_not (t : Fin cfg0.N) (h : k0_cond2 (grid0.coords t) ≠ 1#1) :
    cfg0.idle 16 (cfg0.grid.coords t) = true ∧ cfg0.idle 17 (cfg0.grid.coords t) = true := by
  have e : (!(k0_cond2 (grid0.coords t) == 1#1)) = true := by rw [beq_eq_false_iff_ne.mpr h]; rfl
  exact ⟨e, e⟩

/-- At the last point the buffer of a history holds the history. -/
theorem vhist_last (c : Dev nD) (t : Fin cfg0.N) (w : Fin cfg0.W) (h : cfg0.idle w (cfg0.grid.coords t) = false) :
    vhist m c t w = owns (c : Thread nD τ) ((cfg0.win w).stage (cfg0.slots t w)) fullShare ((vdats m 0 c).after w t) := by
  unfold vhist; rw [h]
/-- Before the last point the buffer of a history holds what it held. -/
theorem vhist_idle (c : Dev nD) (t : Fin cfg0.N) (w : Fin cfg0.W) (h : cfg0.idle w (cfg0.grid.coords t) = true) (hf : (cfg0.win w).flush t = false) :
    vhist m c t w = iprop(∃ d, owns (c : Thread nD τ) ((cfg0.win w).stage (cfg0.slots t w)) fullShare ((vdats m 0 c).before w t d)) := by
  unfold vhist; rw [h]; dsimp only; rw [hf]

/-- What the launch is given of the scratch buffers is what the first point needs of them. -/
theorem track_in (c : Dev nD) : (Pipeline.ΦA spec0 c : sProp 𝕄) ⊢ track m c 0 := by
  unfold Pipeline.ΦA track
  rw [scopedRest0_eq]
  iintro ⟨⟨HS0, HS1, HS2⟩, HP⟩
  ihave HS0 := (owns_scratch c cc0_scratch0).1 $$ HS0
  ihave HS1 := (owns_scratch c cc0_scratch1).1 $$ HS1
  ihave HS2 := (owns_scratch c cc0_scratch2).1 $$ HS2
  icases HS0 with ⟨%x20, HS0⟩
  icases HS2 with ⟨%x22, HS2⟩
  iexists x20; iexists x22
  isplitr; · ipureintro; exact fun h => absurd rfl h
  isplitl [HS0]; · iexact HS0
  isplitl [HS1]; · iexact HS1
  isplitl [HS2]; · iexact HS2
  iexact HP

/-- And what the points leave of them is what the launch takes back. -/
theorem track_out (c : Dev nD) (n : ℕ) : track m c n ⊢ (Pipeline.ΦA spec0 c : sProp 𝕄) := by
  unfold Pipeline.ΦA track
  rw [scopedRest0_eq]
  iintro ⟨%x20, %x22, -, HS0, HS1, HS2, HP⟩
  isplitl [HS0 HS1 HS2]
  · isplitl [HS0]
    · iapply (owns_scratch c cc0_scratch0).2; iexists x20; iexact HS0
    isplitl [HS1]
    · iapply (owns_scratch c cc0_scratch1).2; iexact HS1
    iapply (owns_scratch c cc0_scratch2).2; iexists x22; iexact HS2
  iexact HP

theorem first_of (c : Dev nD) (t : Fin cfg0.N) (h : t.val = 0) :
    wOf (iblk m c 4 t) (iblk m c 5 t) (iblk m c 6 t) (iblk m c 7 t) = wAt m c ∧ (fun _ => (0 : EReal)) = amaxAt m c t.val := by
  obtain ⟨n, hn⟩ := t
  obtain rfl : n = 0 := h
  exact ⟨rfl, rfl⟩

set_option maxHeartbeats 2000000 in
/-- The body at any point, from what it is called with to what it returns. -/
theorem vsound (c : Dev nD) (t : Fin cfg0.N) :
    vpre m c t ⊢ wp frame (wpE (defs₀ (F := Ideal)) Variants.none c none) Set.univ (bodyAt0 t) (fun _ => vpost m c t) := by
  unfold vpre vpost bodyAt0
  simp only [vbefore_0, vbefore_1, vbefore_2, vbefore_3, vbefore_4, vbefore_5, vbefore_6, vbefore_7, vbefore_8, vbefore_9]
  rw [show (vdats m 0 c).Φ t.succ = track m c (t.val + 1) from rfl,
    show (vdats m 0 c).Φ t.castSucc = track m c t.val from rfl,
    show (vdats m 0 c).owesAt () t.succ = (vdats m 0 c).owesAt () t.castSucc from rfl,
    vafter_0, vafter_1, vafter_2, vafter_3, vafter_4, vafter_5, vafter_6, vafter_7, vafter_8, vafter_9, vafter_10, vafter_11, vafter_12, vafter_13, vafter_14, vafter_15]
  rw [show track m c t.val = iprop(∃ x20 x22, ⌜t.val ≠ 0 → x20 = wAt m c ∧ x22 = amaxAt m c t.val⌝
    ∗ owns (c : Thread nD τ) (Memref.whole cc0_scratch0) fullShare x20
    ∗ (∃ d, owns (c : Thread nD τ) (Memref.whole cc0_scratch1) fullShare d)
    ∗ owns (c : Thread nD τ) (Memref.whole cc0_scratch2) fullShare x22
    ∗ ∃ r, prngReg (c : Dev nD) r) from rfl]
  iintro ⟨⟨%x20, %x22, %hx, HS0, ⟨%x21, HS1⟩, HS2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  by_cases h2 : k0_cond2 (grid0.coords t) = 1#1
  · rw [vhist_last m c t 16 (idle_of t h2).1, vhist_last m c t 17 (idle_of t h2).2, vafter_16, vafter_17]
    iapply (bodyValue c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ x20 x21 x22
      (wAt m c) (amaxAt m c t.val) (hkAt m c t) (hvAt m c t)
      (fun h => (first_of m c t ((cond1_first t).mp h))) (fun h => hx fun h0 => h ((cond1_first t).mpr h0))
      (fun _ => ⟨by rw [hkAt, amaxAt_succ], by rw [hvAt, amaxAt_succ]⟩) (fun h => absurd h2 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS0]; · iexact HS0
    isplitl [HS1]; · iexact HS1
    isplitl [HS2]; · iexact HS2
    iintro ⟨H0, H1, H2, H3, H4, H5, H6, H7, H8, H9, H10, H11, H12, H13, H14, H15, H16, H17, HS0, HS1, HS2⟩
    isplitl [HS0 HS1 HS2 HP]
    · unfold track
      iexists (wAt m c); iexists (amaxAt m c (t.val + 1))
      isplitr; · ipureintro; exact fun _ => ⟨rfl, rfl⟩
      isplitl [HS0]; · iexact HS0
      isplitl [HS1]; · iexists _; iexact HS1
      isplitl [HS2]; · rw [amaxAt_succ]; iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · iexact H16
    iexact H17
  · rw [vhist_idle m c t 16 (idle_of_not t h2).1 (cond2_flush t h2).1, vhist_idle m c t 17 (idle_of_not t h2).2 (cond2_flush t h2).2]
    iapply (bodyValue c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ x20 x21 x22
      (wAt m c) (amaxAt m c t.val) _ _
      (fun h => (first_of m c t ((cond1_first t).mp h))) (fun h => hx fun h0 => h ((cond1_first t).mpr h0))
      (fun h => absurd h h2) (fun _ => ⟨rfl, rfl⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS0]; · iexact HS0
    isplitl [HS1]; · iexact HS1
    isplitl [HS2]; · iexact HS2
    iintro ⟨H0, H1, H2, H3, H4, H5, H6, H7, H8, H9, H10, H11, H12, H13, H14, H15, H16, H17, HS0, HS1, HS2⟩
    isplitl [HS0 HS1 HS2 HP]
    · unfold track
      iexists (wAt m c); iexists (amaxAt m c (t.val + 1))
      isplitr; · ipureintro; exact fun _ => ⟨rfl, rfl⟩
      isplitl [HS0]; · iexact HS0
      isplitl [HS1]; · iexists _; iexact HS1
      isplitl [HS2]; · rw [amaxAt_succ]; iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · iexists d16; iexact H16
    iexists d17; iexact H17

theorem vobligation (c : Dev nD) : BodyObligation (vdats m 0 c) (defs₀ (F := Ideal)) Variants.none () Set.univ := fun t => by
  rw [bigSep_W0, bigSep_W0, defs₀_row]
  exact triple_restated (vsound m c t) rfl .rfl fun _ => .rfl

set_option backward.isDefEq.respectTransparency.types false in
/-- The launch: every execution ends, each output array holding what the points wrote to it. -/
theorem vrun : θ_run defs (onTc (τ := τ) (main (F := Ideal))) (s₀ m ρ) (Pipeline.FramePost cfgs (vdats m) 0 (V m)) :=
  Pipeline.θ_run_frame_track (Q' := _) cfgs (vdats m) (0 : Fin 1) launch0 defs₀ Variants.none m ρ main
    (hbody := fun c => (vobligation m c).loose) (hshare := fun c => (vdats m 0 c).share_full fun _ => rfl)
    (howed := fun _ _ => rfl) (V := V m) (hmain := hmain m Variants.none) (hA := vA_eq m)
    (hin := track_in m) (hout := fun c => track_out m c _)

end Cert.DcIdeal.Hand

end
-- ==== Proof.DcArr.lean ====
module

public import proofs.«01_k».proof.Proof.DcTrack
public import Idealize.ShloMosaic.Lib.Pipeline.ValueKit
public import Idealize.ShloMosaic.Lib.Pointwise
public import Idealize.ShloMosaic.Lib.StableHlo.RunRead
public import Idealize.ShloMosaic.Lib.Pipeline.Value
public import Idealize.ShloMosaic.Lib.Claim

@[expose] public section

set_option maxRecDepth 16384

noncomputable section

namespace Cert.DcIdeal.Hand

open Cert.DcIdeal Cert.DcIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The arguments, and what the region finds of them -/

abbrev arg0 (c : Dev nD) : FVec Ideal S9x6144x20x128 .bf16 := m ((c.tc : Thread nD τ).loc main_arg0)
abbrev arg1 (c : Dev nD) : FVec Ideal S9x6144x20x128 .bf16 := m ((c.tc : Thread nD τ).loc main_arg1)
abbrev arg2 (c : Dev nD) : FVec Ideal S9x6144x1536 .fp8e4m3 := m ((c.tc : Thread nD τ).loc main_arg2)
abbrev arg3 (c : Dev nD) : FVec Ideal S9x6144x12 .f32 := m ((c.tc : Thread nD τ).loc main_arg3)
abbrev arg4 (c : Dev nD) : FVec Ideal S1536x20x128 .fp8e4m3 := m ((c.tc : Thread nD τ).loc main_arg4)
abbrev arg5 (c : Dev nD) : FVec Ideal S12x20 .f32 := m ((c.tc : Thread nD τ).loc main_arg5)
abbrev arg6 (c : Dev nD) : FVec Ideal S1536x20x128 .fp8e4m3 := m ((c.tc : Thread nD τ).loc main_arg6)
abbrev arg7 (c : Dev nD) : FVec Ideal S12x20 .f32 := m ((c.tc : Thread nD τ).loc main_arg7)
abbrev arg8 (c : Dev nD) : FVec Ideal S16 .f32 := m ((c.tc : Thread nD τ).loc main_arg8)
abbrev arg9 (c : Dev nD) : FVec Ideal S16 .f32 := m ((c.tc : Thread nD τ).loc main_arg9)

theorem V_main_v0 (c : Dev nD) : V m c main_v0 = (transpose S9x20x6144x128 [0, 2, 1, 3] (arg0 m c) transposes_S9x6144x20x128_S9x20x6144x128_0_2_1_3 : Vec Ideal S9x20x6144x128 .bf16) := by
  show StableHlo.after hostOps0 (fun b => m (c, b)) (Proc.devRef .tc main_v0) = _
  simp only [hostOps0]
  after_reads_simp <;> rfl

theorem V_main_v1 (c : Dev nD) : V m c main_v1 = (transpose S9x20x6144x128 [0, 2, 1, 3] (arg1 m c) transposes_S9x6144x20x128_S9x20x6144x128_0_2_1_3 : Vec Ideal S9x20x6144x128 .bf16) := by
  show StableHlo.after hostOps0 (fun b => m (c, b)) (Proc.devRef .tc main_v1) = _
  simp only [hostOps0]
  after_reads_simp <;> rfl

theorem V_main_v2 (c : Dev nD) : V m c main_v2 = (transpose S20x1536x128 [1, 0, 2] (arg4 m c) transposes_S1536x20x128_S20x1536x128_1_0_2 : Vec Ideal S20x1536x128 .fp8e4m3) := by
  show StableHlo.after hostOps0 (fun b => m (c, b)) (Proc.devRef .tc main_v2) = _
  simp only [hostOps0]
  after_reads_simp <;> rfl

theorem V_main_v3 (c : Dev nD) : V m c main_v3 = (transpose S20x1536x128 [1, 0, 2] (arg6 m c) transposes_S1536x20x128_S20x1536x128_1_0_2 : Vec Ideal S20x1536x128 .fp8e4m3) := by
  show StableHlo.after hostOps0 (fun b => m (c, b)) (Proc.devRef .tc main_v3) = _
  simp only [hostOps0]
  after_reads_simp <;> rfl

theorem V_main_v4 (c : Dev nD) : V m c main_v4 = (transpose S9x12x6144 [0, 2, 1] (arg3 m c) transposes_S9x6144x12_S9x12x6144_0_2_1 : Vec Ideal S9x12x6144 .f32) := by
  show StableHlo.after hostOps0 (fun b => m (c, b)) (Proc.devRef .tc main_v4) = _
  simp only [hostOps0]
  after_reads_simp <;> rfl

/-! ## The blocks -/

/-- The batch row of a grid point. -/
def bat (t : Fin cfg0.N) : Fin 9 := ⟨t.val / 12, by have := t.isLt; have : cfg0.N = 108 := N_0; omega⟩
/-- The token that row `s` of a grid point's block is. -/
def tok (t : Fin cfg0.N) (s : Fin 512) : Fin 6144 := ⟨t.val % 12 * 512 + s.val, by omega⟩

/-- Where the block of each window lies at a grid point, in blocks; one theorem for each window. -/
theorem index_0 : ∀ t : Fin grid0.N, win0_0.index t = ![t.val / 12, 0, t.val % 12, 0] := by decide +kernel
theorem index_1 : ∀ t : Fin grid0.N, win0_1.index t = ![t.val / 12, 0, t.val % 12, 0] := by decide +kernel
theorem index_2 : ∀ t : Fin grid0.N, win0_2.index t = ![t.val / 12, t.val % 12, 0] := by decide +kernel
theorem index_3 : ∀ t : Fin grid0.N, win0_3.index t = ![t.val / 12, 0, t.val % 12] := by decide +kernel
theorem index_4 : ∀ t : Fin grid0.N, win0_4.index t = ![0, 0, 0] := by decide +kernel
theorem index_5 : ∀ t : Fin grid0.N, win0_5.index t = ![0, 0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0] := by decide +kernel
theorem index_9 : ∀ t : Fin grid0.N, win0_9.index t = ![0] := by decide +kernel
theorem index_10 : ∀ t : Fin grid0.N, win0_10.index t = ![t.val / 12, t.val % 12, 0] := by decide +kernel
theorem index_11 : ∀ t : Fin grid0.N, win0_11.index t = ![t.val / 12, 0, t.val % 12] := by decide +kernel
theorem index_12 : ∀ t : Fin grid0.N, win0_12.index t = ![t.val / 12, 0, t.val % 12, 0] := by decide +kernel
theorem index_13 : ∀ t : Fin grid0.N, win0_13.index t = ![t.val / 12, 0, t.val % 12, 0] := by decide +kernel
theorem index_14 : ∀ t : Fin grid0.N, win0_14.index t = ![0, 0] := by decide +kernel
theorem index_15 : ∀ t : Fin grid0.N, win0_15.index t = ![0, 0] := by decide +kernel
theorem index_16 : ∀ t : Fin grid0.N, win0_16.index t = ![0] := by decide +kernel
theorem index_17 : ∀ t : Fin grid0.N, win0_17.index t = ![0] := by decide +kernel

theorem iblk_0 (c : Dev nD) (t : Fin cfg0.N) (h : Fin 20) (s : Fin 512) (d : Fin 128) : (iblk m c 0 t : Vec Ideal S1x20x512x128 .bf16) (ix4 0 h s d) = arg0 m c (ix4 (bat t) (tok t s) h d) := by
  have e : (iblk m c 0 t : Vec Ideal S1x20x512x128 .bf16) (ix4 0 h s d) = (V m c main_v0) (ix4 (bat t) h (tok t s) d) := by
    blk_simp [iblk]
    refine congrArg (V m c main_v0) (funext fun a => Fin.ext ?_)
    blk_simp [index_0]
    fin_cases a <;> simp [ix4, bat, tok]
  rw [e, V_main_v0]
  pointwise

theorem iblk_1 (c : Dev nD) (t : Fin cfg0.N) (h : Fin 20) (s : Fin 512) (d : Fin 128) : (iblk m c 1 t : Vec Ideal S1x20x512x128 .bf16) (ix4 0 h s d) = arg1 m c (ix4 (bat t) (tok t s) h d) := by
  have e : (iblk m c 1 t : Vec Ideal S1x20x512x128 .bf16) (ix4 0 h s d) = (V m c main_v1) (ix4 (bat t) h (tok t s) d) := by
    blk_simp [iblk]
    refine congrArg (V m c main_v1) (funext fun a => Fin.ext ?_)
    blk_simp [index_1]
    fin_cases a <;> simp [ix4, bat, tok]
  rw [e, V_main_v1]
  pointwise

theorem iblk_2 (c : Dev nD) (t : Fin cfg0.N) (s : Fin 512) (r : Fin 1536) : (iblk m c 2 t : Vec Ideal S1x512x1536 .fp8e4m3) (ix3 0 s r) = arg2 m c (ix3 (bat t) (tok t s) r) := by
  rw [show arg2 m c = V m c main_arg2 from (V_main_arg2 m c).symm]
  blk_simp [iblk]
  refine congrArg (V m c main_arg2) (funext fun a => Fin.ext ?_)
  blk_simp [index_2]
  fin_cases a <;> simp [ix3, bat, tok]

theorem iblk_3 (c : Dev nD) (t : Fin cfg0.N) (g : Fin 12) (s : Fin 512) : (iblk m c 3 t : Vec Ideal S1x12x512 .f32) (ix3 0 g s) = arg3 m c (ix3 (bat t) (tok t s) g) := by
  have e : (iblk m c 3 t : Vec Ideal S1x12x512 .f32) (ix3 0 g s) = (V m c main_v4) (ix3 (bat t) g (tok t s)) := by
    blk_simp [iblk]
    refine congrArg (V m c main_v4) (funext fun a => Fin.ext ?_)
    blk_simp [index_3]
    fin_cases a <;> simp [ix3, bat, tok]
  rw [e, V_main_v4]
  pointwise

theorem iblk_4 (c : Dev nD) (t : Fin cfg0.N) (h : Fin 20) (r : Fin 1536) (d : Fin 128) : (iblk m c 4 t : Vec Ideal S20x1536x128 .fp8e4m3) (ix3 h r d) = arg4 m c (ix3 r h d) := by
  have e : (iblk m c 4 t : Vec Ideal S20x1536x128 .fp8e4m3) (ix3 h r d) = (V m c main_v2) (ix3 h r d) := by
    blk_simp [iblk]
    refine congrArg (V m c main_v2) (funext fun a => Fin.ext ?_)
    blk_simp [index_4]
    fin_cases a <;> simp [ix3, bat, tok]
  rw [e, V_main_v2]
  pointwise

theorem iblk_5 (c : Dev nD) (t : Fin cfg0.N) (h : Fin 20) (r : Fin 1536) (d : Fin 128) : (iblk m c 5 t : Vec Ideal S20x1536x128 .fp8e4m3) (ix3 h r d) = arg6 m c (ix3 r h d) := by
  have e : (iblk m c 5 t : Vec Ideal S20x1536x128 .fp8e4m3) (ix3 h r d) = (V m c main_v3) (ix3 h r d) := by
    blk_simp [iblk]
    refine congrArg (V m c main_v3) (funext fun a => Fin.ext ?_)
    blk_simp [index_5]
    fin_cases a <;> simp [ix3, bat, tok]
  rw [e, V_main_v3]
  pointwise

theorem iblk_6 (c : Dev nD) (t : Fin cfg0.N) : (iblk m c 6 t : Vec Ideal S12x20 .f32) = arg5 m c := by
  rw [show arg5 m c = V m c main_arg5 from (V_main_arg5 m c).symm]
  funext y
  blk_simp [iblk]
  refine congrArg (V m c main_arg5) (funext fun a => Fin.ext ?_)
  blk_simp [index_6]
  fin_cases a <;> simp

theorem iblk_7 (c : Dev nD) (t : Fin cfg0.N) : (iblk m c 7 t : Vec Ideal S12x20 .f32) = arg7 m c := by
  rw [show arg7 m c = V m c main_arg7 from (V_main_arg7 m c).symm]
  funext y
  blk_simp [iblk]
  refine congrArg (V m c main_arg7) (funext fun a => Fin.ext ?_)
  blk_simp [index_7]
  fin_cases a <;> simp

theorem iblk_8 (c : Dev nD) (t : Fin cfg0.N) : (iblk m c 8 t : Vec Ideal S16 .f32) = arg8 m c := by
  rw [show arg8 m c = V m c main_arg8 from (V_main_arg8 m c).symm]
  funext y
  blk_simp [iblk]
  refine congrArg (V m c main_arg8) (funext fun a => Fin.ext ?_)
  blk_simp [index_8]
  fin_cases a <;> simp

theorem iblk_9 (c : Dev nD) (t : Fin cfg0.N) : (iblk m c 9 t : Vec Ideal S16 .f32) = arg9 m c := by
  rw [show arg9 m c = V m c main_arg9 from (V_main_arg9 m c).symm]
  funext y
  blk_simp [iblk]
  refine congrArg (V m c main_arg9) (funext fun a => Fin.ext ?_)
  blk_simp [index_9]
  fin_cases a <;> simp

/-! ## The results -/

/-- The inverse scale and the scale of the keys' gradient. -/
def ikOf (c : Dev nD) : EReal := invOf (expOf (arg8 m c))
@[inherit_doc ikOf] def skOf (c : Dev nD) : EReal := scaleOf (expOf (arg8 m c))
/-- The inverse scale and the scale of the values' gradient. -/
def ivOf (c : Dev nD) : EReal := invOf (expOf (arg9 m c))
@[inherit_doc ivOf] def svOf (c : Dev nD) : EReal := scaleOf (expOf (arg9 m c))

/-- The head a column of one half of the operand belongs to. -/
def hcol (k : Fin 2560) : Fin 20 := ⟨k.val / 128, by omega⟩
/-- The entry of a head that a column of one half of the operand holds. -/
def dcol (k : Fin 2560) : Fin 128 := ⟨k.val % 128, Nat.mod_lt _ (by decide)⟩

/-- The head of a column of the first half. -/
theorem head_lo (k : Fin 2560) : headOf (loCol k) = hcol k := Fin.ext (by simp [headOf, loCol, hcol]; omega)
/-- The entry within a head of a column of the first half. -/
theorem dim_lo (k : Fin 2560) : dimOf (loCol k) = dcol k := Fin.ext (by simp [dimOf, loCol, dcol])
/-- The head of a column of the second half. -/
theorem head_hi (k : Fin 2560) : headOf (hiCol k) = hcol k := Fin.ext (by simp [headOf, hiCol, hcol]; omega)
/-- The entry within a head of a column of the second half. -/
theorem dim_hi (k : Fin 2560) : dimOf (hiCol k) = dcol k := Fin.ext (by simp [dimOf, hiCol, dcol]; omega)

/-- One half of the latents' gradient, before its scale. -/
def half (g : FVec Ideal S9x6144x20x128 .bf16) (i : EReal) (w : FVec Ideal S1536x20x128 .fp8e4m3) (s : FVec Ideal S12x20 .f32) (b : Fin 9) (p : Fin 6144) (r : Fin 1536) : EReal :=
  ∑ k : Fin 2560, code (g (ix4 b p (hcol k) (dcol k))) i * (w (ix3 r (hcol k) (dcol k)) * s (ix2 (grpOf r) (hcol k)))

/-- The latents' gradient. -/
def dcFin (c : Dev nD) : FVec Ideal S9x6144x1536 .bf16 := fun y =>
  half (arg0 m c) (ikOf m c) (arg4 m c) (arg5 m c) (y 0) (y 1) (y 2) * skOf m c + half (arg1 m c) (ivOf m c) (arg6 m c) (arg7 m c) (y 0) (y 1) (y 2) * svOf m c
/-- The dequantised latents, transposed. -/
def ctFin (c : Dev nD) : FVec Ideal S9x1536x6144 .bf16 := fun y => arg2 m c (ix3 (y 0) (y 2) (y 1)) * arg3 m c (ix3 (y 0) (y 2) (grpOf (y 1)))
/-- The codes of the keys' gradient. -/
def qkFin (c : Dev nD) : FVec Ideal S9x20x6144x128 .fp8e5m2 := fun y => code (arg0 m c (ix4 (y 0) (y 2) (y 1) (y 3))) (ikOf m c)
/-- The codes of the values' gradient. -/
def qvFin (c : Dev nD) : FVec Ideal S9x20x6144x128 .fp8e5m2 := fun y => code (arg1 m c (ix4 (y 0) (y 2) (y 1) (y 3))) (ivOf m c)
/-- The history of the keys' gradient. -/
def hkFin (c : Dev nD) : FVec Ideal S16 .f32 := histOf (arg8 m c) (amaxTop (amaxAt m c 108) 0)
/-- The history of the values' gradient. -/
def hvFin (c : Dev nD) : FVec Ideal S16 .f32 := histOf (arg9 m c) (amaxTop (amaxAt m c 108) 1)

/-- At every point the keys' exponent is the one of the whole history. -/
theorem ekAt_eq (c : Dev nD) (t : Fin cfg0.N) : ekAt m c t = expOf (arg8 m c) := congrArg expOf (iblk_8 m c t)
/-- At every point the values' exponent is the one of the whole history. -/
theorem evAt_eq (c : Dev nD) (t : Fin cfg0.N) : evAt m c t = expOf (arg9 m c) := congrArg expOf (iblk_9 m c t)

/-- The first half of the operand holds the keys' codes. -/
theorem lhs_lo (ek ev : BitVec 32) (gk gv : Vec Ideal S1x20x512x128 .bf16) (s : Fin 512) (k : Fin 2560) :
    lhsOf ek ev gk gv (ix2 s (loCol k)) = code (gk (ix4 0 (hcol k) s (dcol k))) (invOf ek) := by
  show (if (loCol k).val < 2560 then code (gk (ix4 0 (headOf (loCol k)) s (dimOf (loCol k)))) (invOf ek) else _) = _
  rw [if_pos (show (loCol k).val < 2560 from k.isLt), head_lo, dim_lo]
/-- The second half of the operand holds the values' codes. -/
theorem lhs_hi (ek ev : BitVec 32) (gk gv : Vec Ideal S1x20x512x128 .bf16) (s : Fin 512) (k : Fin 2560) :
    lhsOf ek ev gk gv (ix2 s (hiCol k)) = code (gv (ix4 0 (hcol k) s (dcol k))) (invOf ev) := by
  show (if (hiCol k).val < 2560 then _ else code (gv (ix4 0 (headOf (hiCol k)) s (dimOf (hiCol k)))) (invOf ev)) = _
  rw [if_neg (show ¬ (hiCol k).val < 2560 by simp [hiCol]), head_hi, dim_hi]
/-- The first half of the widened weights holds the keys' weights times their scales. -/
theorem w_lo (wk wv : Vec Ideal S20x1536x128 .fp8e4m3) (sk sv : Vec Ideal S12x20 .f32) (r : Fin 1536) (k : Fin 2560) :
    wOf wk wv sk sv (ix2 r (loCol k)) = wk (ix3 (hcol k) r (dcol k)) * sk (ix2 (grpOf r) (hcol k)) := by
  show (if (loCol k).val < 2560 then wk (ix3 (headOf (loCol k)) r (dimOf (loCol k))) * sk (ix2 (grpOf r) (headOf (loCol k))) else _) = _
  rw [if_pos (show (loCol k).val < 2560 from k.isLt), head_lo, dim_lo]
/-- The second half of the widened weights holds the values' weights times their scales. -/
theorem w_hi (wk wv : Vec Ideal S20x1536x128 .fp8e4m3) (sk sv : Vec Ideal S12x20 .f32) (r : Fin 1536) (k : Fin 2560) :
    wOf wk wv sk sv (ix2 r (hiCol k)) = wv (ix3 (hcol k) r (dcol k)) * sv (ix2 (grpOf r) (hcol k)) := by
  show (if (hiCol k).val < 2560 then _ else wv (ix3 (headOf (hiCol k)) r (dimOf (hiCol k))) * sv (ix2 (grpOf r) (headOf (hiCol k)))) = _
  rw [if_neg (show ¬ (hiCol k).val < 2560 by simp [hiCol]), head_hi, dim_hi]

theorem final_10 (c : Dev nD) : (vdats m 0 c).arrAt 10 cfg0.N = dcFin m c := by
  refine (vdats m 0 c).arrAt_eq_of_covers 10 _ (by decide +kernel) fun t hf y => ?_
  rw [vafter_10, ekAt_eq, evAt_eq]
  obtain ⟨u, s, r, rfl⟩ : ∃ (u : Fin 1) (s : Fin 512) (r : Fin 1536), y = ix3 u s r := ⟨y 0, y 1, y 2, ValueIdx.eq_ix3 y⟩
  obtain rfl : u = 0 := Subsingleton.elim _ _
  blk_simp
  have e : (((cfg0.win 10).blk t).view.emb (ix3 0 s r) : S9x6144x1536.Idx) = ix3 (bat t) (tok t s) r := by
    refine funext fun a => Fin.ext ?_
    blk_simp [index_10]
    fin_cases a <;> simp [ix3, bat, tok]
  refine Eq.trans ?_ (congrArg (dcFin m c) e).symm
  show (∑ k : Fin 2560, lhsOf _ _ _ _ (ix2 s (loCol k)) * wAt m c (ix2 r (loCol k))) * _ + (∑ k : Fin 2560, lhsOf _ _ _ _ (ix2 s (hiCol k)) * wAt m c (ix2 r (hiCol k))) * _ = _
  simp only [wAt, lhs_lo, lhs_hi, w_lo, w_hi, iblk_0, iblk_1, iblk_4, iblk_5, iblk_6, iblk_7]
  rfl

theorem final_11 (c : Dev nD) : (vdats m 0 c).arrAt 11 cfg0.N = ctFin m c := by
  refine (vdats m 0 c).arrAt_eq_of_covers 11 _ (by decide +kernel) fun t hf y => ?_
  rw [vafter_11]
  obtain ⟨u, r, s, rfl⟩ : ∃ (u : Fin 1) (r : Fin 1536) (s : Fin 512), y = ix3 u r s := ⟨y 0, y 1, y 2, ValueIdx.eq_ix3 y⟩
  obtain rfl : u = 0 := Subsingleton.elim _ _
  blk_simp
  have e : (((cfg0.win 11).blk t).view.emb (ix3 0 r s) : S9x1536x6144.Idx) = ix3 (bat t) r (tok t s) := by
    refine funext fun a => Fin.ext ?_
    blk_simp [index_11]
    fin_cases a <;> simp [ix3, bat, tok]
  refine Eq.trans ?_ (congrArg (ctFin m c) e).symm
  exact congrArg₂ (fun p q : EReal => p * q) (iblk_2 m c t s r) (iblk_3 m c t (grpOf r) s)

theorem final_12 (c : Dev nD) : (vdats m 0 c).arrAt 12 cfg0.N = qkFin m c := by
  refine (vdats m 0 c).arrAt_eq_of_covers 12 _ (by decide +kernel) fun t hf y => ?_
  rw [vafter_12, ekAt_eq]
  obtain ⟨u, h, s, d, rfl⟩ : ∃ (u : Fin 1) (h : Fin 20) (s : Fin 512) (d : Fin 128), y = ix4 u h s d := ⟨y 0, y 1, y 2, y 3, ValueIdx.eq_ix4 y⟩
  obtain rfl : u = 0 := Subsingleton.elim _ _
  blk_simp
  have e : (((cfg0.win 12).blk t).view.emb (ix4 0 h s d) : S9x20x6144x128.Idx) = ix4 (bat t) h (tok t s) d := by
    refine funext fun a => Fin.ext ?_
    blk_simp [index_12]
    fin_cases a <;> simp [ix4, bat, tok]
  refine Eq.trans ?_ (congrArg (qkFin m c) e).symm
  exact congrArg (fun p : EReal => code p (ikOf m c)) (iblk_0 m c t h s d)

theorem final_13 (c : Dev nD) : (vdats m 0 c).arrAt 13 cfg0.N = qvFin m c := by
  refine (vdats m 0 c).arrAt_eq_of_covers 13 _ (by decide +kernel) fun t hf y => ?_
  rw [vafter_13, evAt_eq]
  obtain ⟨u, h, s, d, rfl⟩ : ∃ (u : Fin 1) (h : Fin 20) (s : Fin 512) (d : Fin 128), y = ix4 u h s d := ⟨y 0, y 1, y 2, y 3, ValueIdx.eq_ix4 y⟩
  obtain rfl : u = 0 := Subsingleton.elim _ _
  blk_simp
  have e : (((cfg0.win 13).blk t).view.emb (ix4 0 h s d) : S9x20x6144x128.Idx) = ix4 (bat t) h (tok t s) d := by
    refine funext fun a => Fin.ext ?_
    blk_simp [index_13]
    fin_cases a <;> simp [ix4, bat, tok]
  refine Eq.trans ?_ (congrArg (qvFin m c) e).symm
  exact congrArg (fun p : EReal => code p (ivOf m c)) (iblk_1 m c t h s d)

/-- The last grid point. -/
abbrev tLast : Fin cfg0.N := ⟨107, by rw [show cfg0.N = 108 from N_0]; decide⟩

theorem final_14 (c : Dev nD) : (vdats m 0 c).arrAt 14 cfg0.N = (fun _ => skOf m c : FVec Ideal S1x1 .f32) := by
  refine (vdats m 0 c).arrAt_eq_of_covers 14 _ (by decide +kernel) fun t hf y => ?_
  rw [vafter_14, ekAt_eq]
  blk_simp
  rfl

theorem final_15 (c : Dev nD) : (vdats m 0 c).arrAt 15 cfg0.N = (fun _ => svOf m c : FVec Ideal S1x1 .f32) := by
  refine (vdats m 0 c).arrAt_eq_of_covers 15 _ (by decide +kernel) fun t hf y => ?_
  rw [vafter_15, evAt_eq]
  blk_simp
  rfl

theorem final_16 (c : Dev nD) : (vdats m 0 c).arrAt 16 cfg0.N = hkFin m c := by
  refine (vdats m 0 c).arrAt_eq_of_covers 16 _ (by decide +kernel) fun t hf y => ?_
  have hN : cfg0.N = 108 := N_0
  obtain rfl : t = tLast := Fin.ext (by have := (flush0_16 t).mp hf; have := t.isLt; show t.val = 107; omega)
  have e : win0_16.index tLast = fun _ => 0 := by decide +kernel
  rw [vafter_16]
  blk_simp
  rw [hkAt, iblk_8]
  refine congrArg (hkFin m c) (funext fun a => Fin.ext ?_)
  blk_simp [e]

theorem final_17 (c : Dev nD) : (vdats m 0 c).arrAt 17 cfg0.N = hvFin m c := by
  refine (vdats m 0 c).arrAt_eq_of_covers 17 _ (by decide +kernel) fun t hf y => ?_
  have hN : cfg0.N = 108 := N_0
  obtain rfl : t = tLast := Fin.ext (by have := (flush0_17 t).mp hf; have := t.isLt; show t.val = 107; omega)
  have e : win0_17.index tLast = fun _ => 0 := by decide +kernel
  rw [vafter_17]
  blk_simp
  rw [hvAt, iblk_9]
  refine congrArg (hvFin m c) (funext fun a => Fin.ext ?_)
  blk_simp [e]

/-- The first kernel's results; the arguments end unchanged. -/
theorem value (ρ : Dev nD → PrngReg) : θ_run defs (onTc (τ := τ) (main (F := Ideal))) ⟨m, fun _ => 0, ρ⟩ fun r => ∀ c : Dev nD,
      r.2.mem ((c.tc : Thread nD τ).loc main_v5_0) = dcFin m c
      ∧ r.2.mem ((c.tc : Thread nD τ).loc main_v5_1) = ctFin m c
      ∧ r.2.mem ((c.tc : Thread nD τ).loc main_v5_2) = qkFin m c
      ∧ r.2.mem ((c.tc : Thread nD τ).loc main_v5_3) = qvFin m c
      ∧ r.2.mem ((c.tc : Thread nD τ).loc main_v5_4) = (fun _ => skOf m c : FVec Ideal S1x1 .f32)
      ∧ r.2.mem ((c.tc : Thread nD τ).loc main_v5_5) = (fun _ => svOf m c : FVec Ideal S1x1 .f32)
      ∧ r.2.mem ((c.tc : Thread nD τ).loc main_v5_6) = hkFin m c
      ∧ r.2.mem ((c.tc : Thread nD τ).loc main_v5_7) = hvFin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (final_10 m c), ((h c).1 11).trans (final_11 m c), ((h c).1 12).trans (final_12 m c), ((h c).1 13).trans (final_13 m c), ((h c).1 14).trans (final_14 m c), ((h c).1 15).trans (final_15 m c), ((h c).1 16).trans (final_16 m c), ((h c).1 17).trans (final_17 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((vdats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 6).trans (((vdats m 0 c).arrAt_in 6 rfl _).trans (V_main_arg5 m c)),
    ((h c).2 main_arg6 (Pipeline.mem_restRefs_of main_arg6 (by decide) (by decide))).trans (V_main_arg6 m c),
    ((h c).1 7).trans (((vdats m 0 c).arrAt_in 7 rfl _).trans (V_main_arg7 m c)),
    ((h c).1 8).trans (((vdats m 0 c).arrAt_in 8 rfl _).trans (V_main_arg8 m c)),
    ((h c).1 9).trans (((vdats m 0 c).arrAt_in 9 rfl _).trans (V_main_arg9 m c))⟩) (vrun m ρ)

end Cert.DcIdeal.Hand

end
-- ==== Proof.DcScaleEq.lean ====
module

public import proofs.«01_k».proof.Proof.DcPre
public import proofs.«01_k».proof.Proof.DwSum
public import proofs.«01_k».proof.Proof.DcArr

@[expose] public section

set_option maxRecDepth 65536

noncomputable section

namespace Cert.DcRefIdeal.Hand

open Idealize.ShloMosaic Idealize.ShloMosaic.TcCoe
open Cert.DcIdeal.Hand (pw pw_eq pw_pos Field gradExp_field gradExp_zero scaleOf scaleOf_field scaleOf_zero invOf invOf_field invOf_zero one_div_pw hmax hmax_le expOf code half grpOf hcol dcol)
open Cert.Pre_scales_in_range.Hand (InRange)

/-! # The kernel's scale, built from an exponent's bits, is the reference's scale -/

/-- The kernel's and the reference's maxima of a history are the same. -/
theorem hmax_eq (x : FVec Ideal Cert.DcIdeal.S16 .f32) : hmax x = (maxHost x ix0 : EReal) :=
  eq_of_forall_ge_iff fun M => (hmax_le x M).trans (maxHost_le x ix0 M).symm

/-- The word of 1/57344 is a positive real. -/
theorem inv_fmax : ∃ r : ℝ, r ≠ 0 ∧ Ideal.ofBits .f32 0x37924925#32 = (r : EReal) := by
  refine ⟨_, ?_, by simp [Ideal.ofBits, Ideal.ieee]; rfl⟩
  norm_num

/-- The exponent of a history is found from its maximum and the scaled maximum. -/
theorem expOf_eq (x : FVec Ideal Cert.DcIdeal.S16 .f32) :
    expOf x = Cert.DcIdeal.Hand.gradExp (F := Ideal) (hmax x) ((hmax x * Ideal.ofBits .f32 0x37924925#32 : EReal)) := rfl

/-- Over a history in range: the kernel's scale is the reference's, so is its inverse, and the scale is nonnegative and finite. -/
theorem scale_eq (x : FVec Ideal Cert.DcIdeal.S16 .f32) (hx : InRange (absHost x ix0)) :
    scaleOf (expOf x) = (scaleHost x ix0 : EReal) ∧ invOf (expOf x) = (invHost x ix0 : EReal) ∧ 0 ≤ scaleOf (expOf x) ∧ scaleOf (expOf x) ≠ ⊤ := by
  have e := hmax_eq x
  have ha : (absHost x ix0 : EReal) = max (hmax x * Ideal.ofBits .f32 0x37924925#32) (-(hmax x * Ideal.ofBits .f32 0x37924925#32)) := by
    rw [e]; exact absHost_at x ix0
  by_cases h0 : hmax x = 0
  · have hs : (scaleHost x ix0 : EReal) = 1 := (scaleHost_at x).trans (if_pos (e.symm.trans h0))
    have hi : (invHost x ix0 : EReal) = 1 := by
      rw [invHost_at, hs]
      exact (congrArg (Ideal.div 1) Cert.DcIdeal.Hand.scaleOf_zero.symm).trans (by rw [Cert.DcIdeal.Hand.scaleOf_zero]; simp [Ideal.div])
    have he : expOf x = 0#32 := by rw [expOf_eq, h0]; exact gradExp_zero _
    rw [he, scaleOf_zero, invOf_zero, hs, hi]
    exact ⟨rfl, rfl, zero_le_one, EReal.coe_ne_top 1⟩
  · obtain ⟨F, hF⟩ : ∃ F, Field (absHost x ix0) F := by
      rcases hx with hz | ⟨h1, h2⟩
      · exfalso
        obtain ⟨r, hr, hr'⟩ := inv_fmax
        rw [ha, hr'] at hz
        have h1 : hmax x * (r : EReal) ≤ 0 := hz ▸ le_max_left _ _
        have h2 : -(hmax x * (r : EReal)) ≤ 0 := hz ▸ le_max_right _ _
        have h3 : hmax x * (r : EReal) = 0 := le_antisymm h1 (EReal.neg_le_zero.mp h2)
        rcases mul_eq_zero.mp h3 with h | h
        · exact h0 h
        · exact hr (by exact_mod_cast h)
      · exact Field.exists h1 h2
    have hs : (scaleHost x ix0 : EReal) = pw (F + 1) := (scaleHost_at x).trans ((if_neg (fun h => h0 (e.trans h))).trans (min_above hF))
    have he : expOf x = BitVec.ofNat 32 F - 126#32 := by rw [expOf_eq]; exact gradExp_field h0 (ha ▸ hF)
    have hl := hF.one
    have hu := hF.top
    rw [he, scaleOf_field hl hu, invOf_field hl hu, hs, invHost_at, hs, one_div_pw hl hu]
    exact ⟨rfl, rfl, (pw_pos (by omega) (by omega)).le, by rw [pw_eq (by omega) (by omega)]; exact EReal.coe_ne_top _⟩

/-! # A half of the latents' gradient: the scale may be applied before the products -/

/-- The kernel's scaled half, a sum over the columns, is the reference's sum over heads and entries with the scale inside. -/
theorem half_eq (g : FVec Ideal Cert.DcIdeal.S9x6144x20x128 .bf16) (i s : EReal) (hs : 0 ≤ s) (ht : s ≠ ⊤) (w : FVec Ideal Cert.DcIdeal.S1536x20x128 .fp8e4m3)
    (ws : FVec Ideal Cert.DcIdeal.S12x20 .f32) (b : Fin 9) (p : Fin 6144) (r : Fin 1536) :
    half g i w ws b p r * s = ∑ h : Fin 20, ∑ d : Fin 128, code (g (ix4 b p h d)) i * s * (w (ix3 r h d) * ws (ix2 (grpOf r) h)) := by
  unfold half
  refine (congrArg (fun z : EReal => z * s) (Fin.sum_univ_tiles (N := 2560) 20 128 rfl _)).trans ?_
  refine (Cert.DwIdeal.Hand.EReal_sum_mul _ _ hs ht).trans (Finset.sum_congr rfl fun h _ => ?_)
  refine (Cert.DwIdeal.Hand.EReal_sum_mul _ _ hs ht).trans (Finset.sum_congr rfl fun d _ => ?_)
  have hd := d.isLt
  have hh := h.isLt
  have e1 : hcol (⟨h.val * 128 + d.val, by omega⟩ : Fin 2560) = h := Fin.ext (by show (h.val * 128 + d.val) / 128 = h.val; omega)
  have e2 : dcol (⟨h.val * 128 + d.val, by omega⟩ : Fin 2560) = d := Fin.ext (by show (h.val * 128 + d.val) % 128 = d.val; omega)
  rw [e1, e2, mul_right_comm]

end Cert.DcRefIdeal.Hand

end
-- ==== Proof.DcAmax.lean ====
module

public import proofs.«01_k».proof.Proof.DcArr

@[expose] public section

set_option maxRecDepth 65536

noncomputable section

namespace Cert.DcIdeal.Hand

open Cert.DcIdeal Cert.DcIdeal.Gen
open Idealize.ShloMosaic Idealize.ShloMosaic.TcCoe

/-! # The running maximum is the largest magnitude met so far -/

/-- A magnitude. -/
abbrev mag (x : EReal) : EReal := max x (-x)

/-- A magnitude is nonnegative. -/
theorem mag_nonneg (x : EReal) : 0 ≤ mag x := by
  rcases le_total 0 x with h | h
  · exact h.trans (le_max_left _ _)
  · exact (EReal.neg_nonneg.mpr h).trans (le_max_right _ _)

/-- The bf16 word of minus infinity is the bottom of the extended reals. -/
theorem bot_bf16 : Ideal.ofBits .bf16 0xFF80#16 = ⊥ := by simp [Ideal.ofBits, Ideal.ieee]

/-- A bound of a maximum over some of an array's axes, at every place, is a bound of every entry. -/
theorem reduce_max_le {φ : FTy} {s t : Shape} {axes : List (Fin s.rank)} (src : FVec Ideal s φ) (h : s.Reduces axes t) (hφ : FKind.Formats φ)
    (acc : BitVec φ.bits) (hacc : acc = FKind.maximumf.neutral φ hφ) (hb : Ideal.ofBits φ acc = ⊥) (M : EReal) :
    (∀ j, (multiReduction (F := Ideal) .maximumf axes t src acc h hφ hacc j : EReal) ≤ M) ↔ ∀ i, (src i : EReal) ≤ M := by
  have key : ∀ j, (multiReduction (F := Ideal) .maximumf axes t src acc h hφ hacc j : EReal) ≤ M ↔ ∀ i, h.drop i = j → (src i : EReal) ≤ M := by
    intro j
    haveI : Std.Commutative (FloatOps.maximumf (F := Ideal) (φ := φ)) := ⟨fun a b => max_comm (α := EReal) a b⟩
    haveI : Std.Associative (FloatOps.maximumf (F := Ideal) (φ := φ)) := ⟨fun a b c => max_assoc (α := EReal) a b c⟩
    rw [multiReduction_maximumf_eq_fold]
    refine (Finset.fold_max_le (β := EReal) (b := Ideal.ofBits φ acc) (f := src) M).trans ?_
    rw [hb]
    simp
  exact ⟨fun H i => (key _).mp (H (h.drop i)) i rfl, fun H j => (key j).mpr fun i _ => H i⟩

/-- The same entries under another shape have the same bounds. -/
theorem shapeCast_le {s t : Shape} (x : s.Idx → EReal) (h : s.ShapeCasts t) (h' : t.ShapeCasts s) (M : EReal) : (∀ i, shapeCast t x h i ≤ M) ↔ ∀ j, x j ≤ M := by
  constructor
  · intro H j
    have e : shapeCast s (shapeCast t x h) h' j = x j := congrFun (shapeCast_shapeCast x h h') j
    rw [← e]; exact H _
  · intro H i; exact H _

/-- A bound of the running maxima after one head is a bound of the maxima before it and of the head's magnitudes. -/
theorem amaxStep_le (acc : Vec Ideal S16x128 .bf16) (g : Vec Ideal S1x1x512x128 .bf16) (M : EReal) :
    (∀ y, (amaxStep (F := Ideal) acc g y : EReal) ≤ M) ↔ (∀ y, (acc y : EReal) ≤ M) ∧ ∀ j, mag (g j) ≤ M := by
  have h1 : (∀ y, (amaxStep (F := Ideal) acc g y : EReal) ≤ M) ↔ (∀ y, (acc y : EReal) ≤ M)
      ∧ ∀ y, (multiReduction (F := Ideal) .maximumf [0] S16x128 (shapeCast S32x16x128 (absf (k0_pay68 g)) shapeCasts_S512x128_S32x16x128) 0xFF80#16 reduces_S32x16x128_S16x128 (.inr rfl) rfl y : EReal) ≤ M := by
    rw [← forall_and]
    exact forall_congr' fun y => max_le_iff
  rw [h1]
  refine and_congr_right fun _ => ?_
  refine (reduce_max_le (φ := .bf16) _ _ (.inr rfl) _ rfl bot_bf16 M).trans ?_
  refine (shapeCast_le (absf (F := Ideal) (φ := .bf16) (k0_pay68 g)) _ (by decide) M).trans ?_
  exact shapeCast_le (fun j => mag (g j)) shapeCasts_S1x1x512x128_S512x128 (by decide) M

/-- The same after the heads of a list. -/
theorem amaxFold_le (g : Vec Ideal S1x20x512x128 .bf16) (M : EReal) (l : List (Fin 20)) : ∀ s : Vec Ideal S16x128 .bf16,
    (∀ y, (l.foldl (fun acc h => amaxStep (F := Ideal) acc (hd g h)) s y : EReal) ≤ M) ↔ (∀ y, (s y : EReal) ≤ M) ∧ ∀ h ∈ l, ∀ j, mag (hd g h j) ≤ M := by
  induction l with
  | nil => intro s; simp
  | cons a l ih => intro s; rw [List.foldl_cons, ih, amaxStep_le, and_assoc]; simp

/-- The same after all heads of a block. -/
theorem amaxAcc_le (s : Vec Ideal S16x128 .bf16) (g : Vec Ideal S1x20x512x128 .bf16) (M : EReal) :
    (∀ y, (amaxAcc s g y : EReal) ≤ M) ↔ (∀ y, (s y : EReal) ≤ M) ∧ ∀ (h : Fin 20) (r : Fin 512) (d : Fin 128), mag (g (ix4 0 h r d)) ≤ M := by
  unfold amaxAcc
  rw [amaxFold_le]
  refine and_congr_right fun _ => ⟨fun H h r d => H h (by fin_cases h <;> decide) (ix4 0 0 r d), fun H h _ j => H h (j 2) (j 3)⟩

/-- The keys' half of the running maxima after a point. -/
theorem slab_amaxOf_0 (A : Vec Ideal S2x16x128 .bf16) (gk gv : Vec Ideal S1x20x512x128 .bf16) : slab (amaxOf A gk gv) 0 = amaxAcc (slab A 0) gk := by
  have e : ∀ (r : Fin 16) (d : Fin 128), amaxOf A gk gv (ix3 0 r d) = amaxAcc (slab A 0) gk (ix2 r d) := by
    intro r d
    unfold amaxOf
    exact if_pos rfl
  funext y
  exact (e (y 0) (y 1)).trans (congrArg (amaxAcc (slab A 0) gk) (ValueIdx.eq_ix2 y).symm)

/-- The values' half of the running maxima after a point. -/
theorem slab_amaxOf_1 (A : Vec Ideal S2x16x128 .bf16) (gk gv : Vec Ideal S1x20x512x128 .bf16) : slab (amaxOf A gk gv) 1 = amaxAcc (slab A 1) gv := by
  have e : ∀ (r : Fin 16) (d : Fin 128), amaxOf A gk gv (ix3 1 r d) = amaxAcc (slab A 1) gv (ix2 r d) := by
    intro r d
    unfold amaxOf
    exact if_neg (show ¬ (1 : ℕ) = 0 by decide)
  funext y
  exact (e (y 0) (y 1)).trans (congrArg (amaxAcc (slab A 1) gv) (ValueIdx.eq_ix2 y).symm)

/-- The largest of one half of the running maxima is its least upper bound. -/
theorem amaxTop_le (A : Vec Ideal S2x16x128 .bf16) (p : Fin 2) (M : EReal) : amaxTop A p ≤ M ↔ ∀ y, (slab A p y : EReal) ≤ M := by
  have hb : Ideal.ofBits .f32 0xFF800000#32 = ⊥ := by simp [Ideal.ofBits, Ideal.ieee]
  unfold amaxTop k0_pay48
  have one : ∀ (w : Vec Ideal S1 .f32), (extractAt ![0, 0, 0] (shapeCast S1x1x1 w shapeCasts_S1_S1x1x1) inpos_S1x1x1_p0_0_0 : EReal) ≤ M ↔ ∀ j, (w j : EReal) ≤ M := by
    intro w
    refine ⟨fun H j => ?_, fun H => H _⟩
    have : ∀ a b : S1.Idx, a = b := by
      intro a b
      funext k
      fin_cases k
      exact Subsingleton.elim (α := Fin 1) _ _
    rw [this j _]; exact H
  refine (one _).trans ?_
  refine (reduce_max_le (φ := .f32) _ _ (.inl rfl) _ rfl hb M).trans ?_
  refine (shapeCast_le (extf (F := Ideal) (φ := .bf16) .f32 _ bitsLt_bf16_f32) shapeCasts_S16x128_S1x16x128 (by decide) M).trans ?_
  refine (shapeCast_le (fun y : S1x16x128.Idx => (A (ix3 p (y 1) (y 2)) : EReal)) shapeCasts_S1x16x128_S16x128 (by decide) M).trans ?_
  exact ⟨fun H y => H (ix3 0 (y 0) (y 1)), fun H y => H (ix2 (y 1) (y 2))⟩

variable (m : (ℓ : Loc nD τ sig) → Buf (Elt Ideal) ℓ)

theorem amaxAt_le_0 (c : Dev nD) (M : EReal) (n : ℕ) (hn : n ≤ cfg0.N) : (∀ y, (slab (amaxAt m c n) 0 y : EReal) ≤ M)
    ↔ 0 ≤ M ∧ ∀ t : Fin cfg0.N, t.val < n → ∀ (h : Fin 20) (r : Fin 512) (d : Fin 128), mag (arg0 m c (ix4 (bat t) (tok t r) h d)) ≤ M := by
  induction n with
  | zero => exact ⟨fun H => ⟨H (ix2 0 0), fun t ht => absurd ht (Nat.not_lt_zero _)⟩, fun H y => H.1⟩
  | succ n ih =>
    have e := amaxAt_succ m c ⟨n, hn⟩
    rw [show amaxAt m c (n + 1) = _ from e, slab_amaxOf_0, amaxAcc_le, ih (by omega), and_assoc]
    refine and_congr_right fun _ => ⟨fun H t ht h r d => ?_, fun H => ⟨fun t ht => H t (by omega), fun h r d => ?_⟩⟩
    · rcases Nat.lt_succ_iff_lt_or_eq.mp ht with h1 | h1
      · exact H.1 t h1 h r d
      · obtain rfl : t = ⟨n, hn⟩ := Fin.ext h1
        exact (congrArg mag (iblk_0 m c ⟨n, hn⟩ h r d)) ▸ H.2 h r d
    · exact (congrArg mag (iblk_0 m c ⟨n, hn⟩ h r d)) ▸ H ⟨n, hn⟩ (Nat.lt_succ_self n) h r d

theorem amaxAt_le_1 (c : Dev nD) (M : EReal) (n : ℕ) (hn : n ≤ cfg0.N) : (∀ y, (slab (amaxAt m c n) 1 y : EReal) ≤ M)
    ↔ 0 ≤ M ∧ ∀ t : Fin cfg0.N, t.val < n → ∀ (h : Fin 20) (r : Fin 512) (d : Fin 128), mag (arg1 m c (ix4 (bat t) (tok t r) h d)) ≤ M := by
  induction n with
  | zero => exact ⟨fun H => ⟨H (ix2 0 0), fun t ht => absurd ht (Nat.not_lt_zero _)⟩, fun H y => H.1⟩
  | succ n ih =>
    have e := amaxAt_succ m c ⟨n, hn⟩
    rw [show amaxAt m c (n + 1) = _ from e, slab_amaxOf_1, amaxAcc_le, ih (by omega), and_assoc]
    refine and_congr_right fun _ => ⟨fun H t ht h r d => ?_, fun H => ⟨fun t ht => H t (by omega), fun h r d => ?_⟩⟩
    · rcases Nat.lt_succ_iff_lt_or_eq.mp ht with h1 | h1
      · exact H.1 t h1 h r d
      · obtain rfl : t = ⟨n, hn⟩ := Fin.ext h1
        exact (congrArg mag (iblk_1 m c ⟨n, hn⟩ h r d)) ▸ H.2 h r d
    · exact (congrArg mag (iblk_1 m c ⟨n, hn⟩ h r d)) ▸ H ⟨n, hn⟩ (Nat.lt_succ_self n) h r d

/-- Every entry of a gradient is met by some grid point. -/
theorem all_met (P : S9x6144x20x128.Idx → Prop) : (∀ t : Fin cfg0.N, t.val < 108 → ∀ (h : Fin 20) (r : Fin 512) (d : Fin 128), P (ix4 (bat t) (tok t r) h d)) ↔ ∀ y, P y := by
  refine ⟨fun H y => ?_, fun H t _ h r d => H _⟩
  obtain ⟨b, s, h, d, rfl⟩ : ∃ (b : Fin 9) (s : Fin 6144) (h : Fin 20) (d : Fin 128), y = ix4 b s h d := ⟨y 0, y 1, y 2, y 3, ValueIdx.eq_ix4 y⟩
  have hb := b.isLt; have hs := s.isLt
  have ht : b.val * 12 + s.val / 512 < cfg0.N := by rw [show cfg0.N = 108 from N_0]; omega
  have := H ⟨b.val * 12 + s.val / 512, ht⟩ (by show b.val * 12 + s.val / 512 < 108; omega) h ⟨s.val % 512, by omega⟩ d
  have eb : bat ⟨b.val * 12 + s.val / 512, ht⟩ = b := Fin.ext (by show (b.val * 12 + s.val / 512) / 12 = b.val; omega)
  have es : tok ⟨b.val * 12 + s.val / 512, ht⟩ ⟨s.val % 512, by omega⟩ = s := Fin.ext (by show (b.val * 12 + s.val / 512) % 12 * 512 + s.val % 512 = s.val; omega)
  rwa [eb, es] at this

/-- The newest entry of the first history is the largest magnitude of the first gradient. -/
theorem amax_k (c : Dev nD) (M : EReal) : amaxTop (amaxAt m c 108) 0 ≤ M ↔ ∀ y, mag (arg0 m c y) ≤ M := by
  rw [amaxTop_le, amaxAt_le_0 m c M 108 (by rw [show cfg0.N = 108 from N_0]), all_met fun y => mag (arg0 m c y) ≤ M]
  exact ⟨fun H => H.2, fun H => ⟨(mag_nonneg _).trans (H (ix4 0 0 0 0)), H⟩⟩

/-- The newest entry of the second history is the largest magnitude of the second gradient. -/
theorem amax_v (c : Dev nD) (M : EReal) : amaxTop (amaxAt m c 108) 1 ≤ M ↔ ∀ y, mag (arg1 m c y) ≤ M := by
  rw [amaxTop_le, amaxAt_le_1 m c M 108 (by rw [show cfg0.N = 108 from N_0]), all_met fun y => mag (arg1 m c y) ≤ M]
  exact ⟨fun H => H.2, fun H => ⟨(mag_nonneg _).trans (H (ix4 0 0 0 0)), H⟩⟩

end Cert.DcIdeal.Hand

end
-- ==== Proof.DcRefVal.lean ====
module

public import proofs.«01_k».proof.Proof.DcRefScale

@[expose] public section

set_option maxRecDepth 16384

noncomputable section

namespace Cert.DcRefIdeal.Hand

open Cert.DcRefIdeal Cert.DcRefIdeal.Gen Cert.DcRefIdeal.Value Cert.DcRefIdeal.Read
open Idealize.ShloMosaic Idealize.ShloMosaic.TcCoe Idealize.ShloMosaic.StableHlo
open Cert.DcIdeal.Hand (code)

variable (m : (ℓ : Loc nD τ sig) → Buf (Elt Ideal) ℓ)

abbrev a0 (c : Dev nD) : FVec Ideal S9x6144x20x128 .bf16 := m ((c.tc : Thread nD τ).loc main_arg0)
abbrev a1 (c : Dev nD) : FVec Ideal S9x6144x20x128 .bf16 := m ((c.tc : Thread nD τ).loc main_arg1)
abbrev a2 (c : Dev nD) : FVec Ideal S9x6144x1536 .fp8e4m3 := m ((c.tc : Thread nD τ).loc main_arg2)
abbrev a3 (c : Dev nD) : FVec Ideal S9x6144x12 .f32 := m ((c.tc : Thread nD τ).loc main_arg3)
abbrev a4 (c : Dev nD) : FVec Ideal S1536x20x128 .fp8e4m3 := m ((c.tc : Thread nD τ).loc main_arg4)
abbrev a5 (c : Dev nD) : FVec Ideal S12x20 .f32 := m ((c.tc : Thread nD τ).loc main_arg5)
abbrev a6 (c : Dev nD) : FVec Ideal S1536x20x128 .fp8e4m3 := m ((c.tc : Thread nD τ).loc main_arg6)
abbrev a7 (c : Dev nD) : FVec Ideal S12x20 .f32 := m ((c.tc : Thread nD τ).loc main_arg7)
abbrev a8 (c : Dev nD) : FVec Ideal S16 .f32 := m ((c.tc : Thread nD τ).loc main_arg8)
abbrev a9 (c : Dev nD) : FVec Ideal S16 .f32 := m ((c.tc : Thread nD τ).loc main_arg9)

/-! ## What the region's launch reads -/

set_option maxHeartbeats 2000000 in
/-- The keys' inverse scale, as the region finds it. -/
theorem V_main_v32 (c : Dev nD) : V m c main_v32 = shapeCast S1x1 (invHost (a8 m c)) shapeCasts_S_S1x1 := by
    show Gen.V0 m c (Proc.devRef .tc main_v32) = _
    simp only [Gen.V0, Gen.hostOps0, Gen.hostOps0_1, Gen.hostOps0_2, Gen.hostOps0_3, Gen.hostOps0_4, Gen.hostOps0_5, Gen.hostOps0_6, Gen.hostOps0_7, Gen.hostOps0_8, TRef.ternary, TRef.unary, TRef.toBuf, TRef.ofBuf, cast_eq, List.flatten_cons, List.flatten_nil, List.append_nil, List.cons_append, List.nil_append]
    unfold invHost scaleHost above powers absHost maxHost
    after_results_simp <;> rfl

set_option maxHeartbeats 2000000 in
/-- The values' inverse scale, as the region finds it. -/
theorem V_main_v33 (c : Dev nD) : V m c main_v33 = shapeCast S1x1 (invHost (a9 m c)) shapeCasts_S_S1x1 := by
    show Gen.V0 m c (Proc.devRef .tc main_v33) = _
    simp only [Gen.V0, Gen.hostOps0, Gen.hostOps0_1, Gen.hostOps0_2, Gen.hostOps0_3, Gen.hostOps0_4, Gen.hostOps0_5, Gen.hostOps0_6, Gen.hostOps0_7, Gen.hostOps0_8, TRef.ternary, TRef.unary, TRef.toBuf, TRef.ofBuf, cast_eq, List.flatten_cons, List.flatten_nil, List.append_nil, List.cons_append, List.nil_append]
    unfold invHost scaleHost above powers absHost maxHost
    after_results_simp <;> rfl

/-- A scalar under the shape 1 by 1. -/
theorem cast_1x1 (v : FVec Ideal S_ .f32) (y : S1x1.Idx) : shapeCast S1x1 v shapeCasts_S_S1x1 y = v ix0 :=
  congrArg v (funext fun a => a.elim0)

/-- The block read of the keys' inverse scale is that scalar. -/
theorem read_2 (t : Fin cfg0.N) (v : FVec Ideal S_ .f32) :
    (View.read (Elt Ideal) ((cfg0.win 2).blk t).view (shapeCast S1x1 v shapeCasts_S_S1x1 : FVec Ideal S1x1 .f32) (ix2 0 0) : EReal) = v ix0 :=
  congrArg v (funext fun a => a.elim0)

/-- The block read of the values' inverse scale is that scalar. -/
theorem read_3 (t : Fin cfg0.N) (v : FVec Ideal S_ .f32) :
    (View.read (Elt Ideal) ((cfg0.win 3).blk t).view (shapeCast S1x1 v shapeCasts_S_S1x1 : FVec Ideal S1x1 .f32) (ix2 0 0) : EReal) = v ix0 :=
  congrArg v (funext fun a => a.elim0)

/-! ## What the region leaves -/

/-- The codes the region makes, entry by entry. -/
theorem pay4_apply (x : Vec Ideal S9x6144x20x128 .bf16) (v : Vec Ideal S1x1 .f32) (y : S9x6144x20x128.Idx) : (k0_pay4 (F := Ideal) x v y : EReal) = code (x y) (v (ix2 0 0)) := by
  unfold k0_pay4 code
  refine congrArg (fun i : EReal => min (Ideal.ofBits .f32 0x47600000#32) (max (Ideal.ofBits .f32 0xC7600000#32) ((x y : EReal) * i))) ?_
  exact congrArg v (ValueIdx.eq_ix2 _)

/-- The codes of the keys' gradient. -/
theorem codesK (c : Dev nD) : reg_main_v34_0 m c = (fun i => code (a0 m c i) (invHost (a8 m c) ix0) : S9x6144x20x128.Idx → EReal) := by
  unfold reg_main_v34_0
  refine (dats m 0 c).arrAt_eq_of_covers 7 _ (by decide +kernel) fun t hf y => ?_
  blk_simp
  rw [after0_7]; frame_out
  blk_simp [iblk]
  refine (pay4_apply _ _ y).trans (congrArg₂ code ?_ ?_)
  · exact (congrFun (V_main_arg0 m c) _).trans (congrArg (a0 m c) (funext fun a => Fin.ext (by rfl)))
  · exact (congrArg (fun v : FVec Ideal S1x1 .f32 => View.read (Elt Ideal) ((cfg0.win 2).blk t).view v (ix2 0 0)) (V_main_v32 m c)).trans (read_2 t (invHost (a8 m c)))

/-- The codes of the values' gradient. -/
theorem codesV (c : Dev nD) : reg_main_v34_1 m c = (fun i => code (a1 m c i) (invHost (a9 m c) ix0) : S9x6144x20x128.Idx → EReal) := by
  unfold reg_main_v34_1
  refine (dats m 0 c).arrAt_eq_of_covers 8 _ (by decide +kernel) fun t hf y => ?_
  blk_simp
  rw [after0_8]; frame_out
  blk_simp [iblk]
  refine (pay4_apply _ _ y).trans (congrArg₂ code ?_ ?_)
  · exact (congrFun (V_main_arg1 m c) _).trans (congrArg (a1 m c) (funext fun a => Fin.ext (by rfl)))
  · exact (congrArg (fun v : FVec Ideal S1x1 .f32 => View.read (Elt Ideal) ((cfg0.win 3).blk t).view v (ix2 0 0)) (V_main_v33 m c)).trans (read_3 t (invHost (a9 m c)))

/-- The widened codes of the keys' gradient: the codes. -/
theorem widK (c : Dev nD) : reg_main_v34_2 m c = (fun i => code (a0 m c i) (invHost (a8 m c) ix0) : S9x6144x20x128.Idx → EReal) := by
  unfold reg_main_v34_2
  refine (dats m 0 c).arrAt_eq_of_covers 9 _ (by decide +kernel) fun t hf y => ?_
  blk_simp
  rw [after0_9]; frame_out
  blk_simp [iblk]
  refine (pay4_apply _ _ y).trans (congrArg₂ code ?_ ?_)
  · exact (congrFun (V_main_arg0 m c) _).trans (congrArg (a0 m c) (funext fun a => Fin.ext (by rfl)))
  · exact (congrArg (fun v : FVec Ideal S1x1 .f32 => View.read (Elt Ideal) ((cfg0.win 2).blk t).view v (ix2 0 0)) (V_main_v32 m c)).trans (read_2 t (invHost (a8 m c)))

/-- The widened codes of the values' gradient: the codes. -/
theorem widV (c : Dev nD) : reg_main_v34_3 m c = (fun i => code (a1 m c i) (invHost (a9 m c) ix0) : S9x6144x20x128.Idx → EReal) := by
  unfold reg_main_v34_3
  refine (dats m 0 c).arrAt_eq_of_covers 10 _ (by decide +kernel) fun t hf y => ?_
  blk_simp
  rw [after0_10]; frame_out
  blk_simp [iblk]
  refine (pay4_apply _ _ y).trans (congrArg₂ code ?_ ?_)
  · exact (congrFun (V_main_arg1 m c) _).trans (congrArg (a1 m c) (funext fun a => Fin.ext (by rfl)))
  · exact (congrArg (fun v : FVec Ideal S1x1 .f32 => View.read (Elt Ideal) ((cfg0.win 3).blk t).view v (ix2 0 0)) (V_main_v33 m c)).trans (read_3 t (invHost (a9 m c)))

/-- The widened latents: the latents' own values. -/
theorem widC (c : Dev nD) : reg_main_v34_4 m c = (fun i => a2 m c i : S9x6144x1536.Idx → EReal) := by
  unfold reg_main_v34_4
  refine (dats m 0 c).arrAt_eq_of_covers 11 _ (by decide +kernel) fun t hf y => ?_
  blk_simp
  rw [after0_11]; frame_out
  blk_simp [iblk]
  exact (congrFun (V_main_arg2 m c) _).trans (congrArg (a2 m c) (funext fun a => Fin.ext (by rfl)))

/-- The widened weights of the keys: the weights' own values. -/
theorem widWk (c : Dev nD) : reg_main_v34_5 m c = (fun i => a4 m c i : S1536x20x128.Idx → EReal) := by
  unfold reg_main_v34_5
  refine (dats m 0 c).arrAt_eq_of_covers 12 _ (by decide +kernel) fun t hf y => ?_
  blk_simp
  rw [after0_12]; frame_out
  blk_simp [iblk]
  exact (congrFun (V_main_arg4 m c) _).trans (congrArg (a4 m c) (funext fun a => Fin.ext (by rfl)))

/-- The widened weights of the values: the weights' own values. -/
theorem widWv (c : Dev nD) : reg_main_v34_6 m c = (fun i => a6 m c i : S1536x20x128.Idx → EReal) := by
  unfold reg_main_v34_6
  refine (dats m 0 c).arrAt_eq_of_covers 13 _ (by decide +kernel) fun t hf y => ?_
  blk_simp
  rw [after0_13]; frame_out
  blk_simp [iblk]
  exact (congrFun (V_main_arg6 m c) _).trans (congrArg (a6 m c) (funext fun a => Fin.ext (by rfl)))

/-- The dequantised latents, transposed. -/
theorem val_main_v63_at (x3 : FVec Ideal S9x6144x12 .f32) (r4 : FVec Ideal S9x6144x1536 .bf16) (b : Fin 9) (r : Fin 1536) (s : Fin 6144) :
    (val_main_v63 (F := Ideal) x3 r4 (ix3 b r s) : EReal) = r4 (ix3 b s r) * x3 (ix3 b s (⟨r.val / 128, by omega⟩ : Fin 12)) := by
  unfold val_main_v63 val_main_v46 val_main_v45 val_main_v44 val_main_v43 val_main_v42 val_main_v41
  pointwise

/-- The dequantised weights of the keys. -/
theorem val_main_v52_at (x5 : FVec Ideal S12x20 .f32) (r5 : FVec Ideal S1536x20x128 .bf16) (r : Fin 1536) (h : Fin 20) (d : Fin 128) :
    (val_main_v52 (F := Ideal) x5 r5 (ix3 r h d) : EReal) = r5 (ix3 r h d) * x5 (ix2 (⟨r.val / 128, by omega⟩ : Fin 12) h) := by
  unfold val_main_v52 val_main_v51 val_main_v50 val_main_v49 val_main_v48 val_main_v47
  pointwise

/-- The dequantised weights of the values. -/
theorem val_main_v58_at (x7 : FVec Ideal S12x20 .f32) (r6 : FVec Ideal S1536x20x128 .bf16) (r : Fin 1536) (h : Fin 20) (d : Fin 128) :
    (val_main_v58 (F := Ideal) x7 r6 (ix3 r h d) : EReal) = r6 (ix3 r h d) * x7 (ix2 (⟨r.val / 128, by omega⟩ : Fin 12) h) := val_main_v52_at x7 r6 r h d

/-- The contraction over heads and entries, as a double sum. -/
theorem dot_at (x : FVec Ideal S9x6144x20x128 .bf16) (w : FVec Ideal S1536x20x128 .bf16) (b : Fin 9) (s : Fin 6144) (r : Fin 1536) :
    (Host.dotGeneral (F := Ideal) dot_S9x6144x20x128_S1536x20x128_S9x6144x1536_32_21_01_0_n_n none x w (ix3 b s r) : EReal)
      = ∑ h : Fin 20, ∑ d : Fin 128, (x (ix4 b s h d) : EReal) * w (ix3 r h d) := by
  pointwise [dot_S9x6144x20x128_S1536x20x128_S9x6144x1536_32_21_01_0_n_n]
  exact Finset.sum_comm

/-- One gradient's part of the latents' gradient: at batch `b`, token `s`, row `r`, the sum over the heads and their entries of the
    code times the scale, times the weight times its scale. -/
theorem val_main_v59_at (x5 : FVec Ideal S12x20 .f32) (r2 : FVec Ideal S9x6144x20x128 .bf16) (r5 : FVec Ideal S1536x20x128 .bf16) (e0 : FVec Ideal S_ .f32)
    (b : Fin 9) (s : Fin 6144) (r : Fin 1536) : (val_main_v59 (F := Ideal) x5 r2 r5 e0 (ix3 b s r) : EReal)
      = ∑ h : Fin 20, ∑ d : Fin 128, (r2 (ix4 b s h d) : EReal) * e0 ix0 * (r5 (ix3 r h d) * x5 (ix2 (⟨r.val / 128, by omega⟩ : Fin 12) h)) := by
  unfold val_main_v59
  rw [dot_at]
  refine Finset.sum_congr rfl fun h _ => Finset.sum_congr rfl fun d _ => ?_
  rw [val_main_v52_at, val_main_v37_apply, val_main_v36_apply, val_main_v35_apply]
  exact congrArg (fun z : EReal => (r2 (ix4 b s h d) : EReal) * z * _) (congrArg e0 (funext fun a => a.elim0))

/-- The same for the values' gradient. -/
theorem val_main_v60_at (x7 : FVec Ideal S12x20 .f32) (r3 : FVec Ideal S9x6144x20x128 .bf16) (r6 : FVec Ideal S1536x20x128 .bf16) (e1 : FVec Ideal S_ .f32)
    (b : Fin 9) (s : Fin 6144) (r : Fin 1536) : (val_main_v60 (F := Ideal) x7 r3 r6 e1 (ix3 b s r) : EReal)
      = ∑ h : Fin 20, ∑ d : Fin 128, (r3 (ix4 b s h d) : EReal) * e1 ix0 * (r6 (ix3 r h d) * x7 (ix2 (⟨r.val / 128, by omega⟩ : Fin 12) h)) :=
  val_main_v59_at x7 r3 r6 e1 b s r

/-- The reference's new history: the newest maximum, then the older entries. -/
theorem val_main_v73_at (x0 : FVec Ideal S9x6144x20x128 .bf16) (x8 : FVec Ideal S16 .f32) (y : S16.Idx) :
    (val_main_v73 (F := Ideal) x0 x8 y : EReal) = if (y 0).val = 0 then (val_main_v70 (F := Ideal) x0 ix0 : EReal) else x8 (ix1 (⟨(y 0).val - 1, by have h : (y 0).val < 16 := (y 0).isLt; omega⟩ : Fin 16)) := by
  have hy : (y 0).val < 16 := (y 0).isLt
  unfold val_main_v73
  split_ifs with h
  · refine (concatenate_pair_apply_left 0 _ _ concatenates_S1_S15_S16_d0 y rfl (ix1 (0 : Fin 1)) fun b => ?_).trans ?_
    · fin_cases b
      exact h.symm
    · rw [val_main_v71_apply]
      exact congrArg (val_main_v70 (F := Ideal) x0) (funext fun a => a.elim0)
  · refine (concatenate_pair_apply_right 0 _ _ concatenates_S1_S15_S16_d0 y rfl rfl (ix1 (⟨(y 0).val - 1, by omega⟩ : Fin 15)) (fun b hb => ?_) ?_).trans ?_
    · exact absurd (Subsingleton.elim (α := Fin 1) _ _) hb
    · show (y 0).val - 1 + 1 = (y 0).val
      omega
    · rw [val_main_v72_apply]
      exact congrArg x8 (funext fun a => by fin_cases a; rfl)

/-- The newest maximum is the least upper bound of the magnitudes. -/
theorem val_main_v70_le (x0 : FVec Ideal S9x6144x20x128 .bf16) (M : EReal) : (val_main_v70 (F := Ideal) x0 ix0 : EReal) ≤ M ↔ ∀ y, max (x0 y : EReal) (-(x0 y : EReal)) ≤ M :=
  hostMax_le _ _ reducesTo_S9x6144x20x128_S_d0_1_2_3 (fun _ => bot_f32) ix0 M

end Cert.DcRefIdeal.Hand

end
-- ==== Proof.DcEq.lean ====
module

public import proofs.«01_k».proof.Proof.DcScaleEq
public import proofs.«01_k».proof.Proof.DcAmax
public import proofs.«01_k».proof.Proof.DcRefVal

@[expose] public section

set_option maxRecDepth 65536

noncomputable section

namespace Cert.DcRefIdeal.Hand

open Cert.DcRefIdeal Cert.DcRefIdeal.Gen Cert.DcRefIdeal.Value Cert.DcRefIdeal.Read
open Idealize.ShloMosaic Idealize.ShloMosaic.TcCoe
open Cert.DcIdeal.Hand (arg0 arg1 arg2 arg3 arg4 arg5 arg6 arg7 arg8 arg9 code ikOf ivOf skOf svOf dcFin ctFin qkFin qvFin hkFin hvFin amaxTop amaxAt amax_k amax_v histOf)
open Cert.Pre_scales_in_range.Hand (InRange)

/-! # The reference's results are the kernel's, where the arguments agree -/

variable (m : (ℓ : Loc Cert.DcIdeal.nD Cert.DcIdeal.τ Cert.DcIdeal.sig) → Buf (Elt Ideal) ℓ) (m' : (ℓ : Loc nD τ sig) → Buf (Elt Ideal) ℓ) (c : Dev nD)

/-- On one device the reference is given the kernel's arguments, and both histories are in range. -/
structure Agree : Prop where
  e0 : a0 m' c = arg0 m c
  e1 : a1 m' c = arg1 m c
  e2 : a2 m' c = arg2 m c
  e3 : a3 m' c = arg3 m c
  e4 : a4 m' c = arg4 m c
  e5 : a5 m' c = arg5 m c
  e6 : a6 m' c = arg6 m c
  e7 : a7 m' c = arg7 m c
  e8 : a8 m' c = arg8 m c
  e9 : a9 m' c = arg9 m c
  rk : InRange (absHost (arg8 m c) ix0)
  rv : InRange (absHost (arg9 m c) ix0)

variable {m m' c}

/-- The latents' gradient. -/
theorem dc_eq (h : Agree m m' c) : (val_main_v62 (F := Ideal) (a5 m' c) (a7 m' c) (reg_main_v34_2 m' c) (reg_main_v34_3 m' c) (reg_main_v34_5 m' c) (reg_main_v34_6 m' c)
    (scaleHost (a8 m' c)) (scaleHost (a9 m' c)) : S9x6144x1536.Idx → EReal) = dcFin m c := by
  obtain ⟨s1, i1, p1, t1⟩ := scale_eq (arg8 m c) h.rk
  obtain ⟨s2, i2, p2, t2⟩ := scale_eq (arg9 m c) h.rv
  funext y
  obtain ⟨b, s, r, rfl⟩ : ∃ b s r, y = ix3 b s r := ⟨_, _, _, ValueIdx.eq_ix3 y⟩
  refine (congrArg₂ (fun p q : EReal => p + q) (val_main_v59_at _ _ _ _ b s r) (val_main_v60_at _ _ _ _ b s r)).trans ?_
  rw [widK, widV, widWk, widWv, h.e0, h.e1, h.e4, h.e5, h.e6, h.e7, h.e8, h.e9, ← s1, ← s2, ← i1, ← i2]
  exact (congrArg₂ (fun p q : EReal => p + q) (half_eq (arg0 m c) _ _ p1 t1 (arg4 m c) (arg5 m c) b s r) (half_eq (arg1 m c) _ _ p2 t2 (arg6 m c) (arg7 m c) b s r)).symm

/-- The dequantised latents, transposed. -/
theorem ct_eq (h : Agree m m' c) : (val_main_v63 (F := Ideal) (a3 m' c) (reg_main_v34_4 m' c) : S9x1536x6144.Idx → EReal) = ctFin m c := by
  funext y
  obtain ⟨b, r, s, rfl⟩ : ∃ b r s, y = ix3 b r s := ⟨_, _, _, ValueIdx.eq_ix3 y⟩
  refine (val_main_v63_at _ _ b r s).trans ?_
  rw [widC, h.e2, h.e3]
  rfl

/-- The codes of the keys' gradient. -/
theorem qk_eq (h : Agree m m' c) : (val_main_v64 (F := Ideal) (reg_main_v34_0 m' c) : S9x20x6144x128.Idx → EReal) = qkFin m c := by
  funext y
  obtain ⟨b, n, s, d, rfl⟩ : ∃ b n s d, y = ix4 b n s d := ⟨_, _, _, _, ValueIdx.eq_ix4 y⟩
  refine (val_main_v64_apply _ _).trans ?_
  rw [codesK, h.e0, h.e8, ← (scale_eq (arg8 m c) h.rk).2.1]
  exact congrArg (fun j => code (arg0 m c j) (ikOf m c)) (funext fun a => by fin_cases a <;> rfl)

/-- The codes of the values' gradient. -/
theorem qv_eq (h : Agree m m' c) : (val_main_v65 (F := Ideal) (reg_main_v34_1 m' c) : S9x20x6144x128.Idx → EReal) = qvFin m c := by
  funext y
  obtain ⟨b, n, s, d, rfl⟩ : ∃ b n s d, y = ix4 b n s d := ⟨_, _, _, _, ValueIdx.eq_ix4 y⟩
  refine (val_main_v65_apply _ _).trans ?_
  rw [codesV, h.e1, h.e9, ← (scale_eq (arg9 m c) h.rv).2.1]
  exact congrArg (fun j => code (arg1 m c j) (ivOf m c)) (funext fun a => by fin_cases a <;> rfl)

/-- The scale of the keys' gradient. -/
theorem sk_eq (h : Agree m m' c) : (val_main_v66 (F := Ideal) (scaleHost (a8 m' c)) : S1x1.Idx → EReal) = fun _ => skOf m c := by
  funext y
  refine (cast_1x1 _ y).trans ?_
  rw [h.e8]
  exact (scale_eq (arg8 m c) h.rk).1.symm

/-- The scale of the values' gradient. -/
theorem sv_eq (h : Agree m m' c) : (val_main_v67 (F := Ideal) (scaleHost (a9 m' c)) : S1x1.Idx → EReal) = fun _ => svOf m c := by
  funext y
  refine (cast_1x1 _ y).trans ?_
  rw [h.e9]
  exact (scale_eq (arg9 m c) h.rv).1.symm

/-- The new history of the keys' gradient. -/
theorem hk_eq (h : Agree m m' c) : (val_main_v73 (F := Ideal) (a0 m' c) (a8 m' c) : S16.Idx → EReal) = hkFin m c := by
  funext y
  refine (val_main_v73_at _ _ y).trans ?_
  rw [h.e0, h.e8]
  have e : (val_main_v70 (F := Ideal) (arg0 m c) ix0 : EReal) = amaxTop (amaxAt m c 108) 0 :=
    eq_of_forall_ge_iff fun M => (val_main_v70_le _ M).trans (amax_k m c M).symm
  rw [e]
  rfl

/-- The new history of the values' gradient. -/
theorem hv_eq (h : Agree m m' c) : (val_main_v79 (F := Ideal) (a1 m' c) (a9 m' c) : S16.Idx → EReal) = hvFin m c := by
  funext y
  refine (val_main_v73_at (a1 m' c) (a9 m' c) y).trans ?_
  rw [h.e1, h.e9]
  have e : (val_main_v70 (F := Ideal) (arg1 m c) ix0 : EReal) = amaxTop (amaxAt m c 108) 1 :=
    eq_of_forall_ge_iff fun M => (val_main_v70_le _ M).trans (amax_v m c M).symm
  rw [e]
  rfl

end Cert.DcRefIdeal.Hand

end
-- ==== Proof.DcBitsStage.lean ====
module

public import proofs.«01_k».proof.Proof.Gen.Dc.Frame
public import proofs.«01_k».proof.Proof.Gen.Dc.Skeleton
public import proofs.«01_k».proof.Proof.Gen.Dc.Loops

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first grid point alone does: dequantise the two weights and zero the running maxima. -/
def stInit (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) PUnit := do
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1)
    Scf.Loop.for k0_t2_loop (k0_t2_ok i k0_h1) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1)
    let v1327 : Vec F S2x16x128 .bf16 ← Prog.lift (.load arg22 (Rect.unit (s := S2x16x128) ![0, 0, 0] S2x16x128.size inb_S2x16x128_S2x16x128_0_0_0).toLoadRect (View.loadsAt_vmem h_S2x16x128))
    Prog.lift (.store arg22 (Rect.unit (s := S2x16x128) ![0, 0, 0] S2x16x128.size inb_S2x16x128_S2x16x128_0_0_0) (k0_pay54 (F := F)) Finset.univ (View.stores_vmem h_S2x16x128 (harg22.storeExact_slice rfl _ packedbf16_S2x16x128_S2x16x128_0_0_0) (fun _ => rfl)) (.inl rfl))
    pure ⟨⟩
  else do
    pure ⟨⟩

/-- The history of the first gradient read: its largest entry, and that entry divided down to the codes' range. -/
def stHistK (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (Σ' (v35 : F .f32), F .f32) := do
  let v5 : Elt F .f32 ← smemLoad arg10 (Rect.unit (s := S16) ![0] S1.size inb_S16_S1_0) numel1_S1 rfl
  let v6 : Elt F .f32 ← smemLoad arg10 (Rect.unit (s := S16) ![1] S1.size inb_S16_S1_1) numel1_S1 rfl
  let v8 : Elt F .f32 ← smemLoad arg10 (Rect.unit (s := S16) ![2] S1.size inb_S16_S1_2) numel1_S1 rfl
  let v10 : Elt F .f32 ← smemLoad arg10 (Rect.unit (s := S16) ![3] S1.size inb_S16_S1_3) numel1_S1 rfl
  let v12 : Elt F .f32 ← smemLoad arg10 (Rect.unit (s := S16) ![4] S1.size inb_S16_S1_4) numel1_S1 rfl
  let v14 : Elt F .f32 ← smemLoad arg10 (Rect.unit (s := S16) ![5] S1.size inb_S16_S1_5) numel1_S1 rfl
  let v16 : Elt F .f32 ← smemLoad arg10 (Rect.unit (s := S16) ![6] S1.size inb_S16_S1_6) numel1_S1 rfl
  let v18 : Elt F .f32 ← smemLoad arg10 (Rect.unit (s := S16) ![7] S1.size inb_S16_S1_7) numel1_S1 rfl
  let v20 : Elt F .f32 ← smemLoad arg10 (Rect.unit (s := S16) ![8] S1.size inb_S16_S1_8) numel1_S1 rfl
  let v22 : Elt F .f32 ← smemLoad arg10 (Rect.unit (s := S16) ![9] S1.size inb_S16_S1_9) numel1_S1 rfl
  let v24 : Elt F .f32 ← smemLoad arg10 (Rect.unit (s := S16) ![10] S1.size inb_S16_S1_10) numel1_S1 rfl
  let v26 : Elt F .f32 ← smemLoad arg10 (Rect.unit (s := S16) ![11] S1.size inb_S16_S1_11) numel1_S1 rfl
  let v28 : Elt F .f32 ← smemLoad arg10 (Rect.unit (s := S16) ![12] S1.size inb_S16_S1_12) numel1_S1 rfl
  let v30 : Elt F .f32 ← smemLoad arg10 (Rect.unit (s := S16) ![13] S1.size inb_S16_S1_13) numel1_S1 rfl
  let v32 : Elt F .f32 ← smemLoad arg10 (Rect.unit (s := S16) ![14] S1.size inb_S16_S1_14) numel1_S1 rfl
  let v34 : Elt F .f32 ← smemLoad arg10 (Rect.unit (s := S16) ![15] S1.size inb_S16_S1_15) numel1_S1 rfl
  pure ⟨k0_pay55 v5 v6 v8 v10 v12 v14 v16 v18 v20 v22 v24 v26 v28 v30 v32 v34, k0_pay56 v5 v6 v8 v10 v12 v14 v16 v18 v20 v22 v24 v26 v28 v30 v32 v34⟩

/-- The first gradient quantised: codes, scale, the scaled-down operand and the running maximum. Returns the scale. -/
def stK (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (F .f32) := do
  let ⟨v35, v36⟩ ← stHistK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  let v78 : BitVec 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v36
  let ⟨v87, v100, v108, v110⟩ : Σ' (v87 : F .f32) (v100 : FVec F S1x128 .bf16) (v108 : FVec F S16x128 .bf16), FVec F S512x128 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v78
  let ⟨v130, v146⟩ : Σ' (v130 : FVec F S16x128 .bf16), FVec F S512x128 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v108 v110
  let ⟨v174, v183⟩ : Σ' (v174 : FVec F S16x128 .bf16), FVec F S512x128 .fp8e5m2 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v130 v146
  let ⟨v196, v214, v216⟩ : Σ' (v196 : FVec F S16x128 .bf16) (v214 : FVec F S512x128 .bf16), FVec F S32x16x128 .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v174 v183
  let ⟨v240, v253⟩ : Σ' (v240 : FVec F S16x128 .bf16), FVec F S512x128 .bf16 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v196 v214 v216
  let ⟨v284, v286, cst_129, v288⟩ : Σ' (v284 : FVec F S16x128 .bf16) (v286 : FVec F S512x128 .bf16) (cst_129 : F .f32), FVec F S512x128 .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v240 v253
  let v306 : FVec F S16x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v284 v286 cst_129 v288
  let ⟨v350, v359⟩ : Σ' (v350 : FVec F S16x128 .bf16), FVec F S512x128 .fp8e5m2 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v306
  let ⟨v390, v394, v395⟩ : Σ' (v390 : FVec F S512x128 .bf16) (v394 : FVec F S16x128 .bf16), FVec F S512x128 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v350 v359
  let ⟨v416, v429⟩ : Σ' (v416 : FVec F S16x128 .bf16), FVec F S512x128 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v390 v394 v395
  let ⟨v460, v468⟩ : Σ' (v460 : FVec F S16x128 .bf16), FVec F S512x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v416 v429
  let ⟨v482, v500, v501⟩ : Σ' (v482 : FVec F S16x128 .bf16) (v500 : FVec F S512x128 .bf16), FVec F S512x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v460 v468
  let ⟨v526, v535⟩ : Σ' (v526 : FVec F S16x128 .bf16), FVec F S512x128 .fp8e5m2 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v100 v482 v500 v501
  let v540 : Vec F S512x128 .bf16 ← Prog.lift (.load arg21 (Rect.unit (s := S512x5120) ![0, 2432] S512x128.size inb_S512x5120_S512x128_0_2432).toLoadRect (View.loadsAt_vmem h_S512x128))
  Prog.lift (.store arg21 (Rect.unit (s := S512x5120) ![0, 2432] S512x128.size inb_S512x5120_S512x128_0_2432) (k0_pay169 v535) Finset.univ (View.stores_vmem h_S512x128 (harg21.storeExact_slice rfl _ packedbf16_S512x5120_S512x128_0_2432) (fun _ => rfl)) (.inl rfl))
  let v543 : Vec F S1x16x128 .bf16 ← Prog.lift (.load arg22 (Rect.unit (s := S2x16x128) ![0, 0, 0] S1x16x128.size inb_S2x16x128_S1x16x128_0_0_0).toLoadRect (View.loadsAt_vmem h_S1x16x128))
  Prog.lift (.store arg22 (Rect.unit (s := S2x16x128) ![0, 0, 0] S1x16x128.size inb_S2x16x128_S1x16x128_0_0_0) (k0_pay170 v526) Finset.univ (View.stores_vmem h_S1x16x128 (harg22.storeExact_slice rfl _ packedbf16_S2x16x128_S1x16x128_0_0_0) (fun _ => rfl)) (.inl rfl))
  pure v87

/-- The second gradient quantised, in the same way. Returns the scale. -/
def stV (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) (F .f32) := do
  let v546 : Elt F .f32 ← smemLoad arg11 (Rect.unit (s := S16) ![0] S1.size inb_S16_S1_0) numel1_S1 rfl
  let v547 : Elt F .f32 ← smemLoad arg11 (Rect.unit (s := S16) ![1] S1.size inb_S16_S1_1) numel1_S1 rfl
  let v549 : Elt F .f32 ← smemLoad arg11 (Rect.unit (s := S16) ![2] S1.size inb_S16_S1_2) numel1_S1 rfl
  let v551 : Elt F .f32 ← smemLoad arg11 (Rect.unit (s := S16) ![3] S1.size inb_S16_S1_3) numel1_S1 rfl
  let v553 : Elt F .f32 ← smemLoad arg11 (Rect.unit (s := S16) ![4] S1.size inb_S16_S1_4) numel1_S1 rfl
  let v555 : Elt F .f32 ← smemLoad arg11 (Rect.unit (s := S16) ![5] S1.size inb_S16_S1_5) numel1_S1 rfl
  let v557 : Elt F .f32 ← smemLoad arg11 (Rect.unit (s := S16) ![6] S1.size inb_S16_S1_6) numel1_S1 rfl
  let v559 : Elt F .f32 ← smemLoad arg11 (Rect.unit (s := S16) ![7] S1.size inb_S16_S1_7) numel1_S1 rfl
  let v561 : Elt F .f32 ← smemLoad arg11 (Rect.unit (s := S16) ![8] S1.size inb_S16_S1_8) numel1_S1 rfl
  let v563 : Elt F .f32 ← smemLoad arg11 (Rect.unit (s := S16) ![9] S1.size inb_S16_S1_9) numel1_S1 rfl
  let v565 : Elt F .f32 ← smemLoad arg11 (Rect.unit (s := S16) ![10] S1.size inb_S16_S1_10) numel1_S1 rfl
  let v567 : Elt F .f32 ← smemLoad arg11 (Rect.unit (s := S16) ![11] S1.size inb_S16_S1_11) numel1_S1 rfl
  let v569 : Elt F .f32 ← smemLoad arg11 (Rect.unit (s := S16) ![12] S1.size inb_S16_S1_12) numel1_S1 rfl
  let v571 : Elt F .f32 ← smemLoad arg11 (Rect.unit (s := S16) ![13] S1.size inb_S16_S1_13) numel1_S1 rfl
  let v573 : Elt F .f32 ← smemLoad arg11 (Rect.unit (s := S16) ![14] S1.size inb_S16_S1_14) numel1_S1 rfl
  let v575 : Elt F .f32 ← smemLoad arg11 (Rect.unit (s := S16) ![15] S1.size inb_S16_S1_15) numel1_S1 rfl
  have v574 : F .f32 := k0_pay171 v546 v547 v549 v551 v553 v555 v557 v559 v561 v563 v565 v567 v569 v571 v573
  let ⟨v576, v617, cst_299⟩ : Σ' (v576 : F .f32) (v617 : BitVec 32), F .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v574 v575
  let ⟨v628, v641, v643, v645, v648⟩ : Σ' (v628 : F .f32) (v641 : FVec F S1x128 .bf16) (v643 : FVec F S16x128 .bf16) (v645 : FVec F S512x128 .bf16), FVec F S16x128 .bf16 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 v617 cst_299
  let ⟨v671, v684⟩ : Σ' (v671 : FVec F S16x128 .bf16), FVec F S512x128 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v643 v645 v648
  let ⟨v715, v720, v721⟩ : Σ' (v715 : FVec F S16x128 .bf16) (v720 : FVec F S512x128 .bf16), F .bf16 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v671 v684
  let ⟨v737, v754⟩ : Σ' (v737 : FVec F S16x128 .bf16), Vec F S1x1x512x128 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v715 v720 v721
  let ⟨v781, v790⟩ : Σ' (v781 : FVec F S16x128 .bf16), FVec F S512x128 .fp8e5m2 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v737 v754
  let ⟨v825, v827, cst_424⟩ : Σ' (v825 : FVec F S16x128 .bf16) (v827 : FVec F S512x128 .bf16), F .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v781 v790
  let v847 : FVec F S16x128 .bf16 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v825 v827 cst_424
  let ⟨v891, v900⟩ : Σ' (v891 : FVec F S16x128 .bf16), FVec F S512x128 .fp8e5m2 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v847
  let ⟨v913, v931, v933⟩ : Σ' (v913 : FVec F S16x128 .bf16) (v931 : FVec F S512x128 .bf16), FVec F S32x16x128 .bf16 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v891 v900
  let ⟨v957, v970⟩ : Σ' (v957 : FVec F S16x128 .bf16), FVec F S512x128 .bf16 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v913 v931 v933
  let ⟨v1001, cst_521, v1006⟩ : Σ' (v1001 : FVec F S16x128 .bf16) (cst_521 : F .f32), FVec F S512x128 .bf16 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v957 v970
  let v1023 : FVec F S16x128 .bf16 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v1001 cst_521 v1006
  let ⟨v1067, v1076, v1077⟩ : Σ' (v1067 : FVec F S16x128 .bf16) (v1076 : FVec F S512x128 .fp8e5m2), Vec F S1x1x512x128 .fp8e5m2 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v641 v1023
  Prog.lift (.store arg15 (Rect.unit (s := S1x20x512x128) ![0, 19, 0, 0] S1x1x512x128.size inb_S1x20x512x128_S1x1x512x128_0_19_0_0) (k0_pay283 v1076) Finset.univ (View.stores_vmem h_S1x1x512x128 (harg15.storeExact_slice rfl _ packedfp8e5m2_S1x20x512x128_S1x1x512x128_0_19_0_0) (fun _ => rfl)) (.inl rfl))
  let v1081 : Vec F S512x128 .bf16 ← Prog.lift (.load arg21 (Rect.unit (s := S512x5120) ![0, 4992] S512x128.size inb_S512x5120_S512x128_0_4992).toLoadRect (View.loadsAt_vmem h_S512x128))
  Prog.lift (.store arg21 (Rect.unit (s := S512x5120) ![0, 4992] S512x128.size inb_S512x5120_S512x128_0_4992) (k0_pay284 v1076) Finset.univ (View.stores_vmem h_S512x128 (harg21.storeExact_slice rfl _ packedbf16_S512x5120_S512x128_0_4992) (fun _ => rfl)) (.inl rfl))
  let v1084 : Vec F S1x16x128 .bf16 ← Prog.lift (.load arg22 (Rect.unit (s := S2x16x128) ![1, 0, 0] S1x16x128.size inb_S2x16x128_S1x16x128_1_0_0).toLoadRect (View.loadsAt_vmem h_S1x16x128))
  Prog.lift (.store arg22 (Rect.unit (s := S2x16x128) ![1, 0, 0] S1x16x128.size inb_S2x16x128_S1x16x128_1_0_0) (k0_pay285 v1067) Finset.univ (View.stores_vmem h_S1x16x128 (harg22.storeExact_slice rfl _ packedbf16_S2x16x128_S1x16x128_1_0_0) (fun _ => rfl)) (.inl rfl))
  pure v628

/-- The transposed latents and the latents' gradient. -/
def stC (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (v87 v628 : F .f32) : Prog (TpuEff nD τ sig (Elt F) Λ₀ .tc) PUnit := do
  let v1087 : Vec F S1x512x128 .fp8e4m3 ← Prog.lift (.load arg4 (Rect.unit (s := S1x512x1536) ![0, 0, 0] S1x512x128.size inb_S1x512x1536_S1x512x128_0_0_0).toLoadRect (View.loadsAt_vmem h_S1x512x128))
  let v1091 : Vec F S1x1x512 .f32 ← Prog.lift (.load arg5 (Rect.unit (s := S1x12x512) ![0, 0, 0] S1x1x512.size inb_S1x12x512_S1x1x512_0_0_0).toLoadRect (View.loadsAt_vmem h_S1x1x512))
  let v1096 : Vec F S1x128x512 .bf16 ← Prog.lift (.load arg13 (Rect.unit (s := S1x1536x512) ![0, 0, 0] S1x128x512.size inb_S1x1536x512_S1x128x512_0_0_0).toLoadRect (View.loadsAt_vmem h_S1x128x512))
  Prog.lift (.store arg13 (Rect.unit (s := S1x1536x512) ![0, 0, 0] S1x128x512.size inb_S1x1536x512_S1x128x512_0_0_0) (k0_pay286 v1087 v1091) Finset.univ (View.stores_vmem h_S1x128x512 (harg13.storeExact_slice rfl _ packedbf16_S1x1536x512_S1x128x512_0_0_0) (fun _ => rfl)) (.inl rfl))
  let v1099 : Vec F S1x512x128 .fp8e4m3 ← Prog.lift (.load arg4 (Rect.unit (s := S1x512x1536) ![0, 0, 128] S1x512x128.size inb_S1x512x1536_S1x512x128_0_0_128).toLoadRect (View.loadsAt_vmem h_S1x512x128))
  let v1103 : Vec F S1x1x512 .f32 ← Prog.lift (.load arg5 (Rect.unit (s := S1x12x512) ![0, 1, 0] S1x1x512.size inb_S1x12x512_S1x1x512_0_1_0).toLoadRect (View.loadsAt_vmem h_S1x1x512))
  let v1108 : Vec F S1x128x512 .bf16 ← Prog.lift (.load arg13 (Rect.unit (s := S1x1536x512) ![0, 128, 0] S1x128x512.size inb_S1x1536x512_S1x128x512_0_128_0).toLoadRect (View.loadsAt_vmem h_S1x128x512))
  have v1110 : FVec F S1x128x512 .bf16 := k0_pay287 v1099 v1103
  let v1143 : FVec F S128x512 .bf16 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1110
  let v1174 : FVec F S128x512 .bf16 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1143
  k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1174
  let ⟨v1236, v1238, v1239⟩ : Σ' (v1236 : FVec F S512x256 .f32) (v1238 : FVec F S512x256 .f32), FVec F S512x256 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628
  let v1271 : FVec F S512x256 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 v1236 v1238 v1239
  let v1302 : FVec F S512x256 .bf16 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 v1271
  let v1303 : Vec F S1x512x256 .bf16 ← Prog.lift (.load arg12 (Rect.unit (s := S1x512x1536) ![0, 0, 1024] S1x512x256.size inb_S1x512x1536_S1x512x256_0_0_1024).toLoadRect (View.loadsAt_vmem h_S1x512x256))
  Prog.lift (.store arg12 (Rect.unit (s := S1x512x1536) ![0, 0, 1024] S1x512x256.size inb_S1x512x1536_S1x512x256_0_0_1024) (k0_pay309 v1302) Finset.univ (View.stores_vmem h_S1x512x256 (harg12.storeExact_slice rfl _ packedbf16_S1x512x1536_S1x512x256_0_0_1024) (fun _ => rfl)) (.inl rfl))
  let v1306 : Vec F S512x2560 .bf16 ← Prog.lift (.load arg21 (Rect.unit (s := S512x5120) ![0, 0] S512x2560.size inb_S512x5120_S512x2560_0_0).toLoadRect (View.loadsAt_vmem h_S512x2560))
  let v1307 : Vec F S256x2560 .bf16 ← Prog.lift (.load arg20 (Rect.unit (s := S1536x5120) ![1280, 0] S256x2560.size inb_S1536x5120_S256x2560_1280_0).toLoadRect (View.loadsAt_vmem h_S256x2560))
  let v1309 : Vec F S512x2560 .bf16 ← Prog.lift (.load arg21 (Rect.unit (s := S512x5120) ![0, 2560] S512x2560.size inb_S512x5120_S512x2560_0_2560).toLoadRect (View.loadsAt_vmem h_S512x2560))
  let v1310 : Vec F S256x2560 .bf16 ← Prog.lift (.load arg20 (Rect.unit (s := S1536x5120) ![1280, 2560] S256x2560.size inb_S1536x5120_S256x2560_1280_2560).toLoadRect (View.loadsAt_vmem h_S256x2560))
  have v1308 := k0_pay310 v1306 v1307
  have v1311 := k0_pay311 v1309 v1310
  have v1312 := k0_pay312 v87
  let v1318 : Vec F S1x512x256 .bf16 ← Prog.lift (.load arg12 (Rect.unit (s := S1x512x1536) ![0, 0, 1280] S1x512x256.size inb_S1x512x1536_S1x512x256_0_0_1280).toLoadRect (View.loadsAt_vmem h_S1x512x256))
  Prog.lift (.store arg12 (Rect.unit (s := S1x512x1536) ![0, 0, 1280] S1x512x256.size inb_S1x512x1536_S1x512x256_0_0_1280) (k0_pay1 v628 v1308 v1311 v1312) Finset.univ (View.stores_vmem h_S1x512x256 (harg12.storeExact_slice rfl _ packedbf16_S1x512x1536_S1x512x256_0_0_1280) (fun _ => rfl)) (.inl rfl))

/-- What the last grid point alone does: write the two histories. -/
def stEnd (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : Prog (TpuEff nD τ sig (Elt F) Λ₀ .tc) PUnit := do
  if k0_h2 : k0_cond2 i = 1#1 then do
    k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    pure ⟨⟩
  else do
    pure ⟨⟩

/-- A grid point of the kernel is its five stages in order. -/
theorem body_eq (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) : cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (do
    stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v87 ← stK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v628 ← stV (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    stC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628
    stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  simp only [cc0_quantise_dc_eq_skeleton]; unfold cc0_quantise_dc_skel
  simp only [k0_part53_eq_skeleton]; unfold k0_part53_skel
  simp only [k0_part16_eq_skeleton, k0_part31_eq_skeleton, k0_part46_eq_skeleton]; unfold k0_part16_skel k0_part31_skel k0_part46_skel
  unfold stInit stK stHistK stV stC stEnd
  by_cases h1 : k0_cond1 i = 1#1 <;> by_cases h2 : k0_cond2 i = 1#1 <;>
    simp only [h1, h2, dite_true, dite_false, ↓reduceDIte, bind_assoc, pure_bind]

end Cert.Dc.Hand

end
-- ==== Proof.DcBitsRunK.lean ====
module

public import proofs.«01_k».proof.Proof.DcBitsStage

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The first gradient's stage, run on whole buffers: the inputs are left as they were, each buffer it writes ends with
    the listed rectangles stored, and the scale is returned. -/
def runK (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x10 : Vec F S16 .f32) (x14 : Vec F S1x20x512x128 .fp8e5m2) (x16 : Vec F S1x1 .f32) (x21 : Vec F S512x5120 .bf16) (x22 : Vec F S2x16x128 .bf16) :
    (L14 : List (View.Piece (Elt F) S1x20x512x128 .fp8e5m2)) ×' (L16 : List (View.Piece (Elt F) S1x1 .f32)) ×' (L21 : List (View.Piece (Elt F) S512x5120 .bf16)) ×' (L22 : List (View.Piece (Elt F) S2x16x128 .bf16)) ×' (r : F .f32) ×'
      (∀ (E : Set ℕ) (K : F .f32 → sProp 𝕄),
        iprop(owns (c : Thread nD τ) arg2 fullShare x2 ∗ owns (c : Thread nD τ) arg10 fullShare x10 ∗ owns (c : Thread nD τ) arg14 fullShare x14 ∗ owns (c : Thread nD τ) arg16 fullShare x16 ∗ owns (c : Thread nD τ) arg21 fullShare x21 ∗ owns (c : Thread nD τ) arg22 fullShare x22
            ∗ (iprop(owns (c : Thread nD τ) arg2 fullShare x2 ∗ owns (c : Thread nD τ) arg10 fullShare x10 ∗ (arg14.view.loc (c : Thread nD τ) ↦[arg14.view.set]{fullShare} arg14.view.writes (Elt F) (harg14.unread x14) L14) ∗ (arg16.view.loc (c : Thread nD τ) ↦[arg16.view.set]{fullShare} arg16.view.writes (Elt F) (harg16.unread x16) L16) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K r))
          ⊢ wp frame (wpE (defs₀ (F := F)) Variants.none c none) E (stK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, ?_, ?_, ?_, fun E K => ?run⟩
  case run =>
    unfold stK stHistK
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f2, %hf2, H2⟩, ⟨%f10, %hf10, H10⟩, ⟨%f14, %hf14, H14⟩, ⟨%f16, %hf16, H16⟩, ⟨%f21, %hf21, H21⟩, ⟨%f22, %hf22, H22⟩, Hk⟩
    obtain rfl := harg2.eq_unread hf2; obtain rfl := harg10.eq_unread hf10; obtain rfl := harg14.eq_unread hf14; obtain rfl := harg16.eq_unread hf16; obtain rfl := harg21.eq_unread hf21; obtain rfl := harg22.eq_unread hf22
    sl_exec
    sl_step
    iapply Hk
    isplitl [H2]
    · iexists _; isplitr; · ipureintro; exact harg2.read_unread _
      iexact H2
    isplitl [H10]
    · iexists _; isplitr; · ipureintro; exact harg10.read_unread _
      iexact H10
    isplitl [H14]
    · iexact H14
    isplitl [H16]
    · iexact H16
    isplitl [H21]
    · iexact H21
    iexact H22

end Cert.Dc.Hand

end
-- ==== Proof.DcBitsRunV.lean ====
module

public import proofs.«01_k».proof.Proof.DcBitsStage

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The second gradient's stage, run on whole buffers: the inputs are left as they were, each buffer it writes ends
    with the listed rectangles stored, and the scale is returned. -/
def runV (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x3 : Vec F S1x20x512x128 .bf16) (x11 : Vec F S16 .f32) (x15 : Vec F S1x20x512x128 .fp8e5m2) (x17 : Vec F S1x1 .f32) (x21 : Vec F S512x5120 .bf16) (x22 : Vec F S2x16x128 .bf16) :
    (L15 : List (View.Piece (Elt F) S1x20x512x128 .fp8e5m2)) ×' (L17 : List (View.Piece (Elt F) S1x1 .f32)) ×' (L21 : List (View.Piece (Elt F) S512x5120 .bf16)) ×' (L22 : List (View.Piece (Elt F) S2x16x128 .bf16)) ×' (r : F .f32) ×'
      (∀ (E : Set ℕ) (K : F .f32 → sProp 𝕄),
        iprop(owns (c : Thread nD τ) arg3 fullShare x3 ∗ owns (c : Thread nD τ) arg11 fullShare x11 ∗ owns (c : Thread nD τ) arg15 fullShare x15 ∗ owns (c : Thread nD τ) arg17 fullShare x17 ∗ owns (c : Thread nD τ) arg21 fullShare x21 ∗ owns (c : Thread nD τ) arg22 fullShare x22
            ∗ (iprop(owns (c : Thread nD τ) arg3 fullShare x3 ∗ owns (c : Thread nD τ) arg11 fullShare x11 ∗ (arg15.view.loc (c : Thread nD τ) ↦[arg15.view.set]{fullShare} arg15.view.writes (Elt F) (harg15.unread x15) L15) ∗ (arg17.view.loc (c : Thread nD τ) ↦[arg17.view.set]{fullShare} arg17.view.writes (Elt F) (harg17.unread x17) L17) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K r))
          ⊢ wp frame (wpE (defs₀ (F := F)) Variants.none c none) E (stV (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, ?_, ?_, ?_, fun E K => ?run⟩
  case run =>
    unfold stV
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f3, %hf3, H3⟩, ⟨%f11, %hf11, H11⟩, ⟨%f15, %hf15, H15⟩, ⟨%f17, %hf17, H17⟩, ⟨%f21, %hf21, H21⟩, ⟨%f22, %hf22, H22⟩, Hk⟩
    obtain rfl := harg3.eq_unread hf3; obtain rfl := harg11.eq_unread hf11; obtain rfl := harg15.eq_unread hf15; obtain rfl := harg17.eq_unread hf17; obtain rfl := harg21.eq_unread hf21; obtain rfl := harg22.eq_unread hf22
    sl_exec
    sl_step
    iapply Hk
    isplitl [H3]
    · iexists _; isplitr; · ipureintro; exact harg3.read_unread _
      iexact H3
    isplitl [H11]
    · iexists _; isplitr; · ipureintro; exact harg11.read_unread _
      iexact H11
    isplitl [H15]
    · iexact H15
    isplitl [H17]
    · iexact H17
    isplitl [H21]
    · iexact H21
    iexact H22

end Cert.Dc.Hand

end
-- ==== Proof.DcBitsRunC.lean ====
module

public import proofs.«01_k».proof.Proof.DcBitsStage

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The products' stage, run on whole buffers: the inputs and the two operands in scratch are left as they were, each
    output ends with the listed rectangles stored. -/
def runC (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (v87 v628 : F .f32)
    (x4 : Vec F S1x512x1536 .fp8e4m3) (x5 : Vec F S1x12x512 .f32) (x20 : Vec F S1536x5120 .bf16) (x21 : Vec F S512x5120 .bf16) (x12 : Vec F S1x512x1536 .bf16) (x13 : Vec F S1x1536x512 .bf16) :
    (L12 : List (View.Piece (Elt F) S1x512x1536 .bf16)) ×' (L13 : List (View.Piece (Elt F) S1x1536x512 .bf16)) ×'
      (∀ (E : Set ℕ) (K : PUnit → sProp 𝕄),
        iprop(owns (c : Thread nD τ) arg4 fullShare x4 ∗ owns (c : Thread nD τ) arg5 fullShare x5 ∗ owns (c : Thread nD τ) arg12 fullShare x12 ∗ owns (c : Thread nD τ) arg13 fullShare x13 ∗ owns (c : Thread nD τ) arg20 fullShare x20 ∗ owns (c : Thread nD τ) arg21 fullShare x21
            ∗ (iprop(owns (c : Thread nD τ) arg4 fullShare x4 ∗ owns (c : Thread nD τ) arg5 fullShare x5 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg20 fullShare x20 ∗ owns (c : Thread nD τ) arg21 fullShare x21) -∗ K ⟨⟩))
          ⊢ wp frame (wpE (defs₀ (F := F)) Variants.none c none) E (stC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628) K) := by
  refine ⟨?_, ?_, fun E K => ?run⟩
  case run =>
    unfold stC
    simp only [k0_part47_eq_skeleton, k0_part48_eq_skeleton, k0_part49_eq_skeleton, k0_part50_eq_skeleton, k0_part51_eq_skeleton, k0_part52_eq_skeleton]
    unfold owns
    iintro ⟨⟨%f4, %hf4, H4⟩, ⟨%f5, %hf5, H5⟩, ⟨%f12, %hf12, H12⟩, ⟨%f13, %hf13, H13⟩, ⟨%f20, %hf20, H20⟩, ⟨%f21, %hf21, H21⟩, Hk⟩
    obtain rfl := harg4.eq_unread hf4; obtain rfl := harg5.eq_unread hf5; obtain rfl := harg12.eq_unread hf12; obtain rfl := harg13.eq_unread hf13; obtain rfl := harg20.eq_unread hf20; obtain rfl := harg21.eq_unread hf21
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H12]
    · iexact H12
    isplitl [H13]
    · iexact H13
    isplitl [H20]
    · iexists _; isplitr; · ipureintro; exact harg20.read_unread _
      iexact H20
    iexists _; isplitr; · ipureintro; exact harg21.read_unread _
    iexact H21

end Cert.Dc.Hand

end
-- ==== Proof.DcBitsRunI.lean ====
module

public import proofs.«01_k».proof.Proof.DcBitsStage

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The first point's own stage, run on whole buffers: the weights and their scales are left as they were, the
    dequantised weights and the running maxima are stored. -/
def runInit (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (hc : k0_cond1 i = 1#1) :
    (L20 : List (View.Piece (Elt F) S1536x5120 .bf16)) ×' (L22 : List (View.Piece (Elt F) S2x16x128 .bf16)) ×'
      (∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare x20 ∗ owns (c : Thread nD τ) arg22 fullShare x22
            ∗ (iprop(owns (c : Thread nD τ) arg6 fullShare x6 ∗ owns (c : Thread nD τ) arg7 fullShare x7 ∗ owns (c : Thread nD τ) arg8 fullShare x8 ∗ owns (c : Thread nD τ) arg9 fullShare x9 ∗ (arg20.view.loc (c : Thread nD τ) ↦[arg20.view.set]{fullShare} arg20.view.writes (Elt F) (harg20.unread x20) L20) ∗ (arg22.view.loc (c : Thread nD τ) ↦[arg22.view.set]{fullShare} arg22.view.writes (Elt F) (harg22.unread x22) L22)) -∗ K ⟨⟩))
          ⊢ wp frame (wpE (defs₀ (F := F)) Variants.none c none) E (stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, fun E K => ?run⟩
  case run =>
    unfold stInit
    unfold owns
    iintro ⟨⟨%f6, %hf6, H6⟩, ⟨%f7, %hf7, H7⟩, ⟨%f8, %hf8, H8⟩, ⟨%f9, %hf9, H9⟩, ⟨%f20, %hf20, H20⟩, ⟨%f22, %hf22, H22⟩, Hk⟩
    obtain rfl := harg6.eq_unread hf6; obtain rfl := harg7.eq_unread hf7; obtain rfl := harg8.eq_unread hf8; obtain rfl := harg9.eq_unread hf9; obtain rfl := harg20.eq_unread hf20; obtain rfl := harg22.eq_unread hf22
    sl_exec (disch := sl_exact hc)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H20]
    · iexact H20
    iexact H22

-- (the run's proof term is large: checking it walks past the default budget)
set_option maxHeartbeats 4000000 in
/-- The last point's own stage, run on whole buffers: the histories and the running maxima are left as they were, the
    new histories are stored. -/
def runEnd (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x10 : Vec F S16 .f32) (x11 : Vec F S16 .f32) (x22 : Vec F S2x16x128 .bf16) (x18 : Vec F S16 .f32) (x19 : Vec F S16 .f32) (hc : k0_cond2 i = 1#1) :
    (L18 : List (View.Piece (Elt F) S16 .f32)) ×' (L19 : List (View.Piece (Elt F) S16 .f32)) ×'
      (∀ (E : Set ℕ) (K : PUnit → sProp 𝕄),
        iprop(owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg22 fullShare x22
            ∗ (iprop(owns (c : Thread nD τ) arg10 fullShare x10 ∗ owns (c : Thread nD τ) arg11 fullShare x11 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ owns (c : Thread nD τ) arg22 fullShare x22) -∗ K ⟨⟩))
          ⊢ wp frame (wpE (defs₀ (F := F)) Variants.none c none) E (stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K) := by
  refine ⟨?_, ?_, fun E K => ?run⟩
  case run =>
    unfold stEnd
    simp only [k0_part13_eq_skeleton, k0_part14_eq_skeleton, k0_part15_eq_skeleton]
    unfold owns
    iintro ⟨⟨%f10, %hf10, H10⟩, ⟨%f11, %hf11, H11⟩, ⟨%f18, %hf18, H18⟩, ⟨%f19, %hf19, H19⟩, ⟨%f22, %hf22, H22⟩, Hk⟩
    obtain rfl := harg10.eq_unread hf10; obtain rfl := harg11.eq_unread hf11; obtain rfl := harg18.eq_unread hf18; obtain rfl := harg19.eq_unread hf19; obtain rfl := harg22.eq_unread hf22
    sl_exec (disch := sl_exact hc)
    sl_step
    iapply Hk
    isplitl [H10]
    · iexists _; isplitr; · ipureintro; exact harg10.read_unread _
      iexact H10
    isplitl [H11]
    · iexists _; isplitr; · ipureintro; exact harg11.read_unread _
      iexact H11
    isplitl [H18]
    · iexact H18
    isplitl [H19]
    · iexact H19
    iexists _; isplitr; · ipureintro; exact harg22.read_unread _
    iexact H22

end Cert.Dc.Hand

end
-- ==== Proof.DcBitsBody.lean ====
module

public import proofs.«01_k».proof.Proof.DcBitsRunK
public import proofs.«01_k».proof.Proof.DcBitsRunV
public import proofs.«01_k».proof.Proof.DcBitsRunC
public import proofs.«01_k».proof.Proof.DcBitsRunI

@[expose] public section

set_option maxRecDepth 65536

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer entered holding `x` holds once the listed rectangles are stored. -/
abbrev stored {sp : Space} {S : Shape} {e : EltTy} (a : Memref sig .tc sp S e) (ha : a.IsWhole) (x : Vec F S e) (L : List (View.Piece (Elt F) S e)) :
    Vec F S e := a.view.read (Elt F) (a.view.writes (Elt F) (ha.unread x) L)

attribute [local irreducible] runK runV runC runInit runEnd

/-- A buffer holding the listed rectangles over `x` holds what `stored` names. -/
theorem owns_of {c : Dev nD} {sp : Space} {S : Shape} {e : EltTy} {a : Memref sig .tc sp S e} {ha : a.IsWhole} {x : Vec F S e} {L : List (View.Piece (Elt F) S e)}
    {Y : Vec F S e} (h : stored a ha x L = Y) :
    (iprop(a.view.loc (c : Thread nD τ) ↦[a.view.set]{fullShare} a.view.writes (Elt F) (ha.unread x) L) : sProp 𝕄) ⊢ owns (c : Thread nD τ) a fullShare Y := by
  unfold owns; iintro H; iexists _; isplitr; · ipureintro; exact h
  iexact H

/-- The first point's own stage at any point: done at the first, skipped at the others. -/
theorem wp_init_of (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (x6 : Vec F S20x1536x128 .fp8e4m3) (x7 : Vec F S20x1536x128 .fp8e4m3) (x8 : Vec F S12x20 .f32) (x9 : Vec F S12x20 .f32) (x20 : Vec F S1536x5120 .bf16) (x22 : Vec F S2x16x128 .bf16) (Y20 : Vec F S1536x5120 .bf16) (Y22 : Vec F S2x16x128 .bf16)
    (h1 : ∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
    (h2 : k0_cond1 i ≠ 1#1 → x20 = Y20 ∧ x22 = Y22) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare x20 ∗ owns (c : Thread nD τ) arg22 fullShare x22 ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg20 fullShare Y20 ∗ owns (c : Thread nD τ) arg22 fullShare Y22) -∗ K ⟨⟩))
      ⊢ wp frame (wpE (defs₀ (F := F)) Variants.none c none) E (stInit (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond1 i = 1#1
  · iintro ⟨H6, H7, H8, H9, H20, H22, Hk⟩
    iapply ((runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.2 E _)
    isplitl [H6]; · iexact H6
    isplitl [H7]; · iexact H7
    isplitl [H8]; · iexact H8
    isplitl [H9]; · iexact H9
    isplitl [H20]; · iexact H20
    isplitl [H22]; · iexact H22
    iintro ⟨H6, H7, H8, H9, H20, H22⟩
    ihave H20 := (owns_of (c := c) (a := arg20) (ha := harg20) (h1 h).1) $$ H20
    ihave H22 := (owns_of (c := c) (a := arg22) (ha := harg22) (h1 h).2) $$ H22
    iapply Hk
    isplitl [H6]; · iexact H6
    isplitl [H7]; · iexact H7
    isplitl [H8]; · iexact H8
    isplitl [H9]; · iexact H9
    isplitl [H20]; · iexact H20
    iexact H22
  · obtain ⟨rfl, rfl⟩ := h2 h
    unfold stInit
    simp only [h, dite_false, ↓reduceDIte]
    iintro ⟨H6, H7, H8, H9, H20, H22, Hk⟩
    sl_step
    iapply Hk
    isplitl [H6]; · iexact H6
    isplitl [H7]; · iexact H7
    isplitl [H8]; · iexact H8
    isplitl [H9]; · iexact H9
    isplitl [H20]; · iexact H20
    iexact H22

/-- The last point's own stage at any point: done at the last, skipped at the others. -/
theorem wp_end_of (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole) (x10 : Vec F S16 .f32) (x11 : Vec F S16 .f32) (x22 : Vec F S2x16x128 .bf16) (x18 : Vec F S16 .f32) (x19 : Vec F S16 .f32) (Y18 : Vec F S16 .f32) (Y19 : Vec F S16 .f32)
    (h1 : ∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).2.1 = Y19)
    (h2 : k0_cond2 i ≠ 1#1 → x18 = Y18 ∧ x19 = Y19) (E : Set ℕ) (K : PUnit → sProp 𝕄) :
    iprop(owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg22 fullShare x22 ∗ (iprop(owns (c : Thread nD τ) arg10 fullShare x10 ∗ owns (c : Thread nD τ) arg11 fullShare x11 ∗ owns (c : Thread nD τ) arg18 fullShare Y18 ∗ owns (c : Thread nD τ) arg19 fullShare Y19 ∗ owns (c : Thread nD τ) arg22 fullShare x22) -∗ K ⟨⟩))
      ⊢ wp frame (wpE (defs₀ (F := F)) Variants.none c none) E (stEnd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases h : k0_cond2 i = 1#1
  · iintro ⟨H10, H11, H18, H19, H22, Hk⟩
    iapply ((runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 x22 x18 x19 h).2.2 E _)
    isplitl [H10]; · iexact H10
    isplitl [H11]; · iexact H11
    isplitl [H18]; · iexact H18
    isplitl [H19]; · iexact H19
    isplitl [H22]; · iexact H22
    iintro ⟨H10, H11, H18, H19, H22⟩
    ihave H18 := (owns_of (c := c) (a := arg18) (ha := harg18) (h1 h).1) $$ H18
    ihave H19 := (owns_of (c := c) (a := arg19) (ha := harg19) (h1 h).2) $$ H19
    iapply Hk
    isplitl [H10]; · iexact H10
    isplitl [H11]; · iexact H11
    isplitl [H18]; · iexact H18
    isplitl [H19]; · iexact H19
    iexact H22
  · obtain ⟨rfl, rfl⟩ := h2 h
    unfold stEnd
    simp only [h, dite_false, ↓reduceDIte]
    iintro ⟨H10, H11, H18, H19, H22, Hk⟩
    sl_step
    iapply Hk
    isplitl [H10]; · iexact H10
    isplitl [H11]; · iexact H11
    isplitl [H18]; · iexact H18
    isplitl [H19]; · iexact H19
    iexact H22

set_option maxHeartbeats 4000000 in
/-- One grid point of the kernel on whole buffers, each buffer's contents afterwards named. -/
theorem bodyTriple (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x3 : Vec F S1x20x512x128 .bf16) (x4 : Vec F S1x512x1536 .fp8e4m3) (x5 : Vec F S1x12x512 .f32) (x6 : Vec F S20x1536x128 .fp8e4m3) (x7 : Vec F S20x1536x128 .fp8e4m3) (x8 : Vec F S12x20 .f32) (x9 : Vec F S12x20 .f32) (x10 : Vec F S16 .f32) (x11 : Vec F S16 .f32) (x12 : Vec F S1x512x1536 .bf16) (x13 : Vec F S1x1536x512 .bf16) (x14 : Vec F S1x20x512x128 .fp8e5m2) (x15 : Vec F S1x20x512x128 .fp8e5m2) (x16 : Vec F S1x1 .f32) (x17 : Vec F S1x1 .f32) (x18 : Vec F S16 .f32) (x19 : Vec F S16 .f32) (x20 : Vec F S1536x5120 .bf16) (x21 : Vec F S512x5120 .bf16) (x22 : Vec F S2x16x128 .bf16)
    (Y12 : Vec F S1x512x1536 .bf16) (Y13 : Vec F S1x1536x512 .bf16) (Y14 : Vec F S1x20x512x128 .fp8e5m2) (Y15 : Vec F S1x20x512x128 .fp8e5m2) (Y16 : Vec F S1x1 .f32) (Y17 : Vec F S1x1 .f32) (Y18 : Vec F S16 .f32) (Y19 : Vec F S16 .f32)
    (Y20 : Vec F S1536x5120 .bf16) (Y21 Z21 : Vec F S512x5120 .bf16) (Y22 Z22 W22 : Vec F S2x16x128 .bf16) (v87 v628 : F .f32)
    (hI : ∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
    (hI' : k0_cond1 i ≠ 1#1 → x20 = Y20 ∧ x22 = Y22)
    (hK14 : stored arg14 harg14 x14 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).1 = Y14) (hK16 : stored arg16 harg16 x16 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.1 = Y16) (hK21 : stored arg21 harg21 x21 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.1 = Y21)
    (hK22 : stored arg22 harg22 Y22 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.1 = Z22) (hKr : (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.2.1 = v87)
    (hV15 : stored arg15 harg15 x15 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).1 = Y15) (hV17 : stored arg17 harg17 x17 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.1 = Y17) (hV21 : stored arg21 harg21 Y21 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.1 = Z21)
    (hV22 : stored arg22 harg22 Z22 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.1 = W22) (hVr : (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.2.1 = v628)
    (hC12 : stored arg12 harg12 x12 (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).1 = Y12) (hC13 : stored arg13 harg13 x13 (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).2.1 = Y13)
    (hE : ∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1 = Y19)
    (hE' : k0_cond2 i ≠ 1#1 → x18 = Y18 ∧ x19 = Y19)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare Y12 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ owns (c : Thread nD τ) arg19 fullShare Y19 ∗ owns (c : Thread nD τ) arg20 fullShare Y20 ∗ owns (c : Thread nD τ) arg21 fullShare Z21 ∗ owns (c : Thread nD τ) arg22 fullShare W22) -∗ K ⟨⟩))
      ⊢ wp frame (wpE (defs₀ (F := F)) Variants.none c none) E (cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [body_eq]
  simp only [wp_bind]
  iintro ⟨H2, H3, H4, H5, H6, H7, H8, H9, H10, H11, H12, H13, H14, H15, H16, H17, H18, H19, H20, H21, H22, Hk⟩
  iapply (wp_init_of (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 Y20 Y22 hI hI' E _)
  isplitl [H6]; · iexact H6
  isplitl [H7]; · iexact H7
  isplitl [H8]; · iexact H8
  isplitl [H9]; · iexact H9
  isplitl [H20]; · iexact H20
  isplitl [H22]; · iexact H22
  iintro ⟨H6, H7, H8, H9, H20, H22⟩
  iapply ((runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.2.2 E _)
  isplitl [H2]; · iexact H2
  isplitl [H10]; · iexact H10
  isplitl [H14]; · iexact H14
  isplitl [H16]; · iexact H16
  isplitl [H21]; · iexact H21
  isplitl [H22]; · iexact H22
  iintro ⟨H2, H10, H14, H16, H21, H22⟩
  ihave H14 := (owns_of (c := c) (a := arg14) (ha := harg14) hK14) $$ H14
  ihave H16 := (owns_of (c := c) (a := arg16) (ha := harg16) hK16) $$ H16
  ihave H21 := (owns_of (c := c) (a := arg21) (ha := harg21) hK21) $$ H21
  ihave H22 := (owns_of (c := c) (a := arg22) (ha := harg22) hK22) $$ H22
  iapply ((runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.2.2 E _)
  isplitl [H3]; · iexact H3
  isplitl [H11]; · iexact H11
  isplitl [H15]; · iexact H15
  isplitl [H17]; · iexact H17
  isplitl [H21]; · iexact H21
  isplitl [H22]; · iexact H22
  iintro ⟨H3, H11, H15, H17, H21, H22⟩
  ihave H15 := (owns_of (c := c) (a := arg15) (ha := harg15) hV15) $$ H15
  ihave H17 := (owns_of (c := c) (a := arg17) (ha := harg17) hV17) $$ H17
  ihave H21 := (owns_of (c := c) (a := arg21) (ha := harg21) hV21) $$ H21
  ihave H22 := (owns_of (c := c) (a := arg22) (ha := harg22) hV22) $$ H22
  rw [hKr, hVr]
  iapply ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v87 v628 x4 x5 Y20 Z21 x12 x13).2.2 E _)
  isplitl [H4]; · iexact H4
  isplitl [H5]; · iexact H5
  isplitl [H12]; · iexact H12
  isplitl [H13]; · iexact H13
  isplitl [H20]; · iexact H20
  isplitl [H21]; · iexact H21
  iintro ⟨H4, H5, H12, H13, H20, H21⟩
  ihave H12 := (owns_of (c := c) (a := arg12) (ha := harg12) hC12) $$ H12
  ihave H13 := (owns_of (c := c) (a := arg13) (ha := harg13) hC13) $$ H13
  iapply (wp_end_of (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 Y18 Y19 hE hE' E _)
  isplitl [H10]; · iexact H10
  isplitl [H11]; · iexact H11
  isplitl [H18]; · iexact H18
  isplitl [H19]; · iexact H19
  isplitl [H22]; · iexact H22
  iintro ⟨H10, H11, H18, H19, H22⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
/-- One grid point of the kernel on whole buffers: the inputs are left as they were, the rest holds something. -/
theorem bodyFrame (c : Dev nD) (i : grid0.Coords) (arg2 : Memref sig .tc .vmem S1x20x512x128 .bf16) (harg2 : arg2.IsWhole) (arg3 : Memref sig .tc .vmem S1x20x512x128 .bf16) (harg3 : arg3.IsWhole) (arg4 : Memref sig .tc .vmem S1x512x1536 .fp8e4m3) (harg4 : arg4.IsWhole) (arg5 : Memref sig .tc .vmem S1x12x512 .f32) (harg5 : arg5.IsWhole) (arg6 : Memref sig .tc .vmem S20x1536x128 .fp8e4m3) (harg6 : arg6.IsWhole) (arg7 : Memref sig .tc .vmem S20x1536x128 .fp8e4m3) (harg7 : arg7.IsWhole) (arg8 : Memref sig .tc .smem S12x20 .f32) (harg8 : arg8.IsWhole) (arg9 : Memref sig .tc .smem S12x20 .f32) (harg9 : arg9.IsWhole) (arg10 : Memref sig .tc .smem S16 .f32) (harg10 : arg10.IsWhole) (arg11 : Memref sig .tc .smem S16 .f32) (harg11 : arg11.IsWhole) (arg12 : Memref sig .tc .vmem S1x512x1536 .bf16) (harg12 : arg12.IsWhole) (arg13 : Memref sig .tc .vmem S1x1536x512 .bf16) (harg13 : arg13.IsWhole) (arg14 : Memref sig .tc .vmem S1x20x512x128 .fp8e5m2) (harg14 : arg14.IsWhole) (arg15 : Memref sig .tc .vmem S1x20x512x128 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S16 .f32) (harg18 : arg18.IsWhole) (arg19 : Memref sig .tc .smem S16 .f32) (harg19 : arg19.IsWhole) (arg20 : Memref sig .tc .vmem S1536x5120 .bf16) (harg20 : arg20.IsWhole) (arg21 : Memref sig .tc .vmem S512x5120 .bf16) (harg21 : arg21.IsWhole) (arg22 : Memref sig .tc .vmem S2x16x128 .bf16) (harg22 : arg22.IsWhole)
    (x2 : Vec F S1x20x512x128 .bf16) (x3 : Vec F S1x20x512x128 .bf16) (x4 : Vec F S1x512x1536 .fp8e4m3) (x5 : Vec F S1x12x512 .f32) (x6 : Vec F S20x1536x128 .fp8e4m3) (x7 : Vec F S20x1536x128 .fp8e4m3) (x8 : Vec F S12x20 .f32) (x9 : Vec F S12x20 .f32) (x10 : Vec F S16 .f32) (x11 : Vec F S16 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_quantise_dc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H2, H3, H4, H5, H6, H7, H8, H9, H10, H11, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, Hk⟩
  obtain ⟨Y20, Y22, hI, hI'⟩ : ∃ Y20 Y22, (∀ h : k0_cond1 i = 1#1, stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1 = Y20 ∧ stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1 = Y22)
      ∧ (k0_cond1 i ≠ 1#1 → x20 = Y20 ∧ x22 = Y22) := by
    by_cases h : k0_cond1 i = 1#1
    · exact ⟨stored arg20 harg20 x20 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).1, stored arg22 harg22 x22 (runInit (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x6 x7 x8 x9 x20 x22 h).2.1, fun _ => ⟨rfl, rfl⟩, fun h' => absurd h h'⟩
    · exact ⟨_, _, fun h' => absurd h' h, fun _ => ⟨rfl, rfl⟩⟩
  generalize hZ : stored arg22 harg22 Y22 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.2.1 = Z22
  generalize hY : stored arg21 harg21 x21 (runK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x10 x14 x16 x21 Y22).2.2.1 = Y21
  generalize hW : stored arg22 harg22 Z22 (runV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x11 x15 x17 Y21 Z22).2.2.2.1 = W22
  obtain ⟨Y18, Y19, hE, hE'⟩ : ∃ Y18 Y19, (∀ h : k0_cond2 i = 1#1, stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1 = Y18 ∧ stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1 = Y19)
      ∧ (k0_cond2 i ≠ 1#1 → x18 = Y18 ∧ x19 = Y19) := by
    by_cases h : k0_cond2 i = 1#1
    · exact ⟨stored arg18 harg18 x18 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).1, stored arg19 harg19 x19 (runEnd (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 x11 W22 x18 x19 h).2.1, fun _ => ⟨rfl, rfl⟩, fun h' => absurd h h'⟩
    · exact ⟨_, _, fun h' => absurd h' h, fun _ => ⟨rfl, rfl⟩⟩
  iapply (bodyTriple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 x17 x18 x19 x20 x21 x22 _ _ _ _ _ _ Y18 Y19 Y20 Y21 _ Y22 Z22 W22 _ _ hI hI' rfl rfl hY hZ rfl rfl rfl rfl hW rfl rfl rfl hE hE' E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H2, H3, H4, H5, H6, H7, H8, H9, H10, H11, H12, H13, H14, H15, H16, H17, H18, H19, H20, H21, H22⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

end Cert.Dc.Hand

end
-- ==== Proof.DcBitsFrame.lean ====
module

public import proofs.«01_k».proof.Proof.DcBitsBody
public import Idealize.ShloMosaic.Lib.Pipeline.Value
public import Idealize.ShloMosaic.Lib.Claim

@[expose] public section

set_option maxRecDepth 16384

noncomputable section

namespace Cert.Dc.Hand

open Cert.Dc Cert.Dc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame, the outputs' contents forgotten -/

/-- The windows of which the frame says nothing: the outputs. -/
def forgotten : Fin 18 → Bool := fun w => 10 ≤ w.val

/-- What each window's buffer holds after a point: an input its block, an output something unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨n + 18, h⟩ => absurd h (by have : cfg0.W = 18 := rfl; omega)
  Φ _ := Pipeline.ΦA spec0 c
  q _ := fullShare
  owed _ := 0

/-- Each array at the launch is what the memory holds there. -/
theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fafter_7 (c : Dev nD) (t : Fin cfg0.N) : (fdats m 0 c).after 7 t = iblk m c 7 t := by dsimp only [fdats]
theorem fafter_8 (c : Dev nD) (t : Fin cfg0.N) : (fdats m 0 c).after 8 t = iblk m c 8 t := by dsimp only [fdats]
theorem fafter_9 (c : Dev nD) (t : Fin cfg0.N) : (fdats m 0 c).after 9 t = iblk m c 9 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d
theorem fbefore_7 (c : Dev nD) (t : Fin cfg0.N) (d) : (fdats m 0 c).before 7 t d = iblk m c 7 t :=
  before0_7_of m (fdats m 0 c) (fA_eq m c 7) (fafter_7 m c) t d
theorem fbefore_8 (c : Dev nD) (t : Fin cfg0.N) (d) : (fdats m 0 c).before 8 t d = iblk m c 8 t :=
  before0_8_of m (fdats m 0 c) (fA_eq m c 8) (fafter_8 m c) t d
theorem fbefore_9 (c : Dev nD) (t : Fin cfg0.N) (d) : (fdats m 0 c).before 9 t d = iblk m c 9 t :=
  before0_9_of m (fdats m 0 c) (fA_eq m c 9) (fafter_9 m c) t d

/-- What the body is called with at point `t`, window by window. -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ d, owns (c : Thread nD τ) (st0_8 t) fullShare ((fdats m 0 c).before 8 t d))
    ∗ (∃ d, owns (c : Thread nD τ) (st0_9 t) fullShare ((fdats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d))

/-- What the body returns at point `t`. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ owns (c : Thread nD τ) (st0_7 t) fullShare ((fdats m 0 c).after 7 t)
    ∗ owns (c : Thread nD τ) (st0_8 t) fullShare ((fdats m 0 c).after 8 t)
    ∗ owns (c : Thread nD τ) (st0_9 t) fullShare ((fdats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d))

/-- A scratch buffer held at something is owned whole at something. -/
theorem owns_scratch (c : Dev nD) (b : Ref sig .tc) :
    (iprop(∃ f : Buf (Elt F) ((c : Thread nD τ).loc b), ((c : Thread nD τ).loc b) ↦{fullShare} f) : sProp 𝕄)
      ⊣⊢ iprop(∃ d, owns (c : Thread nD τ) (Memref.whole b) fullShare d) := by
  simp only [owns_whole]
  exact ⟨.rfl, .rfl⟩

set_option maxHeartbeats 1000000 in
/-- The body at any point, from what it is called with to what it returns. -/
theorem fsound (c : Dev nD) (t : Fin cfg0.N) :
    fpre m c t ⊢ wp frame (wpE (defs₀ (F := F)) Variants.none c none) Set.univ (bodyAt0 t) (fun _ => fpost m c t) := by
  unfold fpre fpost bodyAt0
  simp only [fbefore_0, fbefore_1, fbefore_2, fbefore_3, fbefore_4, fbefore_5, fbefore_6, fbefore_7, fbefore_8, fbefore_9]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4, fafter_5, fafter_6, fafter_7, fafter_8, fafter_9]
  rw [show (fdats m 0 c).Φ t.castSucc = Pipeline.ΦA spec0 c from rfl]
  unfold Pipeline.ΦA
  rw [scopedRest0_eq]
  iintro ⟨⟨⟨HS0, HS1, HS2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15, H16, H17⟩
  ihave HS0 := (owns_scratch c cc0_scratch0).1 $$ HS0
  ihave HS1 := (owns_scratch c cc0_scratch1).1 $$ HS1
  ihave HS2 := (owns_scratch c cc0_scratch2).1 $$ HS2
  iapply (bodyFrame c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, H14, H15, H16, H17, HS0, HS1, HS2⟩
  ihave HS0 := (owns_scratch c cc0_scratch0).2 $$ HS0
  ihave HS1 := (owns_scratch c cc0_scratch1).2 $$ HS1
  ihave HS2 := (owns_scratch c cc0_scratch2).2 $$ HS2
  isplitl [HS0 HS1 HS2 HP]
  · isplitl [HS0 HS1 HS2]
    · isplitl [HS0]; · iexact HS0
      isplitl [HS1]; · iexact HS1
      iexact HS2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem fobligation (c : Dev nD) : BodyObligation (fdats (F := F) m 0 c) (defs₀ (F := F)) Variants.none () Set.univ forgotten := fun t => by
  rw [bigSep_W0, bigSep_W0, defs₀_row]
  exact triple_restated (fsound m c t) rfl .rfl fun _ => .rfl

set_option backward.isDefEq.respectTransparency.types false in
/-- The launch: every execution ends, the inputs are as launched, and every semaphore counter is at zero. -/
theorem frun : θ_run defs (onTc (τ := τ) (main (F := F))) (s₀ m ρ) (fun r => (Pipeline.RDat.FramePost (cfgs 0) (fun c => (fdats m 0 c).toRForget forgotten) (V m)) r ∧ r.2.sem = fun _ => 0) :=
  Pipeline.θ_run_frame_forget (Q' := _) cfgs (fdats m) (0 : Fin 1) launch0 defs₀ Variants.none forgotten m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The kernel, on any values: from any memory with zero counters every execution ends, leaves each argument array as
    it was, and leaves every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and ((θ_run defs _ _).mono (fun r h c => by
    have hin : ∀ w : Fin cfg0.W, (cfg0.win w).isOut = false → r.2.mem ((cfg0.spec w).arr.view.loc (c.tc : Thread nD τ)) = V m c (Pipeline.arrRef spec0 w) := fun w hw => by
      have h1 := (h.1 c).1 w
      rw [((fdats m 0 c).toRForget forgotten).ArrAt_in w hw] at h1
      exact h1.trans (fA_eq m c w)
    exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (hin 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (hin 6 rfl).trans (V_main_arg5 m c),
      ((h.1 c).2 main_arg6 (Pipeline.mem_restRefs_of main_arg6 (by decide) (by decide))).trans (V_main_arg6 m c),
      (hin 7 rfl).trans (V_main_arg7 m c), (hin 8 rfl).trans (V_main_arg8 m c), (hin 9 rfl).trans (V_main_arg9 m c)⟩) (frun m ρ))
    ((θ_run defs _ _).mono (fun _ h => h.2) (frun m ρ))

end Cert.Dc.Hand

end
-- ==== Proof.lean ====
module

public import proofs.«01_k».proof.Defs
public import proofs.«01_k».proof.Proof.Gen.Dc
public import proofs.«01_k».proof.Proof.Gen.Dc.Skeleton
public import proofs.«01_k».proof.Proof.Gen.Dc.Loops
public import proofs.«01_k».proof.Proof.Gen.Dc.Launch
public import proofs.«01_k».proof.Proof.Gen.Dc.Points
public import proofs.«01_k».proof.Proof.Gen.Dc.Frame
public import proofs.«01_k».proof.Proof.Gen.DcIdeal
public import proofs.«01_k».proof.Proof.Gen.DcIdeal.Skeleton
public import proofs.«01_k».proof.Proof.Gen.DcIdeal.Loops
public import proofs.«01_k».proof.Proof.Gen.DcIdeal.Launch
public import proofs.«01_k».proof.Proof.Gen.DcIdeal.Points
public import proofs.«01_k».proof.Proof.Gen.DcIdeal.Frame
public import proofs.«01_k».proof.Proof.Gen.DcRefIdeal
public import proofs.«01_k».proof.Proof.Gen.DcRefIdeal.Skeleton
public import proofs.«01_k».proof.Proof.Gen.DcRefIdeal.Launch
public import proofs.«01_k».proof.Proof.Gen.DcRefIdeal.Points
public import proofs.«01_k».proof.Proof.Gen.DcRefIdeal.Frame
public import proofs.«01_k».proof.Proof.Gen.Pre_scales_in_range
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.DwRefIdeal.Run
public import proofs.«01_k».proof.Proof.Gen.DwRefIdeal.Read
public import proofs.«01_k».proof.Proof.Gen.Pre_scales_finite
public import proofs.«01_k».proof.Proof.DwBitsFrame
public import proofs.«01_k».proof.Proof.DwSum
public import proofs.«01_k».proof.Proof.DwRef
public import proofs.«01_k».proof.Proof.DwPre
public import proofs.«01_k».proof.Proof.DcEq
public import proofs.«01_k».proof.Proof.DcBitsFrame
public import proofs.«01_k».proof.Proof.DcFrame
public import Idealize.ShloMosaic.Adequacy
public import Idealize.ShloMosaic.Init

@[expose] public section

noncomputable section

namespace Cert.Proof

open Idealize.ShloMosaic Idealize.ShloMosaic.TcCoe Idealize.SL.Sem

/-- The precondition on the weight gradients' scales, at one device: both scales are nonnegative and finite. -/
theorem dwScales (m : (ℓ : Loc Cert.DwIdeal.nD Cert.DwIdeal.τ Cert.DwIdeal.sig) → Buf (Elt Ideal) ℓ) (hp : Cert.Pre_DwIdeal_scales_finite m) (c : Dev Cert.DwIdeal.nD) :
    (0 ≤ Cert.DwIdeal.Hand.arg3 m c (ix2 0 0) ∧ Cert.DwIdeal.Hand.arg3 m c (ix2 0 0) ≠ ⊤)
      ∧ (0 ≤ Cert.DwIdeal.Hand.arg4 m c (ix2 0 0) ∧ Cert.DwIdeal.Hand.arg4 m c (ix2 0 0) ≠ ⊤) :=
  Cert.Pre_scales_finite.Hand.scales _ _ _ _ _ (hp c)

/-- The kernel's accumulator of the keys' weight gradient is the reference's result, where the arguments agree. -/
theorem dwK (m : (ℓ : Loc Cert.DwIdeal.nD Cert.DwIdeal.τ Cert.DwIdeal.sig) → Buf (Elt Ideal) ℓ) (m' : (ℓ : Loc Cert.DwRefIdeal.nD Cert.DwRefIdeal.τ Cert.DwRefIdeal.sig) → Buf (Elt Ideal) ℓ)
    (hp : Cert.Pre_DwIdeal_scales_finite m) (c : Dev Cert.DwIdeal.nD)
    (h0 : m' ((c.tc : Thread _ Cert.DwRefIdeal.τ).loc Cert.DwRefIdeal.main_arg0) = m ((c.tc : Thread _ Cert.DwIdeal.τ).loc Cert.DwIdeal.main_arg0))
    (h1 : m' ((c.tc : Thread _ Cert.DwRefIdeal.τ).loc Cert.DwRefIdeal.main_arg1) = m ((c.tc : Thread _ Cert.DwIdeal.τ).loc Cert.DwIdeal.main_arg1))
    (h3 : m' ((c.tc : Thread _ Cert.DwRefIdeal.τ).loc Cert.DwRefIdeal.main_arg3) = m ((c.tc : Thread _ Cert.DwIdeal.τ).loc Cert.DwIdeal.main_arg3)) :
    Cert.DwRefIdeal.Read.val_main_v10 (F := Ideal) (m' ((c.tc : Thread _ Cert.DwRefIdeal.τ).loc Cert.DwRefIdeal.main_arg0)) (m' ((c.tc : Thread _ Cert.DwRefIdeal.τ).loc Cert.DwRefIdeal.main_arg3))
        (Cert.DwRefIdeal.Value.reg_main_v0_0 m' c) = Cert.DwIdeal.Hand.accK m c 53 Cert.DwIdeal.Hand.tLast.isLt := by
  rw [Cert.DwRefIdeal.Hand.codesK, h0, h1, h3]
  funext i
  obtain ⟨h, r, d, rfl⟩ : ∃ h r d, i = ix3 h r d := ⟨_, _, _, eq_ix3 i⟩
  rw [Cert.DwRefIdeal.Hand.val_main_v10_at]
  exact (Cert.DwIdeal.Hand.accK_at m c (dwScales m hp c).1.1 (dwScales m hp c).1.2 h r d).symm

/-- The kernel's accumulator of the values' weight gradient is the reference's result, where the arguments agree. -/
theorem dwV (m : (ℓ : Loc Cert.DwIdeal.nD Cert.DwIdeal.τ Cert.DwIdeal.sig) → Buf (Elt Ideal) ℓ) (m' : (ℓ : Loc Cert.DwRefIdeal.nD Cert.DwRefIdeal.τ Cert.DwRefIdeal.sig) → Buf (Elt Ideal) ℓ)
    (hp : Cert.Pre_DwIdeal_scales_finite m) (c : Dev Cert.DwIdeal.nD)
    (h0 : m' ((c.tc : Thread _ Cert.DwRefIdeal.τ).loc Cert.DwRefIdeal.main_arg0) = m ((c.tc : Thread _ Cert.DwIdeal.τ).loc Cert.DwIdeal.main_arg0))
    (h2 : m' ((c.tc : Thread _ Cert.DwRefIdeal.τ).loc Cert.DwRefIdeal.main_arg2) = m ((c.tc : Thread _ Cert.DwIdeal.τ).loc Cert.DwIdeal.main_arg2))
    (h4 : m' ((c.tc : Thread _ Cert.DwRefIdeal.τ).loc Cert.DwRefIdeal.main_arg4) = m ((c.tc : Thread _ Cert.DwIdeal.τ).loc Cert.DwIdeal.main_arg4)) :
    Cert.DwRefIdeal.Read.val_main_v12 (F := Ideal) (m' ((c.tc : Thread _ Cert.DwRefIdeal.τ).loc Cert.DwRefIdeal.main_arg0)) (m' ((c.tc : Thread _ Cert.DwRefIdeal.τ).loc Cert.DwRefIdeal.main_arg4))
        (Cert.DwRefIdeal.Value.reg_main_v0_1 m' c) = Cert.DwIdeal.Hand.accV m c 53 Cert.DwIdeal.Hand.tLast.isLt := by
  rw [Cert.DwRefIdeal.Hand.codesV, h0, h2, h4]
  funext i
  obtain ⟨h, r, d, rfl⟩ : ∃ h r d, i = ix3 h r d := ⟨_, _, _, eq_ix3 i⟩
  rw [Cert.DwRefIdeal.Hand.val_main_v12_at]
  exact (Cert.DwIdeal.Hand.accV_at m c (dwScales m hp c).2.1 (dwScales m hp c).2.2 h r d).symm

/-- On one device the reference has the kernel's arguments, and the precondition puts both histories in range. -/
theorem dcAgree (m : (ℓ : Loc Cert.DcIdeal.nD Cert.DcIdeal.τ Cert.DcIdeal.sig) → Buf (Elt Ideal) ℓ) (m' : (ℓ : Loc Cert.DcRefIdeal.nD Cert.DcRefIdeal.τ Cert.DcRefIdeal.sig) → Buf (Elt Ideal) ℓ)
    (hp : Cert.Pre_DcIdeal_scales_in_range m) (c : Dev Cert.DcIdeal.nD)
    (h0 : m' ((c.tc : Thread _ Cert.DcRefIdeal.τ).loc Cert.DcRefIdeal.main_arg0) = m ((c.tc : Thread _ Cert.DcIdeal.τ).loc Cert.DcIdeal.main_arg0))
    (h1 : m' ((c.tc : Thread _ Cert.DcRefIdeal.τ).loc Cert.DcRefIdeal.main_arg1) = m ((c.tc : Thread _ Cert.DcIdeal.τ).loc Cert.DcIdeal.main_arg1))
    (h2 : m' ((c.tc : Thread _ Cert.DcRefIdeal.τ).loc Cert.DcRefIdeal.main_arg2) = m ((c.tc : Thread _ Cert.DcIdeal.τ).loc Cert.DcIdeal.main_arg2))
    (h3 : m' ((c.tc : Thread _ Cert.DcRefIdeal.τ).loc Cert.DcRefIdeal.main_arg3) = m ((c.tc : Thread _ Cert.DcIdeal.τ).loc Cert.DcIdeal.main_arg3))
    (h4 : m' ((c.tc : Thread _ Cert.DcRefIdeal.τ).loc Cert.DcRefIdeal.main_arg4) = m ((c.tc : Thread _ Cert.DcIdeal.τ).loc Cert.DcIdeal.main_arg4))
    (h5 : m' ((c.tc : Thread _ Cert.DcRefIdeal.τ).loc Cert.DcRefIdeal.main_arg5) = m ((c.tc : Thread _ Cert.DcIdeal.τ).loc Cert.DcIdeal.main_arg5))
    (h6 : m' ((c.tc : Thread _ Cert.DcRefIdeal.τ).loc Cert.DcRefIdeal.main_arg6) = m ((c.tc : Thread _ Cert.DcIdeal.τ).loc Cert.DcIdeal.main_arg6))
    (h7 : m' ((c.tc : Thread _ Cert.DcRefIdeal.τ).loc Cert.DcRefIdeal.main_arg7) = m ((c.tc : Thread _ Cert.DcIdeal.τ).loc Cert.DcIdeal.main_arg7))
    (h8 : m' ((c.tc : Thread _ Cert.DcRefIdeal.τ).loc Cert.DcRefIdeal.main_arg8) = m ((c.tc : Thread _ Cert.DcIdeal.τ).loc Cert.DcIdeal.main_arg8))
    (h9 : m' ((c.tc : Thread _ Cert.DcRefIdeal.τ).loc Cert.DcRefIdeal.main_arg9) = m ((c.tc : Thread _ Cert.DcIdeal.τ).loc Cert.DcIdeal.main_arg9)) :
    Cert.DcRefIdeal.Hand.Agree m m' c :=
  ⟨h0, h1, h2, h3, h4, h5, h6, h7, h8, h9, (Cert.Pre_scales_in_range.Hand.in_range _ _ _ _ _ _ _ _ _ _ (hp c)).1,
    (Cert.Pre_scales_in_range.Hand.in_range _ _ _ _ _ _ _ _ _ _ (hp c)).2⟩

/-- The first call's eight results are its reference's, over the extended reals. -/
theorem dcAlgebraic : Cert.algebraic_DcIdeal_DcRefIdeal_pre_scales_in_range := fun m ρ m' ρ' hp h =>
  have a := fun c => dcAgree m m' hp c (h c).1 (h c).2.1 (h c).2.2.1 (h c).2.2.2.1 (h c).2.2.2.2.1 (h c).2.2.2.2.2.1 (h c).2.2.2.2.2.2.1 (h c).2.2.2.2.2.2.2.1 (h c).2.2.2.2.2.2.2.2.1 (h c).2.2.2.2.2.2.2.2.2
  ⟨Cert.DcIdeal.Hand.dcFin m, Cert.DcIdeal.Hand.ctFin m, Cert.DcIdeal.Hand.qkFin m, Cert.DcIdeal.Hand.qvFin m,
    fun c _ => Cert.DcIdeal.Hand.skOf m c, fun c _ => Cert.DcIdeal.Hand.svOf m c, Cert.DcIdeal.Hand.hkFin m, Cert.DcIdeal.Hand.hvFin m,
    Cert.DcIdeal.Hand.value m ρ,
    (θ_run Cert.DcRefIdeal.defs _ _).mono (fun _ k c => ⟨(k c).1.trans (Cert.DcRefIdeal.Hand.dc_eq (a c)), (k c).2.1.trans (Cert.DcRefIdeal.Hand.ct_eq (a c)), (k c).2.2.1.trans (Cert.DcRefIdeal.Hand.qk_eq (a c)), (k c).2.2.2.1.trans (Cert.DcRefIdeal.Hand.qv_eq (a c)), (k c).2.2.2.2.1.trans (Cert.DcRefIdeal.Hand.sk_eq (a c)), (k c).2.2.2.2.2.1.trans (Cert.DcRefIdeal.Hand.sv_eq (a c)), (k c).2.2.2.2.2.2.1.trans (Cert.DcRefIdeal.Hand.hk_eq (a c)), (k c).2.2.2.2.2.2.2.1.trans (Cert.DcRefIdeal.Hand.hv_eq (a c)), (k c).2.2.2.2.2.2.2.2⟩) (Cert.DcRefIdeal.Value.run m' ρ')⟩

/-- The second call's two results are its reference's, over the extended reals. -/
theorem dwAlgebraic : Cert.algebraic_DwIdeal_DwRefIdeal_pre_scales_finite := fun m ρ m' ρ' hp h =>
  ⟨fun c => Cert.DwIdeal.Hand.accK m c 53 Cert.DwIdeal.Hand.tLast.isLt, fun c => Cert.DwIdeal.Hand.accV m c 53 Cert.DwIdeal.Hand.tLast.isLt,
    Cert.DwIdeal.Hand.value m ρ,
    (θ_run Cert.DwRefIdeal.defs _ _).mono (fun _ k c => ⟨(k c).1.trans (dwK m m' hp c (h c).1 (h c).2.1 (h c).2.2.2.1), (k c).2.1.trans (dwV m m' hp c (h c).1 (h c).2.2.1 (h c).2.2.2.2), (k c).2.2⟩)
      (Cert.DwRefIdeal.Value.run m' ρ')⟩

/-- Everything the certificate claims. -/
theorem claim : Cert.Claim :=
  ⟨Cert.Dc.Gen.facts, Cert.DcIdeal.Gen.facts, Cert.DcRefIdeal.Gen.facts, Cert.Dw.Gen.facts, Cert.DwIdeal.Gen.facts, Cert.DwRefIdeal.Gen.facts,
   Cert.Pre_scales_in_range.Gen.facts, Cert.Pre_scales_finite.Gen.facts,
   fun m ρ _ => Cert.Dc.Hand.quiescent m ρ,
   fun m ρ _ => Cert.DcIdeal.Hand.quiescent m ρ,
   fun m ρ _ => Cert.DcIdeal.Hand.quiescent m ρ,
   fun m ρ _ => Cert.DcRefIdeal.Gen.frame m ρ,
   fun m ρ _ => Cert.DcRefIdeal.Gen.frame m ρ,
   fun m ρ _ => Cert.Dw.Hand.quiescent m ρ,
   fun m ρ _ => Cert.DwIdeal.Hand.quiescent m ρ,
   fun m ρ _ => Cert.DwIdeal.Hand.quiescent m ρ,
   fun m ρ _ => Cert.DwRefIdeal.Gen.frame m ρ,
   fun m ρ _ => Cert.DwRefIdeal.Gen.frame m ρ,
   trivial, dcAlgebraic, trivial, dwAlgebraic⟩

end Cert.Proof

end
